-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_inputs [hPre_finite_inputs : Cert.Pre_finite_inputs.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_inputs.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).1 = (fun _ => 1#1)
    ∧ (Cert.Pre_finite_inputs.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.1 = (fun _ => 1#1)
    ∧ (Cert.Pre_finite_inputs.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.1 = (fun _ => 1#1)
    ∧ (Cert.Pre_finite_inputs.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_inputs [hPre_finite_inputs : Cert.Pre_finite_inputs.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_inputs.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).1 = (fun _ => 1#1)
    ∧ (Cert.Pre_finite_inputs.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.1 = (fun _ => 1#1)
    ∧ (Cert.Pre_finite_inputs.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.1 = (fun _ => 1#1)
    ∧ (Cert.Pre_finite_inputs.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2 = (fun _ => 1#1)

def Pre_KernelFfnPrompt (m : (ℓ : Loc Cert.KernelFfnPrompt.nD Cert.KernelFfnPrompt.τ Cert.KernelFfnPrompt.sig) → Buf (Elt Bits) ℓ) : Prop :=
  True

def Pre_KernelFfnPromptIdeal (m : (ℓ : Loc Cert.KernelFfnPromptIdeal.nD Cert.KernelFfnPromptIdeal.τ Cert.KernelFfnPromptIdeal.sig) → Buf (Elt Ideal) ℓ) : Prop :=
  True

def Pre_KernelFfnPromptIdeal_finite_prompt [hPre_finite_prompt : Cert.Pre_finite_prompt.Facts] (m : (ℓ : Loc Cert.KernelFfnPromptIdeal.nD Cert.KernelFfnPromptIdeal.τ Cert.KernelFfnPromptIdeal.sig) → Buf (Elt Ideal) ℓ) : Prop :=
  ∀ c : Dev Cert.KernelFfnPromptIdeal.nD,
    (Cert.Pre_finite_prompt.fn (F := Ideal) (m ((c.tc : Thread Cert.KernelFfnPromptIdeal.nD Cert.KernelFfnPromptIdeal.τ).loc Cert.KernelFfnPromptIdeal.main_arg0)) (m ((c.tc : Thread Cert.KernelFfnPromptIdeal.nD Cert.KernelFfnPromptIdeal.τ).loc Cert.KernelFfnPromptIdeal.main_arg1)) (m ((c.tc : Thread Cert.KernelFfnPromptIdeal.nD Cert.KernelFfnPromptIdeal.τ).loc Cert.KernelFfnPromptIdeal.main_arg2)) (m ((c.tc : Thread Cert.KernelFfnPromptIdeal.nD Cert.KernelFfnPromptIdeal.τ).loc Cert.KernelFfnPromptIdeal.main_arg3)) (m ((c.tc : Thread Cert.KernelFfnPromptIdeal.nD Cert.KernelFfnPromptIdeal.τ).loc Cert.KernelFfnPromptIdeal.main_arg4)) (m ((c.tc : Thread Cert.KernelFfnPromptIdeal.nD Cert.KernelFfnPromptIdeal.τ).loc Cert.KernelFfnPromptIdeal.main_arg5))).1 = (fun _ => 1#1)
    ∧ (Cert.Pre_finite_prompt.fn (F := Ideal) (m ((c.tc : Thread Cert.KernelFfnPromptIdeal.nD Cert.KernelFfnPromptIdeal.τ).loc Cert.KernelFfnPromptIdeal.main_arg0)) (m ((c.tc : Thread Cert.KernelFfnPromptIdeal.nD Cert.KernelFfnPromptIdeal.τ).loc Cert.KernelFfnPromptIdeal.main_arg1)) (m ((c.tc : Thread Cert.KernelFfnPromptIdeal.nD Cert.KernelFfnPromptIdeal.τ).loc Cert.KernelFfnPromptIdeal.main_arg2)) (m ((c.tc : Thread Cert.KernelFfnPromptIdeal.nD Cert.KernelFfnPromptIdeal.τ).loc Cert.KernelFfnPromptIdeal.main_arg3)) (m ((c.tc : Thread Cert.KernelFfnPromptIdeal.nD Cert.KernelFfnPromptIdeal.τ).loc Cert.KernelFfnPromptIdeal.main_arg4)) (m ((c.tc : Thread Cert.KernelFfnPromptIdeal.nD Cert.KernelFfnPromptIdeal.τ).loc Cert.KernelFfnPromptIdeal.main_arg5))).2.1 = (fun _ => 1#1)
    ∧ (Cert.Pre_finite_prompt.fn (F := Ideal) (m ((c.tc : Thread Cert.KernelFfnPromptIdeal.nD Cert.KernelFfnPromptIdeal.τ).loc Cert.KernelFfnPromptIdeal.main_arg0)) (m ((c.tc : Thread Cert.KernelFfnPromptIdeal.nD Cert.KernelFfnPromptIdeal.τ).loc Cert.KernelFfnPromptIdeal.main_arg1)) (m ((c.tc : Thread Cert.KernelFfnPromptIdeal.nD Cert.KernelFfnPromptIdeal.τ).loc Cert.KernelFfnPromptIdeal.main_arg2)) (m ((c.tc : Thread Cert.KernelFfnPromptIdeal.nD Cert.KernelFfnPromptIdeal.τ).loc Cert.KernelFfnPromptIdeal.main_arg3)) (m ((c.tc : Thread Cert.KernelFfnPromptIdeal.nD Cert.KernelFfnPromptIdeal.τ).loc Cert.KernelFfnPromptIdeal.main_arg4)) (m ((c.tc : Thread Cert.KernelFfnPromptIdeal.nD Cert.KernelFfnPromptIdeal.τ).loc Cert.KernelFfnPromptIdeal.main_arg5))).2.2.1 = (fun _ => 1#1)
    ∧ (Cert.Pre_finite_prompt.fn (F := Ideal) (m ((c.tc : Thread Cert.KernelFfnPromptIdeal.nD Cert.KernelFfnPromptIdeal.τ).loc Cert.KernelFfnPromptIdeal.main_arg0)) (m ((c.tc : Thread Cert.KernelFfnPromptIdeal.nD Cert.KernelFfnPromptIdeal.τ).loc Cert.KernelFfnPromptIdeal.main_arg1)) (m ((c.tc : Thread Cert.KernelFfnPromptIdeal.nD Cert.KernelFfnPromptIdeal.τ).loc Cert.KernelFfnPromptIdeal.main_arg2)) (m ((c.tc : Thread Cert.KernelFfnPromptIdeal.nD Cert.KernelFfnPromptIdeal.τ).loc Cert.KernelFfnPromptIdeal.main_arg3)) (m ((c.tc : Thread Cert.KernelFfnPromptIdeal.nD Cert.KernelFfnPromptIdeal.τ).loc Cert.KernelFfnPromptIdeal.main_arg4)) (m ((c.tc : Thread Cert.KernelFfnPromptIdeal.nD Cert.KernelFfnPromptIdeal.τ).loc Cert.KernelFfnPromptIdeal.main_arg5))).2.2.2 = (fun _ => 1#1)

def Pre_ReferenceFfnPromptIdeal (m : (ℓ : Loc Cert.ReferenceFfnPromptIdeal.nD Cert.ReferenceFfnPromptIdeal.τ Cert.ReferenceFfnPromptIdeal.sig) → Buf (Elt Ideal) ℓ) : Prop :=
  True

def Pre_ReferenceFfnPromptIdeal_finite_prompt [hPre_finite_prompt : Cert.Pre_finite_prompt.Facts] (m : (ℓ : Loc Cert.ReferenceFfnPromptIdeal.nD Cert.ReferenceFfnPromptIdeal.τ Cert.ReferenceFfnPromptIdeal.sig) → Buf (Elt Ideal) ℓ) : Prop :=
  ∀ c : Dev Cert.ReferenceFfnPromptIdeal.nD,
    (Cert.Pre_finite_prompt.fn (F := Ideal) (m ((c.tc : Thread Cert.ReferenceFfnPromptIdeal.nD Cert.ReferenceFfnPromptIdeal.τ).loc Cert.ReferenceFfnPromptIdeal.main_arg0)) (m ((c.tc : Thread Cert.ReferenceFfnPromptIdeal.nD Cert.ReferenceFfnPromptIdeal.τ).loc Cert.ReferenceFfnPromptIdeal.main_arg1)) (m ((c.tc : Thread Cert.ReferenceFfnPromptIdeal.nD Cert.ReferenceFfnPromptIdeal.τ).loc Cert.ReferenceFfnPromptIdeal.main_arg2)) (m ((c.tc : Thread Cert.ReferenceFfnPromptIdeal.nD Cert.ReferenceFfnPromptIdeal.τ).loc Cert.ReferenceFfnPromptIdeal.main_arg3)) (m ((c.tc : Thread Cert.ReferenceFfnPromptIdeal.nD Cert.ReferenceFfnPromptIdeal.τ).loc Cert.ReferenceFfnPromptIdeal.main_arg4)) (m ((c.tc : Thread Cert.ReferenceFfnPromptIdeal.nD Cert.ReferenceFfnPromptIdeal.τ).loc Cert.ReferenceFfnPromptIdeal.main_arg5))).1 = (fun _ => 1#1)
    ∧ (Cert.Pre_finite_prompt.fn (F := Ideal) (m ((c.tc : Thread Cert.ReferenceFfnPromptIdeal.nD Cert.ReferenceFfnPromptIdeal.τ).loc Cert.ReferenceFfnPromptIdeal.main_arg0)) (m ((c.tc : Thread Cert.ReferenceFfnPromptIdeal.nD Cert.ReferenceFfnPromptIdeal.τ).loc Cert.ReferenceFfnPromptIdeal.main_arg1)) (m ((c.tc : Thread Cert.ReferenceFfnPromptIdeal.nD Cert.ReferenceFfnPromptIdeal.τ).loc Cert.ReferenceFfnPromptIdeal.main_arg2)) (m ((c.tc : Thread Cert.ReferenceFfnPromptIdeal.nD Cert.ReferenceFfnPromptIdeal.τ).loc Cert.ReferenceFfnPromptIdeal.main_arg3)) (m ((c.tc : Thread Cert.ReferenceFfnPromptIdeal.nD Cert.ReferenceFfnPromptIdeal.τ).loc Cert.ReferenceFfnPromptIdeal.main_arg4)) (m ((c.tc : Thread Cert.ReferenceFfnPromptIdeal.nD Cert.ReferenceFfnPromptIdeal.τ).loc Cert.ReferenceFfnPromptIdeal.main_arg5))).2.1 = (fun _ => 1#1)
    ∧ (Cert.Pre_finite_prompt.fn (F := Ideal) (m ((c.tc : Thread Cert.ReferenceFfnPromptIdeal.nD Cert.ReferenceFfnPromptIdeal.τ).loc Cert.ReferenceFfnPromptIdeal.main_arg0)) (m ((c.tc : Thread Cert.ReferenceFfnPromptIdeal.nD Cert.ReferenceFfnPromptIdeal.τ).loc Cert.ReferenceFfnPromptIdeal.main_arg1)) (m ((c.tc : Thread Cert.ReferenceFfnPromptIdeal.nD Cert.ReferenceFfnPromptIdeal.τ).loc Cert.ReferenceFfnPromptIdeal.main_arg2)) (m ((c.tc : Thread Cert.ReferenceFfnPromptIdeal.nD Cert.ReferenceFfnPromptIdeal.τ).loc Cert.ReferenceFfnPromptIdeal.main_arg3)) (m ((c.tc : Thread Cert.ReferenceFfnPromptIdeal.nD Cert.ReferenceFfnPromptIdeal.τ).loc Cert.ReferenceFfnPromptIdeal.main_arg4)) (m ((c.tc : Thread Cert.ReferenceFfnPromptIdeal.nD Cert.ReferenceFfnPromptIdeal.τ).loc Cert.ReferenceFfnPromptIdeal.main_arg5))).2.2.1 = (fun _ => 1#1)
    ∧ (Cert.Pre_finite_prompt.fn (F := Ideal) (m ((c.tc : Thread Cert.ReferenceFfnPromptIdeal.nD Cert.ReferenceFfnPromptIdeal.τ).loc Cert.ReferenceFfnPromptIdeal.main_arg0)) (m ((c.tc : Thread Cert.ReferenceFfnPromptIdeal.nD Cert.ReferenceFfnPromptIdeal.τ).loc Cert.ReferenceFfnPromptIdeal.main_arg1)) (m ((c.tc : Thread Cert.ReferenceFfnPromptIdeal.nD Cert.ReferenceFfnPromptIdeal.τ).loc Cert.ReferenceFfnPromptIdeal.main_arg2)) (m ((c.tc : Thread Cert.ReferenceFfnPromptIdeal.nD Cert.ReferenceFfnPromptIdeal.τ).loc Cert.ReferenceFfnPromptIdeal.main_arg3)) (m ((c.tc : Thread Cert.ReferenceFfnPromptIdeal.nD Cert.ReferenceFfnPromptIdeal.τ).loc Cert.ReferenceFfnPromptIdeal.main_arg4)) (m ((c.tc : Thread Cert.ReferenceFfnPromptIdeal.nD Cert.ReferenceFfnPromptIdeal.τ).loc Cert.ReferenceFfnPromptIdeal.main_arg5))).2.2.2 = (fun _ => 1#1)

def Pre_KernelOutEven (m : (ℓ : Loc Cert.KernelOutEven.nD Cert.KernelOutEven.τ Cert.KernelOutEven.sig) → Buf (Elt Bits) ℓ) : Prop :=
  True

def Pre_KernelOutEvenIdeal (m : (ℓ : Loc Cert.KernelOutEvenIdeal.nD Cert.KernelOutEvenIdeal.τ Cert.KernelOutEvenIdeal.sig) → Buf (Elt Ideal) ℓ) : Prop :=
  True

def Pre_ReferenceOutEvenIdeal (m : (ℓ : Loc Cert.ReferenceOutEvenIdeal.nD Cert.ReferenceOutEvenIdeal.τ Cert.ReferenceOutEvenIdeal.sig) → Buf (Elt Ideal) ℓ) : Prop :=
  True

def Pre_KernelOutOdd (m : (ℓ : Loc Cert.KernelOutOdd.nD Cert.KernelOutOdd.τ Cert.KernelOutOdd.sig) → Buf (Elt Bits) ℓ) : Prop :=
  True

def Pre_KernelOutOddIdeal (m : (ℓ : Loc Cert.KernelOutOddIdeal.nD Cert.KernelOutOddIdeal.τ Cert.KernelOutOddIdeal.sig) → Buf (Elt Ideal) ℓ) : Prop :=
  True

def Pre_ReferenceOutOddIdeal (m : (ℓ : Loc Cert.ReferenceOutOddIdeal.nD Cert.ReferenceOutOddIdeal.τ Cert.ReferenceOutOddIdeal.sig) → Buf (Elt Ideal) ℓ) : Prop :=
  True

def Pre_KernelInOdd (m : (ℓ : Loc Cert.KernelInOdd.nD Cert.KernelInOdd.τ Cert.KernelInOdd.sig) → Buf (Elt Bits) ℓ) : Prop :=
  True

def Pre_KernelInOddIdeal (m : (ℓ : Loc Cert.KernelInOddIdeal.nD Cert.KernelInOddIdeal.τ Cert.KernelInOddIdeal.sig) → Buf (Elt Ideal) ℓ) : Prop :=
  True

def Pre_ReferenceInOddIdeal (m : (ℓ : Loc Cert.ReferenceInOddIdeal.nD Cert.ReferenceInOddIdeal.τ Cert.ReferenceInOddIdeal.sig) → Buf (Elt Ideal) ℓ) : Prop :=
  True

def Pre_KernelInEven (m : (ℓ : Loc Cert.KernelInEven.nD Cert.KernelInEven.τ Cert.KernelInEven.sig) → Buf (Elt Bits) ℓ) : Prop :=
  True

def Pre_KernelInEvenIdeal (m : (ℓ : Loc Cert.KernelInEvenIdeal.nD Cert.KernelInEvenIdeal.τ Cert.KernelInEvenIdeal.sig) → Buf (Elt Ideal) ℓ) : Prop :=
  True

def Pre_ReferenceInEvenIdeal (m : (ℓ : Loc Cert.ReferenceInEvenIdeal.nD Cert.ReferenceInEvenIdeal.τ Cert.ReferenceInEvenIdeal.sig) → Buf (Elt Ideal) ℓ) : Prop :=
  True

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_ReferenceGlaIdeal (m : (ℓ : Loc Cert.ReferenceGlaIdeal.nD Cert.ReferenceGlaIdeal.τ Cert.ReferenceGlaIdeal.sig) → Buf (Elt Ideal) ℓ) : Prop :=
  True

def Pre_KernelRglru (m : (ℓ : Loc Cert.KernelRglru.nD Cert.KernelRglru.τ Cert.KernelRglru.sig) → Buf (Elt Bits) ℓ) : Prop :=
  True

def Pre_KernelRglruIdeal (m : (ℓ : Loc Cert.KernelRglruIdeal.nD Cert.KernelRglruIdeal.τ Cert.KernelRglruIdeal.sig) → Buf (Elt Ideal) ℓ) : Prop :=
  True

def Pre_ReferenceRglruIdeal (m : (ℓ : Loc Cert.ReferenceRglruIdeal.nD Cert.ReferenceRglruIdeal.τ Cert.ReferenceRglruIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite_inputs [hKernelFfnIdeal : Cert.KernelFfnIdeal.Facts] [hPre_finite_inputs : Cert.Pre_finite_inputs.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_inputs m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite_inputs [hReferenceFfnIdeal : Cert.ReferenceFfnIdeal.Facts] [hPre_finite_inputs : Cert.Pre_finite_inputs.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_inputs m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelFfnPrompt [hKernelFfnPrompt : Cert.KernelFfnPrompt.Facts] : Prop :=
  ∀ (m : (ℓ : Loc Cert.KernelFfnPrompt.nD Cert.KernelFfnPrompt.τ Cert.KernelFfnPrompt.sig) → Buf (Elt Bits) ℓ) (g : Dev Cert.KernelFfnPrompt.nD → PrngReg), Pre_KernelFfnPrompt m →
    θ_run (Cert.KernelFfnPrompt.defs (F := Bits)) (onTc (τ := Cert.KernelFfnPrompt.τ) (Cert.KernelFfnPrompt.main (F := Bits))) ⟨m, fun _ => 0, g⟩ (fun r => (∀ c : Dev Cert.KernelFfnPrompt.nD,
      r.2.mem ((c.tc : Thread Cert.KernelFfnPrompt.nD Cert.KernelFfnPrompt.τ).loc Cert.KernelFfnPrompt.main_arg0) = m ((c.tc : Thread Cert.KernelFfnPrompt.nD Cert.KernelFfnPrompt.τ).loc Cert.KernelFfnPrompt.main_arg0)
      ∧ r.2.mem ((c.tc : Thread Cert.KernelFfnPrompt.nD Cert.KernelFfnPrompt.τ).loc Cert.KernelFfnPrompt.main_arg1) = m ((c.tc : Thread Cert.KernelFfnPrompt.nD Cert.KernelFfnPrompt.τ).loc Cert.KernelFfnPrompt.main_arg1)
      ∧ r.2.mem ((c.tc : Thread Cert.KernelFfnPrompt.nD Cert.KernelFfnPrompt.τ).loc Cert.KernelFfnPrompt.main_arg2) = m ((c.tc : Thread Cert.KernelFfnPrompt.nD Cert.KernelFfnPrompt.τ).loc Cert.KernelFfnPrompt.main_arg2)
      ∧ r.2.mem ((c.tc : Thread Cert.KernelFfnPrompt.nD Cert.KernelFfnPrompt.τ).loc Cert.KernelFfnPrompt.main_arg3) = m ((c.tc : Thread Cert.KernelFfnPrompt.nD Cert.KernelFfnPrompt.τ).loc Cert.KernelFfnPrompt.main_arg3)
      ∧ r.2.mem ((c.tc : Thread Cert.KernelFfnPrompt.nD Cert.KernelFfnPrompt.τ).loc Cert.KernelFfnPrompt.main_arg4) = m ((c.tc : Thread Cert.KernelFfnPrompt.nD Cert.KernelFfnPrompt.τ).loc Cert.KernelFfnPrompt.main_arg4)
      ∧ r.2.mem ((c.tc : Thread Cert.KernelFfnPrompt.nD Cert.KernelFfnPrompt.τ).loc Cert.KernelFfnPrompt.main_arg5) = m ((c.tc : Thread Cert.KernelFfnPrompt.nD Cert.KernelFfnPrompt.τ).loc Cert.KernelFfnPrompt.main_arg5))
      ∧ r.2.sem = fun _ => 0)

def quiescent_KernelFfnPromptIdeal [hKernelFfnPromptIdeal : Cert.KernelFfnPromptIdeal.Facts] : Prop :=
  ∀ (m : (ℓ : Loc Cert.KernelFfnPromptIdeal.nD Cert.KernelFfnPromptIdeal.τ Cert.KernelFfnPromptIdeal.sig) → Buf (Elt Ideal) ℓ) (g : Dev Cert.KernelFfnPromptIdeal.nD → PrngReg), Pre_KernelFfnPromptIdeal m →
    θ_run (Cert.KernelFfnPromptIdeal.defs (F := Ideal)) (onTc (τ := Cert.KernelFfnPromptIdeal.τ) (Cert.KernelFfnPromptIdeal.main (F := Ideal))) ⟨m, fun _ => 0, g⟩ (fun r => (∀ c : Dev Cert.KernelFfnPromptIdeal.nD,
      r.2.mem ((c.tc : Thread Cert.KernelFfnPromptIdeal.nD Cert.KernelFfnPromptIdeal.τ).loc Cert.KernelFfnPromptIdeal.main_arg0) = m ((c.tc : Thread Cert.KernelFfnPromptIdeal.nD Cert.KernelFfnPromptIdeal.τ).loc Cert.KernelFfnPromptIdeal.main_arg0)
      ∧ r.2.mem ((c.tc : Thread Cert.KernelFfnPromptIdeal.nD Cert.KernelFfnPromptIdeal.τ).loc Cert.KernelFfnPromptIdeal.main_arg1) = m ((c.tc : Thread Cert.KernelFfnPromptIdeal.nD Cert.KernelFfnPromptIdeal.τ).loc Cert.KernelFfnPromptIdeal.main_arg1)
      ∧ r.2.mem ((c.tc : Thread Cert.KernelFfnPromptIdeal.nD Cert.KernelFfnPromptIdeal.τ).loc Cert.KernelFfnPromptIdeal.main_arg2) = m ((c.tc : Thread Cert.KernelFfnPromptIdeal.nD Cert.KernelFfnPromptIdeal.τ).loc Cert.KernelFfnPromptIdeal.main_arg2)
      ∧ r.2.mem ((c.tc : Thread Cert.KernelFfnPromptIdeal.nD Cert.KernelFfnPromptIdeal.τ).loc Cert.KernelFfnPromptIdeal.main_arg3) = m ((c.tc : Thread Cert.KernelFfnPromptIdeal.nD Cert.KernelFfnPromptIdeal.τ).loc Cert.KernelFfnPromptIdeal.main_arg3)
      ∧ r.2.mem ((c.tc : Thread Cert.KernelFfnPromptIdeal.nD Cert.KernelFfnPromptIdeal.τ).loc Cert.KernelFfnPromptIdeal.main_arg4) = m ((c.tc : Thread Cert.KernelFfnPromptIdeal.nD Cert.KernelFfnPromptIdeal.τ).loc Cert.KernelFfnPromptIdeal.main_arg4)
      ∧ r.2.mem ((c.tc : Thread Cert.KernelFfnPromptIdeal.nD Cert.KernelFfnPromptIdeal.τ).loc Cert.KernelFfnPromptIdeal.main_arg5) = m ((c.tc : Thread Cert.KernelFfnPromptIdeal.nD Cert.KernelFfnPromptIdeal.τ).loc Cert.KernelFfnPromptIdeal.main_arg5))
      ∧ r.2.sem = fun _ => 0)

def quiescent_KernelFfnPromptIdeal_pre_finite_prompt [hKernelFfnPromptIdeal : Cert.KernelFfnPromptIdeal.Facts] [hPre_finite_prompt : Cert.Pre_finite_prompt.Facts] : Prop :=
  ∀ (m : (ℓ : Loc Cert.KernelFfnPromptIdeal.nD Cert.KernelFfnPromptIdeal.τ Cert.KernelFfnPromptIdeal.sig) → Buf (Elt Ideal) ℓ) (g : Dev Cert.KernelFfnPromptIdeal.nD → PrngReg), Pre_KernelFfnPromptIdeal_finite_prompt m →
    θ_run (Cert.KernelFfnPromptIdeal.defs (F := Ideal)) (onTc (τ := Cert.KernelFfnPromptIdeal.τ) (Cert.KernelFfnPromptIdeal.main (F := Ideal))) ⟨m, fun _ => 0, g⟩ (fun r => (∀ c : Dev Cert.KernelFfnPromptIdeal.nD,
      r.2.mem ((c.tc : Thread Cert.KernelFfnPromptIdeal.nD Cert.KernelFfnPromptIdeal.τ).loc Cert.KernelFfnPromptIdeal.main_arg0) = m ((c.tc : Thread Cert.KernelFfnPromptIdeal.nD Cert.KernelFfnPromptIdeal.τ).loc Cert.KernelFfnPromptIdeal.main_arg0)
      ∧ r.2.mem ((c.tc : Thread Cert.KernelFfnPromptIdeal.nD Cert.KernelFfnPromptIdeal.τ).loc Cert.KernelFfnPromptIdeal.main_arg1) = m ((c.tc : Thread Cert.KernelFfnPromptIdeal.nD Cert.KernelFfnPromptIdeal.τ).loc Cert.KernelFfnPromptIdeal.main_arg1)
      ∧ r.2.mem ((c.tc : Thread Cert.KernelFfnPromptIdeal.nD Cert.KernelFfnPromptIdeal.τ).loc Cert.KernelFfnPromptIdeal.main_arg2) = m ((c.tc : Thread Cert.KernelFfnPromptIdeal.nD Cert.KernelFfnPromptIdeal.τ).loc Cert.KernelFfnPromptIdeal.main_arg2)
      ∧ r.2.mem ((c.tc : Thread Cert.KernelFfnPromptIdeal.nD Cert.KernelFfnPromptIdeal.τ).loc Cert.KernelFfnPromptIdeal.main_arg3) = m ((c.tc : Thread Cert.KernelFfnPromptIdeal.nD Cert.KernelFfnPromptIdeal.τ).loc Cert.KernelFfnPromptIdeal.main_arg3)
      ∧ r.2.mem ((c.tc : Thread Cert.KernelFfnPromptIdeal.nD Cert.KernelFfnPromptIdeal.τ).loc Cert.KernelFfnPromptIdeal.main_arg4) = m ((c.tc : Thread Cert.KernelFfnPromptIdeal.nD Cert.KernelFfnPromptIdeal.τ).loc Cert.KernelFfnPromptIdeal.main_arg4)
      ∧ r.2.mem ((c.tc : Thread Cert.KernelFfnPromptIdeal.nD Cert.KernelFfnPromptIdeal.τ).loc Cert.KernelFfnPromptIdeal.main_arg5) = m ((c.tc : Thread Cert.KernelFfnPromptIdeal.nD Cert.KernelFfnPromptIdeal.τ).loc Cert.KernelFfnPromptIdeal.main_arg5))
      ∧ r.2.sem = fun _ => 0)

def quiescent_ReferenceFfnPromptIdeal [hReferenceFfnPromptIdeal : Cert.ReferenceFfnPromptIdeal.Facts] : Prop :=
  ∀ (m : (ℓ : Loc Cert.ReferenceFfnPromptIdeal.nD Cert.ReferenceFfnPromptIdeal.τ Cert.ReferenceFfnPromptIdeal.sig) → Buf (Elt Ideal) ℓ) (g : Dev Cert.ReferenceFfnPromptIdeal.nD → PrngReg), Pre_ReferenceFfnPromptIdeal m →
    θ_run (Cert.ReferenceFfnPromptIdeal.defs (F := Ideal)) (onTc (τ := Cert.ReferenceFfnPromptIdeal.τ) (Cert.ReferenceFfnPromptIdeal.main (F := Ideal))) ⟨m, fun _ => 0, g⟩ (fun r => (∀ c : Dev Cert.ReferenceFfnPromptIdeal.nD,
      r.2.mem ((c.tc : Thread Cert.ReferenceFfnPromptIdeal.nD Cert.ReferenceFfnPromptIdeal.τ).loc Cert.ReferenceFfnPromptIdeal.main_arg0) = m ((c.tc : Thread Cert.ReferenceFfnPromptIdeal.nD Cert.ReferenceFfnPromptIdeal.τ).loc Cert.ReferenceFfnPromptIdeal.main_arg0)
      ∧ r.2.mem ((c.tc : Thread Cert.ReferenceFfnPromptIdeal.nD Cert.ReferenceFfnPromptIdeal.τ).loc Cert.ReferenceFfnPromptIdeal.main_arg1) = m ((c.tc : Thread Cert.ReferenceFfnPromptIdeal.nD Cert.ReferenceFfnPromptIdeal.τ).loc Cert.ReferenceFfnPromptIdeal.main_arg1)
      ∧ r.2.mem ((c.tc : Thread Cert.ReferenceFfnPromptIdeal.nD Cert.ReferenceFfnPromptIdeal.τ).loc Cert.ReferenceFfnPromptIdeal.main_arg2) = m ((c.tc : Thread Cert.ReferenceFfnPromptIdeal.nD Cert.ReferenceFfnPromptIdeal.τ).loc Cert.ReferenceFfnPromptIdeal.main_arg2)
      ∧ r.2.mem ((c.tc : Thread Cert.ReferenceFfnPromptIdeal.nD Cert.ReferenceFfnPromptIdeal.τ).loc Cert.ReferenceFfnPromptIdeal.main_arg3) = m ((c.tc : Thread Cert.ReferenceFfnPromptIdeal.nD Cert.ReferenceFfnPromptIdeal.τ).loc Cert.ReferenceFfnPromptIdeal.main_arg3)
      ∧ r.2.mem ((c.tc : Thread Cert.ReferenceFfnPromptIdeal.nD Cert.ReferenceFfnPromptIdeal.τ).loc Cert.ReferenceFfnPromptIdeal.main_arg4) = m ((c.tc : Thread Cert.ReferenceFfnPromptIdeal.nD Cert.ReferenceFfnPromptIdeal.τ).loc Cert.ReferenceFfnPromptIdeal.main_arg4)
      ∧ r.2.mem ((c.tc : Thread Cert.ReferenceFfnPromptIdeal.nD Cert.ReferenceFfnPromptIdeal.τ).loc Cert.ReferenceFfnPromptIdeal.main_arg5) = m ((c.tc : Thread Cert.ReferenceFfnPromptIdeal.nD Cert.ReferenceFfnPromptIdeal.τ).loc Cert.ReferenceFfnPromptIdeal.main_arg5))
      ∧ r.2.sem = fun _ => 0)

def quiescent_ReferenceFfnPromptIdeal_pre_finite_prompt [hReferenceFfnPromptIdeal : Cert.ReferenceFfnPromptIdeal.Facts] [hPre_finite_prompt : Cert.Pre_finite_prompt.Facts] : Prop :=
  ∀ (m : (ℓ : Loc Cert.ReferenceFfnPromptIdeal.nD Cert.ReferenceFfnPromptIdeal.τ Cert.ReferenceFfnPromptIdeal.sig) → Buf (Elt Ideal) ℓ) (g : Dev Cert.ReferenceFfnPromptIdeal.nD → PrngReg), Pre_ReferenceFfnPromptIdeal_finite_prompt m →
    θ_run (Cert.ReferenceFfnPromptIdeal.defs (F := Ideal)) (onTc (τ := Cert.ReferenceFfnPromptIdeal.τ) (Cert.ReferenceFfnPromptIdeal.main (F := Ideal))) ⟨m, fun _ => 0, g⟩ (fun r => (∀ c : Dev Cert.ReferenceFfnPromptIdeal.nD,
      r.2.mem ((c.tc : Thread Cert.ReferenceFfnPromptIdeal.nD Cert.ReferenceFfnPromptIdeal.τ).loc Cert.ReferenceFfnPromptIdeal.main_arg0) = m ((c.tc : Thread Cert.ReferenceFfnPromptIdeal.nD Cert.ReferenceFfnPromptIdeal.τ).loc Cert.ReferenceFfnPromptIdeal.main_arg0)
      ∧ r.2.mem ((c.tc : Thread Cert.ReferenceFfnPromptIdeal.nD Cert.ReferenceFfnPromptIdeal.τ).loc Cert.ReferenceFfnPromptIdeal.main_arg1) = m ((c.tc : Thread Cert.ReferenceFfnPromptIdeal.nD Cert.ReferenceFfnPromptIdeal.τ).loc Cert.ReferenceFfnPromptIdeal.main_arg1)
      ∧ r.2.mem ((c.tc : Thread Cert.ReferenceFfnPromptIdeal.nD Cert.ReferenceFfnPromptIdeal.τ).loc Cert.ReferenceFfnPromptIdeal.main_arg2) = m ((c.tc : Thread Cert.ReferenceFfnPromptIdeal.nD Cert.ReferenceFfnPromptIdeal.τ).loc Cert.ReferenceFfnPromptIdeal.main_arg2)
      ∧ r.2.mem ((c.tc : Thread Cert.ReferenceFfnPromptIdeal.nD Cert.ReferenceFfnPromptIdeal.τ).loc Cert.ReferenceFfnPromptIdeal.main_arg3) = m ((c.tc : Thread Cert.ReferenceFfnPromptIdeal.nD Cert.ReferenceFfnPromptIdeal.τ).loc Cert.ReferenceFfnPromptIdeal.main_arg3)
      ∧ r.2.mem ((c.tc : Thread Cert.ReferenceFfnPromptIdeal.nD Cert.ReferenceFfnPromptIdeal.τ).loc Cert.ReferenceFfnPromptIdeal.main_arg4) = m ((c.tc : Thread Cert.ReferenceFfnPromptIdeal.nD Cert.ReferenceFfnPromptIdeal.τ).loc Cert.ReferenceFfnPromptIdeal.main_arg4)
      ∧ r.2.mem ((c.tc : Thread Cert.ReferenceFfnPromptIdeal.nD Cert.ReferenceFfnPromptIdeal.τ).loc Cert.ReferenceFfnPromptIdeal.main_arg5) = m ((c.tc : Thread Cert.ReferenceFfnPromptIdeal.nD Cert.ReferenceFfnPromptIdeal.τ).loc Cert.ReferenceFfnPromptIdeal.main_arg5))
      ∧ r.2.sem = fun _ => 0)

def quiescent_KernelOutEven [hKernelOutEven : Cert.KernelOutEven.Facts] : Prop :=
  ∀ (m : (ℓ : Loc Cert.KernelOutEven.nD Cert.KernelOutEven.τ Cert.KernelOutEven.sig) → Buf (Elt Bits) ℓ) (g : Dev Cert.KernelOutEven.nD → PrngReg), Pre_KernelOutEven m →
    θ_run (Cert.KernelOutEven.defs (F := Bits)) (onTc (τ := Cert.KernelOutEven.τ) (Cert.KernelOutEven.main (F := Bits))) ⟨m, fun _ => 0, g⟩ (fun r => (∀ c : Dev Cert.KernelOutEven.nD,
      r.2.mem ((c.tc : Thread Cert.KernelOutEven.nD Cert.KernelOutEven.τ).loc Cert.KernelOutEven.main_arg0) = m ((c.tc : Thread Cert.KernelOutEven.nD Cert.KernelOutEven.τ).loc Cert.KernelOutEven.main_arg0)
      ∧ r.2.mem ((c.tc : Thread Cert.KernelOutEven.nD Cert.KernelOutEven.τ).loc Cert.KernelOutEven.main_arg1) = m ((c.tc : Thread Cert.KernelOutEven.nD Cert.KernelOutEven.τ).loc Cert.KernelOutEven.main_arg1)
      ∧ r.2.mem ((c.tc : Thread Cert.KernelOutEven.nD Cert.KernelOutEven.τ).loc Cert.KernelOutEven.main_arg2) = m ((c.tc : Thread Cert.KernelOutEven.nD Cert.KernelOutEven.τ).loc Cert.KernelOutEven.main_arg2)
      ∧ r.2.mem ((c.tc : Thread Cert.KernelOutEven.nD Cert.KernelOutEven.τ).loc Cert.KernelOutEven.main_arg3) = m ((c.tc : Thread Cert.KernelOutEven.nD Cert.KernelOutEven.τ).loc Cert.KernelOutEven.main_arg3)
      ∧ r.2.mem ((c.tc : Thread Cert.KernelOutEven.nD Cert.KernelOutEven.τ).loc Cert.KernelOutEven.main_arg4) = m ((c.tc : Thread Cert.KernelOutEven.nD Cert.KernelOutEven.τ).loc Cert.KernelOutEven.main_arg4)
      ∧ r.2.mem ((c.tc : Thread Cert.KernelOutEven.nD Cert.KernelOutEven.τ).loc Cert.KernelOutEven.main_arg5) = m ((c.tc : Thread Cert.KernelOutEven.nD Cert.KernelOutEven.τ).loc Cert.KernelOutEven.main_arg5))
      ∧ r.2.sem = fun _ => 0)

def quiescent_KernelOutEvenIdeal [hKernelOutEvenIdeal : Cert.KernelOutEvenIdeal.Facts] : Prop :=
  ∀ (m : (ℓ : Loc Cert.KernelOutEvenIdeal.nD Cert.KernelOutEvenIdeal.τ Cert.KernelOutEvenIdeal.sig) → Buf (Elt Ideal) ℓ) (g : Dev Cert.KernelOutEvenIdeal.nD → PrngReg), Pre_KernelOutEvenIdeal m →
    θ_run (Cert.KernelOutEvenIdeal.defs (F := Ideal)) (onTc (τ := Cert.KernelOutEvenIdeal.τ) (Cert.KernelOutEvenIdeal.main (F := Ideal))) ⟨m, fun _ => 0, g⟩ (fun r => (∀ c : Dev Cert.KernelOutEvenIdeal.nD,
      r.2.mem ((c.tc : Thread Cert.KernelOutEvenIdeal.nD Cert.KernelOutEvenIdeal.τ).loc Cert.KernelOutEvenIdeal.main_arg0) = m ((c.tc : Thread Cert.KernelOutEvenIdeal.nD Cert.KernelOutEvenIdeal.τ).loc Cert.KernelOutEvenIdeal.main_arg0)
      ∧ r.2.mem ((c.tc : Thread Cert.KernelOutEvenIdeal.nD Cert.KernelOutEvenIdeal.τ).loc Cert.KernelOutEvenIdeal.main_arg1) = m ((c.tc : Thread Cert.KernelOutEvenIdeal.nD Cert.KernelOutEvenIdeal.τ).loc Cert.KernelOutEvenIdeal.main_arg1)
      ∧ r.2.mem ((c.tc : Thread Cert.KernelOutEvenIdeal.nD Cert.KernelOutEvenIdeal.τ).loc Cert.KernelOutEvenIdeal.main_arg2) = m ((c.tc : Thread Cert.KernelOutEvenIdeal.nD Cert.KernelOutEvenIdeal.τ).loc Cert.KernelOutEvenIdeal.main_arg2)
      ∧ r.2.mem ((c.tc : Thread Cert.KernelOutEvenIdeal.nD Cert.KernelOutEvenIdeal.τ).loc Cert.KernelOutEvenIdeal.main_arg3) = m ((c.tc : Thread Cert.KernelOutEvenIdeal.nD Cert.KernelOutEvenIdeal.τ).loc Cert.KernelOutEvenIdeal.main_arg3)
      ∧ r.2.mem ((c.tc : Thread Cert.KernelOutEvenIdeal.nD Cert.KernelOutEvenIdeal.τ).loc Cert.KernelOutEvenIdeal.main_arg4) = m ((c.tc : Thread Cert.KernelOutEvenIdeal.nD Cert.KernelOutEvenIdeal.τ).loc Cert.KernelOutEvenIdeal.main_arg4)
      ∧ r.2.mem ((c.tc : Thread Cert.KernelOutEvenIdeal.nD Cert.KernelOutEvenIdeal.τ).loc Cert.KernelOutEvenIdeal.main_arg5) = m ((c.tc : Thread Cert.KernelOutEvenIdeal.nD Cert.KernelOutEvenIdeal.τ).loc Cert.KernelOutEvenIdeal.main_arg5))
      ∧ r.2.sem = fun _ => 0)

def quiescent_ReferenceOutEvenIdeal [hReferenceOutEvenIdeal : Cert.ReferenceOutEvenIdeal.Facts] : Prop :=
  ∀ (m : (ℓ : Loc Cert.ReferenceOutEvenIdeal.nD Cert.ReferenceOutEvenIdeal.τ Cert.ReferenceOutEvenIdeal.sig) → Buf (Elt Ideal) ℓ) (g : Dev Cert.ReferenceOutEvenIdeal.nD → PrngReg), Pre_ReferenceOutEvenIdeal m →
    θ_run (Cert.ReferenceOutEvenIdeal.defs (F := Ideal)) (onTc (τ := Cert.ReferenceOutEvenIdeal.τ) (Cert.ReferenceOutEvenIdeal.main (F := Ideal))) ⟨m, fun _ => 0, g⟩ (fun r => (∀ c : Dev Cert.ReferenceOutEvenIdeal.nD,
      r.2.mem ((c.tc : Thread Cert.ReferenceOutEvenIdeal.nD Cert.ReferenceOutEvenIdeal.τ).loc Cert.ReferenceOutEvenIdeal.main_arg0) = m ((c.tc : Thread Cert.ReferenceOutEvenIdeal.nD Cert.ReferenceOutEvenIdeal.τ).loc Cert.ReferenceOutEvenIdeal.main_arg0)
      ∧ r.2.mem ((c.tc : Thread Cert.ReferenceOutEvenIdeal.nD Cert.ReferenceOutEvenIdeal.τ).loc Cert.ReferenceOutEvenIdeal.main_arg1) = m ((c.tc : Thread Cert.ReferenceOutEvenIdeal.nD Cert.ReferenceOutEvenIdeal.τ).loc Cert.ReferenceOutEvenIdeal.main_arg1)
      ∧ r.2.mem ((c.tc : Thread Cert.ReferenceOutEvenIdeal.nD Cert.ReferenceOutEvenIdeal.τ).loc Cert.ReferenceOutEvenIdeal.main_arg2) = m ((c.tc : Thread Cert.ReferenceOutEvenIdeal.nD Cert.ReferenceOutEvenIdeal.τ).loc Cert.ReferenceOutEvenIdeal.main_arg2)
      ∧ r.2.mem ((c.tc : Thread Cert.ReferenceOutEvenIdeal.nD Cert.ReferenceOutEvenIdeal.τ).loc Cert.ReferenceOutEvenIdeal.main_arg3) = m ((c.tc : Thread Cert.ReferenceOutEvenIdeal.nD Cert.ReferenceOutEvenIdeal.τ).loc Cert.ReferenceOutEvenIdeal.main_arg3)
      ∧ r.2.mem ((c.tc : Thread Cert.ReferenceOutEvenIdeal.nD Cert.ReferenceOutEvenIdeal.τ).loc Cert.ReferenceOutEvenIdeal.main_arg4) = m ((c.tc : Thread Cert.ReferenceOutEvenIdeal.nD Cert.ReferenceOutEvenIdeal.τ).loc Cert.ReferenceOutEvenIdeal.main_arg4)
      ∧ r.2.mem ((c.tc : Thread Cert.ReferenceOutEvenIdeal.nD Cert.ReferenceOutEvenIdeal.τ).loc Cert.ReferenceOutEvenIdeal.main_arg5) = m ((c.tc : Thread Cert.ReferenceOutEvenIdeal.nD Cert.ReferenceOutEvenIdeal.τ).loc Cert.ReferenceOutEvenIdeal.main_arg5))
      ∧ r.2.sem = fun _ => 0)

def quiescent_KernelOutOdd [hKernelOutOdd : Cert.KernelOutOdd.Facts] : Prop :=
  ∀ (m : (ℓ : Loc Cert.KernelOutOdd.nD Cert.KernelOutOdd.τ Cert.KernelOutOdd.sig) → Buf (Elt Bits) ℓ) (g : Dev Cert.KernelOutOdd.nD → PrngReg), Pre_KernelOutOdd m →
    θ_run (Cert.KernelOutOdd.defs (F := Bits)) (onTc (τ := Cert.KernelOutOdd.τ) (Cert.KernelOutOdd.main (F := Bits))) ⟨m, fun _ => 0, g⟩ (fun r => (∀ c : Dev Cert.KernelOutOdd.nD,
      r.2.mem ((c.tc : Thread Cert.KernelOutOdd.nD Cert.KernelOutOdd.τ).loc Cert.KernelOutOdd.main_arg0) = m ((c.tc : Thread Cert.KernelOutOdd.nD Cert.KernelOutOdd.τ).loc Cert.KernelOutOdd.main_arg0)
      ∧ r.2.mem ((c.tc : Thread Cert.KernelOutOdd.nD Cert.KernelOutOdd.τ).loc Cert.KernelOutOdd.main_arg1) = m ((c.tc : Thread Cert.KernelOutOdd.nD Cert.KernelOutOdd.τ).loc Cert.KernelOutOdd.main_arg1)
      ∧ r.2.mem ((c.tc : Thread Cert.KernelOutOdd.nD Cert.KernelOutOdd.τ).loc Cert.KernelOutOdd.main_arg2) = m ((c.tc : Thread Cert.KernelOutOdd.nD Cert.KernelOutOdd.τ).loc Cert.KernelOutOdd.main_arg2)
      ∧ r.2.mem ((c.tc : Thread Cert.KernelOutOdd.nD Cert.KernelOutOdd.τ).loc Cert.KernelOutOdd.main_arg3) = m ((c.tc : Thread Cert.KernelOutOdd.nD Cert.KernelOutOdd.τ).loc Cert.KernelOutOdd.main_arg3)
      ∧ r.2.mem ((c.tc : Thread Cert.KernelOutOdd.nD Cert.KernelOutOdd.τ).loc Cert.KernelOutOdd.main_arg4) = m ((c.tc : Thread Cert.KernelOutOdd.nD Cert.KernelOutOdd.τ).loc Cert.KernelOutOdd.main_arg4))
      ∧ r.2.sem = fun _ => 0)

def quiescent_KernelOutOddIdeal [hKernelOutOddIdeal : Cert.KernelOutOddIdeal.Facts] : Prop :=
  ∀ (m : (ℓ : Loc Cert.KernelOutOddIdeal.nD Cert.KernelOutOddIdeal.τ Cert.KernelOutOddIdeal.sig) → Buf (Elt Ideal) ℓ) (g : Dev Cert.KernelOutOddIdeal.nD → PrngReg), Pre_KernelOutOddIdeal m →
    θ_run (Cert.KernelOutOddIdeal.defs (F := Ideal)) (onTc (τ := Cert.KernelOutOddIdeal.τ) (Cert.KernelOutOddIdeal.main (F := Ideal))) ⟨m, fun _ => 0, g⟩ (fun r => (∀ c : Dev Cert.KernelOutOddIdeal.nD,
      r.2.mem ((c.tc : Thread Cert.KernelOutOddIdeal.nD Cert.KernelOutOddIdeal.τ).loc Cert.KernelOutOddIdeal.main_arg0) = m ((c.tc : Thread Cert.KernelOutOddIdeal.nD Cert.KernelOutOddIdeal.τ).loc Cert.KernelOutOddIdeal.main_arg0)
      ∧ r.2.mem ((c.tc : Thread Cert.KernelOutOddIdeal.nD Cert.KernelOutOddIdeal.τ).loc Cert.KernelOutOddIdeal.main_arg1) = m ((c.tc : Thread Cert.KernelOutOddIdeal.nD Cert.KernelOutOddIdeal.τ).loc Cert.KernelOutOddIdeal.main_arg1)
      ∧ r.2.mem ((c.tc : Thread Cert.KernelOutOddIdeal.nD Cert.KernelOutOddIdeal.τ).loc Cert.KernelOutOddIdeal.main_arg2) = m ((c.tc : Thread Cert.KernelOutOddIdeal.nD Cert.KernelOutOddIdeal.τ).loc Cert.KernelOutOddIdeal.main_arg2)
      ∧ r.2.mem ((c.tc : Thread Cert.KernelOutOddIdeal.nD Cert.KernelOutOddIdeal.τ).loc Cert.KernelOutOddIdeal.main_arg3) = m ((c.tc : Thread Cert.KernelOutOddIdeal.nD Cert.KernelOutOddIdeal.τ).loc Cert.KernelOutOddIdeal.main_arg3)
      ∧ r.2.mem ((c.tc : Thread Cert.KernelOutOddIdeal.nD Cert.KernelOutOddIdeal.τ).loc Cert.KernelOutOddIdeal.main_arg4) = m ((c.tc : Thread Cert.KernelOutOddIdeal.nD Cert.KernelOutOddIdeal.τ).loc Cert.KernelOutOddIdeal.main_arg4))
      ∧ r.2.sem = fun _ => 0)

def quiescent_ReferenceOutOddIdeal [hReferenceOutOddIdeal : Cert.ReferenceOutOddIdeal.Facts] : Prop :=
  ∀ (m : (ℓ : Loc Cert.ReferenceOutOddIdeal.nD Cert.ReferenceOutOddIdeal.τ Cert.ReferenceOutOddIdeal.sig) → Buf (Elt Ideal) ℓ) (g : Dev Cert.ReferenceOutOddIdeal.nD → PrngReg), Pre_ReferenceOutOddIdeal m →
    θ_run (Cert.ReferenceOutOddIdeal.defs (F := Ideal)) (onTc (τ := Cert.ReferenceOutOddIdeal.τ) (Cert.ReferenceOutOddIdeal.main (F := Ideal))) ⟨m, fun _ => 0, g⟩ (fun r => (∀ c : Dev Cert.ReferenceOutOddIdeal.nD,
      r.2.mem ((c.tc : Thread Cert.ReferenceOutOddIdeal.nD Cert.ReferenceOutOddIdeal.τ).loc Cert.ReferenceOutOddIdeal.main_arg0) = m ((c.tc : Thread Cert.ReferenceOutOddIdeal.nD Cert.ReferenceOutOddIdeal.τ).loc Cert.ReferenceOutOddIdeal.main_arg0)
      ∧ r.2.mem ((c.tc : Thread Cert.ReferenceOutOddIdeal.nD Cert.ReferenceOutOddIdeal.τ).loc Cert.ReferenceOutOddIdeal.main_arg1) = m ((c.tc : Thread Cert.ReferenceOutOddIdeal.nD Cert.ReferenceOutOddIdeal.τ).loc Cert.ReferenceOutOddIdeal.main_arg1)
      ∧ r.2.mem ((c.tc : Thread Cert.ReferenceOutOddIdeal.nD Cert.ReferenceOutOddIdeal.τ).loc Cert.ReferenceOutOddIdeal.main_arg2) = m ((c.tc : Thread Cert.ReferenceOutOddIdeal.nD Cert.ReferenceOutOddIdeal.τ).loc Cert.ReferenceOutOddIdeal.main_arg2)
      ∧ r.2.mem ((c.tc : Thread Cert.ReferenceOutOddIdeal.nD Cert.ReferenceOutOddIdeal.τ).loc Cert.ReferenceOutOddIdeal.main_arg3) = m ((c.tc : Thread Cert.ReferenceOutOddIdeal.nD Cert.ReferenceOutOddIdeal.τ).loc Cert.ReferenceOutOddIdeal.main_arg3)
      ∧ r.2.mem ((c.tc : Thread Cert.ReferenceOutOddIdeal.nD Cert.ReferenceOutOddIdeal.τ).loc Cert.ReferenceOutOddIdeal.main_arg4) = m ((c.tc : Thread Cert.ReferenceOutOddIdeal.nD Cert.ReferenceOutOddIdeal.τ).loc Cert.ReferenceOutOddIdeal.main_arg4))
      ∧ r.2.sem = fun _ => 0)

def quiescent_KernelInOdd [hKernelInOdd : Cert.KernelInOdd.Facts] : Prop :=
  ∀ (m : (ℓ : Loc Cert.KernelInOdd.nD Cert.KernelInOdd.τ Cert.KernelInOdd.sig) → Buf (Elt Bits) ℓ) (g : Dev Cert.KernelInOdd.nD → PrngReg), Pre_KernelInOdd m →
    θ_run (Cert.KernelInOdd.defs (F := Bits)) (onTc (τ := Cert.KernelInOdd.τ) (Cert.KernelInOdd.main (F := Bits))) ⟨m, fun _ => 0, g⟩ (fun r => (∀ c : Dev Cert.KernelInOdd.nD,
      r.2.mem ((c.tc : Thread Cert.KernelInOdd.nD Cert.KernelInOdd.τ).loc Cert.KernelInOdd.main_arg0) = m ((c.tc : Thread Cert.KernelInOdd.nD Cert.KernelInOdd.τ).loc Cert.KernelInOdd.main_arg0)
      ∧ r.2.mem ((c.tc : Thread Cert.KernelInOdd.nD Cert.KernelInOdd.τ).loc Cert.KernelInOdd.main_arg1) = m ((c.tc : Thread Cert.KernelInOdd.nD Cert.KernelInOdd.τ).loc Cert.KernelInOdd.main_arg1)
      ∧ r.2.mem ((c.tc : Thread Cert.KernelInOdd.nD Cert.KernelInOdd.τ).loc Cert.KernelInOdd.main_arg2) = m ((c.tc : Thread Cert.KernelInOdd.nD Cert.KernelInOdd.τ).loc Cert.KernelInOdd.main_arg2)
      ∧ r.2.mem ((c.tc : Thread Cert.KernelInOdd.nD Cert.KernelInOdd.τ).loc Cert.KernelInOdd.main_arg3) = m ((c.tc : Thread Cert.KernelInOdd.nD Cert.KernelInOdd.τ).loc Cert.KernelInOdd.main_arg3))
      ∧ r.2.sem = fun _ => 0)

def quiescent_KernelInOddIdeal [hKernelInOddIdeal : Cert.KernelInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg), Pre_KernelInOddIdeal m →
    θ_run (Cert.KernelInOddIdeal.defs (F := Ideal)) (onTc (τ := Cert.KernelInOddIdeal.τ) (Cert.KernelInOddIdeal.main (F := Ideal))) ⟨m, fun _ => 0, g⟩ (fun r => (∀ c : Dev Cert.KernelInOddIdeal.nD,
      r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
      ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
      ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2)
      ∧ r.2.mem ((c.tc : Thread Cert.KernelInOddIdeal.nD Cert.KernelInOddIdeal.τ).loc Cert.KernelInOddIdeal.main_arg3) = m ((c.tc : Thread Cert.KernelInOddIdeal.nD Cert.KernelInOddIdeal.τ).loc Cert.KernelInOddIdeal.main_arg3))
      ∧ r.2.sem = fun _ => 0)

def quiescent_ReferenceInOddIdeal [hReferenceInOddIdeal : Cert.ReferenceInOddIdeal.Facts] : Prop :=
  ∀ (m : (ℓ : Loc Cert.ReferenceInOddIdeal.nD Cert.ReferenceInOddIdeal.τ Cert.ReferenceInOddIdeal.sig) → Buf (Elt Ideal) ℓ) (g : Dev Cert.ReferenceInOddIdeal.nD → PrngReg), Pre_ReferenceInOddIdeal m →
    θ_run (Cert.ReferenceInOddIdeal.defs (F := Ideal)) (onTc (τ := Cert.ReferenceInOddIdeal.τ) (Cert.ReferenceInOddIdeal.main (F := Ideal))) ⟨m, fun _ => 0, g⟩ (fun r => (∀ c : Dev Cert.ReferenceInOddIdeal.nD,
      r.2.mem ((c.tc : Thread Cert.ReferenceInOddIdeal.nD Cert.ReferenceInOddIdeal.τ).loc Cert.ReferenceInOddIdeal.main_arg0) = m ((c.tc : Thread Cert.ReferenceInOddIdeal.nD Cert.ReferenceInOddIdeal.τ).loc Cert.ReferenceInOddIdeal.main_arg0)
      ∧ r.2.mem ((c.tc : Thread Cert.ReferenceInOddIdeal.nD Cert.ReferenceInOddIdeal.τ).loc Cert.ReferenceInOddIdeal.main_arg1) = m ((c.tc : Thread Cert.ReferenceInOddIdeal.nD Cert.ReferenceInOddIdeal.τ).loc Cert.ReferenceInOddIdeal.main_arg1)
      ∧ r.2.mem ((c.tc : Thread Cert.ReferenceInOddIdeal.nD Cert.ReferenceInOddIdeal.τ).loc Cert.ReferenceInOddIdeal.main_arg2) = m ((c.tc : Thread Cert.ReferenceInOddIdeal.nD Cert.ReferenceInOddIdeal.τ).loc Cert.ReferenceInOddIdeal.main_arg2)
      ∧ r.2.mem ((c.tc : Thread Cert.ReferenceInOddIdeal.nD Cert.ReferenceInOddIdeal.τ).loc Cert.ReferenceInOddIdeal.main_arg3) = m ((c.tc : Thread Cert.ReferenceInOddIdeal.nD Cert.ReferenceInOddIdeal.τ).loc Cert.ReferenceInOddIdeal.main_arg3))
      ∧ r.2.sem = fun _ => 0)

def quiescent_KernelInEven [hKernelInEven : Cert.KernelInEven.Facts] : Prop :=
  ∀ (m : (ℓ : Loc Cert.KernelInEven.nD Cert.KernelInEven.τ Cert.KernelInEven.sig) → Buf (Elt Bits) ℓ) (g : Dev Cert.KernelInEven.nD → PrngReg), Pre_KernelInEven m →
    θ_run (Cert.KernelInEven.defs (F := Bits)) (onTc (τ := Cert.KernelInEven.τ) (Cert.KernelInEven.main (F := Bits))) ⟨m, fun _ => 0, g⟩ (fun r => (∀ c : Dev Cert.KernelInEven.nD,
      r.2.mem ((c.tc : Thread Cert.KernelInEven.nD Cert.KernelInEven.τ).loc Cert.KernelInEven.main_arg0) = m ((c.tc : Thread Cert.KernelInEven.nD Cert.KernelInEven.τ).loc Cert.KernelInEven.main_arg0)
      ∧ r.2.mem ((c.tc : Thread Cert.KernelInEven.nD Cert.KernelInEven.τ).loc Cert.KernelInEven.main_arg1) = m ((c.tc : Thread Cert.KernelInEven.nD Cert.KernelInEven.τ).loc Cert.KernelInEven.main_arg1)
      ∧ r.2.mem ((c.tc : Thread Cert.KernelInEven.nD Cert.KernelInEven.τ).loc Cert.KernelInEven.main_arg2) = m ((c.tc : Thread Cert.KernelInEven.nD Cert.KernelInEven.τ).loc Cert.KernelInEven.main_arg2)
      ∧ r.2.mem ((c.tc : Thread Cert.KernelInEven.nD Cert.KernelInEven.τ).loc Cert.KernelInEven.main_arg3) = m ((c.tc : Thread Cert.KernelInEven.nD Cert.KernelInEven.τ).loc Cert.KernelInEven.main_arg3)
      ∧ r.2.mem ((c.tc : Thread Cert.KernelInEven.nD Cert.KernelInEven.τ).loc Cert.KernelInEven.main_arg4) = m ((c.tc : Thread Cert.KernelInEven.nD Cert.KernelInEven.τ).loc Cert.KernelInEven.main_arg4))
      ∧ r.2.sem = fun _ => 0)

def quiescent_KernelInEvenIdeal [hKernelInEvenIdeal : Cert.KernelInEvenIdeal.Facts] : Prop :=
  ∀ (m : (ℓ : Loc Cert.KernelInEvenIdeal.nD Cert.KernelInEvenIdeal.τ Cert.KernelInEvenIdeal.sig) → Buf (Elt Ideal) ℓ) (g : Dev Cert.KernelInEvenIdeal.nD → PrngReg), Pre_KernelInEvenIdeal m →
    θ_run (Cert.KernelInEvenIdeal.defs (F := Ideal)) (onTc (τ := Cert.KernelInEvenIdeal.τ) (Cert.KernelInEvenIdeal.main (F := Ideal))) ⟨m, fun _ => 0, g⟩ (fun r => (∀ c : Dev Cert.KernelInEvenIdeal.nD,
      r.2.mem ((c.tc : Thread Cert.KernelInEvenIdeal.nD Cert.KernelInEvenIdeal.τ).loc Cert.KernelInEvenIdeal.main_arg0) = m ((c.tc : Thread Cert.KernelInEvenIdeal.nD Cert.KernelInEvenIdeal.τ).loc Cert.KernelInEvenIdeal.main_arg0)
      ∧ r.2.mem ((c.tc : Thread Cert.KernelInEvenIdeal.nD Cert.KernelInEvenIdeal.τ).loc Cert.KernelInEvenIdeal.main_arg1) = m ((c.tc : Thread Cert.KernelInEvenIdeal.nD Cert.KernelInEvenIdeal.τ).loc Cert.KernelInEvenIdeal.main_arg1)
      ∧ r.2.mem ((c.tc : Thread Cert.KernelInEvenIdeal.nD Cert.KernelInEvenIdeal.τ).loc Cert.KernelInEvenIdeal.main_arg2) = m ((c.tc : Thread Cert.KernelInEvenIdeal.nD Cert.KernelInEvenIdeal.τ).loc Cert.KernelInEvenIdeal.main_arg2)
      ∧ r.2.mem ((c.tc : Thread Cert.KernelInEvenIdeal.nD Cert.KernelInEvenIdeal.τ).loc Cert.KernelInEvenIdeal.main_arg3) = m ((c.tc : Thread Cert.KernelInEvenIdeal.nD Cert.KernelInEvenIdeal.τ).loc Cert.KernelInEvenIdeal.main_arg3)
      ∧ r.2.mem ((c.tc : Thread Cert.KernelInEvenIdeal.nD Cert.KernelInEvenIdeal.τ).loc Cert.KernelInEvenIdeal.main_arg4) = m ((c.tc : Thread Cert.KernelInEvenIdeal.nD Cert.KernelInEvenIdeal.τ).loc Cert.KernelInEvenIdeal.main_arg4))
      ∧ r.2.sem = fun _ => 0)

def quiescent_ReferenceInEvenIdeal [hReferenceInEvenIdeal : Cert.ReferenceInEvenIdeal.Facts] : Prop :=
  ∀ (m : (ℓ : Loc Cert.ReferenceInEvenIdeal.nD Cert.ReferenceInEvenIdeal.τ Cert.ReferenceInEvenIdeal.sig) → Buf (Elt Ideal) ℓ) (g : Dev Cert.ReferenceInEvenIdeal.nD → PrngReg), Pre_ReferenceInEvenIdeal m →
    θ_run (Cert.ReferenceInEvenIdeal.defs (F := Ideal)) (onTc (τ := Cert.ReferenceInEvenIdeal.τ) (Cert.ReferenceInEvenIdeal.main (F := Ideal))) ⟨m, fun _ => 0, g⟩ (fun r => (∀ c : Dev Cert.ReferenceInEvenIdeal.nD,
      r.2.mem ((c.tc : Thread Cert.ReferenceInEvenIdeal.nD Cert.ReferenceInEvenIdeal.τ).loc Cert.ReferenceInEvenIdeal.main_arg0) = m ((c.tc : Thread Cert.ReferenceInEvenIdeal.nD Cert.ReferenceInEvenIdeal.τ).loc Cert.ReferenceInEvenIdeal.main_arg0)
      ∧ r.2.mem ((c.tc : Thread Cert.ReferenceInEvenIdeal.nD Cert.ReferenceInEvenIdeal.τ).loc Cert.ReferenceInEvenIdeal.main_arg1) = m ((c.tc : Thread Cert.ReferenceInEvenIdeal.nD Cert.ReferenceInEvenIdeal.τ).loc Cert.ReferenceInEvenIdeal.main_arg1)
      ∧ r.2.mem ((c.tc : Thread Cert.ReferenceInEvenIdeal.nD Cert.ReferenceInEvenIdeal.τ).loc Cert.ReferenceInEvenIdeal.main_arg2) = m ((c.tc : Thread Cert.ReferenceInEvenIdeal.nD Cert.ReferenceInEvenIdeal.τ).loc Cert.ReferenceInEvenIdeal.main_arg2)
      ∧ r.2.mem ((c.tc : Thread Cert.ReferenceInEvenIdeal.nD Cert.ReferenceInEvenIdeal.τ).loc Cert.ReferenceInEvenIdeal.main_arg3) = m ((c.tc : Thread Cert.ReferenceInEvenIdeal.nD Cert.ReferenceInEvenIdeal.τ).loc Cert.ReferenceInEvenIdeal.main_arg3)
      ∧ r.2.mem ((c.tc : Thread Cert.ReferenceInEvenIdeal.nD Cert.ReferenceInEvenIdeal.τ).loc Cert.ReferenceInEvenIdeal.main_arg4) = m ((c.tc : Thread Cert.ReferenceInEvenIdeal.nD Cert.ReferenceInEvenIdeal.τ).loc Cert.ReferenceInEvenIdeal.main_arg4))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1)
      ∧ r.2.mem ((c.tc : Thread Cert.KernelGla.nD Cert.KernelGla.τ).loc Cert.KernelGla.main_arg2) = m ((c.tc : Thread Cert.KernelGla.nD Cert.KernelGla.τ).loc Cert.KernelGla.main_arg2)
      ∧ r.2.mem ((c.tc : Thread Cert.KernelGla.nD Cert.KernelGla.τ).loc Cert.KernelGla.main_arg3) = m ((c.tc : Thread Cert.KernelGla.nD Cert.KernelGla.τ).loc Cert.KernelGla.main_arg3)
      ∧ r.2.mem ((c.tc : Thread Cert.KernelGla.nD Cert.KernelGla.τ).loc Cert.KernelGla.main_arg4) = m ((c.tc : Thread Cert.KernelGla.nD Cert.KernelGla.τ).loc Cert.KernelGla.main_arg4))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
      ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1)
      ∧ r.2.mem ((c.tc : Thread Cert.ReferenceGlaIdeal.nD Cert.ReferenceGlaIdeal.τ).loc Cert.ReferenceGlaIdeal.main_arg2) = m ((c.tc : Thread Cert.ReferenceGlaIdeal.nD Cert.ReferenceGlaIdeal.τ).loc Cert.ReferenceGlaIdeal.main_arg2)
      ∧ r.2.mem ((c.tc : Thread Cert.ReferenceGlaIdeal.nD Cert.ReferenceGlaIdeal.τ).loc Cert.ReferenceGlaIdeal.main_arg3) = m ((c.tc : Thread Cert.ReferenceGlaIdeal.nD Cert.ReferenceGlaIdeal.τ).loc Cert.ReferenceGlaIdeal.main_arg3)
      ∧ r.2.mem ((c.tc : Thread Cert.ReferenceGlaIdeal.nD Cert.ReferenceGlaIdeal.τ).loc Cert.ReferenceGlaIdeal.main_arg4) = m ((c.tc : Thread Cert.ReferenceGlaIdeal.nD Cert.ReferenceGlaIdeal.τ).loc Cert.ReferenceGlaIdeal.main_arg4))
      ∧ r.2.sem = fun _ => 0)

def quiescent_KernelRglru [hKernelRglru : Cert.KernelRglru.Facts] : Prop :=
  ∀ (m : (ℓ : Loc Cert.KernelRglru.nD Cert.KernelRglru.τ Cert.KernelRglru.sig) → Buf (Elt Bits) ℓ) (g : Dev Cert.KernelRglru.nD → PrngReg), Pre_KernelRglru m →
    θ_run (Cert.KernelRglru.defs (F := Bits)) (onTc (τ := Cert.KernelRglru.τ) (Cert.KernelRglru.main (F := Bits))) ⟨m, fun _ => 0, g⟩ (fun r => (∀ c : Dev Cert.KernelRglru.nD,
      r.2.mem ((c.tc : Thread Cert.KernelRglru.nD Cert.KernelRglru.τ).loc Cert.KernelRglru.main_arg0) = m ((c.tc : Thread Cert.KernelRglru.nD Cert.KernelRglru.τ).loc Cert.KernelRglru.main_arg0)
      ∧ r.2.mem ((c.tc : Thread Cert.KernelRglru.nD Cert.KernelRglru.τ).loc Cert.KernelRglru.main_arg1) = m ((c.tc : Thread Cert.KernelRglru.nD Cert.KernelRglru.τ).loc Cert.KernelRglru.main_arg1)
      ∧ r.2.mem ((c.tc : Thread Cert.KernelRglru.nD Cert.KernelRglru.τ).loc Cert.KernelRglru.main_arg2) = m ((c.tc : Thread Cert.KernelRglru.nD Cert.KernelRglru.τ).loc Cert.KernelRglru.main_arg2)
      ∧ r.2.mem ((c.tc : Thread Cert.KernelRglru.nD Cert.KernelRglru.τ).loc Cert.KernelRglru.main_arg3) = m ((c.tc : Thread Cert.KernelRglru.nD Cert.KernelRglru.τ).loc Cert.KernelRglru.main_arg3)
      ∧ r.2.mem ((c.tc : Thread Cert.KernelRglru.nD Cert.KernelRglru.τ).loc Cert.KernelRglru.main_arg4) = m ((c.tc : Thread Cert.KernelRglru.nD Cert.KernelRglru.τ).loc Cert.KernelRglru.main_arg4)
      ∧ r.2.mem ((c.tc : Thread Cert.KernelRglru.nD Cert.KernelRglru.τ).loc Cert.KernelRglru.main_arg5) = m ((c.tc : Thread Cert.KernelRglru.nD Cert.KernelRglru.τ).loc Cert.KernelRglru.main_arg5)
      ∧ r.2.mem ((c.tc : Thread Cert.KernelRglru.nD Cert.KernelRglru.τ).loc Cert.KernelRglru.main_arg6) = m ((c.tc : Thread Cert.KernelRglru.nD Cert.KernelRglru.τ).loc Cert.KernelRglru.main_arg6)
      ∧ r.2.mem ((c.tc : Thread Cert.KernelRglru.nD Cert.KernelRglru.τ).loc Cert.KernelRglru.main_arg7) = m ((c.tc : Thread Cert.KernelRglru.nD Cert.KernelRglru.τ).loc Cert.KernelRglru.main_arg7))
      ∧ r.2.sem = fun _ => 0)

def quiescent_KernelRglruIdeal [hKernelRglruIdeal : Cert.KernelRglruIdeal.Facts] : Prop :=
  ∀ (m : (ℓ : Loc Cert.KernelRglruIdeal.nD Cert.KernelRglruIdeal.τ Cert.KernelRglruIdeal.sig) → Buf (Elt Ideal) ℓ) (g : Dev Cert.KernelRglruIdeal.nD → PrngReg), Pre_KernelRglruIdeal m →
    θ_run (Cert.KernelRglruIdeal.defs (F := Ideal)) (onTc (τ := Cert.KernelRglruIdeal.τ) (Cert.KernelRglruIdeal.main (F := Ideal))) ⟨m, fun _ => 0, g⟩ (fun r => (∀ c : Dev Cert.KernelRglruIdeal.nD,
      r.2.mem ((c.tc : Thread Cert.KernelRglruIdeal.nD Cert.KernelRglruIdeal.τ).loc Cert.KernelRglruIdeal.main_arg0) = m ((c.tc : Thread Cert.KernelRglruIdeal.nD Cert.KernelRglruIdeal.τ).loc Cert.KernelRglruIdeal.main_arg0)
      ∧ r.2.mem ((c.tc : Thread Cert.KernelRglruIdeal.nD Cert.KernelRglruIdeal.τ).loc Cert.KernelRglruIdeal.main_arg1) = m ((c.tc : Thread Cert.KernelRglruIdeal.nD Cert.KernelRglruIdeal.τ).loc Cert.KernelRglruIdeal.main_arg1)
      ∧ r.2.mem ((c.tc : Thread Cert.KernelRglruIdeal.nD Cert.KernelRglruIdeal.τ).loc Cert.KernelRglruIdeal.main_arg2) = m ((c.tc : Thread Cert.KernelRglruIdeal.nD Cert.KernelRglruIdeal.τ).loc Cert.KernelRglruIdeal.main_arg2)
      ∧ r.2.mem ((c.tc : Thread Cert.KernelRglruIdeal.nD Cert.KernelRglruIdeal.τ).loc Cert.KernelRglruIdeal.main_arg3) = m ((c.tc : Thread Cert.KernelRglruIdeal.nD Cert.KernelRglruIdeal.τ).loc Cert.KernelRglruIdeal.main_arg3)
      ∧ r.2.mem ((c.tc : Thread Cert.KernelRglruIdeal.nD Cert.KernelRglruIdeal.τ).loc Cert.KernelRglruIdeal.main_arg4) = m ((c.tc : Thread Cert.KernelRglruIdeal.nD Cert.KernelRglruIdeal.τ).loc Cert.KernelRglruIdeal.main_arg4)
      ∧ r.2.mem ((c.tc : Thread Cert.KernelRglruIdeal.nD Cert.KernelRglruIdeal.τ).loc Cert.KernelRglruIdeal.main_arg5) = m ((c.tc : Thread Cert.KernelRglruIdeal.nD Cert.KernelRglruIdeal.τ).loc Cert.KernelRglruIdeal.main_arg5)
      ∧ r.2.mem ((c.tc : Thread Cert.KernelRglruIdeal.nD Cert.KernelRglruIdeal.τ).loc Cert.KernelRglruIdeal.main_arg6) = m ((c.tc : Thread Cert.KernelRglruIdeal.nD Cert.KernelRglruIdeal.τ).loc Cert.KernelRglruIdeal.main_arg6)
      ∧ r.2.mem ((c.tc : Thread Cert.KernelRglruIdeal.nD Cert.KernelRglruIdeal.τ).loc Cert.KernelRglruIdeal.main_arg7) = m ((c.tc : Thread Cert.KernelRglruIdeal.nD Cert.KernelRglruIdeal.τ).loc Cert.KernelRglruIdeal.main_arg7))
      ∧ r.2.sem = fun _ => 0)

def quiescent_ReferenceRglruIdeal [hReferenceRglruIdeal : Cert.ReferenceRglruIdeal.Facts] : Prop :=
  ∀ (m : (ℓ : Loc Cert.ReferenceRglruIdeal.nD Cert.ReferenceRglruIdeal.τ Cert.ReferenceRglruIdeal.sig) → Buf (Elt Ideal) ℓ) (g : Dev Cert.ReferenceRglruIdeal.nD → PrngReg), Pre_ReferenceRglruIdeal m →
    θ_run (Cert.ReferenceRglruIdeal.defs (F := Ideal)) (onTc (τ := Cert.ReferenceRglruIdeal.τ) (Cert.ReferenceRglruIdeal.main (F := Ideal))) ⟨m, fun _ => 0, g⟩ (fun r => (∀ c : Dev Cert.ReferenceRglruIdeal.nD,
      r.2.mem ((c.tc : Thread Cert.ReferenceRglruIdeal.nD Cert.ReferenceRglruIdeal.τ).loc Cert.ReferenceRglruIdeal.main_arg0) = m ((c.tc : Thread Cert.ReferenceRglruIdeal.nD Cert.ReferenceRglruIdeal.τ).loc Cert.ReferenceRglruIdeal.main_arg0)
      ∧ r.2.mem ((c.tc : Thread Cert.ReferenceRglruIdeal.nD Cert.ReferenceRglruIdeal.τ).loc Cert.ReferenceRglruIdeal.main_arg1) = m ((c.tc : Thread Cert.ReferenceRglruIdeal.nD Cert.ReferenceRglruIdeal.τ).loc Cert.ReferenceRglruIdeal.main_arg1)
      ∧ r.2.mem ((c.tc : Thread Cert.ReferenceRglruIdeal.nD Cert.ReferenceRglruIdeal.τ).loc Cert.ReferenceRglruIdeal.main_arg2) = m ((c.tc : Thread Cert.ReferenceRglruIdeal.nD Cert.ReferenceRglruIdeal.τ).loc Cert.ReferenceRglruIdeal.main_arg2)
      ∧ r.2.mem ((c.tc : Thread Cert.ReferenceRglruIdeal.nD Cert.ReferenceRglruIdeal.τ).loc Cert.ReferenceRglruIdeal.main_arg3) = m ((c.tc : Thread Cert.ReferenceRglruIdeal.nD Cert.ReferenceRglruIdeal.τ).loc Cert.ReferenceRglruIdeal.main_arg3)
      ∧ r.2.mem ((c.tc : Thread Cert.ReferenceRglruIdeal.nD Cert.ReferenceRglruIdeal.τ).loc Cert.ReferenceRglruIdeal.main_arg4) = m ((c.tc : Thread Cert.ReferenceRglruIdeal.nD Cert.ReferenceRglruIdeal.τ).loc Cert.ReferenceRglruIdeal.main_arg4)
      ∧ r.2.mem ((c.tc : Thread Cert.ReferenceRglruIdeal.nD Cert.ReferenceRglruIdeal.τ).loc Cert.ReferenceRglruIdeal.main_arg5) = m ((c.tc : Thread Cert.ReferenceRglruIdeal.nD Cert.ReferenceRglruIdeal.τ).loc Cert.ReferenceRglruIdeal.main_arg5)
      ∧ r.2.mem ((c.tc : Thread Cert.ReferenceRglruIdeal.nD Cert.ReferenceRglruIdeal.τ).loc Cert.ReferenceRglruIdeal.main_arg6) = m ((c.tc : Thread Cert.ReferenceRglruIdeal.nD Cert.ReferenceRglruIdeal.τ).loc Cert.ReferenceRglruIdeal.main_arg6)
      ∧ r.2.mem ((c.tc : Thread Cert.ReferenceRglruIdeal.nD Cert.ReferenceRglruIdeal.τ).loc Cert.ReferenceRglruIdeal.main_arg7) = m ((c.tc : Thread Cert.ReferenceRglruIdeal.nD Cert.ReferenceRglruIdeal.τ).loc Cert.ReferenceRglruIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0))

def preserves_KernelFfn_KernelFfnIdeal : Prop :=
  True

def algebraic_KernelFfnIdeal_ReferenceFfnIdeal_pre_finite_inputs [hKernelFfnIdeal : Cert.KernelFfnIdeal.Facts] [hReferenceFfnIdeal : Cert.ReferenceFfnIdeal.Facts] [hPre_finite_inputs : Cert.Pre_finite_inputs.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_inputs m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v53) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelFfnPrompt_KernelFfnPromptIdeal : Prop :=
  True

def algebraic_KernelFfnPromptIdeal_ReferenceFfnPromptIdeal_pre_finite_prompt [hKernelFfnPromptIdeal : Cert.KernelFfnPromptIdeal.Facts] [hReferenceFfnPromptIdeal : Cert.ReferenceFfnPromptIdeal.Facts] [hPre_finite_prompt : Cert.Pre_finite_prompt.Facts] : Prop :=
  ∀ (m : (ℓ : Loc Cert.KernelFfnPromptIdeal.nD Cert.KernelFfnPromptIdeal.τ Cert.KernelFfnPromptIdeal.sig) → Buf (Elt Ideal) ℓ) (g : Dev Cert.KernelFfnPromptIdeal.nD → PrngReg)
    (m' : (ℓ : Loc Cert.ReferenceFfnPromptIdeal.nD Cert.ReferenceFfnPromptIdeal.τ Cert.ReferenceFfnPromptIdeal.sig) → Buf (Elt Ideal) ℓ) (g' : Dev Cert.ReferenceFfnPromptIdeal.nD → PrngReg), Pre_KernelFfnPromptIdeal_finite_prompt m →
    (∀ c : Dev Cert.KernelFfnPromptIdeal.nD,
      m' ((c.tc : Thread Cert.ReferenceFfnPromptIdeal.nD Cert.ReferenceFfnPromptIdeal.τ).loc Cert.ReferenceFfnPromptIdeal.main_arg0) = m ((c.tc : Thread Cert.KernelFfnPromptIdeal.nD Cert.KernelFfnPromptIdeal.τ).loc Cert.KernelFfnPromptIdeal.main_arg0)
      ∧ m' ((c.tc : Thread Cert.ReferenceFfnPromptIdeal.nD Cert.ReferenceFfnPromptIdeal.τ).loc Cert.ReferenceFfnPromptIdeal.main_arg1) = m ((c.tc : Thread Cert.KernelFfnPromptIdeal.nD Cert.KernelFfnPromptIdeal.τ).loc Cert.KernelFfnPromptIdeal.main_arg1)
      ∧ m' ((c.tc : Thread Cert.ReferenceFfnPromptIdeal.nD Cert.ReferenceFfnPromptIdeal.τ).loc Cert.ReferenceFfnPromptIdeal.main_arg2) = m ((c.tc : Thread Cert.KernelFfnPromptIdeal.nD Cert.KernelFfnPromptIdeal.τ).loc Cert.KernelFfnPromptIdeal.main_arg2)
      ∧ m' ((c.tc : Thread Cert.ReferenceFfnPromptIdeal.nD Cert.ReferenceFfnPromptIdeal.τ).loc Cert.ReferenceFfnPromptIdeal.main_arg3) = m ((c.tc : Thread Cert.KernelFfnPromptIdeal.nD Cert.KernelFfnPromptIdeal.τ).loc Cert.KernelFfnPromptIdeal.main_arg3)
      ∧ m' ((c.tc : Thread Cert.ReferenceFfnPromptIdeal.nD Cert.ReferenceFfnPromptIdeal.τ).loc Cert.ReferenceFfnPromptIdeal.main_arg4) = m ((c.tc : Thread Cert.KernelFfnPromptIdeal.nD Cert.KernelFfnPromptIdeal.τ).loc Cert.KernelFfnPromptIdeal.main_arg4)
      ∧ m' ((c.tc : Thread Cert.ReferenceFfnPromptIdeal.nD Cert.ReferenceFfnPromptIdeal.τ).loc Cert.ReferenceFfnPromptIdeal.main_arg5) = m ((c.tc : Thread Cert.KernelFfnPromptIdeal.nD Cert.KernelFfnPromptIdeal.τ).loc Cert.KernelFfnPromptIdeal.main_arg5)) →
    ∃ (v0 : (c : Dev Cert.KernelFfnPromptIdeal.nD) → Buf (Elt Ideal) ((c.tc : Thread Cert.KernelFfnPromptIdeal.nD Cert.KernelFfnPromptIdeal.τ).loc Cert.KernelFfnPromptIdeal.main_v4)),
      θ_run (Cert.KernelFfnPromptIdeal.defs (F := Ideal)) (onTc (τ := Cert.KernelFfnPromptIdeal.τ) (Cert.KernelFfnPromptIdeal.main (F := Ideal))) ⟨m, fun _ => 0, g⟩ (fun r => ∀ c : Dev Cert.KernelFfnPromptIdeal.nD,
          r.2.mem ((c.tc : Thread Cert.KernelFfnPromptIdeal.nD Cert.KernelFfnPromptIdeal.τ).loc Cert.KernelFfnPromptIdeal.main_v4) = v0 c
          ∧ r.2.mem ((c.tc : Thread Cert.KernelFfnPromptIdeal.nD Cert.KernelFfnPromptIdeal.τ).loc Cert.KernelFfnPromptIdeal.main_arg0) = m ((c.tc : Thread Cert.KernelFfnPromptIdeal.nD Cert.KernelFfnPromptIdeal.τ).loc Cert.KernelFfnPromptIdeal.main_arg0)
          ∧ r.2.mem ((c.tc : Thread Cert.KernelFfnPromptIdeal.nD Cert.KernelFfnPromptIdeal.τ).loc Cert.KernelFfnPromptIdeal.main_arg1) = m ((c.tc : Thread Cert.KernelFfnPromptIdeal.nD Cert.KernelFfnPromptIdeal.τ).loc Cert.KernelFfnPromptIdeal.main_arg1)
          ∧ r.2.mem ((c.tc : Thread Cert.KernelFfnPromptIdeal.nD Cert.KernelFfnPromptIdeal.τ).loc Cert.KernelFfnPromptIdeal.main_arg2) = m ((c.tc : Thread Cert.KernelFfnPromptIdeal.nD Cert.KernelFfnPromptIdeal.τ).loc Cert.KernelFfnPromptIdeal.main_arg2)
          ∧ r.2.mem ((c.tc : Thread Cert.KernelFfnPromptIdeal.nD Cert.KernelFfnPromptIdeal.τ).loc Cert.KernelFfnPromptIdeal.main_arg3) = m ((c.tc : Thread Cert.KernelFfnPromptIdeal.nD Cert.KernelFfnPromptIdeal.τ).loc Cert.KernelFfnPromptIdeal.main_arg3)
          ∧ r.2.mem ((c.tc : Thread Cert.KernelFfnPromptIdeal.nD Cert.KernelFfnPromptIdeal.τ).loc Cert.KernelFfnPromptIdeal.main_arg4) = m ((c.tc : Thread Cert.KernelFfnPromptIdeal.nD Cert.KernelFfnPromptIdeal.τ).loc Cert.KernelFfnPromptIdeal.main_arg4)
          ∧ r.2.mem ((c.tc : Thread Cert.KernelFfnPromptIdeal.nD Cert.KernelFfnPromptIdeal.τ).loc Cert.KernelFfnPromptIdeal.main_arg5) = m ((c.tc : Thread Cert.KernelFfnPromptIdeal.nD Cert.KernelFfnPromptIdeal.τ).loc Cert.KernelFfnPromptIdeal.main_arg5))
      ∧ θ_run (Cert.ReferenceFfnPromptIdeal.defs (F := Ideal)) (onTc (τ := Cert.ReferenceFfnPromptIdeal.τ) (Cert.ReferenceFfnPromptIdeal.main (F := Ideal))) ⟨m', fun _ => 0, g'⟩ (fun r => ∀ c : Dev Cert.ReferenceFfnPromptIdeal.nD,
          r.2.mem ((c.tc : Thread Cert.ReferenceFfnPromptIdeal.nD Cert.ReferenceFfnPromptIdeal.τ).loc Cert.ReferenceFfnPromptIdeal.main_v53) = v0 c
          ∧ r.2.mem ((c.tc : Thread Cert.ReferenceFfnPromptIdeal.nD Cert.ReferenceFfnPromptIdeal.τ).loc Cert.ReferenceFfnPromptIdeal.main_arg0) = m' ((c.tc : Thread Cert.ReferenceFfnPromptIdeal.nD Cert.ReferenceFfnPromptIdeal.τ).loc Cert.ReferenceFfnPromptIdeal.main_arg0)
          ∧ r.2.mem ((c.tc : Thread Cert.ReferenceFfnPromptIdeal.nD Cert.ReferenceFfnPromptIdeal.τ).loc Cert.ReferenceFfnPromptIdeal.main_arg1) = m' ((c.tc : Thread Cert.ReferenceFfnPromptIdeal.nD Cert.ReferenceFfnPromptIdeal.τ).loc Cert.ReferenceFfnPromptIdeal.main_arg1)
          ∧ r.2.mem ((c.tc : Thread Cert.ReferenceFfnPromptIdeal.nD Cert.ReferenceFfnPromptIdeal.τ).loc Cert.ReferenceFfnPromptIdeal.main_arg2) = m' ((c.tc : Thread Cert.ReferenceFfnPromptIdeal.nD Cert.ReferenceFfnPromptIdeal.τ).loc Cert.ReferenceFfnPromptIdeal.main_arg2)
          ∧ r.2.mem ((c.tc : Thread Cert.ReferenceFfnPromptIdeal.nD Cert.ReferenceFfnPromptIdeal.τ).loc Cert.ReferenceFfnPromptIdeal.main_arg3) = m' ((c.tc : Thread Cert.ReferenceFfnPromptIdeal.nD Cert.ReferenceFfnPromptIdeal.τ).loc Cert.ReferenceFfnPromptIdeal.main_arg3)
          ∧ r.2.mem ((c.tc : Thread Cert.ReferenceFfnPromptIdeal.nD Cert.ReferenceFfnPromptIdeal.τ).loc Cert.ReferenceFfnPromptIdeal.main_arg4) = m' ((c.tc : Thread Cert.ReferenceFfnPromptIdeal.nD Cert.ReferenceFfnPromptIdeal.τ).loc Cert.ReferenceFfnPromptIdeal.main_arg4)
          ∧ r.2.mem ((c.tc : Thread Cert.ReferenceFfnPromptIdeal.nD Cert.ReferenceFfnPromptIdeal.τ).loc Cert.ReferenceFfnPromptIdeal.main_arg5) = m' ((c.tc : Thread Cert.ReferenceFfnPromptIdeal.nD Cert.ReferenceFfnPromptIdeal.τ).loc Cert.ReferenceFfnPromptIdeal.main_arg5))

def preserves_KernelOutEven_KernelOutEvenIdeal : Prop :=
  True

def algebraic_KernelOutEvenIdeal_ReferenceOutEvenIdeal [hKernelOutEvenIdeal : Cert.KernelOutEvenIdeal.Facts] [hReferenceOutEvenIdeal : Cert.ReferenceOutEvenIdeal.Facts] : Prop :=
  ∀ (m : (ℓ : Loc Cert.KernelOutEvenIdeal.nD Cert.KernelOutEvenIdeal.τ Cert.KernelOutEvenIdeal.sig) → Buf (Elt Ideal) ℓ) (g : Dev Cert.KernelOutEvenIdeal.nD → PrngReg)
    (m' : (ℓ : Loc Cert.ReferenceOutEvenIdeal.nD Cert.ReferenceOutEvenIdeal.τ Cert.ReferenceOutEvenIdeal.sig) → Buf (Elt Ideal) ℓ) (g' : Dev Cert.ReferenceOutEvenIdeal.nD → PrngReg), Pre_KernelOutEvenIdeal m →
    (∀ c : Dev Cert.KernelOutEvenIdeal.nD,
      m' ((c.tc : Thread Cert.ReferenceOutEvenIdeal.nD Cert.ReferenceOutEvenIdeal.τ).loc Cert.ReferenceOutEvenIdeal.main_arg0) = m ((c.tc : Thread Cert.KernelOutEvenIdeal.nD Cert.KernelOutEvenIdeal.τ).loc Cert.KernelOutEvenIdeal.main_arg0)
      ∧ m' ((c.tc : Thread Cert.ReferenceOutEvenIdeal.nD Cert.ReferenceOutEvenIdeal.τ).loc Cert.ReferenceOutEvenIdeal.main_arg1) = m ((c.tc : Thread Cert.KernelOutEvenIdeal.nD Cert.KernelOutEvenIdeal.τ).loc Cert.KernelOutEvenIdeal.main_arg1)
      ∧ m' ((c.tc : Thread Cert.ReferenceOutEvenIdeal.nD Cert.ReferenceOutEvenIdeal.τ).loc Cert.ReferenceOutEvenIdeal.main_arg2) = m ((c.tc : Thread Cert.KernelOutEvenIdeal.nD Cert.KernelOutEvenIdeal.τ).loc Cert.KernelOutEvenIdeal.main_arg2)
      ∧ m' ((c.tc : Thread Cert.ReferenceOutEvenIdeal.nD Cert.ReferenceOutEvenIdeal.τ).loc Cert.ReferenceOutEvenIdeal.main_arg3) = m ((c.tc : Thread Cert.KernelOutEvenIdeal.nD Cert.KernelOutEvenIdeal.τ).loc Cert.KernelOutEvenIdeal.main_arg3)
      ∧ m' ((c.tc : Thread Cert.ReferenceOutEvenIdeal.nD Cert.ReferenceOutEvenIdeal.τ).loc Cert.ReferenceOutEvenIdeal.main_arg4) = m ((c.tc : Thread Cert.KernelOutEvenIdeal.nD Cert.KernelOutEvenIdeal.τ).loc Cert.KernelOutEvenIdeal.main_arg4)
      ∧ m' ((c.tc : Thread Cert.ReferenceOutEvenIdeal.nD Cert.ReferenceOutEvenIdeal.τ).loc Cert.ReferenceOutEvenIdeal.main_arg5) = m ((c.tc : Thread Cert.KernelOutEvenIdeal.nD Cert.KernelOutEvenIdeal.τ).loc Cert.KernelOutEvenIdeal.main_arg5)) →
    ∃ (v0 : (c : Dev Cert.KernelOutEvenIdeal.nD) → Buf (Elt Ideal) ((c.tc : Thread Cert.KernelOutEvenIdeal.nD Cert.KernelOutEvenIdeal.τ).loc Cert.KernelOutEvenIdeal.main_v4)),
      θ_run (Cert.KernelOutEvenIdeal.defs (F := Ideal)) (onTc (τ := Cert.KernelOutEvenIdeal.τ) (Cert.KernelOutEvenIdeal.main (F := Ideal))) ⟨m, fun _ => 0, g⟩ (fun r => ∀ c : Dev Cert.KernelOutEvenIdeal.nD,
          r.2.mem ((c.tc : Thread Cert.KernelOutEvenIdeal.nD Cert.KernelOutEvenIdeal.τ).loc Cert.KernelOutEvenIdeal.main_v4) = v0 c
          ∧ r.2.mem ((c.tc : Thread Cert.KernelOutEvenIdeal.nD Cert.KernelOutEvenIdeal.τ).loc Cert.KernelOutEvenIdeal.main_arg0) = m ((c.tc : Thread Cert.KernelOutEvenIdeal.nD Cert.KernelOutEvenIdeal.τ).loc Cert.KernelOutEvenIdeal.main_arg0)
          ∧ r.2.mem ((c.tc : Thread Cert.KernelOutEvenIdeal.nD Cert.KernelOutEvenIdeal.τ).loc Cert.KernelOutEvenIdeal.main_arg1) = m ((c.tc : Thread Cert.KernelOutEvenIdeal.nD Cert.KernelOutEvenIdeal.τ).loc Cert.KernelOutEvenIdeal.main_arg1)
          ∧ r.2.mem ((c.tc : Thread Cert.KernelOutEvenIdeal.nD Cert.KernelOutEvenIdeal.τ).loc Cert.KernelOutEvenIdeal.main_arg2) = m ((c.tc : Thread Cert.KernelOutEvenIdeal.nD Cert.KernelOutEvenIdeal.τ).loc Cert.KernelOutEvenIdeal.main_arg2)
          ∧ r.2.mem ((c.tc : Thread Cert.KernelOutEvenIdeal.nD Cert.KernelOutEvenIdeal.τ).loc Cert.KernelOutEvenIdeal.main_arg3) = m ((c.tc : Thread Cert.KernelOutEvenIdeal.nD Cert.KernelOutEvenIdeal.τ).loc Cert.KernelOutEvenIdeal.main_arg3)
          ∧ r.2.mem ((c.tc : Thread Cert.KernelOutEvenIdeal.nD Cert.KernelOutEvenIdeal.τ).loc Cert.KernelOutEvenIdeal.main_arg4) = m ((c.tc : Thread Cert.KernelOutEvenIdeal.nD Cert.KernelOutEvenIdeal.τ).loc Cert.KernelOutEvenIdeal.main_arg4)
          ∧ r.2.mem ((c.tc : Thread Cert.KernelOutEvenIdeal.nD Cert.KernelOutEvenIdeal.τ).loc Cert.KernelOutEvenIdeal.main_arg5) = m ((c.tc : Thread Cert.KernelOutEvenIdeal.nD Cert.KernelOutEvenIdeal.τ).loc Cert.KernelOutEvenIdeal.main_arg5))
      ∧ θ_run (Cert.ReferenceOutEvenIdeal.defs (F := Ideal)) (onTc (τ := Cert.ReferenceOutEvenIdeal.τ) (Cert.ReferenceOutEvenIdeal.main (F := Ideal))) ⟨m', fun _ => 0, g'⟩ (fun r => ∀ c : Dev Cert.ReferenceOutEvenIdeal.nD,
          r.2.mem ((c.tc : Thread Cert.ReferenceOutEvenIdeal.nD Cert.ReferenceOutEvenIdeal.τ).loc Cert.ReferenceOutEvenIdeal.main_v23) = v0 c
          ∧ r.2.mem ((c.tc : Thread Cert.ReferenceOutEvenIdeal.nD Cert.ReferenceOutEvenIdeal.τ).loc Cert.ReferenceOutEvenIdeal.main_arg0) = m' ((c.tc : Thread Cert.ReferenceOutEvenIdeal.nD Cert.ReferenceOutEvenIdeal.τ).loc Cert.ReferenceOutEvenIdeal.main_arg0)
          ∧ r.2.mem ((c.tc : Thread Cert.ReferenceOutEvenIdeal.nD Cert.ReferenceOutEvenIdeal.τ).loc Cert.ReferenceOutEvenIdeal.main_arg1) = m' ((c.tc : Thread Cert.ReferenceOutEvenIdeal.nD Cert.ReferenceOutEvenIdeal.τ).loc Cert.ReferenceOutEvenIdeal.main_arg1)
          ∧ r.2.mem ((c.tc : Thread Cert.ReferenceOutEvenIdeal.nD Cert.ReferenceOutEvenIdeal.τ).loc Cert.ReferenceOutEvenIdeal.main_arg2) = m' ((c.tc : Thread Cert.ReferenceOutEvenIdeal.nD Cert.ReferenceOutEvenIdeal.τ).loc Cert.ReferenceOutEvenIdeal.main_arg2)
          ∧ r.2.mem ((c.tc : Thread Cert.ReferenceOutEvenIdeal.nD Cert.ReferenceOutEvenIdeal.τ).loc Cert.ReferenceOutEvenIdeal.main_arg3) = m' ((c.tc : Thread Cert.ReferenceOutEvenIdeal.nD Cert.ReferenceOutEvenIdeal.τ).loc Cert.ReferenceOutEvenIdeal.main_arg3)
          ∧ r.2.mem ((c.tc : Thread Cert.ReferenceOutEvenIdeal.nD Cert.ReferenceOutEvenIdeal.τ).loc Cert.ReferenceOutEvenIdeal.main_arg4) = m' ((c.tc : Thread Cert.ReferenceOutEvenIdeal.nD Cert.ReferenceOutEvenIdeal.τ).loc Cert.ReferenceOutEvenIdeal.main_arg4)
          ∧ r.2.mem ((c.tc : Thread Cert.ReferenceOutEvenIdeal.nD Cert.ReferenceOutEvenIdeal.τ).loc Cert.ReferenceOutEvenIdeal.main_arg5) = m' ((c.tc : Thread Cert.ReferenceOutEvenIdeal.nD Cert.ReferenceOutEvenIdeal.τ).loc Cert.ReferenceOutEvenIdeal.main_arg5))

def preserves_KernelOutOdd_KernelOutOddIdeal : Prop :=
  True

def algebraic_KernelOutOddIdeal_ReferenceOutOddIdeal [hKernelOutOddIdeal : Cert.KernelOutOddIdeal.Facts] [hReferenceOutOddIdeal : Cert.ReferenceOutOddIdeal.Facts] : Prop :=
  ∀ (m : (ℓ : Loc Cert.KernelOutOddIdeal.nD Cert.KernelOutOddIdeal.τ Cert.KernelOutOddIdeal.sig) → Buf (Elt Ideal) ℓ) (g : Dev Cert.KernelOutOddIdeal.nD → PrngReg)
    (m' : (ℓ : Loc Cert.ReferenceOutOddIdeal.nD Cert.ReferenceOutOddIdeal.τ Cert.ReferenceOutOddIdeal.sig) → Buf (Elt Ideal) ℓ) (g' : Dev Cert.ReferenceOutOddIdeal.nD → PrngReg), Pre_KernelOutOddIdeal m →
    (∀ c : Dev Cert.KernelOutOddIdeal.nD,
      m' ((c.tc : Thread Cert.ReferenceOutOddIdeal.nD Cert.ReferenceOutOddIdeal.τ).loc Cert.ReferenceOutOddIdeal.main_arg0) = m ((c.tc : Thread Cert.KernelOutOddIdeal.nD Cert.KernelOutOddIdeal.τ).loc Cert.KernelOutOddIdeal.main_arg0)
      ∧ m' ((c.tc : Thread Cert.ReferenceOutOddIdeal.nD Cert.ReferenceOutOddIdeal.τ).loc Cert.ReferenceOutOddIdeal.main_arg1) = m ((c.tc : Thread Cert.KernelOutOddIdeal.nD Cert.KernelOutOddIdeal.τ).loc Cert.KernelOutOddIdeal.main_arg1)
      ∧ m' ((c.tc : Thread Cert.ReferenceOutOddIdeal.nD Cert.ReferenceOutOddIdeal.τ).loc Cert.ReferenceOutOddIdeal.main_arg2) = m ((c.tc : Thread Cert.KernelOutOddIdeal.nD Cert.KernelOutOddIdeal.τ).loc Cert.KernelOutOddIdeal.main_arg2)
      ∧ m' ((c.tc : Thread Cert.ReferenceOutOddIdeal.nD Cert.ReferenceOutOddIdeal.τ).loc Cert.ReferenceOutOddIdeal.main_arg3) = m ((c.tc : Thread Cert.KernelOutOddIdeal.nD Cert.KernelOutOddIdeal.τ).loc Cert.KernelOutOddIdeal.main_arg3)
      ∧ m' ((c.tc : Thread Cert.ReferenceOutOddIdeal.nD Cert.ReferenceOutOddIdeal.τ).loc Cert.ReferenceOutOddIdeal.main_arg4) = m ((c.tc : Thread Cert.KernelOutOddIdeal.nD Cert.KernelOutOddIdeal.τ).loc Cert.KernelOutOddIdeal.main_arg4)) →
    ∃ (v0 : (c : Dev Cert.KernelOutOddIdeal.nD) → Buf (Elt Ideal) ((c.tc : Thread Cert.KernelOutOddIdeal.nD Cert.KernelOutOddIdeal.τ).loc Cert.KernelOutOddIdeal.main_v3)),
      θ_run (Cert.KernelOutOddIdeal.defs (F := Ideal)) (onTc (τ := Cert.KernelOutOddIdeal.τ) (Cert.KernelOutOddIdeal.main (F := Ideal))) ⟨m, fun _ => 0, g⟩ (fun r => ∀ c : Dev Cert.KernelOutOddIdeal.nD,
          r.2.mem ((c.tc : Thread Cert.KernelOutOddIdeal.nD Cert.KernelOutOddIdeal.τ).loc Cert.KernelOutOddIdeal.main_v3) = v0 c
          ∧ r.2.mem ((c.tc : Thread Cert.KernelOutOddIdeal.nD Cert.KernelOutOddIdeal.τ).loc Cert.KernelOutOddIdeal.main_arg0) = m ((c.tc : Thread Cert.KernelOutOddIdeal.nD Cert.KernelOutOddIdeal.τ).loc Cert.KernelOutOddIdeal.main_arg0)
          ∧ r.2.mem ((c.tc : Thread Cert.KernelOutOddIdeal.nD Cert.KernelOutOddIdeal.τ).loc Cert.KernelOutOddIdeal.main_arg1) = m ((c.tc : Thread Cert.KernelOutOddIdeal.nD Cert.KernelOutOddIdeal.τ).loc Cert.KernelOutOddIdeal.main_arg1)
          ∧ r.2.mem ((c.tc : Thread Cert.KernelOutOddIdeal.nD Cert.KernelOutOddIdeal.τ).loc Cert.KernelOutOddIdeal.main_arg2) = m ((c.tc : Thread Cert.KernelOutOddIdeal.nD Cert.KernelOutOddIdeal.τ).loc Cert.KernelOutOddIdeal.main_arg2)
          ∧ r.2.mem ((c.tc : Thread Cert.KernelOutOddIdeal.nD Cert.KernelOutOddIdeal.τ).loc Cert.KernelOutOddIdeal.main_arg3) = m ((c.tc : Thread Cert.KernelOutOddIdeal.nD Cert.KernelOutOddIdeal.τ).loc Cert.KernelOutOddIdeal.main_arg3)
          ∧ r.2.mem ((c.tc : Thread Cert.KernelOutOddIdeal.nD Cert.KernelOutOddIdeal.τ).loc Cert.KernelOutOddIdeal.main_arg4) = m ((c.tc : Thread Cert.KernelOutOddIdeal.nD Cert.KernelOutOddIdeal.τ).loc Cert.KernelOutOddIdeal.main_arg4))
      ∧ θ_run (Cert.ReferenceOutOddIdeal.defs (F := Ideal)) (onTc (τ := Cert.ReferenceOutOddIdeal.τ) (Cert.ReferenceOutOddIdeal.main (F := Ideal))) ⟨m', fun _ => 0, g'⟩ (fun r => ∀ c : Dev Cert.ReferenceOutOddIdeal.nD,
          r.2.mem ((c.tc : Thread Cert.ReferenceOutOddIdeal.nD Cert.ReferenceOutOddIdeal.τ).loc Cert.ReferenceOutOddIdeal.main_v22) = v0 c
          ∧ r.2.mem ((c.tc : Thread Cert.ReferenceOutOddIdeal.nD Cert.ReferenceOutOddIdeal.τ).loc Cert.ReferenceOutOddIdeal.main_arg0) = m' ((c.tc : Thread Cert.ReferenceOutOddIdeal.nD Cert.ReferenceOutOddIdeal.τ).loc Cert.ReferenceOutOddIdeal.main_arg0)
          ∧ r.2.mem ((c.tc : Thread Cert.ReferenceOutOddIdeal.nD Cert.ReferenceOutOddIdeal.τ).loc Cert.ReferenceOutOddIdeal.main_arg1) = m' ((c.tc : Thread Cert.ReferenceOutOddIdeal.nD Cert.ReferenceOutOddIdeal.τ).loc Cert.ReferenceOutOddIdeal.main_arg1)
          ∧ r.2.mem ((c.tc : Thread Cert.ReferenceOutOddIdeal.nD Cert.ReferenceOutOddIdeal.τ).loc Cert.ReferenceOutOddIdeal.main_arg2) = m' ((c.tc : Thread Cert.ReferenceOutOddIdeal.nD Cert.ReferenceOutOddIdeal.τ).loc Cert.ReferenceOutOddIdeal.main_arg2)
          ∧ r.2.mem ((c.tc : Thread Cert.ReferenceOutOddIdeal.nD Cert.ReferenceOutOddIdeal.τ).loc Cert.ReferenceOutOddIdeal.main_arg3) = m' ((c.tc : Thread Cert.ReferenceOutOddIdeal.nD Cert.ReferenceOutOddIdeal.τ).loc Cert.ReferenceOutOddIdeal.main_arg3)
          ∧ r.2.mem ((c.tc : Thread Cert.ReferenceOutOddIdeal.nD Cert.ReferenceOutOddIdeal.τ).loc Cert.ReferenceOutOddIdeal.main_arg4) = m' ((c.tc : Thread Cert.ReferenceOutOddIdeal.nD Cert.ReferenceOutOddIdeal.τ).loc Cert.ReferenceOutOddIdeal.main_arg4))

def preserves_KernelInOdd_KernelInOddIdeal : Prop :=
  True

def algebraic_KernelInOddIdeal_ReferenceInOddIdeal [hKernelInOddIdeal : Cert.KernelInOddIdeal.Facts] [hReferenceInOddIdeal : Cert.ReferenceInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg)
    (m' : (ℓ : Loc Cert.ReferenceInOddIdeal.nD Cert.ReferenceInOddIdeal.τ Cert.ReferenceInOddIdeal.sig) → Buf (Elt Ideal) ℓ) (g' : Dev Cert.ReferenceInOddIdeal.nD → PrngReg), Pre_KernelInOddIdeal m →
    (∀ c : Dev Cert.KernelInOddIdeal.nD,
      m' ((c.tc : Thread Cert.ReferenceInOddIdeal.nD Cert.ReferenceInOddIdeal.τ).loc Cert.ReferenceInOddIdeal.main_arg0) = m ((c.tc : Thread Cert.KernelInOddIdeal.nD Cert.KernelInOddIdeal.τ).loc Cert.KernelInOddIdeal.main_arg0)
      ∧ m' ((c.tc : Thread Cert.ReferenceInOddIdeal.nD Cert.ReferenceInOddIdeal.τ).loc Cert.ReferenceInOddIdeal.main_arg1) = m ((c.tc : Thread Cert.KernelInOddIdeal.nD Cert.KernelInOddIdeal.τ).loc Cert.KernelInOddIdeal.main_arg1)
      ∧ m' ((c.tc : Thread Cert.ReferenceInOddIdeal.nD Cert.ReferenceInOddIdeal.τ).loc Cert.ReferenceInOddIdeal.main_arg2) = m ((c.tc : Thread Cert.KernelInOddIdeal.nD Cert.KernelInOddIdeal.τ).loc Cert.KernelInOddIdeal.main_arg2)
      ∧ m' ((c.tc : Thread Cert.ReferenceInOddIdeal.nD Cert.ReferenceInOddIdeal.τ).loc Cert.ReferenceInOddIdeal.main_arg3) = m ((c.tc : Thread Cert.KernelInOddIdeal.nD Cert.KernelInOddIdeal.τ).loc Cert.KernelInOddIdeal.main_arg3)) →
    ∃ (v0 : (c : Dev Cert.KernelInOddIdeal.nD) → Buf (Elt Ideal) ((c.tc : Thread Cert.KernelInOddIdeal.nD Cert.KernelInOddIdeal.τ).loc Cert.KernelInOddIdeal.main_v8_0)) (v1 : (c : Dev Cert.KernelInOddIdeal.nD) → Buf (Elt Ideal) ((c.tc : Thread Cert.KernelInOddIdeal.nD Cert.KernelInOddIdeal.τ).loc Cert.KernelInOddIdeal.main_v8_1)),
      θ_run (Cert.KernelInOddIdeal.defs (F := Ideal)) (onTc (τ := Cert.KernelInOddIdeal.τ) (Cert.KernelInOddIdeal.main (F := Ideal))) ⟨m, fun _ => 0, g⟩ (fun r => ∀ c : Dev Cert.KernelInOddIdeal.nD,
          r.2.mem ((c.tc : Thread Cert.KernelInOddIdeal.nD Cert.KernelInOddIdeal.τ).loc Cert.KernelInOddIdeal.main_v8_0) = v0 c
          ∧ r.2.mem ((c.tc : Thread Cert.KernelInOddIdeal.nD Cert.KernelInOddIdeal.τ).loc Cert.KernelInOddIdeal.main_v8_1) = v1 c
          ∧ r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
          ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
          ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2)
          ∧ r.2.mem ((c.tc : Thread Cert.KernelInOddIdeal.nD Cert.KernelInOddIdeal.τ).loc Cert.KernelInOddIdeal.main_arg3) = m ((c.tc : Thread Cert.KernelInOddIdeal.nD Cert.KernelInOddIdeal.τ).loc Cert.KernelInOddIdeal.main_arg3))
      ∧ θ_run (Cert.ReferenceInOddIdeal.defs (F := Ideal)) (onTc (τ := Cert.ReferenceInOddIdeal.τ) (Cert.ReferenceInOddIdeal.main (F := Ideal))) ⟨m', fun _ => 0, g'⟩ (fun r => ∀ c : Dev Cert.ReferenceInOddIdeal.nD,
          r.2.mem ((c.tc : Thread Cert.ReferenceInOddIdeal.nD Cert.ReferenceInOddIdeal.τ).loc Cert.ReferenceInOddIdeal.main_v34) = v0 c
          ∧ r.2.mem ((c.tc : Thread Cert.ReferenceInOddIdeal.nD Cert.ReferenceInOddIdeal.τ).loc Cert.ReferenceInOddIdeal.main_v32) = v1 c
          ∧ r.2.mem ((c.tc : Thread Cert.ReferenceInOddIdeal.nD Cert.ReferenceInOddIdeal.τ).loc Cert.ReferenceInOddIdeal.main_arg0) = m' ((c.tc : Thread Cert.ReferenceInOddIdeal.nD Cert.ReferenceInOddIdeal.τ).loc Cert.ReferenceInOddIdeal.main_arg0)
          ∧ r.2.mem ((c.tc : Thread Cert.ReferenceInOddIdeal.nD Cert.ReferenceInOddIdeal.τ).loc Cert.ReferenceInOddIdeal.main_arg1) = m' ((c.tc : Thread Cert.ReferenceInOddIdeal.nD Cert.ReferenceInOddIdeal.τ).loc Cert.ReferenceInOddIdeal.main_arg1)
          ∧ r.2.mem ((c.tc : Thread Cert.ReferenceInOddIdeal.nD Cert.ReferenceInOddIdeal.τ).loc Cert.ReferenceInOddIdeal.main_arg2) = m' ((c.tc : Thread Cert.ReferenceInOddIdeal.nD Cert.ReferenceInOddIdeal.τ).loc Cert.ReferenceInOddIdeal.main_arg2)
          ∧ r.2.mem ((c.tc : Thread Cert.ReferenceInOddIdeal.nD Cert.ReferenceInOddIdeal.τ).loc Cert.ReferenceInOddIdeal.main_arg3) = m' ((c.tc : Thread Cert.ReferenceInOddIdeal.nD Cert.ReferenceInOddIdeal.τ).loc Cert.ReferenceInOddIdeal.main_arg3))

def preserves_KernelInEven_KernelInEvenIdeal : Prop :=
  True

def algebraic_KernelInEvenIdeal_ReferenceInEvenIdeal [hKernelInEvenIdeal : Cert.KernelInEvenIdeal.Facts] [hReferenceInEvenIdeal : Cert.ReferenceInEvenIdeal.Facts] : Prop :=
  ∀ (m : (ℓ : Loc Cert.KernelInEvenIdeal.nD Cert.KernelInEvenIdeal.τ Cert.KernelInEvenIdeal.sig) → Buf (Elt Ideal) ℓ) (g : Dev Cert.KernelInEvenIdeal.nD → PrngReg)
    (m' : (ℓ : Loc Cert.ReferenceInEvenIdeal.nD Cert.ReferenceInEvenIdeal.τ Cert.ReferenceInEvenIdeal.sig) → Buf (Elt Ideal) ℓ) (g' : Dev Cert.ReferenceInEvenIdeal.nD → PrngReg), Pre_KernelInEvenIdeal m →
    (∀ c : Dev Cert.KernelInEvenIdeal.nD,
      m' ((c.tc : Thread Cert.ReferenceInEvenIdeal.nD Cert.ReferenceInEvenIdeal.τ).loc Cert.ReferenceInEvenIdeal.main_arg0) = m ((c.tc : Thread Cert.KernelInEvenIdeal.nD Cert.KernelInEvenIdeal.τ).loc Cert.KernelInEvenIdeal.main_arg0)
      ∧ m' ((c.tc : Thread Cert.ReferenceInEvenIdeal.nD Cert.ReferenceInEvenIdeal.τ).loc Cert.ReferenceInEvenIdeal.main_arg1) = m ((c.tc : Thread Cert.KernelInEvenIdeal.nD Cert.KernelInEvenIdeal.τ).loc Cert.KernelInEvenIdeal.main_arg1)
      ∧ m' ((c.tc : Thread Cert.ReferenceInEvenIdeal.nD Cert.ReferenceInEvenIdeal.τ).loc Cert.ReferenceInEvenIdeal.main_arg2) = m ((c.tc : Thread Cert.KernelInEvenIdeal.nD Cert.KernelInEvenIdeal.τ).loc Cert.KernelInEvenIdeal.main_arg2)
      ∧ m' ((c.tc : Thread Cert.ReferenceInEvenIdeal.nD Cert.ReferenceInEvenIdeal.τ).loc Cert.ReferenceInEvenIdeal.main_arg3) = m ((c.tc : Thread Cert.KernelInEvenIdeal.nD Cert.KernelInEvenIdeal.τ).loc Cert.KernelInEvenIdeal.main_arg3)
      ∧ m' ((c.tc : Thread Cert.ReferenceInEvenIdeal.nD Cert.ReferenceInEvenIdeal.τ).loc Cert.ReferenceInEvenIdeal.main_arg4) = m ((c.tc : Thread Cert.KernelInEvenIdeal.nD Cert.KernelInEvenIdeal.τ).loc Cert.KernelInEvenIdeal.main_arg4)) →
    ∃ (v0 : (c : Dev Cert.KernelInEvenIdeal.nD) → Buf (Elt Ideal) ((c.tc : Thread Cert.KernelInEvenIdeal.nD Cert.KernelInEvenIdeal.τ).loc Cert.KernelInEvenIdeal.main_v5_0)) (v1 : (c : Dev Cert.KernelInEvenIdeal.nD) → Buf (Elt Ideal) ((c.tc : Thread Cert.KernelInEvenIdeal.nD Cert.KernelInEvenIdeal.τ).loc Cert.KernelInEvenIdeal.main_v5_1)),
      θ_run (Cert.KernelInEvenIdeal.defs (F := Ideal)) (onTc (τ := Cert.KernelInEvenIdeal.τ) (Cert.KernelInEvenIdeal.main (F := Ideal))) ⟨m, fun _ => 0, g⟩ (fun r => ∀ c : Dev Cert.KernelInEvenIdeal.nD,
          r.2.mem ((c.tc : Thread Cert.KernelInEvenIdeal.nD Cert.KernelInEvenIdeal.τ).loc Cert.KernelInEvenIdeal.main_v5_0) = v0 c
          ∧ r.2.mem ((c.tc : Thread Cert.KernelInEvenIdeal.nD Cert.KernelInEvenIdeal.τ).loc Cert.KernelInEvenIdeal.main_v5_1) = v1 c
          ∧ r.2.mem ((c.tc : Thread Cert.KernelInEvenIdeal.nD Cert.KernelInEvenIdeal.τ).loc Cert.KernelInEvenIdeal.main_arg0) = m ((c.tc : Thread Cert.KernelInEvenIdeal.nD Cert.KernelInEvenIdeal.τ).loc Cert.KernelInEvenIdeal.main_arg0)
          ∧ r.2.mem ((c.tc : Thread Cert.KernelInEvenIdeal.nD Cert.KernelInEvenIdeal.τ).loc Cert.KernelInEvenIdeal.main_arg1) = m ((c.tc : Thread Cert.KernelInEvenIdeal.nD Cert.KernelInEvenIdeal.τ).loc Cert.KernelInEvenIdeal.main_arg1)
          ∧ r.2.mem ((c.tc : Thread Cert.KernelInEvenIdeal.nD Cert.KernelInEvenIdeal.τ).loc Cert.KernelInEvenIdeal.main_arg2) = m ((c.tc : Thread Cert.KernelInEvenIdeal.nD Cert.KernelInEvenIdeal.τ).loc Cert.KernelInEvenIdeal.main_arg2)
          ∧ r.2.mem ((c.tc : Thread Cert.KernelInEvenIdeal.nD Cert.KernelInEvenIdeal.τ).loc Cert.KernelInEvenIdeal.main_arg3) = m ((c.tc : Thread Cert.KernelInEvenIdeal.nD Cert.KernelInEvenIdeal.τ).loc Cert.KernelInEvenIdeal.main_arg3)
          ∧ r.2.mem ((c.tc : Thread Cert.KernelInEvenIdeal.nD Cert.KernelInEvenIdeal.τ).loc Cert.KernelInEvenIdeal.main_arg4) = m ((c.tc : Thread Cert.KernelInEvenIdeal.nD Cert.KernelInEvenIdeal.τ).loc Cert.KernelInEvenIdeal.main_arg4))
      ∧ θ_run (Cert.ReferenceInEvenIdeal.defs (F := Ideal)) (onTc (τ := Cert.ReferenceInEvenIdeal.τ) (Cert.ReferenceInEvenIdeal.main (F := Ideal))) ⟨m', fun _ => 0, g'⟩ (fun r => ∀ c : Dev Cert.ReferenceInEvenIdeal.nD,
          r.2.mem ((c.tc : Thread Cert.ReferenceInEvenIdeal.nD Cert.ReferenceInEvenIdeal.τ).loc Cert.ReferenceInEvenIdeal.main_v29) = v0 c
          ∧ r.2.mem ((c.tc : Thread Cert.ReferenceInEvenIdeal.nD Cert.ReferenceInEvenIdeal.τ).loc Cert.ReferenceInEvenIdeal.main_v34) = v1 c
          ∧ r.2.mem ((c.tc : Thread Cert.ReferenceInEvenIdeal.nD Cert.ReferenceInEvenIdeal.τ).loc Cert.ReferenceInEvenIdeal.main_arg0) = m' ((c.tc : Thread Cert.ReferenceInEvenIdeal.nD Cert.ReferenceInEvenIdeal.τ).loc Cert.ReferenceInEvenIdeal.main_arg0)
          ∧ r.2.mem ((c.tc : Thread Cert.ReferenceInEvenIdeal.nD Cert.ReferenceInEvenIdeal.τ).loc Cert.ReferenceInEvenIdeal.main_arg1) = m' ((c.tc : Thread Cert.ReferenceInEvenIdeal.nD Cert.ReferenceInEvenIdeal.τ).loc Cert.ReferenceInEvenIdeal.main_arg1)
          ∧ r.2.mem ((c.tc : Thread Cert.ReferenceInEvenIdeal.nD Cert.ReferenceInEvenIdeal.τ).loc Cert.ReferenceInEvenIdeal.main_arg2) = m' ((c.tc : Thread Cert.ReferenceInEvenIdeal.nD Cert.ReferenceInEvenIdeal.τ).loc Cert.ReferenceInEvenIdeal.main_arg2)
          ∧ r.2.mem ((c.tc : Thread Cert.ReferenceInEvenIdeal.nD Cert.ReferenceInEvenIdeal.τ).loc Cert.ReferenceInEvenIdeal.main_arg3) = m' ((c.tc : Thread Cert.ReferenceInEvenIdeal.nD Cert.ReferenceInEvenIdeal.τ).loc Cert.ReferenceInEvenIdeal.main_arg3)
          ∧ r.2.mem ((c.tc : Thread Cert.ReferenceInEvenIdeal.nD Cert.ReferenceInEvenIdeal.τ).loc Cert.ReferenceInEvenIdeal.main_arg4) = m' ((c.tc : Thread Cert.ReferenceInEvenIdeal.nD Cert.ReferenceInEvenIdeal.τ).loc Cert.ReferenceInEvenIdeal.main_arg4))

def preserves_KernelGla_KernelGlaIdeal : Prop :=
  IdealRules.named_const.Statement Cert.KernelGlaIdeal.κ "log2e_over_16" .f32 0x3DB8AA3B#32 (((16 * (Real.log 2))⁻¹ : ℝ) : EReal)

def algebraic_KernelGlaIdeal_ReferenceGlaIdeal [hKernelGlaIdeal : Cert.KernelGlaIdeal.Facts] [hReferenceGlaIdeal : Cert.ReferenceGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)
      ∧ m' ((c.tc : Thread Cert.ReferenceGlaIdeal.nD Cert.ReferenceGlaIdeal.τ).loc Cert.ReferenceGlaIdeal.main_arg2) = m ((c.tc : Thread Cert.KernelGlaIdeal.nD Cert.KernelGlaIdeal.τ).loc Cert.KernelGlaIdeal.main_arg2)
      ∧ m' ((c.tc : Thread Cert.ReferenceGlaIdeal.nD Cert.ReferenceGlaIdeal.τ).loc Cert.ReferenceGlaIdeal.main_arg3) = m ((c.tc : Thread Cert.KernelGlaIdeal.nD Cert.KernelGlaIdeal.τ).loc Cert.KernelGlaIdeal.main_arg3)
      ∧ m' ((c.tc : Thread Cert.ReferenceGlaIdeal.nD Cert.ReferenceGlaIdeal.τ).loc Cert.ReferenceGlaIdeal.main_arg4) = m ((c.tc : Thread Cert.KernelGlaIdeal.nD Cert.KernelGlaIdeal.τ).loc Cert.KernelGlaIdeal.main_arg4)) →
    ∃ (v0 : (c : Dev Cert.KernelGlaIdeal.nD) → Buf (Elt Ideal) ((c.tc : Thread Cert.KernelGlaIdeal.nD Cert.KernelGlaIdeal.τ).loc Cert.KernelGlaIdeal.main_v15_1)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v15_1) = v0 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
          ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
          ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
          ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v124) = v0 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1)
          ∧ r.2.mem ((c.tc : Thread Cert.ReferenceGlaIdeal.nD Cert.ReferenceGlaIdeal.τ).loc Cert.ReferenceGlaIdeal.main_arg2) = m' ((c.tc : Thread Cert.ReferenceGlaIdeal.nD Cert.ReferenceGlaIdeal.τ).loc Cert.ReferenceGlaIdeal.main_arg2)
          ∧ r.2.mem ((c.tc : Thread Cert.ReferenceGlaIdeal.nD Cert.ReferenceGlaIdeal.τ).loc Cert.ReferenceGlaIdeal.main_arg3) = m' ((c.tc : Thread Cert.ReferenceGlaIdeal.nD Cert.ReferenceGlaIdeal.τ).loc Cert.ReferenceGlaIdeal.main_arg3)
          ∧ r.2.mem ((c.tc : Thread Cert.ReferenceGlaIdeal.nD Cert.ReferenceGlaIdeal.τ).loc Cert.ReferenceGlaIdeal.main_arg4) = m' ((c.tc : Thread Cert.ReferenceGlaIdeal.nD Cert.ReferenceGlaIdeal.τ).loc Cert.ReferenceGlaIdeal.main_arg4))

def preserves_KernelRglru_KernelRglruIdeal : Prop :=
  IdealRules.named_const.Statement Cert.KernelRglruIdeal.κ "log2e_times_8" .f32 0x4138AA3B#32 ((8 * (Real.log 2)⁻¹ : ℝ) : EReal)

def algebraic_KernelRglruIdeal_ReferenceRglruIdeal [hKernelRglruIdeal : Cert.KernelRglruIdeal.Facts] [hReferenceRglruIdeal : Cert.ReferenceRglruIdeal.Facts] : Prop :=
  ∀ (m : (ℓ : Loc Cert.KernelRglruIdeal.nD Cert.KernelRglruIdeal.τ Cert.KernelRglruIdeal.sig) → Buf (Elt Ideal) ℓ) (g : Dev Cert.KernelRglruIdeal.nD → PrngReg)
    (m' : (ℓ : Loc Cert.ReferenceRglruIdeal.nD Cert.ReferenceRglruIdeal.τ Cert.ReferenceRglruIdeal.sig) → Buf (Elt Ideal) ℓ) (g' : Dev Cert.ReferenceRglruIdeal.nD → PrngReg), Pre_KernelRglruIdeal m →
    (∀ c : Dev Cert.KernelRglruIdeal.nD,
      m' ((c.tc : Thread Cert.ReferenceRglruIdeal.nD Cert.ReferenceRglruIdeal.τ).loc Cert.ReferenceRglruIdeal.main_arg0) = m ((c.tc : Thread Cert.KernelRglruIdeal.nD Cert.KernelRglruIdeal.τ).loc Cert.KernelRglruIdeal.main_arg0)
      ∧ m' ((c.tc : Thread Cert.ReferenceRglruIdeal.nD Cert.ReferenceRglruIdeal.τ).loc Cert.ReferenceRglruIdeal.main_arg1) = m ((c.tc : Thread Cert.KernelRglruIdeal.nD Cert.KernelRglruIdeal.τ).loc Cert.KernelRglruIdeal.main_arg1)
      ∧ m' ((c.tc : Thread Cert.ReferenceRglruIdeal.nD Cert.ReferenceRglruIdeal.τ).loc Cert.ReferenceRglruIdeal.main_arg2) = m ((c.tc : Thread Cert.KernelRglruIdeal.nD Cert.KernelRglruIdeal.τ).loc Cert.KernelRglruIdeal.main_arg2)
      ∧ m' ((c.tc : Thread Cert.ReferenceRglruIdeal.nD Cert.ReferenceRglruIdeal.τ).loc Cert.ReferenceRglruIdeal.main_arg3) = m ((c.tc : Thread Cert.KernelRglruIdeal.nD Cert.KernelRglruIdeal.τ).loc Cert.KernelRglruIdeal.main_arg3)
      ∧ m' ((c.tc : Thread Cert.ReferenceRglruIdeal.nD Cert.ReferenceRglruIdeal.τ).loc Cert.ReferenceRglruIdeal.main_arg4) = m ((c.tc : Thread Cert.KernelRglruIdeal.nD Cert.KernelRglruIdeal.τ).loc Cert.KernelRglruIdeal.main_arg4)
      ∧ m' ((c.tc : Thread Cert.ReferenceRglruIdeal.nD Cert.ReferenceRglruIdeal.τ).loc Cert.ReferenceRglruIdeal.main_arg5) = m ((c.tc : Thread Cert.KernelRglruIdeal.nD Cert.KernelRglruIdeal.τ).loc Cert.KernelRglruIdeal.main_arg5)
      ∧ m' ((c.tc : Thread Cert.ReferenceRglruIdeal.nD Cert.ReferenceRglruIdeal.τ).loc Cert.ReferenceRglruIdeal.main_arg6) = m ((c.tc : Thread Cert.KernelRglruIdeal.nD Cert.KernelRglruIdeal.τ).loc Cert.KernelRglruIdeal.main_arg6)
      ∧ m' ((c.tc : Thread Cert.ReferenceRglruIdeal.nD Cert.ReferenceRglruIdeal.τ).loc Cert.ReferenceRglruIdeal.main_arg7) = m ((c.tc : Thread Cert.KernelRglruIdeal.nD Cert.KernelRglruIdeal.τ).loc Cert.KernelRglruIdeal.main_arg7)) →
    ∃ (v0 : (c : Dev Cert.KernelRglruIdeal.nD) → Buf (Elt Ideal) ((c.tc : Thread Cert.KernelRglruIdeal.nD Cert.KernelRglruIdeal.τ).loc Cert.KernelRglruIdeal.main_v23_1)),
      θ_run (Cert.KernelRglruIdeal.defs (F := Ideal)) (onTc (τ := Cert.KernelRglruIdeal.τ) (Cert.KernelRglruIdeal.main (F := Ideal))) ⟨m, fun _ => 0, g⟩ (fun r => ∀ c : Dev Cert.KernelRglruIdeal.nD,
          r.2.mem ((c.tc : Thread Cert.KernelRglruIdeal.nD Cert.KernelRglruIdeal.τ).loc Cert.KernelRglruIdeal.main_v23_1) = v0 c
          ∧ r.2.mem ((c.tc : Thread Cert.KernelRglruIdeal.nD Cert.KernelRglruIdeal.τ).loc Cert.KernelRglruIdeal.main_arg0) = m ((c.tc : Thread Cert.KernelRglruIdeal.nD Cert.KernelRglruIdeal.τ).loc Cert.KernelRglruIdeal.main_arg0)
          ∧ r.2.mem ((c.tc : Thread Cert.KernelRglruIdeal.nD Cert.KernelRglruIdeal.τ).loc Cert.KernelRglruIdeal.main_arg1) = m ((c.tc : Thread Cert.KernelRglruIdeal.nD Cert.KernelRglruIdeal.τ).loc Cert.KernelRglruIdeal.main_arg1)
          ∧ r.2.mem ((c.tc : Thread Cert.KernelRglruIdeal.nD Cert.KernelRglruIdeal.τ).loc Cert.KernelRglruIdeal.main_arg2) = m ((c.tc : Thread Cert.KernelRglruIdeal.nD Cert.KernelRglruIdeal.τ).loc Cert.KernelRglruIdeal.main_arg2)
          ∧ r.2.mem ((c.tc : Thread Cert.KernelRglruIdeal.nD Cert.KernelRglruIdeal.τ).loc Cert.KernelRglruIdeal.main_arg3) = m ((c.tc : Thread Cert.KernelRglruIdeal.nD Cert.KernelRglruIdeal.τ).loc Cert.KernelRglruIdeal.main_arg3)
          ∧ r.2.mem ((c.tc : Thread Cert.KernelRglruIdeal.nD Cert.KernelRglruIdeal.τ).loc Cert.KernelRglruIdeal.main_arg4) = m ((c.tc : Thread Cert.KernelRglruIdeal.nD Cert.KernelRglruIdeal.τ).loc Cert.KernelRglruIdeal.main_arg4)
          ∧ r.2.mem ((c.tc : Thread Cert.KernelRglruIdeal.nD Cert.KernelRglruIdeal.τ).loc Cert.KernelRglruIdeal.main_arg5) = m ((c.tc : Thread Cert.KernelRglruIdeal.nD Cert.KernelRglruIdeal.τ).loc Cert.KernelRglruIdeal.main_arg5)
          ∧ r.2.mem ((c.tc : Thread Cert.KernelRglruIdeal.nD Cert.KernelRglruIdeal.τ).loc Cert.KernelRglruIdeal.main_arg6) = m ((c.tc : Thread Cert.KernelRglruIdeal.nD Cert.KernelRglruIdeal.τ).loc Cert.KernelRglruIdeal.main_arg6)
          ∧ r.2.mem ((c.tc : Thread Cert.KernelRglruIdeal.nD Cert.KernelRglruIdeal.τ).loc Cert.KernelRglruIdeal.main_arg7) = m ((c.tc : Thread Cert.KernelRglruIdeal.nD Cert.KernelRglruIdeal.τ).loc Cert.KernelRglruIdeal.main_arg7))
      ∧ θ_run (Cert.ReferenceRglruIdeal.defs (F := Ideal)) (onTc (τ := Cert.ReferenceRglruIdeal.τ) (Cert.ReferenceRglruIdeal.main (F := Ideal))) ⟨m', fun _ => 0, g'⟩ (fun r => ∀ c : Dev Cert.ReferenceRglruIdeal.nD,
          r.2.mem ((c.tc : Thread Cert.ReferenceRglruIdeal.nD Cert.ReferenceRglruIdeal.τ).loc Cert.ReferenceRglruIdeal.main_v92) = v0 c
          ∧ r.2.mem ((c.tc : Thread Cert.ReferenceRglruIdeal.nD Cert.ReferenceRglruIdeal.τ).loc Cert.ReferenceRglruIdeal.main_arg0) = m' ((c.tc : Thread Cert.ReferenceRglruIdeal.nD Cert.ReferenceRglruIdeal.τ).loc Cert.ReferenceRglruIdeal.main_arg0)
          ∧ r.2.mem ((c.tc : Thread Cert.ReferenceRglruIdeal.nD Cert.ReferenceRglruIdeal.τ).loc Cert.ReferenceRglruIdeal.main_arg1) = m' ((c.tc : Thread Cert.ReferenceRglruIdeal.nD Cert.ReferenceRglruIdeal.τ).loc Cert.ReferenceRglruIdeal.main_arg1)
          ∧ r.2.mem ((c.tc : Thread Cert.ReferenceRglruIdeal.nD Cert.ReferenceRglruIdeal.τ).loc Cert.ReferenceRglruIdeal.main_arg2) = m' ((c.tc : Thread Cert.ReferenceRglruIdeal.nD Cert.ReferenceRglruIdeal.τ).loc Cert.ReferenceRglruIdeal.main_arg2)
          ∧ r.2.mem ((c.tc : Thread Cert.ReferenceRglruIdeal.nD Cert.ReferenceRglruIdeal.τ).loc Cert.ReferenceRglruIdeal.main_arg3) = m' ((c.tc : Thread Cert.ReferenceRglruIdeal.nD Cert.ReferenceRglruIdeal.τ).loc Cert.ReferenceRglruIdeal.main_arg3)
          ∧ r.2.mem ((c.tc : Thread Cert.ReferenceRglruIdeal.nD Cert.ReferenceRglruIdeal.τ).loc Cert.ReferenceRglruIdeal.main_arg4) = m' ((c.tc : Thread Cert.ReferenceRglruIdeal.nD Cert.ReferenceRglruIdeal.τ).loc Cert.ReferenceRglruIdeal.main_arg4)
          ∧ r.2.mem ((c.tc : Thread Cert.ReferenceRglruIdeal.nD Cert.ReferenceRglruIdeal.τ).loc Cert.ReferenceRglruIdeal.main_arg5) = m' ((c.tc : Thread Cert.ReferenceRglruIdeal.nD Cert.ReferenceRglruIdeal.τ).loc Cert.ReferenceRglruIdeal.main_arg5)
          ∧ r.2.mem ((c.tc : Thread Cert.ReferenceRglruIdeal.nD Cert.ReferenceRglruIdeal.τ).loc Cert.ReferenceRglruIdeal.main_arg6) = m' ((c.tc : Thread Cert.ReferenceRglruIdeal.nD Cert.ReferenceRglruIdeal.τ).loc Cert.ReferenceRglruIdeal.main_arg6)
          ∧ r.2.mem ((c.tc : Thread Cert.ReferenceRglruIdeal.nD Cert.ReferenceRglruIdeal.τ).loc Cert.ReferenceRglruIdeal.main_arg7) = m' ((c.tc : Thread Cert.ReferenceRglruIdeal.nD Cert.ReferenceRglruIdeal.τ).loc Cert.ReferenceRglruIdeal.main_arg7))

def Claim : Prop :=
  ∃ (hKernel : Cert.Kernel.Facts) (hKernelIdeal : Cert.KernelIdeal.Facts) (hReferenceIdeal : Cert.ReferenceIdeal.Facts) (hReference : Cert.Reference.Facts) (hKernelFfn : Cert.KernelFfn.Facts) (hKernelFfnIdeal : Cert.KernelFfnIdeal.Facts) (hReferenceFfnIdeal : Cert.ReferenceFfnIdeal.Facts) (hKernelFfnPrompt : Cert.KernelFfnPrompt.Facts) (hKernelFfnPromptIdeal : Cert.KernelFfnPromptIdeal.Facts) (hReferenceFfnPromptIdeal : Cert.ReferenceFfnPromptIdeal.Facts) (hKernelOutEven : Cert.KernelOutEven.Facts) (hKernelOutEvenIdeal : Cert.KernelOutEvenIdeal.Facts) (hReferenceOutEvenIdeal : Cert.ReferenceOutEvenIdeal.Facts) (hKernelOutOdd : Cert.KernelOutOdd.Facts) (hKernelOutOddIdeal : Cert.KernelOutOddIdeal.Facts) (hReferenceOutOddIdeal : Cert.ReferenceOutOddIdeal.Facts) (hKernelInOdd : Cert.KernelInOdd.Facts) (hKernelInOddIdeal : Cert.KernelInOddIdeal.Facts) (hReferenceInOddIdeal : Cert.ReferenceInOddIdeal.Facts) (hKernelInEven : Cert.KernelInEven.Facts) (hKernelInEvenIdeal : Cert.KernelInEvenIdeal.Facts) (hReferenceInEvenIdeal : Cert.ReferenceInEvenIdeal.Facts) (hKernelGla : Cert.KernelGla.Facts) (hKernelGlaIdeal : Cert.KernelGlaIdeal.Facts) (hReferenceGlaIdeal : Cert.ReferenceGlaIdeal.Facts) (hKernelRglru : Cert.KernelRglru.Facts) (hKernelRglruIdeal : Cert.KernelRglruIdeal.Facts) (hReferenceRglruIdeal : Cert.ReferenceRglruIdeal.Facts) (hPre_finite_inputs : Cert.Pre_finite_inputs.Facts) (hPre_finite_prompt : Cert.Pre_finite_prompt.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_KernelFfn (hKernelFfn := hKernelFfn)
    ∧ quiescent_KernelFfnIdeal (hKernelFfnIdeal := hKernelFfnIdeal)
    ∧ quiescent_KernelFfnIdeal_pre_finite_inputs (hKernelFfnIdeal := hKernelFfnIdeal) (hPre_finite_inputs := hPre_finite_inputs)
    ∧ quiescent_ReferenceFfnIdeal (hReferenceFfnIdeal := hReferenceFfnIdeal)
    ∧ quiescent_ReferenceFfnIdeal_pre_finite_inputs (hReferenceFfnIdeal := hReferenceFfnIdeal) (hPre_finite_inputs := hPre_finite_inputs)
    ∧ quiescent_KernelFfnPrompt (hKernelFfnPrompt := hKernelFfnPrompt)
    ∧ quiescent_KernelFfnPromptIdeal (hKernelFfnPromptIdeal := hKernelFfnPromptIdeal)
    ∧ quiescent_KernelFfnPromptIdeal_pre_finite_prompt (hKernelFfnPromptIdeal := hKernelFfnPromptIdeal) (hPre_finite_prompt := hPre_finite_prompt)
    ∧ quiescent_ReferenceFfnPromptIdeal (hReferenceFfnPromptIdeal := hReferenceFfnPromptIdeal)
    ∧ quiescent_ReferenceFfnPromptIdeal_pre_finite_prompt (hReferenceFfnPromptIdeal := hReferenceFfnPromptIdeal) (hPre_finite_prompt := hPre_finite_prompt)
    ∧ quiescent_KernelOutEven (hKernelOutEven := hKernelOutEven)
    ∧ quiescent_KernelOutEvenIdeal (hKernelOutEvenIdeal := hKernelOutEvenIdeal)
    ∧ quiescent_ReferenceOutEvenIdeal (hReferenceOutEvenIdeal := hReferenceOutEvenIdeal)
    ∧ quiescent_KernelOutOdd (hKernelOutOdd := hKernelOutOdd)
    ∧ quiescent_KernelOutOddIdeal (hKernelOutOddIdeal := hKernelOutOddIdeal)
    ∧ quiescent_ReferenceOutOddIdeal (hReferenceOutOddIdeal := hReferenceOutOddIdeal)
    ∧ quiescent_KernelInOdd (hKernelInOdd := hKernelInOdd)
    ∧ quiescent_KernelInOddIdeal (hKernelInOddIdeal := hKernelInOddIdeal)
    ∧ quiescent_ReferenceInOddIdeal (hReferenceInOddIdeal := hReferenceInOddIdeal)
    ∧ quiescent_KernelInEven (hKernelInEven := hKernelInEven)
    ∧ quiescent_KernelInEvenIdeal (hKernelInEvenIdeal := hKernelInEvenIdeal)
    ∧ quiescent_ReferenceInEvenIdeal (hReferenceInEvenIdeal := hReferenceInEvenIdeal)
    ∧ quiescent_KernelGla (hKernelGla := hKernelGla)
    ∧ quiescent_KernelGlaIdeal (hKernelGlaIdeal := hKernelGlaIdeal)
    ∧ quiescent_ReferenceGlaIdeal (hReferenceGlaIdeal := hReferenceGlaIdeal)
    ∧ quiescent_KernelRglru (hKernelRglru := hKernelRglru)
    ∧ quiescent_KernelRglruIdeal (hKernelRglruIdeal := hKernelRglruIdeal)
    ∧ quiescent_ReferenceRglruIdeal (hReferenceRglruIdeal := hReferenceRglruIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_KernelFfn_KernelFfnIdeal
    ∧ algebraic_KernelFfnIdeal_ReferenceFfnIdeal_pre_finite_inputs (hKernelFfnIdeal := hKernelFfnIdeal) (hReferenceFfnIdeal := hReferenceFfnIdeal) (hPre_finite_inputs := hPre_finite_inputs)
    ∧ preserves_KernelFfnPrompt_KernelFfnPromptIdeal
    ∧ algebraic_KernelFfnPromptIdeal_ReferenceFfnPromptIdeal_pre_finite_prompt (hKernelFfnPromptIdeal := hKernelFfnPromptIdeal) (hReferenceFfnPromptIdeal := hReferenceFfnPromptIdeal) (hPre_finite_prompt := hPre_finite_prompt)
    ∧ preserves_KernelOutEven_KernelOutEvenIdeal
    ∧ algebraic_KernelOutEvenIdeal_ReferenceOutEvenIdeal (hKernelOutEvenIdeal := hKernelOutEvenIdeal) (hReferenceOutEvenIdeal := hReferenceOutEvenIdeal)
    ∧ preserves_KernelOutOdd_KernelOutOddIdeal
    ∧ algebraic_KernelOutOddIdeal_ReferenceOutOddIdeal (hKernelOutOddIdeal := hKernelOutOddIdeal) (hReferenceOutOddIdeal := hReferenceOutOddIdeal)
    ∧ preserves_KernelInOdd_KernelInOddIdeal
    ∧ algebraic_KernelInOddIdeal_ReferenceInOddIdeal (hKernelInOddIdeal := hKernelInOddIdeal) (hReferenceInOddIdeal := hReferenceInOddIdeal)
    ∧ preserves_KernelInEven_KernelInEvenIdeal
    ∧ algebraic_KernelInEvenIdeal_ReferenceInEvenIdeal (hKernelInEvenIdeal := hKernelInEvenIdeal) (hReferenceInEvenIdeal := hReferenceInEvenIdeal)
    ∧ preserves_KernelGla_KernelGlaIdeal
    ∧ algebraic_KernelGlaIdeal_ReferenceGlaIdeal (hKernelGlaIdeal := hKernelGlaIdeal) (hReferenceGlaIdeal := hReferenceGlaIdeal)
    ∧ preserves_KernelRglru_KernelRglruIdeal
    ∧ algebraic_KernelRglruIdeal_ReferenceRglruIdeal (hKernelRglruIdeal := hKernelRglruIdeal) (hReferenceRglruIdeal := hReferenceRglruIdeal)
-- ==== Pre_finite_inputs.lean ====
abbrev S8x2048x2048 : Shape := ⟨3, ![8, 2048, 2048]⟩
abbrev S8x6x2048 : Shape := ⟨3, ![8, 6, 2048]⟩
abbrev S2x2048 : Shape := ⟨2, ![2, 2048]⟩
abbrev S2048x5632 : Shape := ⟨2, ![2048, 5632]⟩
abbrev S5632x2048 : Shape := ⟨2, ![5632, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x6x2048 : S_.BroadcastsInDim S8x6x2048 (![] : Fin 0 → Fin S8x6x2048.rank)
  reducesTo_S8x6x2048_S_d0_1_2 : S8x6x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S8x2048x2048 .f32) (main_arg1 : FVec F S8x6x2048 .f32) (main_arg2 : FVec F S2x2048 .f32) (main_arg3 : FVec F S2048x5632 .f32) (main_arg4 : FVec F S2048x5632 .f32) (main_arg5 : FVec F S5632x2048 .f32) : IVec S_ 1 × IVec S_ 1 × IVec S_ 1 × IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x6x2048 .f32 := Host.absf main_arg1
  let main_cst_0 : FVec F S_ .f32 := constant S_ .f32 0x7F800000#32
  let main_v5 : FVec F S8x6x2048 .f32 := broadcastInDim S8x6x2048 ![] bcast_S_S8x6x2048 main_cst_0
  let main_v6 : IVec S8x6x2048 1 := cmpf .olt main_v4 main_v5
  let main_c_1 : IVec S_ 1 := constantI S_ 1 1#1
  let main_v7 : IVec S_ 1 := (fun x v => Host.reduce IntOp.andi x v reducesTo_S8x6x2048_S_d0_1_2 h_S_) main_v6 main_c_1
  let main_v8 : FVec F S2x2048 .f32 := Host.absf main_arg2
  let main_cst_2 : FVec F S_ .f32 := constant S_ .f32 0x7F800000#32
  let main_v9 : FVec F S2x2048 .f32 := broadcastInDim S2x2048 ![] bcast_S_S2x2048 main_cst_2
  let main_v10 : IVec S2x2048 1 := cmpf .olt main_v8 main_v9
  let main_c_3 : IVec S_ 1 := constantI S_ 1 1#1
  let main_v11 : IVec S_ 1 := (fun x v => Host.reduce IntOp.andi x v reducesTo_S2x2048_S_d0_1 h_S_) main_v10 main_c_3
  let main_v12 : FVec F S2048x5632 .f32 := Host.absf main_arg3
  let main_cst_4 : FVec F S_ .f32 := constant S_ .f32 0x7F800000#32
  let main_v13 : FVec F S2048x5632 .f32 := broadcastInDim S2048x5632 ![] bcast_S_S2048x5632 main_cst_4
  let main_v14 : IVec S2048x5632 1 := cmpf .olt main_v12 main_v13
  let main_c_5 : IVec S_ 1 := constantI S_ 1 1#1
  let main_v15 : IVec S_ 1 := (fun x v => Host.reduce IntOp.andi x v reducesTo_S2048x5632_S_d0_1 h_S_) main_v14 main_c_5
  (main_v3, main_v7, main_v11, main_v15)
-- ==== Pre_finite_prompt.lean ====
abbrev S32x256x2048 : Shape := ⟨3, ![32, 256, 2048]⟩
abbrev S1x6x2048 : Shape := ⟨3, ![1, 6, 2048]⟩
abbrev S2x2048 : Shape := ⟨2, ![2, 2048]⟩
abbrev S2048x5632 : Shape := ⟨2, ![2048, 5632]⟩
abbrev S5632x2048 : Shape := ⟨2, ![5632, 2048]⟩
abbrev S_ : Shape := ⟨0, ![]⟩

class Facts : Prop where
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel
  bcast_S_S1x6x2048 : S_.BroadcastsInDim S1x6x2048 (![] : Fin 0 → Fin S1x6x2048.rank)
  reducesTo_S1x6x2048_S_d0_1_2 : S1x6x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S32x256x2048 .f32) (main_arg1 : FVec F S1x6x2048 .f32) (main_arg2 : FVec F S2x2048 .f32) (main_arg3 : FVec F S2048x5632 .f32) (main_arg4 : FVec F S2048x5632 .f32) (main_arg5 : FVec F S5632x2048 .f32) : IVec S_ 1 × IVec S_ 1 × IVec S_ 1 × IVec S_ 1 :=
  let main_v0 : FVec F S32x256x2048 .f32 := Host.absf main_arg0
  let main_cst : FVec F S_ .f32 := constant S_ .f32 0x7F800000#32
  let main_v1 : FVec F S32x256x2048 .f32 := broadcastInDim S32x256x2048 ![] bcast_S_S32x256x2048 main_cst
  let main_v2 : IVec S32x256x2048 1 := cmpf .olt main_v0 main_v1
  let main_c : IVec S_ 1 := constantI S_ 1 1#1
  let main_v3 : IVec S_ 1 := (fun x v => Host.reduce IntOp.andi x v reducesTo_S32x256x2048_S_d0_1_2 h_S_) main_v2 main_c
  let main_v4 : FVec F S1x6x2048 .f32 := Host.absf main_arg1
  let main_cst_0 : FVec F S_ .f32 := constant S_ .f32 0x7F800000#32
  let main_v5 : FVec F S1x6x2048 .f32 := broadcastInDim S1x6x2048 ![] bcast_S_S1x6x2048 main_cst_0
  let main_v6 : IVec S1x6x2048 1 := cmpf .olt main_v4 main_v5
  let main_c_1 : IVec S_ 1 := constantI S_ 1 1#1
  let main_v7 : IVec S_ 1 := (fun x v => Host.reduce IntOp.andi x v reducesTo_S1x6x2048_S_d0_1_2 h_S_) main_v6 main_c_1
  let main_v8 : FVec F S2x2048 .f32 := Host.absf main_arg2
  let main_cst_2 : FVec F S_ .f32 := constant S_ .f32 0x7F800000#32
  let main_v9 : FVec F S2x2048 .f32 := broadcastInDim S2x2048 ![] bcast_S_S2x2048 main_cst_2
  let main_v10 : IVec S2x2048 1 := cmpf .olt main_v8 main_v9
  let main_c_3 : IVec S_ 1 := constantI S_ 1 1#1
  let main_v11 : IVec S_ 1 := (fun x v => Host.reduce IntOp.andi x v reducesTo_S2x2048_S_d0_1 h_S_) main_v10 main_c_3
  let main_v12 : FVec F S2048x5632 .f32 := Host.absf main_arg3
  let main_cst_4 : FVec F S_ .f32 := constant S_ .f32 0x7F800000#32
  let main_v13 : FVec F S2048x5632 .f32 := broadcastInDim S2048x5632 ![] bcast_S_S2048x5632 main_cst_4
  let main_v14 : IVec S2048x5632 1 := cmpf .olt main_v12 main_v13
  let main_c_5 : IVec S_ 1 := constantI S_ 1 1#1
  let main_v15 : IVec S_ 1 := (fun x v => Host.reduce IntOp.andi x v reducesTo_S2048x5632_S_d0_1 h_S_) main_v14 main_c_5
  (main_v3, main_v7, main_v11, main_v15)
-- ==== Kernel.lean ====
abbrev S1x2048x10272 : Shape := ⟨3, ![1, 2048, 10272]⟩
abbrev S1x10272x2048 : Shape := ⟨3, ![1, 10272, 2048]⟩
abbrev S2048x10240 : Shape := ⟨2, ![2048, 10240]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x10272, .f32⟩
  | .hbm, ⟨1, _⟩ => ⟨S1x10272x2048, .f32⟩
  | .hbm, ⟨2, _⟩ => ⟨S2048x10240, .bf16⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S2048x512, .bf16⟩
  | _, _ => ⟨S1x2048x10272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c12_i32 : BitVec 32 := 12#32
  let v1 : BitVec 1 := Scalar.cmpi .slt arg0 c12_i32
  let c0_i32 : BitVec 32 := 0#32
  let c32_i32 : BitVec 32 := 32#32
  let v2 : BitVec 32 := Scalar.select v1 c0_i32 c32_i32
  let v3 : BitVec 32 := Scalar.addi v0 v2
  v3
def cc0_transform_0 (i : grid0.Coords) : Fin 3 → Nat :=
  let arg0 : BitVec 32 := BitVec.ofNat 32 (i 0).val
  let c512_i32 : BitVec 32 := 512#32
  let v0 : BitVec 32 := Scalar.muli arg0 c512_i32
  let c12_i32 : BitVec 32 := 12#32
  let v1 : BitVec 1 := Scalar.cmpi .slt arg0 c12_i32
  let c0_i32 : BitVec 32 := 0#32
  let c32_i32 : BitVec 32 := 32#32
  let v2 : BitVec 32 := Scalar.select v1 c0_i32 c32_i32
  let v3 : BitVec 32 := Scalar.addi v0 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x2048x10272 : Shape := ⟨3, ![1, 2048, 10272]⟩
abbrev S1x2048x6144 : Shape := ⟨3, ![1, 2048, 6144]⟩
abbrev S2048x6144 : Shape := ⟨2, ![2048, 6144]⟩
abbrev S1x2048x4096 : Shape := ⟨3, ![1, 2048, 4096]⟩
abbrev S2048x4096 : Shape := ⟨2, ![2048, 4096]⟩
abbrev S2048x10240 : Shape := ⟨2, ![2048, 10240]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x10272, .f32⟩
  | .hbm, ⟨1, _⟩ => ⟨S1x2048x6144, .f32⟩
  | .hbm, ⟨2, _⟩ => ⟨S2048x6144, .f32⟩
  | .hbm, ⟨3, _⟩ => ⟨S1x2048x4096, .f32⟩
  | .hbm, ⟨4, _⟩ => ⟨S2048x4096, .f32⟩
  | .hbm, ⟨5, _⟩ => ⟨S2048x10240, .f32⟩
  | .hbm, ⟨6, _⟩ => ⟨S2048x10240, .bf16⟩
  | _, _ => ⟨S1x2048x10272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== KernelFfn.lean ====
abbrev S8x2048x2048 : Shape := ⟨3, ![8, 2048, 2048]⟩
abbrev S8x6x2048 : Shape := ⟨3, ![8, 6, 2048]⟩
abbrev S2x2048 : Shape := ⟨2, ![2, 2048]⟩
abbrev S2048x5632 : Shape := ⟨2, ![2048, 5632]⟩
abbrev S5632x2048 : Shape := ⟨2, ![5632, 2048]⟩
abbrev S16384x2048 : Shape := ⟨2, ![16384, 2048]⟩
abbrev S512x2048 : Shape := ⟨2, ![512, 2048]⟩
abbrev S1x6x2048 : Shape := ⟨3, ![1, 6, 2048]⟩
abbrev S2048x512 : Shape := ⟨2, ![2048, 512]⟩
abbrev S256x2048 : Shape := ⟨2, ![256, 2048]⟩
abbrev S1x2048 : Shape := ⟨2, ![1, 2048]⟩
abbrev S1x1x2048 : Shape := ⟨3, ![1, 1, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S2x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S2x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFfnIdeal.lean ====
abbrev S8x2048x2048 : Shape := ⟨3, ![8, 2048, 2048]⟩
abbrev S8x6x2048 : Shape := ⟨3, ![8, 6, 2048]⟩
abbrev S2x2048 : Shape := ⟨2, ![2, 2048]⟩
abbrev S2048x5632 : Shape := ⟨2, ![2048, 5632]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x2048 : Shape := ⟨2, ![1, 2048]⟩
abbrev S2048 : Shape := ⟨1, ![2048]⟩
abbrev S1x1x2048 : Shape := ⟨3, ![1, 1, 2048]⟩
abbrev S8x1x2048 : Shape := ⟨3, ![8, 1, 2048]⟩
abbrev S8x2048x5632 : Shape := ⟨3, ![8, 2048, 5632]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S2x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S8x1x2048, .f32⟩
  | .hbm, ⟨25, _⟩ => ⟨S8x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x1x2048, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x5632, .f32⟩
  | .hbm, ⟨38, _⟩ => ⟨S8x2048x5632, .f32⟩
  | .hbm, ⟨39, _⟩ => ⟨S8x2048x5632, .f32⟩
  | .hbm, ⟨40, _⟩ => ⟨S_, .f32⟩
  | .hbm, ⟨41, _⟩ => ⟨S8x2048x5632, .f32⟩
  | .hbm, ⟨42, _⟩ => ⟨S8x2048x5632, .f32⟩
  | .hbm, ⟨43, _⟩ => ⟨S_, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S8x2048x2048, .f32⟩
  | .hbm, ⟨50, _⟩ => ⟨S8x1x2048, .f32⟩
  | .hbm, ⟨51, _⟩ => ⟨S8x2048, .f32⟩
  | .hbm, ⟨52, _⟩ => ⟨S8x1x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S1x2048, .f32⟩
  | .hbm, ⟨67, _⟩ => ⟨S2048, .f32⟩
  | .hbm, ⟨68, _⟩ => ⟨S1x1x2048, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== KernelFfnPrompt.lean ====
abbrev S32x256x2048 : Shape := ⟨3, ![32, 256, 2048]⟩
abbrev S1x6x2048 : Shape := ⟨3, ![1, 6, 2048]⟩
abbrev S2x2048 : Shape := ⟨2, ![2, 2048]⟩
abbrev S2048x5632 : Shape := ⟨2, ![2048, 5632]⟩
abbrev S5632x2048 : Shape := ⟨2, ![5632, 2048]⟩
abbrev S8192x2048 : Shape := ⟨2, ![8192, 2048]⟩
abbrev S512x2048 : Shape := ⟨2, ![512, 2048]⟩
abbrev S2048x512 : Shape := ⟨2, ![2048, 512]⟩
abbrev S256x2048 : Shape := ⟨2, ![256, 2048]⟩
abbrev S1x2048 : Shape := ⟨2, ![1, 2048]⟩
abbrev S1x1x2048 : Shape := ⟨3, ![1, 1, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S1x6x2048, .f32⟩
  | .hbm, ⟨2, _⟩ => ⟨S2x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S8192x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S2x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFfnPromptIdeal.lean ====
abbrev S32x256x2048 : Shape := ⟨3, ![32, 256, 2048]⟩
abbrev S1x6x2048 : Shape := ⟨3, ![1, 6, 2048]⟩
abbrev S2x2048 : Shape := ⟨2, ![2, 2048]⟩
abbrev S2048x5632 : Shape := ⟨2, ![2048, 5632]⟩
abbrev S5632x2048 : Shape := ⟨2, ![5632, 2048]⟩
abbrev S_ : Shape := ⟨0, ![]⟩
abbrev S32x256 : Shape := ⟨2, ![32, 256]⟩
abbrev S32x256x1 : Shape := ⟨3, ![32, 256, 1]⟩
abbrev S1x2048 : Shape := ⟨2, ![1, 2048]⟩
abbrev S2048 : Shape := ⟨1, ![2048]⟩
abbrev S1x1x2048 : Shape := ⟨3, ![1, 1, 2048]⟩
abbrev S32x256x5632 : Shape := ⟨3, ![32, 256, 5632]⟩
abbrev S8192x2048 : Shape := ⟨2, ![8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S1x6x2048, .f32⟩
  | .hbm, ⟨2, _⟩ => ⟨S2x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S32x256x2048, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x2048, .f32⟩
  | .hbm, ⟨18, _⟩ => ⟨S32x256x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S32x256x2048, .f32⟩
  | .hbm, ⟨23, _⟩ => ⟨S32x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S1x1x2048, .f32⟩
  | .hbm, ⟨33, _⟩ => ⟨S1x2048, .f32⟩
  | .hbm, ⟨34, _⟩ => ⟨S1x1x2048, .f32⟩
  | .hbm, ⟨35, _⟩ => ⟨S32x256x2048, .f32⟩
  | .hbm, ⟨36, _⟩ => ⟨S32x256x2048, .f32⟩
  | .hbm, ⟨37, _⟩ => ⟨S32x256x5632, .f32⟩
  | .hbm, ⟨38, _⟩ => ⟨S32x256x5632, .f32⟩
  | .hbm, ⟨39, _⟩ => ⟨S32x256x5632, .f32⟩
  | .hbm, ⟨40, _⟩ => ⟨S_, .f32⟩
  | .hbm, ⟨41, _⟩ => ⟨S32x256x5632, .f32⟩
  | .hbm, ⟨42, _⟩ => ⟨S32x256x5632, .f32⟩
  | .hbm, ⟨43, _⟩ => ⟨S_, .f32⟩
  | .hbm, ⟨44, _⟩ => ⟨S32x256x5632, .f32⟩
  | .hbm, ⟨45, _⟩ => ⟨S32x256x5632, .f32⟩
  | .hbm, ⟨46, _⟩ => ⟨S32x256x5632, .f32⟩
  | .hbm, ⟨47, _⟩ => ⟨S32x256x5632, .f32⟩
  | .hbm, ⟨48, _⟩ => ⟨S32x256x5632, .f32⟩
  | .hbm, ⟨49, _⟩ => ⟨S32x256x2048, .f32⟩
  | .hbm, ⟨50, _⟩ => ⟨S1x1x2048, .f32⟩
  | .hbm, ⟨51, _⟩ => ⟨S1x2048, .f32⟩
  | .hbm, ⟨52, _⟩ => ⟨S1x1x2048, .f32⟩
  | .hbm, ⟨53, _⟩ => ⟨S32x256x2048, .f32⟩
  | .hbm, ⟨54, _⟩ => ⟨S_, .f32⟩
  | .hbm, ⟨55, _⟩ => ⟨S32x256, .f32⟩
  | .hbm, ⟨56, _⟩ => ⟨S32x256x1, .f32⟩
  | .hbm, ⟨57, _⟩ => ⟨S_, .f32⟩
  | .hbm, ⟨58, _⟩ => ⟨S32x256x1, .f32⟩
  | .hbm, ⟨59, _⟩ => ⟨S32x256x1, .f32⟩
  | .hbm, ⟨60, _⟩ => ⟨S_, .f32⟩
  | .hbm, ⟨61, _⟩ => ⟨S32x256x1, .f32⟩
  | .hbm, ⟨62, _⟩ => ⟨S32x256x1, .f32⟩
  | .hbm, ⟨63, _⟩ => ⟨S32x256x1, .f32⟩
  | .hbm, ⟨64, _⟩ => ⟨S32x256x2048, .f32⟩
  | .hbm, ⟨65, _⟩ => ⟨S32x256x2048, .f32⟩
  | .hbm, ⟨66, _⟩ => ⟨S1x2048, .f32⟩
  | .hbm, ⟨67, _⟩ => ⟨S2048, .f32⟩
  | .hbm, ⟨68, _⟩ => ⟨S1x1x2048, .f32⟩
  | .hbm, ⟨69, _⟩ => ⟨S32x256x2048, .f32⟩
  | .hbm, ⟨70, _⟩ => ⟨S32x256x2048, .f32⟩
  | .hbm, ⟨71, _⟩ => ⟨S32x256x2048, .f32⟩
  | .hbm, ⟨72, _⟩ => ⟨S32x256x2048, .f32⟩
  | .hbm, ⟨73, _⟩ => ⟨S32x256x2048, .f32⟩
  | .hbm, ⟨74, _⟩ => ⟨S8192x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== KernelOutEven.lean ====
abbrev S8x2048x2048 : Shape := ⟨3, ![8, 2048, 2048]⟩
abbrev S4096x2048 : Shape := ⟨2, ![4096, 2048]⟩
abbrev S8x6x2048 : Shape := ⟨3, ![8, 6, 2048]⟩
abbrev S1x2048 : Shape := ⟨2, ![1, 2048]⟩
abbrev S16384x2048 : Shape := ⟨2, ![16384, 2048]⟩
abbrev S512x2048 : Shape := ⟨2, ![512, 2048]⟩
abbrev S1x6x2048 : Shape := ⟨3, ![1, 6, 2048]⟩
abbrev S1x1x2048 : Shape := ⟨3, ![1, 1, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S4096x2048, .f32⟩
  | .hbm, ⟨3, _⟩ => ⟨S8x2048x2048, .f32⟩
  | .hbm, ⟨4, _⟩ => ⟨S8x6x2048, .f32⟩
  | .hbm, ⟨5, _⟩ => ⟨S1x2048, .f32⟩
  | .hbm, ⟨6, _⟩ => ⟨S4096x2048, .bf16⟩
  | .hbm, ⟨7, _⟩ => ⟨S16384x2048, .bf16⟩
  | .hbm, ⟨8, _⟩ => ⟨S16384x2048, .bf16⟩
  | .hbm, ⟨9, _⟩ => ⟨S16384x2048, .f32⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutEvenIdeal.lean ====
abbrev S8x2048x2048 : Shape := ⟨3, ![8, 2048, 2048]⟩
abbrev S4096x2048 : Shape := ⟨2, ![4096, 2048]⟩
abbrev S8x6x2048 : Shape := ⟨3, ![8, 6, 2048]⟩
abbrev S1x2048 : Shape := ⟨2, ![1, 2048]⟩
abbrev S8x2048x4096 : Shape := ⟨3, ![8, 2048, 4096]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S4096x2048, .f32⟩
  | .hbm, ⟨3, _⟩ => ⟨S8x2048x2048, .f32⟩
  | .hbm, ⟨4, _⟩ => ⟨S8x6x2048, .f32⟩
  | .hbm, ⟨5, _⟩ => ⟨S1x2048, .f32⟩
  | .hbm, ⟨6, _⟩ => ⟨S8x2048x4096, .bf16⟩
  | .hbm, ⟨7, _⟩ => ⟨S8x2048x4096, .f32⟩
  | .hbm, ⟨8, _⟩ => ⟨S8x2048x2048, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelOutOdd.lean ====
abbrev S8x2048x4096 : Shape := ⟨3, ![8, 2048, 4096]⟩
abbrev S4096x2048 : Shape := ⟨2, ![4096, 2048]⟩
abbrev S8x2048x2048 : Shape := ⟨3, ![8, 2048, 2048]⟩
abbrev S8x6x2048 : Shape := ⟨3, ![8, 6, 2048]⟩
abbrev S1x2048 : Shape := ⟨2, ![1, 2048]⟩
abbrev S16384x4096 : Shape := ⟨2, ![16384, 4096]⟩
abbrev S16384x2048 : Shape := ⟨2, ![16384, 2048]⟩
abbrev S512x4096 : Shape := ⟨2, ![512, 4096]⟩
abbrev S512x2048 : Shape := ⟨2, ![512, 2048]⟩
abbrev S1x6x2048 : Shape := ⟨3, ![1, 6, 2048]⟩
abbrev S1x1x2048 : Shape := ⟨3, ![1, 1, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x4096, .bf16⟩
  | .hbm, ⟨1, _⟩ => ⟨S4096x2048, .f32⟩
  | .hbm, ⟨2, _⟩ => ⟨S8x2048x2048, .f32⟩
  | .hbm, ⟨3, _⟩ => ⟨S8x6x2048, .f32⟩
  | .hbm, ⟨4, _⟩ => ⟨S1x2048, .f32⟩
  | .hbm, ⟨5, _⟩ => ⟨S4096x2048, .bf16⟩
  | .hbm, ⟨6, _⟩ => ⟨S16384x4096, .bf16⟩
  | .hbm, ⟨7, _⟩ => ⟨S16384x2048, .f32⟩
  | .hbm, ⟨8, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutOddIdeal.lean ====
abbrev S8x2048x4096 : Shape := ⟨3, ![8, 2048, 4096]⟩
abbrev S4096x2048 : Shape := ⟨2, ![4096, 2048]⟩
abbrev S8x2048x2048 : Shape := ⟨3, ![8, 2048, 2048]⟩
abbrev S8x6x2048 : Shape := ⟨3, ![8, 6, 2048]⟩
abbrev S1x2048 : Shape := ⟨2, ![1, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S4096x2048, .f32⟩
  | .hbm, ⟨2, _⟩ => ⟨S8x2048x2048, .f32⟩
  | .hbm, ⟨3, _⟩ => ⟨S8x6x2048, .f32⟩
  | .hbm, ⟨4, _⟩ => ⟨S1x2048, .f32⟩
  | .hbm, ⟨5, _⟩ => ⟨S8x2048x4096, .f32⟩
  | .hbm, ⟨6, _⟩ => ⟨S8x2048x2048, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S16384x2048, .f32⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelInOdd.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x10368 : Shape := ⟨3, ![1, 2048, 10368]⟩
abbrev S2048x10368 : Shape := ⟨2, ![2048, 10368]⟩
abbrev S2048x10240 : Shape := ⟨2, ![2048, 10240]⟩
abbrev S2048x128 : Shape := ⟨2, ![2048, 128]⟩
abbrev S2048x2x8x8 : Shape := ⟨4, ![2048, 2, 8, 8]⟩
abbrev S2048x8x2x8 : Shape := ⟨4, ![2048, 8, 2, 8]⟩
abbrev S16384x2048 : Shape := ⟨2, ![16384, 2048]⟩
abbrev S16384x10240 : Shape := ⟨2, ![16384, 10240]⟩
abbrev S16384x128 : Shape := ⟨2, ![16384, 128]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024x128 : Shape := ⟨2, ![1024, 128]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S1x2048x10368, .f32⟩
  | .hbm, ⟨4, _⟩ => ⟨S2048x10368, .f32⟩
  | .hbm, ⟨5, _⟩ => ⟨S2048x10368, .bf16⟩
  | .hbm, ⟨6, _⟩ => ⟨S2048x10240, .bf16⟩
  | .hbm, ⟨7, _⟩ => ⟨S2048x128, .bf16⟩
  | .hbm, ⟨8, _⟩ => ⟨S2048x2x8x8, .bf16⟩
  | .hbm, ⟨9, _⟩ => ⟨S2048x8x2x8, .bf16⟩
  | .hbm, ⟨10, _⟩ => ⟨S2048x128, .bf16⟩
  | .hbm, ⟨11, _⟩ => ⟨S16384x2048, .f32⟩
  | .hbm, ⟨12, _⟩ => ⟨S16384x10240, .bf16⟩
  | .hbm, ⟨13, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceInOddIdeal.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x10368 : Shape := ⟨3, ![1, 2048, 10368]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S8x1x2048 : Shape := ⟨3, ![8, 1, 2048]⟩
abbrev S2048x10368 : Shape := ⟨2, ![2048, 10368]⟩
abbrev S8x2048x10368 : Shape := ⟨3, ![8, 2048, 10368]⟩
abbrev S16384x10368 : Shape := ⟨2, ![16384, 10368]⟩
abbrev S16384x128 : Shape := ⟨2, ![16384, 128]⟩
abbrev S16384x2x8x8 : Shape := ⟨4, ![16384, 2, 8, 8]⟩
abbrev S16384x8x2x8 : Shape := ⟨4, ![16384, 8, 2, 8]⟩
abbrev S16384x10240 : Shape := ⟨2, ![16384, 10240]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S1x2048x10368, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S8x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S2048x10368, .f32⟩
  | .hbm, ⟨35, _⟩ => ⟨S8x2048x10368, .f32⟩
  | .hbm, ⟨36, _⟩ => ⟨S16384x10368, .f32⟩
  | .hbm, ⟨37, _⟩ => ⟨S16384x128, .f32⟩
  | .hbm, ⟨38, _⟩ => ⟨S16384x2x8x8, .f32⟩
  | .hbm, ⟨39, _⟩ => ⟨S16384x8x2x8, .f32⟩
  | .hbm, ⟨40, _⟩ => ⟨S16384x128, .f32⟩
  | .hbm, ⟨41, _⟩ => ⟨S16384x10240, .f32⟩
  | .hbm, ⟨42, _⟩ => ⟨S16384x10240, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== KernelInEven.lean ====
abbrev S8x2048x2048 : Shape := ⟨3, ![8, 2048, 2048]⟩
abbrev S8x6x2048 : Shape := ⟨3, ![8, 6, 2048]⟩
abbrev S1x2048 : Shape := ⟨2, ![1, 2048]⟩
abbrev S2048x10240 : Shape := ⟨2, ![2048, 10240]⟩
abbrev S1x2048x10272 : Shape := ⟨3, ![1, 2048, 10272]⟩
abbrev S2048x10272 : Shape := ⟨2, ![2048, 10272]⟩
abbrev S2048x32 : Shape := ⟨2, ![2048, 32]⟩
abbrev S_ : Shape := ⟨0, ![]⟩
abbrev S2048x128 : Shape := ⟨2, ![2048, 128]⟩
abbrev S16384x2048 : Shape := ⟨2, ![16384, 2048]⟩
abbrev S16384x10240 : Shape := ⟨2, ![16384, 10240]⟩
abbrev S16384x128 : Shape := ⟨2, ![16384, 128]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024x128 : Shape := ⟨2, ![1024, 128]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S2048x10240, .bf16⟩
  | .hbm, ⟨4, _⟩ => ⟨S1x2048x10272, .f32⟩
  | .hbm, ⟨5, _⟩ => ⟨S2048x10272, .f32⟩
  | .hbm, ⟨6, _⟩ => ⟨S2048x32, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S16384x2048, .f32⟩
  | .hbm, ⟨12, _⟩ => ⟨S16384x10240, .bf16⟩
  | .hbm, ⟨13, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceInEvenIdeal.lean ====
abbrev S8x2048x2048 : Shape := ⟨3, ![8, 2048, 2048]⟩
abbrev S8x6x2048 : Shape := ⟨3, ![8, 6, 2048]⟩
abbrev S1x2048 : Shape := ⟨2, ![1, 2048]⟩
abbrev S2048x10240 : Shape := ⟨2, ![2048, 10240]⟩
abbrev S1x2048x10272 : Shape := ⟨3, ![1, 2048, 10272]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S8x1x2048 : Shape := ⟨3, ![8, 1, 2048]⟩
abbrev S8x2048x10240 : Shape := ⟨3, ![8, 2048, 10240]⟩
abbrev S16384x10240 : Shape := ⟨2, ![16384, 10240]⟩
abbrev S1x2048x32 : Shape := ⟨3, ![1, 2048, 32]⟩
abbrev S2048x32 : Shape := ⟨2, ![2048, 32]⟩
abbrev S8x2048x32 : Shape := ⟨3, ![8, 2048, 32]⟩
abbrev S16384x32 : Shape := ⟨2, ![16384, 32]⟩
abbrev S16384x128 : Shape := ⟨2, ![16384, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S2048x10240, .bf16⟩
  | .hbm, ⟨4, _⟩ => ⟨S1x2048x10272, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S8x1x2048, .f32⟩
  | .hbm, ⟨23, _⟩ => ⟨S8x2048, .f32⟩
  | .hbm, ⟨24, _⟩ => ⟨S8x1x2048, .f32⟩
  | .hbm, ⟨25, _⟩ => ⟨S_, .f32⟩
  | .hbm, ⟨26, _⟩ => ⟨S8x1x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x1x2048, .f32⟩
  | .hbm, ⟨31, _⟩ => ⟨S8x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S2048x10240, .f32⟩
  | .hbm, ⟨36, _⟩ => ⟨S8x2048x10240, .f32⟩
  | .hbm, ⟨37, _⟩ => ⟨S16384x10240, .f32⟩
  | .hbm, ⟨38, _⟩ => ⟨S16384x10240, .bf16⟩
  | .hbm, ⟨39, _⟩ => ⟨S1x2048x32, .f32⟩
  | .hbm, ⟨40, _⟩ => ⟨S2048x32, .f32⟩
  | .hbm, ⟨41, _⟩ => ⟨S8x2048x32, .f32⟩
  | .hbm, ⟨42, _⟩ => ⟨S16384x32, .f32⟩
  | .hbm, ⟨43, _⟩ => ⟨S_, .i32⟩
  | .hbm, ⟨44, _⟩ => ⟨S_, .f32⟩
  | .hbm, ⟨45, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelGla.lean ====
abbrev S32x256x10240 : Shape := ⟨3, ![32, 256, 10240]⟩
abbrev S32x256x128 : Shape := ⟨3, ![32, 256, 128]⟩
abbrev S2x16x1024 : Shape := ⟨3, ![2, 16, 1024]⟩
abbrev S2x1024 : Shape := ⟨2, ![2, 1024]⟩
abbrev S1x2048 : Shape := ⟨2, ![1, 2048]⟩
abbrev S_ : Shape := ⟨0, ![]⟩
abbrev S2x128x1024 : Shape := ⟨3, ![2, 128, 1024]⟩
abbrev S1x16x1024 : Shape := ⟨3, ![1, 16, 1024]⟩
abbrev S16x1024 : Shape := ⟨2, ![16, 1024]⟩
abbrev S1 : Shape := ⟨1, ![1]⟩
abbrev S2 : Shape := ⟨1, ![2]⟩
abbrev S2x1x1024 : Shape := ⟨3, ![2, 1, 1024]⟩
abbrev S32x256x2048 : Shape := ⟨3, ![32, 256, 2048]⟩
abbrev S32x2x4x256x512 : Shape := ⟨5, ![32, 2, 4, 256, 512]⟩
abbrev S1x256x256 : Shape := ⟨3, ![1, 256, 256]⟩
abbrev S1x256x512 : Shape := ⟨3, ![1, 256, 512]⟩
abbrev S1x256x128 : Shape := ⟨3, ![1, 256, 128]⟩
abbrev S2x128x256 : Shape := ⟨3, ![2, 128, 256]⟩
abbrev S2x1x256 : Shape := ⟨3, ![2, 1, 256]⟩
abbrev S1x512 : Shape := ⟨2, ![1, 512]⟩
abbrev S1x2x1x256x512 : Shape := ⟨5, ![1, 2, 1, 256, 512]⟩
abbrev S2x256x512 : Shape := ⟨3, ![2, 256, 512]⟩
abbrev S256x512 : Shape := ⟨2, ![256, 512]⟩
abbrev S2x256x256 : Shape := ⟨3, ![2, 256, 256]⟩
abbrev S2x4x256x128 : Shape := ⟨4, ![2, 4, 256, 128]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S64x256 : Shape := ⟨2, ![64, 256]⟩
abbrev S1x128 : Shape := ⟨2, ![1, 128]⟩
abbrev S16x128 : Shape := ⟨2, ![16, 128]⟩
abbrev S128x16 : Shape := ⟨2, ![128, 16]⟩
abbrev S128x1 : Shape := ⟨2, ![128, 1]⟩
abbrev S128x128 : Shape := ⟨2, ![128, 128]⟩
abbrev S1x1x256x128 : Shape := ⟨4, ![1, 1, 256, 128]⟩
abbrev S1x64x256 : Shape := ⟨3, ![1, 64, 256]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩
abbrev S1x1x1x256x512 : Shape := ⟨5, ![1, 1, 1, 256, 512]⟩

abbrev nBuf : Space → Nat
  | .hbm => 27
  | .vmem => 25
  | .smem => 0
  | _ => 0

abbrev bufTy : (tb : Table) → Fin (tcTables nBuf tb) → BufTy
  | .hbm, ⟨0, _⟩ => ⟨S32x256x10240, .bf16⟩
  | .hbm, ⟨1, _⟩ => ⟨S32x256x128, .f32⟩
  | .hbm, ⟨2, _⟩ => ⟨S2x16x1024, .f32⟩
  | .hbm, ⟨3, _⟩ => ⟨S2x1024, .f32⟩
  | .hbm, ⟨4, _⟩ => ⟨S1x2048, .f32⟩
  | .hbm, ⟨5, _⟩ => ⟨S_, .f32⟩
  | .hbm, ⟨6, _⟩ => ⟨S2x128x1024, .f32⟩
  | .hbm, ⟨7, _⟩ => ⟨S1x16x1024, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x1024, .f32⟩
  | .hbm, ⟨15, _⟩ => ⟨S1x16x1024, .f32⟩
  | .hbm, ⟨16, _⟩ => ⟨S16x1024, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x128x1024, .f32⟩
  | .hbm, ⟨23, _⟩ => ⟨S2x128x1024, .bf16⟩
  | .hbm, ⟨24, _⟩ => ⟨S2x1x1024, .f32⟩
  | .hbm, ⟨25, _⟩ => ⟨S32x256x2048, .bf16⟩
  | .hbm, ⟨26, _⟩ => ⟨S32x2x4x256x512, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x128, .f32⟩
  | .local _ .vmem, ⟨9, _⟩ => ⟨S1x256x128, .f32⟩
  | .local _ .vmem, ⟨10, _⟩ => ⟨S2x128x256, .bf16⟩
  | .local _ .vmem, ⟨11, _⟩ => ⟨S2x128x256, .bf16⟩
  | .local _ .vmem, ⟨12, _⟩ => ⟨S2x1x256, .f32⟩
  | .local _ .vmem, ⟨13, _⟩ => ⟨S2x1x256, .f32⟩
  | .local _ .vmem, ⟨14, _⟩ => ⟨S1x512, .f32⟩
  | .local _ .vmem, ⟨15, _⟩ => ⟨S1x512, .f32⟩
  | .local _ .vmem, ⟨16, _⟩ => ⟨S1x256x512, .bf16⟩
  | .local _ .vmem, ⟨17, _⟩ => ⟨S1x256x512, .bf16⟩
  | .local _ .vmem, ⟨18, _⟩ => ⟨S1x2x1x256x512, .f32⟩
  | .local _ .vmem, ⟨19, _⟩ => ⟨S1x2x1x256x512, .f32⟩
  | .local _ .vmem, ⟨20, _⟩ => ⟨S2x256x512, .f32⟩
  | .local _ .vmem, ⟨21, _⟩ => ⟨S256x512, .f32⟩
  | .local _ .vmem, ⟨22, _⟩ => ⟨S2x256x256, .bf16⟩
  | .local _ .vmem, ⟨23, _⟩ => ⟨S2x256x256, .bf16⟩
  | .local _ .vmem, ⟨24, _⟩ => ⟨S2x4x256x128, .f32⟩
  | _, _ => ⟨S32x256x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def k0_mult1 : BitVec 32 :=
  let c0_i32_14 : BitVec 32 := 0#32
  let c256_i32 : BitVec 32 := 256#32
  let v63 : BitVec 32 := Scalar.muli c0_i32_14 c256_i32
  v63
def k0_off1 : Fin 3 → Nat :=
  let c0 : Index := 0#32
  let c0_i32_14 : BitVec 32 := 0#32
  let c256_i32 : BitVec 32 := 256#32
  let v63 : BitVec 32 := Scalar.muli c0_i32_14 c256_i32
  let v64 : BitVec 32 := v63
  let v65 : Index := Scalar.indexCast v64
  let c0_15 : Index := 0#32
  ![0, v65.toNat, 0]
def k0_off2 : Fin 3 → Nat :=
  let c0_19 : Index := 0#32
  let c0_i32_14 : BitVec 32 := 0#32
  let c256_i32 : BitVec 32 := 256#32
  let v63 : BitVec 32 := Scalar.muli c0_i32_14 c256_i32
  let v64 : BitVec 32 := v63
  let v75 : Index := Scalar.indexCast v64
  let c0_20 : Index := 0#32
  ![0, v75.toNat, 0]
def k0_off3 : Fin 3 → Nat :=
  let c0_21 : Index := 0#32
  let c0_i32_14 : BitVec 32 := 0#32
  let c256_i32 : BitVec 32 := 256#32
  let v63 : BitVec 32 := Scalar.muli c0_i32_14 c256_i32
  let v64 : BitVec 32 := v63
  let v78 : Index := Scalar.indexCast v64
  let c0_22 : Index := 0#32
  ![0, v78.toNat, 0]
def k0_off4 : Fin 3 → Nat :=
  let c0_37 : Index := 0#32
  let c0_i32_14 : BitVec 32 := 0#32
  let c256_i32 : BitVec 32 := 256#32
  let v63 : BitVec 32 := Scalar.muli c0_i32_14 c256_i32
  let v64 : BitVec 32 := v63
  let v132 : Index := Scalar.indexCast v64
  let c0_38 : Index := 0#32
  ![0, v132.toNat, 0]
def k0_off5 (c0_i32_41 : BitVec 32) : Fin 4 → Nat :=
  let c0_42 : Index := 0#32
  let c0_i32_14 : BitVec 32 := 0#32
  let c4_i32 : BitVec 32 := 4#32
  let v160 : BitVec 32 := Scalar.muli c0_i32_14 c4_i32
  let v161 : BitVec 32 := Scalar.addi v160 c0_i32_41
  let v162 : Index := Scalar.indexCast v161
  let c0_43 : Index := 0#32
  let c0_44 : Index := 0#32
  ![0, v162.toNat, 0, 0]
def k0_off6 : Fin 3 → Nat :=
  let c1_74 : Index := 1#32
  let c0_i32_14 : BitVec 32 := 0#32
  let c256_i32 : BitVec 32 := 256#32
  let v63 : BitVec 32 := Scalar.muli c0_i32_14 c256_i32
  let v64 : BitVec 32 := v63
  let v287 : Index := Scalar.indexCast v64
  let c0_75 : Index := 0#32
  ![1, v287.toNat, 0]
def k0_off7 (c0_i32_79 : BitVec 32) : Fin 4 → Nat :=
  let c1_80 : Index := 1#32
  let c0_i32_14 : BitVec 32 := 0#32
  let c4_i32_78 : BitVec 32 := 4#32
  let v315 : BitVec 32 := Scalar.muli c0_i32_14 c4_i32_78
  let v316 : BitVec 32 := Scalar.addi v315 c0_i32_79
  let v317 : Index := Scalar.indexCast v316
  let c0_81 : Index := 0#32
  let c0_82 : Index := 0#32
  ![1, v317.toNat, 0, 0]
def k0_off8 : Fin 2 → Nat :=
  let c0_i32_14 : BitVec 32 := 0#32
  let c256_i32 : BitVec 32 := 256#32
  let v63 : BitVec 32 := Scalar.muli c0_i32_14 c256_i32
  let v64 : BitVec 32 := v63
  let v393 : Index := Scalar.indexCast v64
  let c0_101 : Index := 0#32
  ![v393.toNat, 0]
def k0_mult2 : BitVec 32 :=
  let c0_i32_111 : BitVec 32 := 0#32
  let c64_i32_113 : BitVec 32 := 64#32
  let v406 : BitVec 32 := Scalar.muli c0_i32_111 c64_i32_113
  v406
def k0_off9 (c0_i32_111 : BitVec 32) : Fin 3 → Nat :=
  let c0_117 : Index := 0#32
  let c64_i32_113 : BitVec 32 := 64#32
  let v406 : BitVec 32 := Scalar.muli c0_i32_111 c64_i32_113
  let v407 : BitVec 32 := v406
  let v410 : Index := Scalar.indexCast v407
  let c0_118 : Index := 0#32
  ![0, v410.toNat, 0]
def k0_off10 (c0_i32_111 : BitVec 32) : Fin 3 → Nat :=
  let c0_125 : Index := 0#32
  let c64_i32_113 : BitVec 32 := 64#32
  let v406 : BitVec 32 := Scalar.muli c0_i32_111 c64_i32_113
  let v407 : BitVec 32 := v406
  let v423 : Index := Scalar.indexCast v407
  let c0_126 : Index := 0#32
  ![0, v423.toNat, 0]
def k0_off11 (c0_i32_111 : BitVec 32) : Fin 2 → Nat :=
  let c64_i32_113 : BitVec 32 := 64#32
  let v406 : BitVec 32 := Scalar.muli c0_i32_111 c64_i32_113
  let v407 : BitVec 32 := v406
  let v431 : Index := Scalar.indexCast v407
  let c0_131 : Index := 0#32
  ![v431.toNat, 0]
def k0_mult3 : BitVec 32 :=
  let c3_i32_112 : BitVec 32 := 3#32
  let c0_i32_111 : BitVec 32 := 0#32
  let v405 : BitVec 32 := Scalar.subi c3_i32_112 c0_i32_111
  let c64_i32_133 : BitVec 32 := 64#32
  let v438 : BitVec 32 := Scalar.muli v405 c64_i32_133
  v438
def k0_off12 (c0_i32_111 : BitVec 32) : Fin 3 → Nat :=
  let c1_137 : Index := 1#32
  let c3_i32_112 : BitVec 32 := 3#32
  let v405 : BitVec 32 := Scalar.subi c3_i32_112 c0_i32_111
  let c64_i32_133 : BitVec 32 := 64#32
  let v438 : BitVec 32 := Scalar.muli v405 c64_i32_133
  let v439 : BitVec 32 := v438
  let v442 : Index := Scalar.indexCast v439
  let c0_138 : Index := 0#32
  ![1, v442.toNat, 0]
def k0_off13 (c0_i32_111 : BitVec 32) : Fin 4 → Nat :=
  let c1_140 : Index := 1#32
  let c3_i32_112 : BitVec 32 := 3#32
  let v405 : BitVec 32 := Scalar.subi c3_i32_112 c0_i32_111
  let v447 : Index := Scalar.indexCast v405
  let c0_141 : Index := 0#32
  let c0_142 : Index := 0#32
  ![1, v447.toNat, 0, 0]
def k0_off14 (c0_i32_111 : BitVec 32) : Fin 3 → Nat :=
  let c0_145 : Index := 0#32
  let c3_i32_112 : BitVec 32 := 3#32
  let v405 : BitVec 32 := Scalar.subi c3_i32_112 c0_i32_111
  let c64_i32_133 : BitVec 32 := 64#32
  let v438 : BitVec 32 := Scalar.muli v405 c64_i32_133
  let v439 : BitVec 32 := v438
  let v455 : Index := Scalar.indexCast v439
  let c0_146 : Index := 0#32
  ![0, v455.toNat, 0]
def k0_off15 (c0_i32_111 : BitVec 32) : Fin 2 → Nat :=
  let c3_i32_112 : BitVec 32 := 3#32
  let v405 : BitVec 32 := Scalar.subi c3_i32_112 c0_i32_111
  let c64_i32_133 : BitVec 32 := 64#32
  let v438 : BitVec 32 := Scalar.muli v405 c64_i32_133
  let v439 : BitVec 32 := v438
  let v463 : Index := Scalar.indexCast v439
  let c0_151 : Index := 0#32
  ![v463.toNat, 0]
def k0_mult4 : BitVec 32 :=
  let c1_i32_153 : BitVec 32 := 1#32
  let c64_i32_155 : BitVec 32 := 64#32
  let v471 : BitVec 32 := Scalar.muli c1_i32_153 c64_i32_155
  v471
def k0_mult5 : BitVec 32 :=
  let c3_i32_154 : BitVec 32 := 3#32
  let c1_i32_153 : BitVec 32 := 1#32
  let v470 : BitVec 32 := Scalar.subi c3_i32_154 c1_i32_153
  let c64_i32_175 : BitVec 32 := 64#32
  let v503 : BitVec 32 := Scalar.muli v470 c64_i32_175
  v503
def k0_mult6 : BitVec 32 :=
  let c2_i32_196 : BitVec 32 := 2#32
  let c64_i32_198 : BitVec 32 := 64#32
  let v536 : BitVec 32 := Scalar.muli c2_i32_196 c64_i32_198
  v536
def k0_mult7 : BitVec 32 :=
  let c3_i32_197 : BitVec 32 := 3#32
  let c2_i32_196 : BitVec 32 := 2#32
  let v535 : BitVec 32 := Scalar.subi c3_i32_197 c2_i32_196
  let c64_i32_227 : BitVec 32 := 64#32
  let v592 : BitVec 32 := Scalar.muli v535 c64_i32_227
  v592
def k0_mult8 : BitVec 32 :=
  let c3_i32_256 : BitVec 32 := 3#32
  let c64_i32_258 : BitVec 32 := 64#32
  let v649 : BitVec 32 := Scalar.muli c3_i32_256 c64_i32_258
  v649
def k0_mult9 : BitVec 32 :=
  let c3_i32_257 : BitVec 32 := 3#32
  let c3_i32_256 : BitVec 32 := 3#32
  let v648 : BitVec 32 := Scalar.subi c3_i32_257 c3_i32_256
  let c64_i32_287 : BitVec 32 := 64#32
  let v705 : BitVec 32 := Scalar.muli v648 c64_i32_287
  v705
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelGlaIdeal.lean ====
variable {F : FTy → Type} [FloatOps F] [Named F]
def κ : String → Option EReal := fun
  | "log2e_over_16" => some (((16 * (Real.log 2))⁻¹ : ℝ) : EReal)
  | _ => none
-- ==== ReferenceGlaIdeal.lean ====
abbrev S32x256x10240 : Shape := ⟨3, ![32, 256, 10240]⟩
abbrev S32x256x128 : Shape := ⟨3, ![32, 256, 128]⟩
abbrev S2x16x1024 : Shape := ⟨3, ![2, 16, 1024]⟩
abbrev S2x1024 : Shape := ⟨2, ![2, 1024]⟩
abbrev S1x2048 : Shape := ⟨2, ![1, 2048]⟩
abbrev S32x256x1024 : Shape := ⟨3, ![32, 256, 1024]⟩
abbrev S32x256x4x256 : Shape := ⟨4, ![32, 256, 4, 256]⟩
abbrev S32x256x2048 : Shape := ⟨3, ![32, 256, 2048]⟩
abbrev S32x256x4x512 : Shape := ⟨4, ![32, 256, 4, 512]⟩
abbrev S32x256x32 : Shape := ⟨3, ![32, 256, 32]⟩
abbrev S32x256x2x16 : Shape := ⟨4, ![32, 256, 2, 16]⟩
abbrev S2x1024x32x256 : Shape := ⟨4, ![2, 1024, 32, 256]⟩
abbrev S32x256x2x1024 : Shape := ⟨4, ![32, 256, 2, 1024]⟩
abbrev S1x1x2x1024 : Shape := ⟨4, ![1, 1, 2, 1024]⟩
abbrev S_ : Shape := ⟨0, ![]⟩
abbrev S32x256x2x4x256 : Shape := ⟨5, ![32, 256, 2, 4, 256]⟩
abbrev S32x256x1x4x256 : Shape := ⟨5, ![32, 256, 1, 4, 256]⟩
abbrev S32x4x64x4x256 : Shape := ⟨5, ![32, 4, 64, 4, 256]⟩
abbrev S32x4x64x4x512 : Shape := ⟨5, ![32, 4, 64, 4, 512]⟩
abbrev S32x4x1x4x256 : Shape := ⟨5, ![32, 4, 1, 4, 256]⟩
abbrev S32x4x4x256 : Shape := ⟨4, ![32, 4, 4, 256]⟩
abbrev S32x4x4x256x512 : Shape := ⟨5, ![32, 4, 4, 256, 512]⟩
abbrev S32x4x256x512 : Shape := ⟨4, ![32, 4, 256, 512]⟩
abbrev S32x1x4x256 : Shape := ⟨4, ![32, 1, 4, 256]⟩
abbrev S32x4x256 : Shape := ⟨3, ![32, 4, 256]⟩
abbrev S32x4x256x1 : Shape := ⟨4, ![32, 4, 256, 1]⟩
abbrev S32x1x4x256x512 : Shape := ⟨5, ![32, 1, 4, 256, 512]⟩
abbrev S32x2x4x256x512 : Shape := ⟨5, ![32, 2, 4, 256, 512]⟩

abbrev nBuf : Space → Nat
  | .hbm => 152
  | .vmem => 0
  | .smem => 0
  | _ => 0

abbrev hbmTy0_0 (i : Nat) : BufTy := match i % 128 with
  | 0 => ⟨S32x256x10240, .bf16⟩
  | 1 => ⟨S32x256x128, .f32⟩
  | 2 => ⟨S2x16x1024, .f32⟩
  | 3 => ⟨S2x1024, .f32⟩
  | 4 => ⟨S1x2048, .f32⟩
  | 5 => ⟨S32x256x1024, .bf16⟩
  | 6 => ⟨S32x256x1024, .f32⟩
  | 7 => ⟨S32x256x4x256, .f32⟩
  | 8 => ⟨S32x256x2048, .bf16⟩
  | 9 => ⟨S32x256x2048, .f32⟩
  | 10 => ⟨S32x256x4x512, .f32⟩
  | 11 => ⟨S32x256x32, .f32⟩
  | 12 => ⟨S32x256x2x16, .f32⟩
  | 13 => ⟨S2x1024x32x256, .f32⟩
  | 14 => ⟨S32x256x2x1024, .f32⟩
  | 15 => ⟨S1x1x2x1024, .f32⟩
  | 16 => ⟨S32x256x2x1024, .f32⟩
  | 17 => ⟨S32x256x2x1024, .f32⟩
  | 18 => ⟨S32x256x2x1024, .f32⟩
  | 19 => ⟨S_, .f32⟩
  | 20 => ⟨S32x256x2x1024, .f32⟩
  | 21 => ⟨S32x256x2x1024, .f32⟩
  | 22 => ⟨S32x256x2x1024, .f32⟩
  | 23 => ⟨S32x256x2x1024, .f32⟩
  | 24 => ⟨S32x256x2x1024, .i1⟩
  | 25 => ⟨S32x256x2x1024, .f32⟩
  | 26 => ⟨S32x256x2x1024, .f32⟩
  | 27 => ⟨S32x256x2x1024, .f32⟩
  | 28 => ⟨S32x256x2x1024, .f32⟩
  | 29 => ⟨S32x256x2x1024, .f32⟩
  | 30 => ⟨S32x256x2x1024, .f32⟩
  | 31 => ⟨S32x256x2x1024, .f32⟩
  | 32 => ⟨S32x256x2x1024, .f32⟩
  | 33 => ⟨S32x256x2x1024, .f32⟩
  | 34 => ⟨S_, .f32⟩
  | 35 => ⟨S32x256x2x1024, .f32⟩
  | 36 => ⟨S32x256x2x1024, .f32⟩
  | 37 => ⟨S32x256x2x4x256, .f32⟩
  | 38 => ⟨S32x256x1x4x256, .f32⟩
  | 39 => ⟨S32x256x4x256, .f32⟩
  | 40 => ⟨S32x4x64x4x256, .f32⟩
  | 41 => ⟨S32x4x64x4x512, .f32⟩
  | 42 => ⟨S32x4x64x4x256, .f32⟩
  | 43 => ⟨S_, .f32⟩
  | 44 => ⟨S_, .f32⟩
  | 45 => ⟨S32x4x64x4x256, .f32⟩
  | 46 => ⟨S32x4x1x4x256, .f32⟩
  | 47 => ⟨S32x4x4x256, .f32⟩
  | 48 => ⟨S32x4x1x4x256, .f32⟩
  | 49 => ⟨S32x4x64x4x256, .f32⟩
  | 50 => ⟨S32x4x64x4x256, .f32⟩
  | 51 => ⟨S32x4x64x4x256, .f32⟩
  | 52 => ⟨S32x4x64x4x256, .f32⟩
  | 53 => ⟨S32x4x4x256x512, .f32⟩
  | 54 => ⟨S_, .f32⟩
  | 55 => ⟨S32x4x256x512, .f32⟩
  | 56 => ⟨S32x1x4x256, .f32⟩
  | 57 => ⟨S32x4x256, .f32⟩
  | 58 => ⟨S32x4x256, .f32⟩
  | 59 => ⟨S32x4x256x1, .f32⟩
  | 60 => ⟨S32x4x256x512, .f32⟩
  | 61 => ⟨S32x4x256x512, .f32⟩
  | 62 => ⟨S32x1x4x256x512, .f32⟩
  | 63 => ⟨S32x4x256x512, .f32⟩
  | 64 => ⟨S32x4x256x512, .f32⟩
  | 65 => ⟨S32x1x4x256, .f32⟩
  | 66 => ⟨S32x4x256, .f32⟩
  | 67 => ⟨S32x4x256, .f32⟩
  | 68 => ⟨S32x4x256x1, .f32⟩
  | 69 => ⟨S32x4x256x512, .f32⟩
  | 70 => ⟨S32x4x256x512, .f32⟩
  | 71 => ⟨S32x1x4x256x512, .f32⟩
  | 72 => ⟨S32x4x256x512, .f32⟩
  | 73 => ⟨S32x4x256x512, .f32⟩
  | 74 => ⟨S32x1x4x256, .f32⟩
  | 75 => ⟨S32x4x256, .f32⟩
  | 76 => ⟨S32x4x256, .f32⟩
  | 77 => ⟨S32x4x256x1, .f32⟩
  | 78 => ⟨S32x4x256x512, .f32⟩
  | 79 => ⟨S32x4x256x512, .f32⟩
  | 80 => ⟨S32x1x4x256x512, .f32⟩
  | 81 => ⟨S32x4x256x512, .f32⟩
  | 82 => ⟨S32x4x256x512, .f32⟩
  | 83 => ⟨S32x1x4x256, .f32⟩
  | 84 => ⟨S32x4x256, .f32⟩
  | 85 => ⟨S32x4x256, .f32⟩
  | 86 => ⟨S32x4x256x1, .f32⟩
  | 87 => ⟨S32x4x256x512, .f32⟩
  | 88 => ⟨S32x4x256x512, .f32⟩
  | 89 => ⟨S32x1x4x256x512, .f32⟩
  | 90 => ⟨S32x4x256x512, .f32⟩
  | 91 => ⟨S32x4x256x512, .f32⟩
  | 92 => ⟨S32x256x4x256, .f32⟩
  | 93 => ⟨S32x256x4x512, .f32⟩
  | 94 => ⟨S32x256x1x4x256, .f32⟩
  | 95 => ⟨S32x256x4x256, .f32⟩
  | 96 => ⟨S32x256x4x256, .f32⟩
  | 97 => ⟨S32x4x64x4x256, .f32⟩
  | 98 => ⟨S32x4x64x4x512, .f32⟩
  | 99 => ⟨S32x4x64x4x256, .f32⟩
  | 100 => ⟨S_, .f32⟩
  | 101 => ⟨S_, .f32⟩
  | 102 => ⟨S32x4x64x4x256, .f32⟩
  | 103 => ⟨S32x4x1x4x256, .f32⟩
  | 104 => ⟨S32x4x4x256, .f32⟩
  | 105 => ⟨S32x4x1x4x256, .f32⟩
  | 106 => ⟨S32x4x64x4x256, .f32⟩
  | 107 => ⟨S32x4x64x4x256, .f32⟩
  | 108 => ⟨S32x4x64x4x256, .f32⟩
  | 109 => ⟨S32x4x64x4x256, .f32⟩
  | 110 => ⟨S32x4x4x256x512, .f32⟩
  | 111 => ⟨S_, .f32⟩
  | 112 => ⟨S32x4x256x512, .f32⟩
  | 113 => ⟨S32x1x4x256, .f32⟩
  | 114 => ⟨S32x4x256, .f32⟩
  | 115 => ⟨S32x4x256, .f32⟩
  | 116 => ⟨S32x4x256x1, .f32⟩
  | 117 => ⟨S32x4x256x512, .f32⟩
  | 118 => ⟨S32x4x256x512, .f32⟩
  | 119 => ⟨S32x1x4x256x512, .f32⟩
  | 120 => ⟨S32x4x256x512, .f32⟩
  | 121 => ⟨S32x4x256x512, .f32⟩
  | 122 => ⟨S32x1x4x256, .f32⟩
  | 123 => ⟨S32x4x256, .f32⟩
  | 124 => ⟨S32x4x256, .f32⟩
  | 125 => ⟨S32x4x256x1, .f32⟩
  | 126 => ⟨S32x4x256x512, .f32⟩
  | 127 => ⟨S32x4x256x512, .f32⟩
  | _ => ⟨S32x256x10240, .bf16⟩

abbrev hbmTy0_1 (i : Nat) : BufTy := match i % 128 with
  | 0 => ⟨S32x1x4x256x512, .f32⟩
  | 1 => ⟨S32x4x256x512, .f32⟩
  | 2 => ⟨S32x4x256x512, .f32⟩
  | 3 => ⟨S32x1x4x256, .f32⟩
  | 4 => ⟨S32x4x256, .f32⟩
  | 5 => ⟨S32x4x256, .f32⟩
  | 6 => ⟨S32x4x256x1, .f32⟩
  | 7 => ⟨S32x4x256x512, .f32⟩
  | 8 => ⟨S32x4x256x512, .f32⟩
  | 9 => ⟨S32x1x4x256x512, .f32⟩
  | 10 => ⟨S32x4x256x512, .f32⟩
  | 11 => ⟨S32x4x256x512, .f32⟩
  | 12 => ⟨S32x1x4x256, .f32⟩
  | 13 => ⟨S32x4x256, .f32⟩
  | 14 => ⟨S32x4x256, .f32⟩
  | 15 => ⟨S32x4x256x1, .f32⟩
  | 16 => ⟨S32x4x256x512, .f32⟩
  | 17 => ⟨S32x4x256x512, .f32⟩
  | 18 => ⟨S32x1x4x256x512, .f32⟩
  | 19 => ⟨S32x4x256x512, .f32⟩
  | 20 => ⟨S32x4x256x512, .f32⟩
  | 21 => ⟨S32x1x4x256x512, .f32⟩
  | 22 => ⟨S32x1x4x256x512, .f32⟩
  | 23 => ⟨S32x2x4x256x512, .f32⟩
  | _ => ⟨S32x256x10240, .bf16⟩

abbrev hbmTy (i : Nat) : BufTy := match i / 128 with
  | 0 => hbmTy0_0 i
  | 1 => hbmTy0_1 i
  | _ => ⟨S32x256x10240, .bf16⟩

abbrev bufTy : (tb : Table) → Fin (tcTables nBuf tb) → BufTy
  | .hbm, ⟨i, _⟩ => hbmTy i
  | _, _ => ⟨S32x256x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_call0_cst : Ref sig .tc := ⟨.hbm, 43, rfl⟩
abbrev main_call1_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call5_call0_cst : Ref sig .tc := ⟨.hbm, 100, rfl⟩
abbrev main_call5_call0_v0 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_1 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩

abbrev nD : Nat := 1
abbrev τ : Topo := Topo.v7x

variable {F : FTy → Type} [FloatOps F]
-- ==== KernelRglru.lean ====
abbrev S32x256x10240 : Shape := ⟨3, ![32, 256, 10240]⟩
abbrev S4x2048 : Shape := ⟨2, ![4, 2048]⟩
abbrev S1x2048 : Shape := ⟨2, ![1, 2048]⟩
abbrev S2x16x128x128 : Shape := ⟨4, ![2, 16, 128, 128]⟩
abbrev S2x2048 : Shape := ⟨2, ![2, 2048]⟩
abbrev S1x16x128x128 : Shape := ⟨4, ![1, 16, 128, 128]⟩
abbrev S16x128x128 : Shape := ⟨3, ![16, 128, 128]⟩
abbrev S16x128x512 : Shape := ⟨3, ![16, 128, 512]⟩
abbrev S2048 : Shape := ⟨1, ![2048]⟩
abbrev S16x1x128 : Shape := ⟨3, ![16, 1, 128]⟩
abbrev S16x1x512 : Shape := ⟨3, ![16, 1, 512]⟩
abbrev S32x256x2048 : Shape := ⟨3, ![32, 256, 2048]⟩
abbrev S32x2x2048 : Shape := ⟨3, ![32, 2, 2048]⟩
abbrev S1x256x512 : Shape := ⟨3, ![1, 256, 512]⟩
abbrev S4x512 : Shape := ⟨2, ![4, 512]⟩
abbrev S1x512 : Shape := ⟨2, ![1, 512]⟩
abbrev S4x128x512 : Shape := ⟨3, ![4, 128, 512]⟩
abbrev S4x1x512 : Shape := ⟨3, ![4, 1, 512]⟩
abbrev S2x512 : Shape := ⟨2, ![2, 512]⟩
abbrev S1x2x512 : Shape := ⟨3, ![1, 2, 512]⟩
abbrev S272x512 : Shape := ⟨2, ![272, 512]⟩
abbrev S256x512 : Shape := ⟨2, ![256, 512]⟩
abbrev S8x512 : Shape := ⟨2, ![8, 512]⟩
abbrev S256x128 : Shape := ⟨2, ![256, 128]⟩
abbrev S1x128x512 : Shape := ⟨3, ![1, 128, 512]⟩
abbrev S128x512 : Shape := ⟨2, ![128, 512]⟩
abbrev S1x1x512 : Shape := ⟨3, ![1, 1, 512]⟩
abbrev S1x128 : Shape := ⟨2, ![1, 128]⟩
abbrev S16x512 : Shape := ⟨2, ![16, 512]⟩
abbrev S1x16x512 : Shape := ⟨3, ![1, 16, 512]⟩

abbrev nBuf : Space → Nat
  | .hbm => 33
  | .vmem => 24
  | .smem => 0
  | _ => 0

abbrev bufTy : (tb : Table) → Fin (tcTables nBuf tb) → BufTy
  | .hbm, ⟨0, _⟩ => ⟨S32x256x10240, .bf16⟩
  | .hbm, ⟨1, _⟩ => ⟨S4x2048, .f32⟩
  | .hbm, ⟨2, _⟩ => ⟨S1x2048, .f32⟩
  | .hbm, ⟨3, _⟩ => ⟨S2x16x128x128, .f32⟩
  | .hbm, ⟨4, _⟩ => ⟨S2x16x128x128, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S1x16x128x128, .f32⟩
  | .hbm, ⟨9, _⟩ => ⟨S16x128x128, .f32⟩
  | .hbm, ⟨10, _⟩ => ⟨S1x16x128x128, .f32⟩
  | .hbm, ⟨11, _⟩ => ⟨S16x128x128, .f32⟩
  | .hbm, ⟨12, _⟩ => ⟨S1x16x128x128, .f32⟩
  | .hbm, ⟨13, _⟩ => ⟨S16x128x128, .f32⟩
  | .hbm, ⟨14, _⟩ => ⟨S1x16x128x128, .f32⟩
  | .hbm, ⟨15, _⟩ => ⟨S16x128x128, .f32⟩
  | .hbm, ⟨16, _⟩ => ⟨S16x128x512, .f32⟩
  | .hbm, ⟨17, _⟩ => ⟨S16x128x512, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S16x1x128, .f32⟩
  | .hbm, ⟨27, _⟩ => ⟨S16x1x128, .f32⟩
  | .hbm, ⟨28, _⟩ => ⟨S16x1x128, .f32⟩
  | .hbm, ⟨29, _⟩ => ⟨S16x1x128, .f32⟩
  | .hbm, ⟨30, _⟩ => ⟨S16x1x512, .f32⟩
  | .hbm, ⟨31, _⟩ => ⟨S32x256x2048, .bf16⟩
  | .hbm, ⟨32, _⟩ => ⟨S32x2x2048, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S4x128x512, .bf16⟩
  | .local _ .vmem, ⟨9, _⟩ => ⟨S4x128x512, .bf16⟩
  | .local _ .vmem, ⟨10, _⟩ => ⟨S4x1x512, .f32⟩
  | .local _ .vmem, ⟨11, _⟩ => ⟨S4x1x512, .f32⟩
  | .local _ .vmem, ⟨12, _⟩ => ⟨S2x512, .f32⟩
  | .local _ .vmem, ⟨13, _⟩ => ⟨S2x512, .f32⟩
  | .local _ .vmem, ⟨14, _⟩ => ⟨S1x256x512, .bf16⟩
  | .local _ .vmem, ⟨15, _⟩ => ⟨S1x256x512, .bf16⟩
  | .local _ .vmem, ⟨16, _⟩ => ⟨S1x2x512, .f32⟩
  | .local _ .vmem, ⟨17, _⟩ => ⟨S1x2x512, .f32⟩
  | .local _ .vmem, ⟨18, _⟩ => ⟨S272x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | _, _ => ⟨S32x256x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 4], ![false, false]⟩

def k0_mult1 : BitVec 32 :=
  let c0_i32 : BitVec 32 := 0#32
  let c256_i32 : BitVec 32 := 256#32
  let v8 : BitVec 32 := Scalar.muli c0_i32 c256_i32
  v8
def k0_off1 : Fin 3 → Nat :=
  let c0_3 : Index := 0#32
  let c0_i32 : BitVec 32 := 0#32
  let c256_i32 : BitVec 32 := 256#32
  let v8 : BitVec 32 := Scalar.muli c0_i32 c256_i32
  let v9 : BitVec 32 := v8
  let v10 : Index := Scalar.indexCast v9
  let c0_4 : Index := 0#32
  ![0, v10.toNat, 0]
def k0_off2 : Fin 2 → Nat :=
  let c0_i32 : BitVec 32 := 0#32
  let c256_i32 : BitVec 32 := 256#32
  let v8 : BitVec 32 := Scalar.muli c0_i32 c256_i32
  let v9 : BitVec 32 := v8
  let c8_i32 : BitVec 32 := 8#32
  let v14 : BitVec 32 := Scalar.addi v9 c8_i32
  let v15 : Index := Scalar.indexCast v14
  let c0_5 : Index := 0#32
  ![v15.toNat, 0]
def k0_mult2 : BitVec 32 :=
  let c0_i32_12 : BitVec 32 := 0#32
  let c256_i32_13 : BitVec 32 := 256#32
  let v32 : BitVec 32 := Scalar.muli c0_i32_12 c256_i32_13
  v32
def k0_off3 : Fin 2 → Nat :=
  let c0_i32_12 : BitVec 32 := 0#32
  let c256_i32_13 : BitVec 32 := 256#32
  let v32 : BitVec 32 := Scalar.muli c0_i32_12 c256_i32_13
  let v33 : BitVec 32 := v32
  let v34 : Index := Scalar.indexCast v33
  let c0_14 : Index := 0#32
  ![v34.toNat, 0]
def k0_off4 : Fin 2 → Nat :=
  let c0_i32_12 : BitVec 32 := 0#32
  let c256_i32_13 : BitVec 32 := 256#32
  let v32 : BitVec 32 := Scalar.muli c0_i32_12 c256_i32_13
  let v33 : BitVec 32 := v32
  let v78 : Index := Scalar.indexCast v33
  let c0_29 : Index := 0#32
  ![v78.toNat, 0]
def k0_off5 : Fin 2 → Nat :=
  let c0_i32_12 : BitVec 32 := 0#32
  let c256_i32_13 : BitVec 32 := 256#32
  let v32 : BitVec 32 := Scalar.muli c0_i32_12 c256_i32_13
  let v33 : BitVec 32 := v32
  let v122 : Index := Scalar.indexCast v33
  let c0_44 : Index := 0#32
  ![v122.toNat, 0]
def k0_off6 : Fin 2 → Nat :=
  let c0_i32_12 : BitVec 32 := 0#32
  let c256_i32_13 : BitVec 32 := 256#32
  let v32 : BitVec 32 := Scalar.muli c0_i32_12 c256_i32_13
  let v33 : BitVec 32 := v32
  let v209 : Index := Scalar.indexCast v33
  let c128 : Index := 128#32
  ![v209.toNat, 128]
def k0_off7 : Fin 2 → Nat :=
  let c0_i32_12 : BitVec 32 := 0#32
  let c256_i32_13 : BitVec 32 := 256#32
  let v32 : BitVec 32 := Scalar.muli c0_i32_12 c256_i32_13
  let v33 : BitVec 32 := v32
  let v296 : Index := Scalar.indexCast v33
  let c256 : Index := 256#32
  ![v296.toNat, 256]
def k0_off8 : Fin 2 → Nat :=
  let c0_i32_12 : BitVec 32 := 0#32
  let c256_i32_13 : BitVec 32 := 256#32
  let v32 : BitVec 32 := Scalar.muli c0_i32_12 c256_i32_13
  let v33 : BitVec 32 := v32
  let v383 : Index := Scalar.indexCast v33
  let c384 : Index := 384#32
  ![v383.toNat, 384]
@[reducible] def k0_t1_loop : Scf.Loop 32 :=
  let c0_i32_130 : BitVec 32 := 0#32
  let c32_i32 : BitVec 32 := 32#32
  let v432 : BitVec 32 := Scalar.addi c0_i32_130 c32_i32
  let c1_i32_131 : BitVec 32 := 1#32
  ⟨c0_i32_130, v432, c1_i32_131⟩
def k0_mult3 (k0_t1 : Fin k0_t1_loop.trips) : BitVec 32 :=
  let c0_i32_130 : BitVec 32 := 0#32
  let c1_i32_131 : BitVec 32 := 1#32
  let arg17 : BitVec 32 := Scf.iv c0_i32_130 c1_i32_131 k0_t1
  let c8_i32_142 : BitVec 32 := 8#32
  let v442 : BitVec 32 := Scalar.muli arg17 c8_i32_142
  v442
def k0_off9 (k0_t1 : Fin k0_t1_loop.trips) : Fin 2 → Nat :=
  let c0_i32_130 : BitVec 32 := 0#32
  let c1_i32_131 : BitVec 32 := 1#32
  let arg17 : BitVec 32 := Scf.iv c0_i32_130 c1_i32_131 k0_t1
  let c8_i32_142 : BitVec 32 := 8#32
  let v442 : BitVec 32 := Scalar.muli arg17 c8_i32_142
  let v443 : BitVec 32 := v442
  let v444 : Index := Scalar.indexCast v443
  let c0_143 : Index := 0#32
  ![v444.toNat, 0]
@[reducible] def k0_t2_loop : Scf.Loop 32 :=
  let c0_i32_133 : BitVec 32 := 0#32
  let c16_i32 : BitVec 32 := 16#32
  let v434 : BitVec 32 := Scalar.addi c0_i32_133 c16_i32
  let c1_i32_134 : BitVec 32 := 1#32
  ⟨c0_i32_133, v434, c1_i32_134⟩
def k0_mult4 (k0_t2 : Fin k0_t2_loop.trips) : BitVec 32 :=
  let c15_i32 : BitVec 32 := 15#32
  let c0_i32_133 : BitVec 32 := 0#32
  let c1_i32_134 : BitVec 32 := 1#32
  let arg17 : BitVec 32 := Scf.iv c0_i32_133 c1_i32_134 k0_t2
  let v442 : BitVec 32 := Scalar.subi c15_i32 arg17
  let c16_i32_142 : BitVec 32 := 16#32
  let v443 : BitVec 32 := Scalar.muli v442 c16_i32_142
  v443
def k0_off10 (k0_t2 : Fin k0_t2_loop.trips) : Fin 2 → Nat :=
  let c15_i32 : BitVec 32 := 15#32
  let c0_i32_133 : BitVec 32 := 0#32
  let c1_i32_134 : BitVec 32 := 1#32
  let arg17 : BitVec 32 := Scf.iv c0_i32_133 c1_i32_134 k0_t2
  let v442 : BitVec 32 := Scalar.subi c15_i32 arg17
  let c16_i32_142 : BitVec 32 := 16#32
  let v443 : BitVec 32 := Scalar.muli v442 c16_i32_142
  let v444 : BitVec 32 := v443
  let c8_i32_143 : BitVec 32 := 8#32
  let v445 : BitVec 32 := Scalar.addi v444 c8_i32_143
  let v446 : Index := Scalar.indexCast v445
  let c0_144 : Index := 0#32
  ![v446.toNat, 0]
def k0_off11 (k0_t2 : Fin k0_t2_loop.trips) : Fin 2 → Nat :=
  let c15_i32 : BitVec 32 := 15#32
  let c0_i32_133 : BitVec 32 := 0#32
  let c1_i32_134 : BitVec 32 := 1#32
  let arg17 : BitVec 32 := Scf.iv c0_i32_133 c1_i32_134 k0_t2
  let v442 : BitVec 32 := Scalar.subi c15_i32 arg17
  let c16_i32_142 : BitVec 32 := 16#32
  let v443 : BitVec 32 := Scalar.muli v442 c16_i32_142
  let v444 : BitVec 32 := v443
  let v481 : Index := Scalar.indexCast v444
  let c0_152 : Index := 0#32
  ![v481.toNat, 0]
def k0_off12 (k0_t2 : Fin k0_t2_loop.trips) : Fin 3 → Nat :=
  let c0_167 : Index := 0#32
  let c15_i32 : BitVec 32 := 15#32
  let c0_i32_133 : BitVec 32 := 0#32
  let c1_i32_134 : BitVec 32 := 1#32
  let arg17 : BitVec 32 := Scf.iv c0_i32_133 c1_i32_134 k0_t2
  let v442 : BitVec 32 := Scalar.subi c15_i32 arg17
  let c16_i32_142 : BitVec 32 := 16#32
  let v443 : BitVec 32 := Scalar.muli v442 c16_i32_142
  let v444 : BitVec 32 := v443
  let v531 : Index := Scalar.indexCast v444
  let c0_168 : Index := 0#32
  ![0, v531.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelRglruIdeal.lean ====
variable {F : FTy → Type} [FloatOps F] [Named F]
def κ : String → Option EReal := fun
  | "log2e_times_8" => some ((8 * (Real.log 2)⁻¹ : ℝ) : EReal)
  | _ => none
-- ==== ReferenceRglruIdeal.lean ====
abbrev S32x256x10240 : Shape := ⟨3, ![32, 256, 10240]⟩
abbrev S4x2048 : Shape := ⟨2, ![4, 2048]⟩
abbrev S1x2048 : Shape := ⟨2, ![1, 2048]⟩
abbrev S2x16x128x128 : Shape := ⟨4, ![2, 16, 128, 128]⟩
abbrev S2x2048 : Shape := ⟨2, ![2, 2048]⟩
abbrev S32x256x2048 : Shape := ⟨3, ![32, 256, 2048]⟩
abbrev S_ : Shape := ⟨0, ![]⟩
abbrev S32x259x2048 : Shape := ⟨3, ![32, 259, 2048]⟩
abbrev S2048 : Shape := ⟨1, ![2048]⟩
abbrev S1x1x2048 : Shape := ⟨3, ![1, 1, 2048]⟩
abbrev S32x256x16x128 : Shape := ⟨4, ![32, 256, 16, 128]⟩
abbrev S16x2x128x32x256 : Shape := ⟨5, ![16, 2, 128, 32, 256]⟩
abbrev S32x256x2x16x128 : Shape := ⟨5, ![32, 256, 2, 16, 128]⟩
abbrev S32x256x2x2048 : Shape := ⟨4, ![32, 256, 2, 2048]⟩
abbrev S1x1x2x2048 : Shape := ⟨4, ![1, 1, 2, 2048]⟩
abbrev S32x256x1x2048 : Shape := ⟨4, ![32, 256, 1, 2048]⟩
abbrev S1x32x256x2048 : Shape := ⟨4, ![1, 32, 256, 2048]⟩
abbrev S2x32x256x2048 : Shape := ⟨4, ![2, 32, 256, 2048]⟩
abbrev S2x32x2048 : Shape := ⟨3, ![2, 32, 2048]⟩
abbrev S2x32x1x2048 : Shape := ⟨4, ![2, 32, 1, 2048]⟩
abbrev S32x2x2048 : Shape := ⟨3, ![32, 2, 2048]⟩

abbrev nBuf : Space → Nat
  | .hbm => 203
  | .vmem => 0
  | .smem => 0
  | _ => 0

abbrev hbmTy0_0 (i : Nat) : BufTy := match i % 128 with
  | 0 => ⟨S32x256x10240, .bf16⟩
  | 1 => ⟨S4x2048, .f32⟩
  | 2 => ⟨S1x2048, .f32⟩
  | 3 => ⟨S2x16x128x128, .f32⟩
  | 4 => ⟨S2x16x128x128, .f32⟩
  | 5 => ⟨S2x2048, .f32⟩
  | 6 => ⟨S2x2048, .f32⟩
  | 7 => ⟨S2x2048, .f32⟩
  | 8 => ⟨S32x256x2048, .bf16⟩
  | 9 => ⟨S32x256x2048, .f32⟩
  | 10 => ⟨S_, .i32⟩
  | 11 => ⟨S_, .f32⟩
  | 12 => ⟨S32x259x2048, .f32⟩
  | 13 => ⟨S32x256x2048, .f32⟩
  | 14 => ⟨S1x2048, .f32⟩
  | 15 => ⟨S2048, .f32⟩
  | 16 => ⟨S1x1x2048, .f32⟩
  | 17 => ⟨S32x256x2048, .f32⟩
  | 18 => ⟨S32x256x2048, .f32⟩
  | 19 => ⟨S32x256x2048, .f32⟩
  | 20 => ⟨S1x2048, .f32⟩
  | 21 => ⟨S2048, .f32⟩
  | 22 => ⟨S1x1x2048, .f32⟩
  | 23 => ⟨S32x256x2048, .f32⟩
  | 24 => ⟨S32x256x2048, .f32⟩
  | 25 => ⟨S32x256x2048, .f32⟩
  | 26 => ⟨S32x256x2048, .f32⟩
  | 27 => ⟨S1x2048, .f32⟩
  | 28 => ⟨S2048, .f32⟩
  | 29 => ⟨S1x1x2048, .f32⟩
  | 30 => ⟨S32x256x2048, .f32⟩
  | 31 => ⟨S32x256x2048, .f32⟩
  | 32 => ⟨S32x256x2048, .f32⟩
  | 33 => ⟨S32x256x2048, .f32⟩
  | 34 => ⟨S1x2048, .f32⟩
  | 35 => ⟨S2048, .f32⟩
  | 36 => ⟨S1x1x2048, .f32⟩
  | 37 => ⟨S32x256x2048, .f32⟩
  | 38 => ⟨S32x256x2048, .f32⟩
  | 39 => ⟨S32x256x2048, .f32⟩
  | 40 => ⟨S1x1x2048, .f32⟩
  | 41 => ⟨S32x256x2048, .f32⟩
  | 42 => ⟨S32x256x2048, .f32⟩
  | 43 => ⟨S32x256x16x128, .f32⟩
  | 44 => ⟨S16x2x128x32x256, .f32⟩
  | 45 => ⟨S32x256x2x16x128, .f32⟩
  | 46 => ⟨S32x256x2x2048, .f32⟩
  | 47 => ⟨S1x1x2x2048, .f32⟩
  | 48 => ⟨S32x256x2x2048, .f32⟩
  | 49 => ⟨S32x256x2x2048, .f32⟩
  | 50 => ⟨S32x256x2x2048, .f32⟩
  | 51 => ⟨S32x256x2x2048, .f32⟩
  | 52 => ⟨S_, .f32⟩
  | 53 => ⟨S32x256x2x2048, .f32⟩
  | 54 => ⟨S32x256x2x2048, .f32⟩
  | 55 => ⟨S_, .f32⟩
  | 56 => ⟨S32x256x2x2048, .f32⟩
  | 57 => ⟨S32x256x2x2048, .f32⟩
  | 58 => ⟨S16x2x128x32x256, .f32⟩
  | 59 => ⟨S32x256x2x16x128, .f32⟩
  | 60 => ⟨S32x256x2x2048, .f32⟩
  | 61 => ⟨S1x1x2x2048, .f32⟩
  | 62 => ⟨S32x256x2x2048, .f32⟩
  | 63 => ⟨S32x256x2x2048, .f32⟩
  | 64 => ⟨S32x256x2x2048, .f32⟩
  | 65 => ⟨S32x256x2x2048, .f32⟩
  | 66 => ⟨S_, .f32⟩
  | 67 => ⟨S32x256x2x2048, .f32⟩
  | 68 => ⟨S32x256x2x2048, .f32⟩
  | 69 => ⟨S_, .f32⟩
  | 70 => ⟨S32x256x2x2048, .f32⟩
  | 71 => ⟨S32x256x2x2048, .f32⟩
  | 72 => ⟨S_, .f32⟩
  | 73 => ⟨S32x256x2x2048, .f32⟩
  | 74 => ⟨S32x256x2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S2x2048, .f32⟩
  | 81 => ⟨S2x2048, .i1⟩
  | 82 => ⟨S2x2048, .f32⟩
  | 83 => ⟨S2x2048, .f32⟩
  | 84 => ⟨S2x2048, .f32⟩
  | 85 => ⟨S2x2048, .f32⟩
  | 86 => ⟨S2x2048, .f32⟩
  | 87 => ⟨S2x2048, .f32⟩
  | 88 => ⟨S2x2048, .f32⟩
  | 89 => ⟨S2x2048, .f32⟩
  | 90 => ⟨S2x2048, .f32⟩
  | 91 => ⟨S1x1x2x2048, .f32⟩
  | 92 => ⟨S32x256x2x2048, .f32⟩
  | 93 => ⟨S32x256x2x2048, .f32⟩
  | 94 => ⟨S32x256x2x2048, .f32⟩
  | 95 => ⟨S_, .f32⟩
  | 96 => ⟨S32x256x2x2048, .f32⟩
  | 97 => ⟨S32x256x2x2048, .f32⟩
  | 98 => ⟨S32x256x2x2048, .f32⟩
  | 99 => ⟨S32x256x2x2048, .f32⟩
  | 100 => ⟨S32x256x2x2048, .f32⟩
  | 101 => ⟨S32x256x2x2048, .f32⟩
  | 102 => ⟨S32x256x1x2048, .f32⟩
  | 103 => ⟨S32x256x2x2048, .f32⟩
  | 104 => ⟨S32x256x2x2048, .f32⟩
  | 105 => ⟨S32x256x1x2048, .f32⟩
  | 106 => ⟨S32x256x2048, .f32⟩
  | 107 => ⟨S32x256x1x2048, .f32⟩
  | 108 => ⟨S32x256x2048, .f32⟩
  | 109 => ⟨S32x256x2048, .f32⟩
  | 110 => ⟨S1x32x256x2048, .f32⟩
  | 111 => ⟨S1x32x256x2048, .f32⟩
  | 112 => ⟨S2x32x256x2048, .f32⟩
  | 113 => ⟨S32x256x1x2048, .f32⟩
  | 114 => ⟨S32x256x2048, .f32⟩
  | 115 => ⟨S32x256x1x2048, .f32⟩
  | 116 => ⟨S32x256x2048, .f32⟩
  | 117 => ⟨S32x256x2048, .f32⟩
  | 118 => ⟨S1x32x256x2048, .f32⟩
  | 119 => ⟨S1x32x256x2048, .f32⟩
  | 120 => ⟨S2x32x256x2048, .f32⟩
  | 121 => ⟨S_, .f32⟩
  | 122 => ⟨S2x32x2048, .f32⟩
  | 123 => ⟨S_, .i32⟩
  | 124 => ⟨S_, .i32⟩
  | 125 => ⟨S2x32x256x2048, .f32⟩
  | 126 => ⟨S2x32x256x2048, .f32⟩
  | 127 => ⟨S_, .i32⟩
  | _ => ⟨S32x256x10240, .bf16⟩

abbrev hbmTy0_1 (i : Nat) : BufTy := match i % 128 with
  | 0 => ⟨S_, .i32⟩
  | 1 => ⟨S2x32x2048, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S2x32x1x2048, .f32⟩
  | 37 => ⟨S2x32x2048, .f32⟩
  | 38 => ⟨S2x32x2048, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S2x32x1x2048, .f32⟩
  | 70 => ⟨S2x32x2048, .f32⟩
  | 71 => ⟨S2x32x2048, .f32⟩
  | 72 => ⟨S_, .i32⟩
  | 73 => ⟨S_, .i32⟩
  | 74 => ⟨S32x2x2048, .f32⟩
  | _ => ⟨S32x256x10240, .bf16⟩

abbrev hbmTy (i : Nat) : BufTy := match i / 128 with
  | 0 => hbmTy0_0 i
  | 1 => hbmTy0_1 i
  | _ => ⟨S32x256x10240, .bf16⟩

abbrev bufTy : (tb : Table) → Fin (tcTables nBuf tb) → BufTy
  | .hbm, ⟨i, _⟩ => hbmTy i
  | _, _ => ⟨S32x256x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_5 : Ref sig .tc := ⟨.hbm, 121, rfl⟩
abbrev main_v90 : Ref sig .tc := ⟨.hbm, 122, rfl⟩
abbrev main_c_6 : Ref sig .tc := ⟨.hbm, 123, rfl⟩
abbrev main_c_7 : Ref sig .tc := ⟨.hbm, 124, rfl⟩
abbrev main_v91_0 : Ref sig .tc := ⟨.hbm, 125, rfl⟩
abbrev main_v91_1 : Ref sig .tc := ⟨.hbm, 126, rfl⟩
abbrev main_v91_2 : Ref sig .tc := ⟨.hbm, 127, rfl⟩
abbrev main_v91_3 : Ref sig .tc := ⟨.hbm, 128, rfl⟩
abbrev main_v91_4 : Ref sig .tc := ⟨.hbm, 129, rfl⟩
abbrev main_while0c_c_12 : Ref sig .tc := ⟨.hbm, 130, rfl⟩
abbrev main_while0c_v93 : Ref sig .tc := ⟨.hbm, 131, rfl⟩
abbrev main_while0b_c_12 : Ref sig .tc := ⟨.hbm, 132, rfl⟩
abbrev main_while0b_v93 : Ref sig .tc := ⟨.hbm, 133, rfl⟩
abbrev main_while0b_v94 : Ref sig .tc := ⟨.hbm, 134, rfl⟩
abbrev main_while0b_c_13 : Ref sig .tc := ⟨.hbm, 135, rfl⟩
abbrev main_while0b_c_14 : Ref sig .tc := ⟨.hbm, 136, rfl⟩
abbrev main_while0b_v95 : Ref sig .tc := ⟨.hbm, 137, rfl⟩
abbrev main_while0b_c_15 : Ref sig .tc := ⟨.hbm, 138, rfl⟩
abbrev main_while0b_c_16 : Ref sig .tc := ⟨.hbm, 139, rfl⟩
abbrev main_while0b_v96 : Ref sig .tc := ⟨.hbm, 140, rfl⟩
abbrev main_while0b_c_17 : Ref sig .tc := ⟨.hbm, 141, rfl⟩
abbrev main_while0b_v97 : Ref sig .tc := ⟨.hbm, 142, rfl⟩
abbrev main_while0b_c_18 : Ref sig .tc := ⟨.hbm, 143, rfl⟩
abbrev main_while0b_c_19 : Ref sig .tc := ⟨.hbm, 144, rfl⟩
abbrev main_while0b_v98 : Ref sig .tc := ⟨.hbm, 145, rfl⟩
abbrev main_while0b_c_20 : Ref sig .tc := ⟨.hbm, 146, rfl⟩
abbrev main_while0b_c_21 : Ref sig .tc := ⟨.hbm, 147, rfl⟩
abbrev main_while0b_v99 : Ref sig .tc := ⟨.hbm, 148, rfl⟩
abbrev main_while0b_c_22 : Ref sig .tc := ⟨.hbm, 149, rfl⟩
abbrev main_while0b_v100 : Ref sig .tc := ⟨.hbm, 150, rfl⟩
abbrev main_while0b_c_23 : Ref sig .tc := ⟨.hbm, 151, rfl⟩
abbrev main_while0b_v101 : Ref sig .tc := ⟨.hbm, 152, rfl⟩
abbrev main_while0b_c_24 : Ref sig .tc := ⟨.hbm, 153, rfl⟩
abbrev main_while0b_v102 : Ref sig .tc := ⟨.hbm, 154, rfl⟩
abbrev main_while0b_v103 : Ref sig .tc := ⟨.hbm, 155, rfl⟩
abbrev main_while0b_c_25 : Ref sig .tc := ⟨.hbm, 156, rfl⟩
abbrev main_while0b_c_26 : Ref sig .tc := ⟨.hbm, 157, rfl⟩
abbrev main_while0b_v104 : Ref sig .tc := ⟨.hbm, 158, rfl⟩
abbrev main_while0b_c_27 : Ref sig .tc := ⟨.hbm, 159, rfl⟩
abbrev main_while0b_c_28 : Ref sig .tc := ⟨.hbm, 160, rfl⟩
abbrev main_while0b_v105 : Ref sig .tc := ⟨.hbm, 161, rfl⟩
abbrev main_while0b_c_29 : Ref sig .tc := ⟨.hbm, 162, rfl⟩
abbrev main_while0b_v106 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_v110 : Ref sig .tc := ⟨.hbm, 167, rfl⟩
abbrev main_while0b_c_30 : Ref sig .tc := ⟨.hbm, 168, rfl⟩
abbrev main_while0b_c_31 : Ref sig .tc := ⟨.hbm, 169, rfl⟩
abbrev main_while0b_v111 : Ref sig .tc := ⟨.hbm, 170, rfl⟩
abbrev main_while0b_c_32 : Ref sig .tc := ⟨.hbm, 171, rfl⟩
abbrev main_while0b_c_33 : Ref sig .tc := ⟨.hbm, 172, rfl⟩
abbrev main_while0b_v112 : Ref sig .tc := ⟨.hbm, 173, rfl⟩
abbrev main_while0b_c_34 : Ref sig .tc := ⟨.hbm, 174, rfl⟩
abbrev main_while0b_v113 : Ref sig .tc := ⟨.hbm, 175, rfl⟩
abbrev main_while0b_c_35 : Ref sig .tc := ⟨.hbm, 176, rfl⟩
abbrev main_while0b_c_36 : Ref sig .tc := ⟨.hbm, 177, rfl⟩
abbrev main_while0b_v114 : Ref sig .tc := ⟨.hbm, 178, rfl⟩
abbrev main_while0b_c_37 : Ref sig .tc := ⟨.hbm, 179, rfl⟩
abbrev main_while0b_c_38 : Ref sig .tc := ⟨.hbm, 180, rfl⟩
abbrev main_while0b_v115 : Ref sig .tc := ⟨.hbm, 181, rfl⟩
abbrev main_while0b_c_39 : Ref sig .tc := ⟨.hbm, 182, rfl⟩
abbrev main_while0b_v116 : Ref sig .tc := ⟨.hbm, 183, rfl⟩
abbrev main_while0b_c_40 : Ref sig .tc := ⟨.hbm, 184, rfl⟩
abbrev main_while0b_v117 : Ref sig .tc := ⟨.hbm, 185, rfl⟩
abbrev main_while0b_c_41 : Ref sig .tc := ⟨.hbm, 186, rfl⟩
abbrev main_while0b_v118 : Ref sig .tc := ⟨.hbm, 187, rfl⟩
abbrev main_while0b_v119 : Ref sig .tc := ⟨.hbm, 188, rfl⟩
abbrev main_while0b_c_42 : Ref sig .tc := ⟨.hbm, 189, rfl⟩
abbrev main_while0b_c_43 : Ref sig .tc := ⟨.hbm, 190, rfl⟩
abbrev main_while0b_v120 : Ref sig .tc := ⟨.hbm, 191, rfl⟩
abbrev main_while0b_c_44 : Ref sig .tc := ⟨.hbm, 192, rfl⟩
abbrev main_while0b_c_45 : Ref sig .tc := ⟨.hbm, 193, rfl⟩
abbrev main_while0b_v121 : Ref sig .tc := ⟨.hbm, 194, rfl⟩
abbrev main_while0b_c_46 : Ref sig .tc := ⟨.hbm, 195, rfl⟩
abbrev main_while0b_v122 : Ref sig .tc := ⟨.hbm, 196, rfl⟩
abbrev main_while0b_v123 : Ref sig .tc := ⟨.hbm, 197, rfl⟩
abbrev main_while0b_v124 : Ref sig .tc := ⟨.hbm, 198, rfl⟩
abbrev main_while0b_v125 : Ref sig .tc := ⟨.hbm, 199, rfl⟩
abbrev main_while0b_c_47 : Ref sig .tc := ⟨.hbm, 200, rfl⟩
abbrev main_while0b_v126 : Ref sig .tc := ⟨.hbm, 201, rfl⟩
abbrev main_v92 : Ref sig .tc := ⟨.hbm, 202, rfl⟩

abbrev nD : Nat := 1
abbrev τ : Topo := Topo.v7x

variable {F : FTy → Type} [FloatOps F]

abbrev main_while0_count : Scf.Loop 32 := ⟨0#32, 256#32, 1#32⟩
-- ==== Proof.FfnRow.lean ====
module

public import Idealize.ShloMosaic.Lib.Pipeline.ValueKit
public import Idealize.ShloMosaic.Lib.Pointwise

@[expose] public section

set_option maxRecDepth 16384

noncomputable section

/-! The feed-forward part of one row, over the extended reals: the norm with its modulation, the gated
    products, the product with the down weights, the norm of the result and the gated sum. -/

namespace Cert.Row

open Idealize.ShloMosaic

/-- One over the root of the mean of the squares of a row, with the layer's epsilon. -/
def invRms (x : Fin 2048 → EReal) : EReal :=
  Ideal.rsqrt (Ideal.div (∑ k, x k * x k) (Ideal.ofBits FTy.f32 0x45000000#32) + Ideal.ofBits FTy.f32 0x358637BD#32)

/-- The normalised row, scaled by the gains, then modulated by a scale and a shift. -/
def modNorm (x g sh sc : Fin 2048 → EReal) (k : Fin 2048) : EReal :=
  x k * invRms x * g k * (1 + sc k) + sh k

/-- A row times one column of a matrix. -/
def col (h : Fin 2048 → EReal) (w : Fin 2048 → EReal) : EReal := ∑ k, h k * w k

/-- `z` times the logistic function of `z`, written with the hyperbolic tangent of half of `z`. -/
def siluTanh (z : EReal) : EReal :=
  Ideal.ofBits FTy.f32 0x3F000000#32 * z
    + (Ideal.ofBits FTy.f32 0x3F000000#32 * z) * Ideal.tanh (Ideal.ofBits FTy.f32 0x3F000000#32 * z)

/-- `z` times the logistic function of `z`, written with the exponential. -/
def siluExp (z : EReal) : EReal :=
  z * Ideal.div (Ideal.ofBits FTy.f32 0x3F800000#32) (Ideal.ofBits FTy.f32 0x3F800000#32 + Ideal.exp (-z))

/-- The gated product of a row with a column of the gate weights and a column of the up weights. -/
def gated (act : EReal → EReal) (h wg wu : Fin 2048 → EReal) : EReal := act (col h wg) * col h wu

/-- The row that leaves the layer: the row that came in, plus the gate times the normalised row `o`. -/
def residual (x gate g o : Fin 2048 → EReal) (b : Fin 2048) : EReal :=
  x b + gate b * (o b * invRms o * g b)

/-- One row through the whole feed-forward part: the modulated norm, the gated products summed over the 5632
    hidden units, and the gated normalised sum. -/
def ffnRow (act : EReal → EReal) (x sh sc gate g0 g1 : Fin 2048 → EReal) (wg wu : Fin 2048 → Fin 5632 → EReal)
    (wd : Fin 5632 → Fin 2048 → EReal) (b : Fin 2048) : EReal :=
  residual x gate g1 (fun k => ∑ f : Fin 5632,
    gated act (modNorm x g0 sh sc) (fun i => wg i f) (fun i => wu i f) * wd f k) b

end Cert.Row

end
-- ==== Proof.FfnP.lean ====
module

public import proofs.«01_k».proof.Proof.Gen.KernelFfnIdeal.Value
public import proofs.«01_k».proof.Proof.FfnRow

@[expose] public section

set_option maxRecDepth 16384

noncomputable section

/-! What each stored value of the feed-forward kernel is, one element at a time. -/

namespace Cert.KernelFfnIdeal.Ffn

open Cert.KernelFfnIdeal Cert.KernelFfnIdeal.Gen Cert.KernelFfnIdeal.Value Idealize.ShloMosaic Idealize.ShloMosaic.TcCoe Idealize.SL.Sem
open Cert.Row

/-- The part of the down product that one block of 512 hidden columns gives, at row `h` and output column `b`. -/
def downPart (h : Fin 2048 → EReal) (wg wu : Vec Ideal S2048x512 .bf16) (wd : Vec Ideal S512x2048 .bf16) (b : Fin 2048) : EReal :=
  ∑ f : Fin 512, gated siluTanh h (fun k => wg (ix2 k f)) (fun k => wu (ix2 k f)) * wd (ix2 f b)

theorem hidden_lower (x : Vec Ideal S256x2048 .f32) (g : Vec Ideal S1x2048 .f32) (sh sc : Vec Ideal S1x1x2048 .f32) (a : Fin 256) (b : Fin 2048) :
    k0_pay5 (F := Ideal) x g sh sc (ix2 a b)
      = modNorm (fun k => x (ix2 a k)) (fun k => g (ix2 0 k)) (fun k => sh (ix3 0 0 k)) (fun k => sc (ix3 0 0 k)) b := by
  pointwise [k0_pay5]
  rfl

theorem hidden_upper (x : Vec Ideal S256x2048 .f32) (g : Vec Ideal S1x2048 .f32) (sh sc : Vec Ideal S1x1x2048 .f32) (a : Fin 256) (b : Fin 2048) :
    k0_pay1 (F := Ideal) (k0_pay9 (F := Ideal) x g sh sc) (ix2 a b)
      = modNorm (fun k => x (ix2 a k)) (fun k => g (ix2 0 k)) (fun k => sh (ix3 0 0 k)) (fun k => sc (ix3 0 0 k)) b := by
  pointwise [k0_pay1, k0_pay9]
  rfl

theorem first_upper (h : Vec Ideal S256x2048 .bf16) (wg wu : Vec Ideal S2048x512 .bf16) (wd : Vec Ideal S512x2048 .bf16) (a : Fin 256) (b : Fin 2048) :
    k0_pay2 (F := Ideal) h wg wu wd (ix2 a b) = downPart (fun k => h (ix2 a k)) wg wu wd b := by
  pointwise [k0_pay2]
  rfl

theorem first_lower (h : Vec Ideal S256x2048 .bf16) (wg wu : Vec Ideal S2048x512 .bf16) (wd : Vec Ideal S512x2048 .bf16) (a : Fin 256) (b : Fin 2048) :
    k0_pay8 (F := Ideal) h (k0_pay6 (F := Ideal) h wg) (k0_pay7 (F := Ideal) h wg) wu wd (ix2 a b)
      = downPart (fun k => h (ix2 a k)) wg wu wd b := by
  pointwise [k0_pay8, k0_pay7, k0_pay6]
  rfl

theorem added (acc : Vec Ideal S512x2048 .f32) (h : Vec Ideal S512x2048 .bf16) (wg wu : Vec Ideal S2048x512 .bf16) (wd : Vec Ideal S512x2048 .bf16) (a : Fin 512) (b : Fin 2048) :
    k0_pay3 (F := Ideal) acc h wg wu wd (ix2 a b) = acc (ix2 a b) + downPart (fun k => h (ix2 a k)) wg wu wd b := by
  pointwise [k0_pay3]
  rfl

theorem last_upper (x acc : Vec Ideal S256x2048 .f32) (gate : Vec Ideal S1x1x2048 .f32) (g : Vec Ideal S1x2048 .f32) (h : Vec Ideal S256x2048 .bf16) (wg wu : Vec Ideal S2048x512 .bf16) (wd : Vec Ideal S512x2048 .bf16) (a : Fin 256) (b : Fin 2048) :
    k0_pay4 (F := Ideal) (k0_pay10 gate) (k0_pay14 x) g (k0_pay15 acc h wg wu wd) (ix2 a b)
      = residual (fun k => x (ix2 a k)) (fun k => gate (ix3 0 0 k)) (fun k => g (ix2 0 k))
          (fun k => acc (ix2 a k) + downPart (fun k => h (ix2 a k)) wg wu wd k) b := by
  pointwise [k0_pay4, k0_pay10, k0_pay14, k0_pay15]
  rfl

theorem last_lower (x acc : Vec Ideal S256x2048 .f32) (gate : Vec Ideal S1x1x2048 .f32) (g : Vec Ideal S1x2048 .f32) (h : Vec Ideal S256x2048 .bf16) (wg wu : Vec Ideal S2048x512 .bf16) (wd : Vec Ideal S512x2048 .bf16) (a : Fin 256) (b : Fin 2048) :
    k0_pay13 (F := Ideal) (k0_pay10 gate) (k0_pay11 x) (k0_pay12 acc h wg wu wd g) (ix2 a b)
      = residual (fun k => x (ix2 a k)) (fun k => gate (ix3 0 0 k)) (fun k => g (ix2 0 k))
          (fun k => acc (ix2 a k) + downPart (fun k => h (ix2 a k)) wg wu wd k) b := by
  pointwise [k0_pay13, k0_pay10, k0_pay11, k0_pay12]
  rfl

end Cert.KernelFfnIdeal.Ffn

end
-- ==== Proof.FfnA.lean ====
module

public import proofs.«01_k».proof.Proof.FfnP
public import Idealize.ShloMosaic.Lib.Pipeline.ReadBack

@[expose] public section

set_option maxRecDepth 16384

noncomputable section

/-! What the feed-forward kernel's buffers hold after a grid point, in terms of the point's blocks. -/

namespace Cert.KernelFfnIdeal.Ffn

open Cert.KernelFfnIdeal Cert.KernelFfnIdeal.Gen Cert.KernelFfnIdeal.Value Idealize.ShloMosaic Idealize.ShloMosaic.TcCoe Idealize.SL.Sem
open Cert.Row
open Idealize.ShloMosaic.Pipeline (Dat Window)

variable (m : (ℓ : Loc nD τ sig) → Buf (Elt Ideal) ℓ)

/-- Row `a` of the hidden block at a point, made from the point's blocks of `x`, the modulation and the gains. -/
def hiddenAt (c : Dev nD) (t : Fin cfg0.N) (a : Fin 512) : Fin 2048 → EReal :=
  modNorm (fun k => iblk m c 0 t (ix2 a k)) (fun k => iblk m c 2 t (ix2 (0 : Fin 2) k))
    (fun k => iblk m c 1 t (ix3 (0 : Fin 1) (3 : Fin 6) k)) (fun k => iblk m c 1 t (ix3 (0 : Fin 1) (4 : Fin 6) k))

theorem stored_upper (c : Dev nD) (t : Fin cfg0.N) (a : Fin 512) (b : Fin 2048) (p : Fin 256) (ha : a.val = 256 + p.val) :
    k0_pay1 (k0_pay9 (View.ld (iblk m c 0 t) (Rect.unit ![256, 0] ![256, 2048] inb_S512x2048_S256x2048_256_0))
      (View.ld (iblk m c 2 t) (Rect.unit ![0, 0] ![1, 2048] inb_S2x2048_S1x2048_0_0))
      (View.ld (iblk m c 1 t) (Rect.unit ![0, 3, 0] ![1, 1, 2048] inb_S1x6x2048_S1x1x2048_0_3_0))
      (View.ld (iblk m c 1 t) (Rect.unit ![0, 4, 0] ![1, 1, 2048] inb_S1x6x2048_S1x1x2048_0_4_0))) (ix2 p b)
      = hiddenAt m c t a b := by
  have e : a = ⟨256 + p.val, by omega⟩ := Fin.ext ha
  rw [hidden_upper, e]
  unfold hiddenAt
  pointwise

theorem stored_lower (c : Dev nD) (t : Fin cfg0.N) (a : Fin 512) (b : Fin 2048) (p : Fin 256) (ha : a.val = p.val) :
    k0_pay5 (View.ld (iblk m c 0 t) (Rect.unit ![0, 0] ![256, 2048] inb_S512x2048_S256x2048_0_0))
      (View.ld (iblk m c 2 t) (Rect.unit ![0, 0] ![1, 2048] inb_S2x2048_S1x2048_0_0))
      (View.ld (iblk m c 1 t) (Rect.unit ![0, 3, 0] ![1, 1, 2048] inb_S1x6x2048_S1x1x2048_0_3_0))
      (View.ld (iblk m c 1 t) (Rect.unit ![0, 4, 0] ![1, 1, 2048] inb_S1x6x2048_S1x1x2048_0_4_0)) (ix2 p b)
      = hiddenAt m c t a b := by
  have e : a = ⟨p.val, by omega⟩ := Fin.ext ha
  rw [hidden_lower, e]
  unfold hiddenAt
  pointwise

theorem caseA_hidden (c : Dev nD) (t : Fin cfg0.N) (h0 : t.val % 11 = 0) (a : Fin 512) (b : Fin 2048) :
    (outsAt0 m c t.val t.isLt).2.1 (ix2 a b) = hiddenAt m c t a b := by
  rw [outsAt0_A m c t h0 (by omega) (by omega)]
  frame_out
  canon_tiles x h
  · idx_vars x
    obtain rfl : b = x1 := Fin.ext h1
    exact stored_upper m c t a b x0 h0
  · idx_vars x
    obtain rfl : b = x1 := Fin.ext h1
    exact stored_lower m c t a b x0 h0

theorem caseB_hidden (c : Dev nD) (t : Fin cfg0.N) (h0 : ¬t.val % 11 = 0) (h1 : t.val % 11 ≠ 10) (j : S512x2048.Idx) :
    (outsAt0 m c t.val t.isLt).2.1 j = (outsAt0 m c (t.val - 1) (Nat.lt_of_le_of_lt (Nat.sub_le _ _) t.isLt)).2.1 j := by
  rw [outsAt0_B m c t h0 (by omega) h1]
  dsimp only
  unfold sout0_B_0
  rfl

theorem caseB_acc (c : Dev nD) (t : Fin cfg0.N) (h0 : ¬t.val % 11 = 0) (h1 : t.val % 11 ≠ 10) (a : Fin 512) (b : Fin 2048) :
    (outsAt0 m c t.val t.isLt).2.2 (ix2 a b) = (outsAt0 m c (t.val - 1) (Nat.lt_of_le_of_lt (Nat.sub_le _ _) t.isLt)).2.2 (ix2 a b)
      + downPart (fun k => (outsAt0 m c (t.val - 1) (Nat.lt_of_le_of_lt (Nat.sub_le _ _) t.isLt)).2.1 (ix2 a k)) (iblk m c 3 t) (iblk m c 4 t) (iblk m c 5 t) b := by
  rw [outsAt0_B m c t h0 (by omega) h1]
  frame_out
  simp only [read_unread_whole]
  exact added _ _ _ _ _ a b

theorem caseA_acc (c : Dev nD) (t : Fin cfg0.N) (h0 : t.val % 11 = 0) (a : Fin 512) (b : Fin 2048) :
    (outsAt0 m c t.val t.isLt).2.2 (ix2 a b) = downPart (hiddenAt m c t a) (iblk m c 3 t) (iblk m c 4 t) (iblk m c 5 t) b := by
  rw [outsAt0_A m c t h0 (by omega) (by omega)]
  frame_open
  simp (disch := decide) only [↓ View.readCov_skip, ↓ View.readCov_cons_toLoadRect, ↓ View.readCov_fill]
  frame_out
  canon_tiles x h
  · idx_vars x
    obtain rfl : b = x1 := Fin.ext h1
    rw [first_upper]
    refine congrArg (fun h => downPart h (iblk m c 3 t) (iblk m c 4 t) (iblk m c 5 t) b) (funext fun k => ?_)
    exact stored_upper m c t a k x0 h0
  · idx_vars x
    obtain rfl : b = x1 := Fin.ext h1
    rw [first_lower]
    refine congrArg (fun h => downPart h (iblk m c 3 t) (iblk m c 4 t) (iblk m c 5 t) b) (funext fun k => ?_)
    exact stored_lower m c t a k x0 h0

theorem caseC (c : Dev nD) (t : Fin cfg0.N) (h2 : t.val % 11 = 10) (a : Fin 512) (b : Fin 2048) :
    (outsAt0 m c t.val t.isLt).1 (ix2 a b)
      = residual (fun k => iblk m c 0 t (ix2 a k)) (fun k => iblk m c 1 t (ix3 (0 : Fin 1) (5 : Fin 6) k)) (fun k => iblk m c 2 t (ix2 (1 : Fin 2) k))
          (fun k => (outsAt0 m c (t.val - 1) (Nat.lt_of_le_of_lt (Nat.sub_le _ _) t.isLt)).2.2 (ix2 a k)
            + downPart (fun k => (outsAt0 m c (t.val - 1) (Nat.lt_of_le_of_lt (Nat.sub_le _ _) t.isLt)).2.1 (ix2 a k)) (iblk m c 3 t) (iblk m c 4 t) (iblk m c 5 t) k) b := by
  rw [outsAt0_C m c t (by omega) (by omega) h2]
  frame_out
  simp only [read_unread_whole]
  canon_tiles x h
  · idx_vars x
    obtain rfl : b = x1 := Fin.ext h1
    have e : a = ⟨256 + x0.val, by omega⟩ := Fin.ext h0
    rw [last_upper, e]
    pointwise
  · idx_vars x
    obtain rfl : b = x1 := Fin.ext h1
    have e : a = ⟨x0.val, by omega⟩ := Fin.ext h0
    rw [last_lower, e]
    pointwise

end Cert.KernelFfnIdeal.Ffn

end
-- ==== Proof.FfnB.lean ====
module

public import proofs.«01_k».proof.Proof.FfnA

@[expose] public section

set_option maxRecDepth 16384

noncomputable section

namespace Cert.KernelFfnIdeal.Ffn

open Cert.KernelFfnIdeal Cert.KernelFfnIdeal.Gen Cert.KernelFfnIdeal.Value Idealize.ShloMosaic Idealize.ShloMosaic.TcCoe Idealize.SL.Sem
open Idealize.ShloMosaic.Pipeline (Dat Window)
open Cert.Row

variable (m : (ℓ : Loc nD τ sig) → Buf (Elt Ideal) ℓ)

/-- Where each window's block begins, in blocks, at a grid point. -/
theorem at_point : ∀ t : Fin cfg0.N,
    win0_0.index t = ![t.val / 11, 0] ∧ win0_1.index t = ![t.val / 44, 0, 0] ∧ win0_2.index t = ![0, 0]
    ∧ win0_3.index t = ![0, t.val % 11] ∧ win0_4.index t = ![0, t.val % 11] ∧ win0_5.index t = ![t.val % 11, 0]
    ∧ win0_6.index t = ![t.val / 11, 0] := by
  decide +kernel

theorem point_lt (t : Fin cfg0.N) : t.val < 352 := lt_of_lt_of_eq t.isLt N_0

/-- The row of the whole array that row `a` of the row blocks at a point is. -/
def rowOf (t : Fin cfg0.N) (a : Fin 512) : Fin 16384 :=
  ⟨512 * (t.val / 11) + a.val, by have := point_lt t; omega⟩

/-- The batch entry of a row. -/
def batch (r : Fin 16384) : Fin 8 := ⟨r.val / 2048, by omega⟩
/-- The position of a row in its batch entry. -/
def place (r : Fin 16384) : Fin 2048 := ⟨r.val % 2048, by omega⟩
/-- The column of the gate and up weights that column `f` of part `s` is. -/
def part (s : ℕ) (f : Fin 512) : Fin 5632 := ⟨512 * (s % 11) + f.val, by omega⟩

theorem rows_block (c : Dev nD) (t : Fin cfg0.N) (a : Fin 512) (k : Fin 2048) :
    iblk m c 0 t (ix2 a k) = m ((c : Thread nD τ).loc main_arg0) (ix3 (batch (rowOf t a)) (place (rowOf t a)) k) := by
  blk_ext! [iblk, V, at_point t, batch, place, rowOf]

theorem gate_block (c : Dev nD) (t : Fin cfg0.N) (k : Fin 2048) (f : Fin 512) :
    iblk m c 3 t (ix2 k f) = m ((c : Thread nD τ).loc main_arg3) (ix2 k (part t.val f)) := by
  blk_ext [iblk, V, at_point t, part]

theorem up_block (c : Dev nD) (t : Fin cfg0.N) (k : Fin 2048) (f : Fin 512) :
    iblk m c 4 t (ix2 k f) = m ((c : Thread nD τ).loc main_arg4) (ix2 k (part t.val f)) := by
  blk_ext [iblk, V, at_point t, part]

theorem down_block (c : Dev nD) (t : Fin cfg0.N) (f : Fin 512) (k : Fin 2048) :
    iblk m c 5 t (ix2 f k) = m ((c : Thread nD τ).loc main_arg5) (ix2 (part t.val f) k) := by
  blk_ext [iblk, V, at_point t, part]

theorem mod_block (c : Dev nD) (t : Fin cfg0.N) (a : Fin 512) (s : Fin 6) (k : Fin 2048) :
    iblk m c 1 t (ix3 (0 : Fin 1) s k) = m ((c : Thread nD τ).loc main_arg1) (ix3 (batch (rowOf t a)) s k) := by
  blk_ext [iblk, V, at_point t, batch, rowOf]

theorem gain_block (c : Dev nD) (t : Fin cfg0.N) (s : Fin 2) (k : Fin 2048) :
    iblk m c 2 t (ix2 s k) = m ((c : Thread nD τ).loc main_arg2) (ix2 s k) := by
  blk_ext [iblk, V, at_point t]

end Cert.KernelFfnIdeal.Ffn

end
-- ==== Proof.FfnC.lean ====
module

public import proofs.«01_k».proof.Proof.FfnB

@[expose] public section

set_option maxRecDepth 16384

noncomputable section

/-! The feed-forward kernel's result as one array over its arguments. -/

namespace Cert.KernelFfnIdeal.Ffn

open Cert.KernelFfnIdeal Cert.KernelFfnIdeal.Gen Cert.KernelFfnIdeal.Value Idealize.ShloMosaic Idealize.ShloMosaic.TcCoe Idealize.SL.Sem
open Idealize.ShloMosaic.Pipeline (Dat Window)
open Cert.Row

variable (m : (ℓ : Loc nD τ sig) → Buf (Elt Ideal) ℓ) (ρ : Dev nD → PrngReg)

/-- The arguments of a device, row by row. -/
def xRow (c : Dev nD) (r : Fin 16384) (k : Fin 2048) : EReal := m ((c : Thread nD τ).loc main_arg0) (ix3 (batch r) (place r) k)
def modRow (c : Dev nD) (r : Fin 16384) (s : Fin 6) (k : Fin 2048) : EReal := m ((c : Thread nD τ).loc main_arg1) (ix3 (batch r) s k)
def gain (c : Dev nD) (s : Fin 2) (k : Fin 2048) : EReal := m ((c : Thread nD τ).loc main_arg2) (ix2 s k)
def wGate (c : Dev nD) (k : Fin 2048) (f : Fin 5632) : EReal := m ((c : Thread nD τ).loc main_arg3) (ix2 k f)
def wUp (c : Dev nD) (k : Fin 2048) (f : Fin 5632) : EReal := m ((c : Thread nD τ).loc main_arg4) (ix2 k f)
def wDown (c : Dev nD) (f : Fin 5632) (k : Fin 2048) : EReal := m ((c : Thread nD τ).loc main_arg5) (ix2 f k)

/-- The hidden row. -/
def hiddenRow (c : Dev nD) (r : Fin 16384) : Fin 2048 → EReal :=
  modNorm (xRow m c r) (gain m c 0) (modRow m c r 3) (modRow m c r 4)

/-- One hidden unit's share of an element of the product with the down weights. -/
def unit (c : Dev nD) (r : Fin 16384) (b : Fin 2048) (f : Fin 5632) : EReal :=
  gated siluTanh (hiddenRow m c r) (fun k => wGate m c k f) (fun k => wUp m c k f) * wDown m c f b

theorem hiddenAt_eq (c : Dev nD) (t : Fin cfg0.N) (a : Fin 512) : hiddenAt m c t a = hiddenRow m c (rowOf t a) := by
  unfold hiddenAt hiddenRow
  simp only [rows_block, mod_block m c t a, gain_block]
  rfl

theorem downPart_eq (c : Dev nD) (t : Fin cfg0.N) (r : Fin 16384) (b : Fin 2048) :
    downPart (hiddenRow m c r) (iblk m c 3 t) (iblk m c 4 t) (iblk m c 5 t) b
      = ∑ f : Fin 512, unit m c r b (part t.val f) := by
  unfold downPart
  simp only [gate_block, up_block, down_block]
  rfl

/-- After every point but the last of its run of eleven, the hidden buffer holds the hidden rows and the
    accumulator the products over the parts visited so far. -/
theorem carried (c : Dev nD) (n : ℕ) : ∀ hn : n < cfg0.N, n % 11 ≠ 10 → ∀ (a : Fin 512),
    (∀ b : Fin 2048, (outsAt0 m c n hn).2.1 (ix2 a b) = hiddenRow m c (rowOf ⟨n, hn⟩ a) b)
    ∧ (∀ b : Fin 2048, (outsAt0 m c n hn).2.2 (ix2 a b)
        = ∑ s ∈ Finset.range (n % 11 + 1), ∑ f : Fin 512, unit m c (rowOf ⟨n, hn⟩ a) b (part s f)) := by
  induction n with
  | zero =>
    intro hn _ a
    refine ⟨fun b => (caseA_hidden m c ⟨0, hn⟩ rfl a b).trans (congrFun (hiddenAt_eq m c _ a) b), fun b => ?_⟩
    refine (caseA_acc m c ⟨0, hn⟩ rfl a b).trans ?_
    rw [hiddenAt_eq, downPart_eq]
    simp
  | succ n ih =>
    intro hn h10 a
    by_cases h0 : (n + 1) % 11 = 0
    · refine ⟨fun b => (caseA_hidden m c ⟨n + 1, hn⟩ h0 a b).trans (congrFun (hiddenAt_eq m c _ a) b), fun b => ?_⟩
      refine (caseA_acc m c ⟨n + 1, hn⟩ h0 a b).trans ?_
      rw [hiddenAt_eq, downPart_eq, h0]
      simp only [zero_add, Finset.sum_range_one]
      refine Finset.sum_congr rfl fun f _ => congrArg _ (Fin.ext ?_)
      show 512 * ((n + 1) % 11) + f.val = 512 * (0 % 11) + f.val
      rw [h0]
    · obtain ⟨i1, i2⟩ := ih (by omega) (by omega) a
      have hr : rowOf ⟨n, by omega⟩ a = rowOf ⟨n + 1, hn⟩ a := by
        apply Fin.ext; show 512 * (n / 11) + a.val = 512 * ((n + 1) / 11) + a.val; omega
      rw [hr] at i1 i2
      refine ⟨fun b => (caseB_hidden m c ⟨n + 1, hn⟩ h0 h10 (ix2 a b)).trans (i1 b), fun b => ?_⟩
      refine (caseB_acc m c ⟨n + 1, hn⟩ h0 h10 a b).trans ?_
      have e1 := i2 b
      have e2 : (fun k => (outsAt0 m c n (by omega)).2.1 (ix2 a k)) = hiddenRow m c (rowOf ⟨n + 1, hn⟩ a) := funext i1
      show (outsAt0 m c n _).2.2 (ix2 a b) + downPart (fun k => (outsAt0 m c n _).2.1 (ix2 a k)) _ _ _ b = _
      rw [e1, e2, downPart_eq, show (n + 1) % 11 = n % 11 + 1 by omega, Finset.sum_range_succ _ (n % 11 + 1)]
      refine congrArg₂ _ rfl (Finset.sum_congr rfl fun f _ => congrArg _ (Fin.ext ?_))
      show 512 * ((n + 1) % 11) + f.val = 512 * ((n % 11 + 1) % 11) + f.val
      omega

/-- The result: every row through the feed-forward part. -/
def result (c : Dev nD) : Vec Ideal S16384x2048 .f32 := fun i =>
  ffnRow siluTanh (xRow m c (i 0)) (modRow m c (i 0) 3) (modRow m c (i 0) 4) (modRow m c (i 0) 5) (gain m c 0) (gain m c 1)
    (wGate m c) (wUp m c) (wDown m c) (i 1)

theorem total (c : Dev nD) (r : Fin 16384) (b : Fin 2048) :
    (∑ s ∈ Finset.range 11, ∑ f : Fin 512, unit m c r b (part s f)) = ∑ f : Fin 5632, unit m c r b f := by
  rw [Finset.sum_range]
  refine Fin.sum_mul_add_congr fun s f hl => congrArg _ (Fin.ext ?_)
  show 512 * (s.val % 11) + f.val = s.val * 512 + f.val
  omega

theorem point_out (c : Dev nD) (t : Fin cfg0.N) (h : t.val % 11 = 10) (a : Fin 512) (b : Fin 2048) :
    (outsAt0 m c t.val t.isLt).1 (ix2 a b) = result m c (ix2 (rowOf t a) b) := by
  rw [caseC m c t h a b]
  obtain ⟨n, hn⟩ := t
  obtain ⟨n, rfl⟩ : ∃ k, n = k + 1 := ⟨n - 1, by dsimp only at h; omega⟩
  dsimp only at h
  have hr : rowOf ⟨n, by omega⟩ a = rowOf ⟨n + 1, hn⟩ a := by
    apply Fin.ext; show 512 * (n / 11) + a.val = 512 * ((n + 1) / 11) + a.val; omega
  obtain ⟨i1, i2⟩ := carried m c n (by omega) (by omega) a
  rw [hr] at i1 i2
  have e2 : (fun k => (outsAt0 m c n (by omega)).2.1 (ix2 a k)) = hiddenRow m c (rowOf ⟨n + 1, hn⟩ a) := funext i1
  have e3 : (fun k => (outsAt0 m c n (by omega)).2.2 (ix2 a k)
      + downPart (hiddenRow m c (rowOf ⟨n + 1, hn⟩ a)) (iblk m c 3 ⟨n + 1, hn⟩) (iblk m c 4 ⟨n + 1, hn⟩) (iblk m c 5 ⟨n + 1, hn⟩) k)
      = fun k => ∑ f : Fin 5632, unit m c (rowOf ⟨n + 1, hn⟩ a) k f := by
    funext k
    rw [i2 k, downPart_eq, ← total, show n % 11 + 1 = 10 by omega, Finset.sum_range_succ _ 10]
    refine congrArg₂ _ rfl (Finset.sum_congr rfl fun f _ => congrArg _ (Fin.ext ?_))
    show 512 * ((n + 1) % 11) + f.val = 512 * (10 % 11) + f.val
    omega
  show residual _ _ _ (fun k => (outsAt0 m c n _).2.2 (ix2 a k) + downPart (fun k => (outsAt0 m c n _).2.1 (ix2 a k)) _ _ _ k) b = _
  rw [e2, e3]
  unfold result ffnRow
  simp only [rows_block, mod_block m c _ a, gain_block]
  rfl

theorem arr (c : Dev nD) : (dats m 0 c).arrAt 6 (cfgs 0).N = result m c := by
  refine (dats m 0 c).arrAt_eq_of_covers 6 _ (by decide +kernel) fun t hf y => ?_
  have h10 : t.val % 11 = 10 := (flush0_6 t).mp hf
  blk_simp
  rw [after0_6]
  idx_vars y
  refine (point_out m c t h10 y0 y1).trans (congrArg (result m c) ?_)
  blk_ext [at_point t, rowOf]

/-- Every run ends with the result array made of the arguments row by row, the arguments unchanged. -/
theorem run_result : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr m c), (h c).2⟩) (run_blocks m ρ)

end Cert.KernelFfnIdeal.Ffn

end
-- ==== Proof.RealRow.lean ====
module

public import proofs.«01_k».proof.Proof.FfnRow

@[expose] public section

set_option maxRecDepth 16384

noncomputable section

/-! Rows of real numbers: the norm, the modulation and the products of real rows are real, and on a real
    number the two spellings of `z` times the logistic function of `z` agree. -/

namespace Cert.Row

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_one : IsReal 1 := ⟨1, EReal.coe_one.symm⟩

theorem sum_coe {n : ℕ} (r : Fin n → ℝ) : (∑ k, (r k : EReal)) = ((∑ k, r k : ℝ) : EReal) := by
  induction n with
  | zero => simp
  | succ n ih => rw [Fin.sum_univ_succ, Fin.sum_univ_succ, ih, EReal.coe_add]

theorem isReal_sum {n : ℕ} {f : Fin n → EReal} (h : ∀ k, IsReal (f k)) : IsReal (∑ k, f k) := by
  choose r hr using h
  exact ⟨∑ k, r k, by rw [← sum_coe]; exact Finset.sum_congr rfl fun k _ => hr k⟩

theorem half_word : Ideal.ofBits FTy.f32 0x3F000000#32 = (((1 : ℝ) / 2 : ℝ) : EReal) := by
  simp [Ideal.ofBits, Ideal.ieee, -EReal.coe_mul]; norm_num

theorem length_word : Ideal.ofBits FTy.f32 0x45000000#32 = ((2048 : ℝ) : EReal) := by
  simp [Ideal.ofBits, Ideal.ieee, -EReal.coe_mul]; norm_num

theorem eps_word : ∃ e : ℝ, 0 < e ∧ Ideal.ofBits FTy.f32 0x358637BD#32 = (e : EReal) := by
  refine ⟨8796093 * (2 ^ 43)⁻¹, by positivity, ?_⟩
  simp [Ideal.ofBits, Ideal.ieee, -EReal.coe_mul]

theorem inf_word : Ideal.ofBits FTy.f32 0x7F800000#32 = ⊤ := by
  simp [Ideal.ofBits, Ideal.ieee]

/-- One over the root mean square of a row of real numbers is a real number. -/
theorem isReal_invRms {x : Fin 2048 → EReal} (h : ∀ k, IsReal (x k)) : IsReal (invRms x) := by
  choose r hr using h
  obtain ⟨e, he, hw⟩ := eps_word
  have hs : (∑ k, x k * x k) = ((∑ k, r k * r k : ℝ) : EReal) := by
    rw [← sum_coe]; exact Finset.sum_congr rfl fun k _ => by rw [hr k, EReal.coe_mul]
  have hn : 0 ≤ ∑ k, r k * r k := Finset.sum_nonneg fun k _ => mul_self_nonneg _
  have hd : Ideal.div ((∑ k, r k * r k : ℝ) : EReal) ((2048 : ℝ) : EReal) = (((∑ k, r k * r k) * (2048 : ℝ)⁻¹ : ℝ) : EReal) := by
    unfold Ideal.div
    rw [if_neg (by norm_num), ← EReal.coe_inv, ← EReal.coe_mul]
  unfold invRms
  rw [hs, length_word, hw, hd, ← EReal.coe_add]
  have hp : 0 < (∑ k, r k * r k) * (2048 : ℝ)⁻¹ + e := by positivity
  refine ⟨(Real.sqrt ((∑ k, r k * r k) * (2048 : ℝ)⁻¹ + e))⁻¹, ?_⟩
  show (if _ < 0 then _ else if _ = 0 then _ else _) = _
  rw [if_neg (not_lt.2 hp.le), if_neg hp.ne']

theorem isReal_modNorm {x g sh sc : Fin 2048 → EReal} (hx : ∀ k, IsReal (x k)) (hg : ∀ k, IsReal (g k))
    (hsh : ∀ k, IsReal (sh k)) (hsc : ∀ k, IsReal (sc k)) (k : Fin 2048) : IsReal (modNorm x g sh sc k) :=
  ((((hx k).mul (isReal_invRms hx)).mul (hg k)).mul (isReal_one.add (hsc k))).add (hsh k)

theorem isReal_col {h w : Fin 2048 → EReal} (hh : ∀ k, IsReal (h k)) (hw : ∀ k, IsReal (w k)) : IsReal (col h w) :=
  isReal_sum fun k => (hh k).mul (hw k)

/-- On a real number both spellings are the same. -/
theorem siluTanh_eq_siluExp {z : EReal} (hz : IsReal z) : siluTanh z = siluExp z := by
  obtain ⟨r, rfl⟩ := hz
  unfold siluTanh siluExp
  have hp : (0 : ℝ) < 1 + Real.exp (-r) := by positivity
  have hd : Ideal.div (1 : EReal) (((1 + Real.exp (-r) : ℝ)) : EReal) = (((1 + Real.exp (-r))⁻¹ : ℝ) : EReal) := by
    unfold Ideal.div
    rw [if_neg (by exact_mod_cast hp.ne'), one_mul, EReal.coe_inv]
  rw [half_word, Ideal.ofBits_one_f32, ← EReal.coe_mul, Ideal.tanh_coe, ← EReal.coe_neg]
  show _ = (r : EReal) * Ideal.div 1 (1 + ((Real.exp (-r) : ℝ) : EReal))
  rw [← EReal.coe_one, ← EReal.coe_add, EReal.coe_one, hd, ← EReal.coe_mul, ← EReal.coe_mul, ← EReal.coe_add]
  congr 1
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have : a + b ≠ 0 := by positivity
  have : 1 + b * b ≠ 0 := by positivity
  field_simp
  linear_combination 2 * r * b * e2

/-- With real `x`, modulation, gains and gate weights, the row function does not depend on the spelling. -/
theorem ffnRow_eq {x sh sc gate g0 g1 : Fin 2048 → EReal} {wg wu : Fin 2048 → Fin 5632 → EReal} {wd : Fin 5632 → Fin 2048 → EReal}
    (hx : ∀ k, IsReal (x k)) (hsh : ∀ k, IsReal (sh k)) (hsc : ∀ k, IsReal (sc k)) (hg : ∀ k, IsReal (g0 k))
    (hw : ∀ k f, IsReal (wg k f)) (b : Fin 2048) :
    ffnRow siluTanh x sh sc gate g0 g1 wg wu wd b = ffnRow siluExp x sh sc gate g0 g1 wg wu wd b := by
  unfold ffnRow gated
  simp only [fun f => siluTanh_eq_siluExp (isReal_col (isReal_modNorm hx hg hsh hsc) (fun i => hw i f))]

/-- What one test of the precondition says of an element. -/
theorem isReal_of_test {x : EReal} (h : Ideal.cmp .olt (max x (-x)) (Ideal.ofBits FTy.f32 0x7F800000#32) = 1#1) : IsReal x := by
  rw [inf_word] at h
  have h' : max x (-x) < ⊤ := by
    by_contra hc
    simp [Ideal.cmp, hc] at h
  induction x with
  | bot => simp at h'
  | top => simp at h'
  | coe r => exact ⟨r, rfl⟩

end Cert.Row

end
-- ==== Proof.FfnRef.lean ====
module

public import proofs.«01_k».proof.Proof.Gen.ReferenceFfnIdeal.Read
public import proofs.«01_k».proof.Proof.FfnRow

@[expose] public section

set_option maxRecDepth 16384

noncomputable section

/-! The feed-forward reference's result, element by element, as the row function over its arguments. -/

namespace Cert.ReferenceFfnIdeal.Ffn

open Cert.ReferenceFfnIdeal Cert.ReferenceFfnIdeal.Gen Cert.ReferenceFfnIdeal.Read Idealize.ShloMosaic Idealize.ShloMosaic.TcCoe Idealize.SL.Sem
open Cert.Row

variable (x0 : Vec Ideal S8x2048x2048 .f32) (x1 : Vec Ideal S8x6x2048 .f32) (x2 : Vec Ideal S2x2048 .f32)
  (x3 x4 : Vec Ideal S2048x5632 .f32) (x5 : Vec Ideal S5632x2048 .f32)

theorem inv_rms (p : Fin 8) (q : Fin 2048) :
    val_main_v7 (F := Ideal) x0 (ix3 p q (0 : Fin 1)) = invRms (fun k => x0 (ix3 p q k)) := by
  unfold invRms
  pointwise [val_main_v0, val_main_cst, val_main_v1, val_main_v2, val_main_cst_0, val_main_v3, val_main_v4, val_main_cst_1, val_main_v5, val_main_v6, val_main_v7]

theorem hidden (p : Fin 8) (q k : Fin 2048) :
    val_main_v26 (F := Ideal) x0 x1 x2 (ix3 p q k)
      = modNorm (fun k => x0 (ix3 p q k)) (fun k => x2 (ix2 (0 : Fin 2) k)) (fun k => x1 (ix3 p (3 : Fin 6) k)) (fun k => x1 (ix3 p (4 : Fin 6) k)) k := by
  unfold modNorm
  rw [← inv_rms]
  pointwise [val_main_v8, val_main_v9, val_main_v10, val_main_v11, val_main_v12, val_main_v13, val_main_v14, val_main_v15, val_main_v16, val_main_v17, val_main_cst_2, val_main_v18, val_main_v19, val_main_v20, val_main_v21, val_main_v22, val_main_v23, val_main_v24, val_main_v25, val_main_v26]

theorem hidden_unit (p : Fin 8) (q : Fin 2048) (f : Fin 5632) :
    val_main_v30 (F := Ideal) x0 x1 x2 x3 x4 (ix3 p q f)
      = gated siluExp (fun k => val_main_v26 (F := Ideal) x0 x1 x2 (ix3 p q k)) (fun k => x3 (ix2 k f)) (fun k => x4 (ix2 k f)) := by
  unfold gated siluExp col
  pointwise [val_main_v27, val_main_call0_v0, val_main_call0_v1, val_main_call0_cst, val_main_call0_v2, val_main_call0_v3, val_main_call0_cst_0, val_main_call0_v4, val_main_call0_v5, val_main_v28, val_main_v29, val_main_v30]

theorem down (p : Fin 8) (q k : Fin 2048) :
    val_main_v31 (F := Ideal) x0 x1 x2 x3 x4 x5 (ix3 p q k)
      = ∑ f : Fin 5632, val_main_v30 (F := Ideal) x0 x1 x2 x3 x4 (ix3 p q f) * x5 (ix2 f k) := by
  pointwise [val_main_v31]

theorem last (r : Fin 16384) (k : Fin 2048) (p : Fin 8) (q : Fin 2048) (hp : p.val = r.val / 2048) (hq : q.val = r.val % 2048) :
    val_main_v53 (F := Ideal) x0 x1 x2 x3 x4 x5 (ix2 r k)
      = Row.residual (fun k => x0 (ix3 p q k)) (fun k => x1 (ix3 p (5 : Fin 6) k)) (fun k => x2 (ix2 (1 : Fin 2) k))
          (fun k => val_main_v31 (F := Ideal) x0 x1 x2 x3 x4 x5 (ix3 p q k)) k := by
  have ep : p = ⟨r.val / 2048, by omega⟩ := Fin.ext hp
  have eq : q = ⟨r.val % 2048, by omega⟩ := Fin.ext hq
  rw [ep, eq]
  unfold Row.residual invRms
  pointwise [val_main_v32, val_main_v33, val_main_v34, val_main_v35, val_main_cst_3, val_main_v36, val_main_v37, val_main_cst_4, val_main_v38, val_main_v39, val_main_cst_5, val_main_v40, val_main_v41, val_main_v42, val_main_v43, val_main_v44, val_main_v45, val_main_v46, val_main_v47, val_main_v48, val_main_v49, val_main_v50, val_main_v51, val_main_v52, val_main_v53]

theorem whole (r : Fin 16384) (k : Fin 2048) (p : Fin 8) (q : Fin 2048) (hp : p.val = r.val / 2048) (hq : q.val = r.val % 2048) :
    val_main_v53 (F := Ideal) x0 x1 x2 x3 x4 x5 (ix2 r k)
      = ffnRow siluExp (fun k => x0 (ix3 p q k)) (fun k => x1 (ix3 p (3 : Fin 6) k)) (fun k => x1 (ix3 p (4 : Fin 6) k))
          (fun k => x1 (ix3 p (5 : Fin 6) k)) (fun k => x2 (ix2 (0 : Fin 2) k)) (fun k => x2 (ix2 (1 : Fin 2) k))
          (fun k f => x3 (ix2 k f)) (fun k f => x4 (ix2 k f)) (fun f k => x5 (ix2 f k)) k := by
  rw [last x0 x1 x2 x3 x4 x5 r k p q hp hq]
  unfold ffnRow
  simp only [down, hidden_unit, hidden]

end Cert.ReferenceFfnIdeal.Ffn

end
-- ==== Proof.FfnFinal.lean ====
module

public import proofs.«01_k».proof.Defs
public import proofs.«01_k».proof.Proof.Gen.Pre_finite_inputs
public import proofs.«01_k».proof.Proof.FfnC
public import proofs.«01_k».proof.Proof.RealRow
public import proofs.«01_k».proof.Proof.FfnRef
public import proofs.«01_k».proof.Proof.Gen.ReferenceFfnIdeal.Run
public import Idealize.ShloMosaic.Lib.ReduceAll

@[expose] public section

set_option maxRecDepth 16384

noncomputable section

namespace Cert.FfnFinal

open Idealize.ShloMosaic Idealize.ShloMosaic.TcCoe Idealize.SL.Sem Cert.Row

theorem finite_of_pre (x0 : Vec Ideal Cert.Pre_finite_inputs.S8x2048x2048 .f32) (x1 : Vec Ideal Cert.Pre_finite_inputs.S8x6x2048 .f32)
    (x2 : Vec Ideal Cert.Pre_finite_inputs.S2x2048 .f32) (x3 x4 : Vec Ideal Cert.Pre_finite_inputs.S2048x5632 .f32)
    (x5 : Vec Ideal Cert.Pre_finite_inputs.S5632x2048 .f32)
    (h0 : (Cert.Pre_finite_inputs.fn (F := Ideal) x0 x1 x2 x3 x4 x5).1 = fun _ => 1#1)
    (h1 : (Cert.Pre_finite_inputs.fn (F := Ideal) x0 x1 x2 x3 x4 x5).2.1 = fun _ => 1#1)
    (h2 : (Cert.Pre_finite_inputs.fn (F := Ideal) x0 x1 x2 x3 x4 x5).2.2.1 = fun _ => 1#1)
    (h3 : (Cert.Pre_finite_inputs.fn (F := Ideal) x0 x1 x2 x3 x4 x5).2.2.2 = fun _ => 1#1) :
    (∀ i, IsReal (x0 i)) ∧ (∀ i, IsReal (x1 i)) ∧ (∀ i, IsReal (x2 i)) ∧ (∀ i, IsReal (x3 i)) := by
  have s : Subsingleton Cert.Pre_finite_inputs.S_.Idx := ⟨fun a b => funext fun k => k.elim0⟩
  unfold Cert.Pre_finite_inputs.fn at h0 h1 h2 h3
  dsimp only at h0 h1 h2 h3
  have r0 := Host.reduce_andi_all _ _ _ _ _ (congrFun h0 fun a => a.elim0)
  have r1 := Host.reduce_andi_all _ _ _ _ _ (congrFun h1 fun a => a.elim0)
  have r2 := Host.reduce_andi_all _ _ _ _ _ (congrFun h2 fun a => a.elim0)
  have r3 := Host.reduce_andi_all _ _ _ _ _ (congrFun h3 fun a => a.elim0)
  exact ⟨fun i => isReal_of_test (r0 i), fun i => isReal_of_test (r1 i), fun i => isReal_of_test (r2 i), fun i => isReal_of_test (r3 i)⟩

theorem ffn_algebraic : Cert.algebraic_KernelFfnIdeal_ReferenceFfnIdeal_pre_finite_inputs := by
  pair_intro
  · run_from (Cert.KernelFfnIdeal.Ffn.run_result m g)
  · run_from (Cert.ReferenceFfnIdeal.Value.run m' g')
    obtain ⟨e0, e1, e2, e3, e4, e5⟩ := hagree c
    obtain ⟨h0, h1, h2, h3⟩ := hpre c
    obtain ⟨f0, f1, f2, f3⟩ := finite_of_pre _ _ _ _ _ _ h0 h1 h2 h3
    refine (Cert.ReferenceFfnIdeal.Read.val_main_v53_eq _ _).trans ?_
    rw [e0, e1, e2, e3, e4, e5]
    funext i
    obtain ⟨r, k, rfl⟩ : ∃ (r : Fin 16384) (k : Fin 2048), i = ix2 r k := ⟨i 0, i 1, eq_ix2 i⟩
    rw [Cert.ReferenceFfnIdeal.Ffn.whole _ _ _ _ _ _ r k (Cert.KernelFfnIdeal.Ffn.batch r) (Cert.KernelFfnIdeal.Ffn.place r) rfl rfl]
    exact (ffnRow_eq (fun k => f0 _) (fun k => f1 _) (fun k => f1 _) (fun k => f2 _) (fun k f => f3 _) k).symm

end Cert.FfnFinal

end
-- ==== Proof.FfnPromptP.lean ====
module

public import proofs.«01_k».proof.Proof.Gen.KernelFfnPromptIdeal.Value
public import proofs.«01_k».proof.Proof.FfnRow

@[expose] public section

set_option maxRecDepth 16384

noncomputable section

/-! What each stored value of the feed-forward kernel is, one element at a time. -/

namespace Cert.KernelFfnPromptIdeal.Ffn

open Cert.KernelFfnPromptIdeal Cert.KernelFfnPromptIdeal.Gen Cert.KernelFfnPromptIdeal.Value Idealize.ShloMosaic Idealize.ShloMosaic.TcCoe Idealize.SL.Sem
open Cert.Row

/-- The part of the down product that one block of 512 hidden columns gives, at row `h` and output column `b`. -/
def downPart (h : Fin 2048 → EReal) (wg wu : Vec Ideal S2048x512 .bf16) (wd : Vec Ideal S512x2048 .bf16) (b : Fin 2048) : EReal :=
  ∑ f : Fin 512, gated siluTanh h (fun k => wg (ix2 k f)) (fun k => wu (ix2 k f)) * wd (ix2 f b)

theorem hidden_lower (x : Vec Ideal S256x2048 .f32) (g : Vec Ideal S1x2048 .f32) (sh sc : Vec Ideal S1x1x2048 .f32) (a : Fin 256) (b : Fin 2048) :
    k0_pay5 (F := Ideal) x g sh sc (ix2 a b)
      = modNorm (fun k => x (ix2 a k)) (fun k => g (ix2 0 k)) (fun k => sh (ix3 0 0 k)) (fun k => sc (ix3 0 0 k)) b := by
  pointwise [k0_pay5]
  rfl

theorem hidden_upper (x : Vec Ideal S256x2048 .f32) (g : Vec Ideal S1x2048 .f32) (sh sc : Vec Ideal S1x1x2048 .f32) (a : Fin 256) (b : Fin 2048) :
    k0_pay1 (F := Ideal) (k0_pay9 (F := Ideal) x g sh sc) (ix2 a b)
      = modNorm (fun k => x (ix2 a k)) (fun k => g (ix2 0 k)) (fun k => sh (ix3 0 0 k)) (fun k => sc (ix3 0 0 k)) b := by
  pointwise [k0_pay1, k0_pay9]
  rfl

theorem first_upper (h : Vec Ideal S256x2048 .bf16) (wg wu : Vec Ideal S2048x512 .bf16) (wd : Vec Ideal S512x2048 .bf16) (a : Fin 256) (b : Fin 2048) :
    k0_pay2 (F := Ideal) h wg wu wd (ix2 a b) = downPart (fun k => h (ix2 a k)) wg wu wd b := by
  pointwise [k0_pay2]
  rfl

theorem first_lower (h : Vec Ideal S256x2048 .bf16) (wg wu : Vec Ideal S2048x512 .bf16) (wd : Vec Ideal S512x2048 .bf16) (a : Fin 256) (b : Fin 2048) :
    k0_pay8 (F := Ideal) h (k0_pay6 (F := Ideal) h wg) (k0_pay7 (F := Ideal) h wg) wu wd (ix2 a b)
      = downPart (fun k => h (ix2 a k)) wg wu wd b := by
  pointwise [k0_pay8, k0_pay7, k0_pay6]
  rfl

theorem added (acc : Vec Ideal S512x2048 .f32) (h : Vec Ideal S512x2048 .bf16) (wg wu : Vec Ideal S2048x512 .bf16) (wd : Vec Ideal S512x2048 .bf16) (a : Fin 512) (b : Fin 2048) :
    k0_pay3 (F := Ideal) acc h wg wu wd (ix2 a b) = acc (ix2 a b) + downPart (fun k => h (ix2 a k)) wg wu wd b := by
  pointwise [k0_pay3]
  rfl

theorem last_upper (x acc : Vec Ideal S256x2048 .f32) (gate : Vec Ideal S1x1x2048 .f32) (g : Vec Ideal S1x2048 .f32) (h : Vec Ideal S256x2048 .bf16) (wg wu : Vec Ideal S2048x512 .bf16) (wd : Vec Ideal S512x2048 .bf16) (a : Fin 256) (b : Fin 2048) :
    k0_pay4 (F := Ideal) (k0_pay10 gate) (k0_pay14 x) g (k0_pay15 acc h wg wu wd) (ix2 a b)
      = residual (fun k => x (ix2 a k)) (fun k => gate (ix3 0 0 k)) (fun k => g (ix2 0 k))
          (fun k => acc (ix2 a k) + downPart (fun k => h (ix2 a k)) wg wu wd k) b := by
  pointwise [k0_pay4, k0_pay10, k0_pay14, k0_pay15]
  rfl

theorem last_lower (x acc : Vec Ideal S256x2048 .f32) (gate : Vec Ideal S1x1x2048 .f32) (g : Vec Ideal S1x2048 .f32) (h : Vec Ideal S256x2048 .bf16) (wg wu : Vec Ideal S2048x512 .bf16) (wd : Vec Ideal S512x2048 .bf16) (a : Fin 256) (b : Fin 2048) :
    k0_pay13 (F := Ideal) (k0_pay10 gate) (k0_pay11 x) (k0_pay12 acc h wg wu wd g) (ix2 a b)
      = residual (fun k => x (ix2 a k)) (fun k => gate (ix3 0 0 k)) (fun k => g (ix2 0 k))
          (fun k => acc (ix2 a k) + downPart (fun k => h (ix2 a k)) wg wu wd k) b := by
  pointwise [k0_pay13, k0_pay10, k0_pay11, k0_pay12]
  rfl

end Cert.KernelFfnPromptIdeal.Ffn

end
-- ==== Proof.FfnPromptA.lean ====
module

public import proofs.«01_k».proof.Proof.FfnPromptP
public import Idealize.ShloMosaic.Lib.Pipeline.ReadBack

@[expose] public section

set_option maxRecDepth 16384

noncomputable section

/-! What the feed-forward kernel's buffers hold after a grid point, in terms of the point's blocks. -/

namespace Cert.KernelFfnPromptIdeal.Ffn

open Cert.KernelFfnPromptIdeal Cert.KernelFfnPromptIdeal.Gen Cert.KernelFfnPromptIdeal.Value Idealize.ShloMosaic Idealize.ShloMosaic.TcCoe Idealize.SL.Sem
open Cert.Row
open Idealize.ShloMosaic.Pipeline (Dat Window)

variable (m : (ℓ : Loc nD τ sig) → Buf (Elt Ideal) ℓ)

/-- Row `a` of the hidden block at a point, made from the point's blocks of `x`, the modulation and the gains. -/
def hiddenAt (c : Dev nD) (t : Fin cfg0.N) (a : Fin 512) : Fin 2048 → EReal :=
  modNorm (fun k => iblk m c 0 t (ix2 a k)) (fun k => iblk m c 2 t (ix2 (0 : Fin 2) k))
    (fun k => iblk m c 1 t (ix3 (0 : Fin 1) (3 : Fin 6) k)) (fun k => iblk m c 1 t (ix3 (0 : Fin 1) (4 : Fin 6) k))

theorem stored_upper (c : Dev nD) (t : Fin cfg0.N) (a : Fin 512) (b : Fin 2048) (p : Fin 256) (ha : a.val = 256 + p.val) :
    k0_pay1 (k0_pay9 (View.ld (iblk m c 0 t) (Rect.unit ![256, 0] ![256, 2048] inb_S512x2048_S256x2048_256_0))
      (View.ld (iblk m c 2 t) (Rect.unit ![0, 0] ![1, 2048] inb_S2x2048_S1x2048_0_0))
      (View.ld (iblk m c 1 t) (Rect.unit ![0, 3, 0] ![1, 1, 2048] inb_S1x6x2048_S1x1x2048_0_3_0))
      (View.ld (iblk m c 1 t) (Rect.unit ![0, 4, 0] ![1, 1, 2048] inb_S1x6x2048_S1x1x2048_0_4_0))) (ix2 p b)
      = hiddenAt m c t a b := by
  have e : a = ⟨256 + p.val, by omega⟩ := Fin.ext ha
  rw [hidden_upper, e]
  unfold hiddenAt
  pointwise

theorem stored_lower (c : Dev nD) (t : Fin cfg0.N) (a : Fin 512) (b : Fin 2048) (p : Fin 256) (ha : a.val = p.val) :
    k0_pay5 (View.ld (iblk m c 0 t) (Rect.unit ![0, 0] ![256, 2048] inb_S512x2048_S256x2048_0_0))
      (View.ld (iblk m c 2 t) (Rect.unit ![0, 0] ![1, 2048] inb_S2x2048_S1x2048_0_0))
      (View.ld (iblk m c 1 t) (Rect.unit ![0, 3, 0] ![1, 1, 2048] inb_S1x6x2048_S1x1x2048_0_3_0))
      (View.ld (iblk m c 1 t) (Rect.unit ![0, 4, 0] ![1, 1, 2048] inb_S1x6x2048_S1x1x2048_0_4_0)) (ix2 p b)
      = hiddenAt m c t a b := by
  have e : a = ⟨p.val, by omega⟩ := Fin.ext ha
  rw [hidden_lower, e]
  unfold hiddenAt
  pointwise

theorem caseA_hidden (c : Dev nD) (t : Fin cfg0.N) (h0 : t.val % 11 = 0) (a : Fin 512) (b : Fin 2048) :
    (outsAt0 m c t.val t.isLt).2.1 (ix2 a b) = hiddenAt m c t a b := by
  rw [outsAt0_A m c t h0 (by omega) (by omega)]
  frame_out
  canon_tiles x h
  · idx_vars x
    obtain rfl : b = x1 := Fin.ext h1
    exact stored_upper m c t a b x0 h0
  · idx_vars x
    obtain rfl : b = x1 := Fin.ext h1
    exact stored_lower m c t a b x0 h0

theorem caseB_hidden (c : Dev nD) (t : Fin cfg0.N) (h0 : ¬t.val % 11 = 0) (h1 : t.val % 11 ≠ 10) (j : S512x2048.Idx) :
    (outsAt0 m c t.val t.isLt).2.1 j = (outsAt0 m c (t.val - 1) (Nat.lt_of_le_of_lt (Nat.sub_le _ _) t.isLt)).2.1 j := by
  rw [outsAt0_B m c t h0 (by omega) h1]
  dsimp only
  unfold sout0_B_0
  rfl

theorem caseB_acc (c : Dev nD) (t : Fin cfg0.N) (h0 : ¬t.val % 11 = 0) (h1 : t.val % 11 ≠ 10) (a : Fin 512) (b : Fin 2048) :
    (outsAt0 m c t.val t.isLt).2.2 (ix2 a b) = (outsAt0 m c (t.val - 1) (Nat.lt_of_le_of_lt (Nat.sub_le _ _) t.isLt)).2.2 (ix2 a b)
      + downPart (fun k => (outsAt0 m c (t.val - 1) (Nat.lt_of_le_of_lt (Nat.sub_le _ _) t.isLt)).2.1 (ix2 a k)) (iblk m c 3 t) (iblk m c 4 t) (iblk m c 5 t) b := by
  rw [outsAt0_B m c t h0 (by omega) h1]
  frame_out
  simp only [read_unread_whole]
  exact added _ _ _ _ _ a b

theorem caseA_acc (c : Dev nD) (t : Fin cfg0.N) (h0 : t.val % 11 = 0) (a : Fin 512) (b : Fin 2048) :
    (outsAt0 m c t.val t.isLt).2.2 (ix2 a b) = downPart (hiddenAt m c t a) (iblk m c 3 t) (iblk m c 4 t) (iblk m c 5 t) b := by
  rw [outsAt0_A m c t h0 (by omega) (by omega)]
  frame_open
  simp (disch := decide) only [↓ View.readCov_skip, ↓ View.readCov_cons_toLoadRect, ↓ View.readCov_fill]
  frame_out
  canon_tiles x h
  · idx_vars x
    obtain rfl : b = x1 := Fin.ext h1
    rw [first_upper]
    refine congrArg (fun h => downPart h (iblk m c 3 t) (iblk m c 4 t) (iblk m c 5 t) b) (funext fun k => ?_)
    exact stored_upper m c t a k x0 h0
  · idx_vars x
    obtain rfl : b = x1 := Fin.ext h1
    rw [first_lower]
    refine congrArg (fun h => downPart h (iblk m c 3 t) (iblk m c 4 t) (iblk m c 5 t) b) (funext fun k => ?_)
    exact stored_lower m c t a k x0 h0

theorem caseC (c : Dev nD) (t : Fin cfg0.N) (h2 : t.val % 11 = 10) (a : Fin 512) (b : Fin 2048) :
    (outsAt0 m c t.val t.isLt).1 (ix2 a b)
      = residual (fun k => iblk m c 0 t (ix2 a k)) (fun k => iblk m c 1 t (ix3 (0 : Fin 1) (5 : Fin 6) k)) (fun k => iblk m c 2 t (ix2 (1 : Fin 2) k))
          (fun k => (outsAt0 m c (t.val - 1) (Nat.lt_of_le_of_lt (Nat.sub_le _ _) t.isLt)).2.2 (ix2 a k)
            + downPart (fun k => (outsAt0 m c (t.val - 1) (Nat.lt_of_le_of_lt (Nat.sub_le _ _) t.isLt)).2.1 (ix2 a k)) (iblk m c 3 t) (iblk m c 4 t) (iblk m c 5 t) k) b := by
  rw [outsAt0_C m c t (by omega) (by omega) h2]
  frame_out
  simp only [read_unread_whole]
  canon_tiles x h
  · idx_vars x
    obtain rfl : b = x1 := Fin.ext h1
    have e : a = ⟨256 + x0.val, by omega⟩ := Fin.ext h0
    rw [last_upper, e]
    pointwise
  · idx_vars x
    obtain rfl : b = x1 := Fin.ext h1
    have e : a = ⟨x0.val, by omega⟩ := Fin.ext h0
    rw [last_lower, e]
    pointwise

end Cert.KernelFfnPromptIdeal.Ffn

end
-- ==== Proof.FfnPromptB.lean ====
module

public import proofs.«01_k».proof.Proof.FfnPromptA

@[expose] public section

set_option maxRecDepth 16384

noncomputable section

namespace Cert.KernelFfnPromptIdeal.Ffn

open Cert.KernelFfnPromptIdeal Cert.KernelFfnPromptIdeal.Gen Cert.KernelFfnPromptIdeal.Value Idealize.ShloMosaic Idealize.ShloMosaic.TcCoe Idealize.SL.Sem
open Idealize.ShloMosaic.Pipeline (Dat Window)
open Cert.Row

variable (m : (ℓ : Loc nD τ sig) → Buf (Elt Ideal) ℓ)

/-- Where each window's block begins, in blocks, at a grid point. -/
theorem at_point : ∀ t : Fin cfg0.N,
    win0_0.index t = ![t.val / 11, 0] ∧ win0_1.index t = ![0, 0, 0] ∧ win0_2.index t = ![0, 0]
    ∧ win0_3.index t = ![0, t.val % 11] ∧ win0_4.index t = ![0, t.val % 11] ∧ win0_5.index t = ![t.val % 11, 0]
    ∧ win0_6.index t = ![t.val / 11, 0] := by
  decide +kernel

theorem point_lt (t : Fin cfg0.N) : t.val < 176 := lt_of_lt_of_eq t.isLt N_0

/-- The row of the whole array that row `a` of the row blocks at a point is. -/
def rowOf (t : Fin cfg0.N) (a : Fin 512) : Fin 8192 :=
  ⟨512 * (t.val / 11) + a.val, by have := point_lt t; omega⟩

/-- The batch entry of a row. -/
def batch (r : Fin 8192) : Fin 32 := ⟨r.val / 256, by omega⟩
/-- The position of a row in its batch entry. -/
def place (r : Fin 8192) : Fin 256 := ⟨r.val % 256, by omega⟩
/-- The column of the gate and up weights that column `f` of part `s` is. -/
def part (s : ℕ) (f : Fin 512) : Fin 5632 := ⟨512 * (s % 11) + f.val, by omega⟩

theorem rows_block (c : Dev nD) (t : Fin cfg0.N) (a : Fin 512) (k : Fin 2048) :
    iblk m c 0 t (ix2 a k) = m ((c : Thread nD τ).loc main_arg0) (ix3 (batch (rowOf t a)) (place (rowOf t a)) k) := by
  blk_ext! [iblk, V, at_point t, batch, place, rowOf]

theorem gate_block (c : Dev nD) (t : Fin cfg0.N) (k : Fin 2048) (f : Fin 512) :
    iblk m c 3 t (ix2 k f) = m ((c : Thread nD τ).loc main_arg3) (ix2 k (part t.val f)) := by
  blk_ext [iblk, V, at_point t, part]

theorem up_block (c : Dev nD) (t : Fin cfg0.N) (k : Fin 2048) (f : Fin 512) :
    iblk m c 4 t (ix2 k f) = m ((c : Thread nD τ).loc main_arg4) (ix2 k (part t.val f)) := by
  blk_ext [iblk, V, at_point t, part]

theorem down_block (c : Dev nD) (t : Fin cfg0.N) (f : Fin 512) (k : Fin 2048) :
    iblk m c 5 t (ix2 f k) = m ((c : Thread nD τ).loc main_arg5) (ix2 (part t.val f) k) := by
  blk_ext [iblk, V, at_point t, part]

theorem mod_block (c : Dev nD) (t : Fin cfg0.N) (a : Fin 512) (s : Fin 6) (k : Fin 2048) :
    iblk m c 1 t (ix3 (0 : Fin 1) s k) = m ((c : Thread nD τ).loc main_arg1) (ix3 (0 : Fin 1) s k) := by
  blk_ext [iblk, V, at_point t, batch, rowOf]

theorem gain_block (c : Dev nD) (t : Fin cfg0.N) (s : Fin 2) (k : Fin 2048) :
    iblk m c 2 t (ix2 s k) = m ((c : Thread nD τ).loc main_arg2) (ix2 s k) := by
  blk_ext [iblk, V, at_point t]

end Cert.KernelFfnPromptIdeal.Ffn

end
-- ==== Proof.FfnPromptC.lean ====
module

public import proofs.«01_k».proof.Proof.FfnPromptB

@[expose] public section

set_option maxRecDepth 16384

noncomputable section

/-! The feed-forward kernel's result as one array over its arguments. -/

namespace Cert.KernelFfnPromptIdeal.Ffn

open Cert.KernelFfnPromptIdeal Cert.KernelFfnPromptIdeal.Gen Cert.KernelFfnPromptIdeal.Value Idealize.ShloMosaic Idealize.ShloMosaic.TcCoe Idealize.SL.Sem
open Idealize.ShloMosaic.Pipeline (Dat Window)
open Cert.Row

variable (m : (ℓ : Loc nD τ sig) → Buf (Elt Ideal) ℓ) (ρ : Dev nD → PrngReg)

/-- The arguments of a device, row by row. -/
def xRow (c : Dev nD) (r : Fin 8192) (k : Fin 2048) : EReal := m ((c : Thread nD τ).loc main_arg0) (ix3 (batch r) (place r) k)
def modRow (c : Dev nD) (r : Fin 8192) (s : Fin 6) (k : Fin 2048) : EReal := m ((c : Thread nD τ).loc main_arg1) (ix3 (0 : Fin 1) s k)
def gain (c : Dev nD) (s : Fin 2) (k : Fin 2048) : EReal := m ((c : Thread nD τ).loc main_arg2) (ix2 s k)
def wGate (c : Dev nD) (k : Fin 2048) (f : Fin 5632) : EReal := m ((c : Thread nD τ).loc main_arg3) (ix2 k f)
def wUp (c : Dev nD) (k : Fin 2048) (f : Fin 5632) : EReal := m ((c : Thread nD τ).loc main_arg4) (ix2 k f)
def wDown (c : Dev nD) (f : Fin 5632) (k : Fin 2048) : EReal := m ((c : Thread nD τ).loc main_arg5) (ix2 f k)

/-- The hidden row. -/
def hiddenRow (c : Dev nD) (r : Fin 8192) : Fin 2048 → EReal :=
  modNorm (xRow m c r) (gain m c 0) (modRow m c r 3) (modRow m c r 4)

/-- One hidden unit's share of an element of the product with the down weights. -/
def unit (c : Dev nD) (r : Fin 8192) (b : Fin 2048) (f : Fin 5632) : EReal :=
  gated siluTanh (hiddenRow m c r) (fun k => wGate m c k f) (fun k => wUp m c k f) * wDown m c f b

theorem hiddenAt_eq (c : Dev nD) (t : Fin cfg0.N) (a : Fin 512) : hiddenAt m c t a = hiddenRow m c (rowOf t a) := by
  unfold hiddenAt hiddenRow
  simp only [rows_block, mod_block m c t a, gain_block]
  rfl

theorem downPart_eq (c : Dev nD) (t : Fin cfg0.N) (r : Fin 8192) (b : Fin 2048) :
    downPart (hiddenRow m c r) (iblk m c 3 t) (iblk m c 4 t) (iblk m c 5 t) b
      = ∑ f : Fin 512, unit m c r b (part t.val f) := by
  unfold downPart
  simp only [gate_block, up_block, down_block]
  rfl

/-- After every point but the last of its run of eleven, the hidden buffer holds the hidden rows and the
    accumulator the products over the parts visited so far. -/
theorem carried (c : Dev nD) (n : ℕ) : ∀ hn : n < cfg0.N, n % 11 ≠ 10 → ∀ (a : Fin 512),
    (∀ b : Fin 2048, (outsAt0 m c n hn).2.1 (ix2 a b) = hiddenRow m c (rowOf ⟨n, hn⟩ a) b)
    ∧ (∀ b : Fin 2048, (outsAt0 m c n hn).2.2 (ix2 a b)
        = ∑ s ∈ Finset.range (n % 11 + 1), ∑ f : Fin 512, unit m c (rowOf ⟨n, hn⟩ a) b (part s f)) := by
  induction n with
  | zero =>
    intro hn _ a
    refine ⟨fun b => (caseA_hidden m c ⟨0, hn⟩ rfl a b).trans (congrFun (hiddenAt_eq m c _ a) b), fun b => ?_⟩
    refine (caseA_acc m c ⟨0, hn⟩ rfl a b).trans ?_
    rw [hiddenAt_eq, downPart_eq]
    simp
  | succ n ih =>
    intro hn h10 a
    by_cases h0 : (n + 1) % 11 = 0
    · refine ⟨fun b => (caseA_hidden m c ⟨n + 1, hn⟩ h0 a b).trans (congrFun (hiddenAt_eq m c _ a) b), fun b => ?_⟩
      refine (caseA_acc m c ⟨n + 1, hn⟩ h0 a b).trans ?_
      rw [hiddenAt_eq, downPart_eq, h0]
      simp only [zero_add, Finset.sum_range_one]
      refine Finset.sum_congr rfl fun f _ => congrArg _ (Fin.ext ?_)
      show 512 * ((n + 1) % 11) + f.val = 512 * (0 % 11) + f.val
      rw [h0]
    · obtain ⟨i1, i2⟩ := ih (by omega) (by omega) a
      have hr : rowOf ⟨n, by omega⟩ a = rowOf ⟨n + 1, hn⟩ a := by
        apply Fin.ext; show 512 * (n / 11) + a.val = 512 * ((n + 1) / 11) + a.val; omega
      rw [hr] at i1 i2
      refine ⟨fun b => (caseB_hidden m c ⟨n + 1, hn⟩ h0 h10 (ix2 a b)).trans (i1 b), fun b => ?_⟩
      refine (caseB_acc m c ⟨n + 1, hn⟩ h0 h10 a b).trans ?_
      have e1 := i2 b
      have e2 : (fun k => (outsAt0 m c n (by omega)).2.1 (ix2 a k)) = hiddenRow m c (rowOf ⟨n + 1, hn⟩ a) := funext i1
      show (outsAt0 m c n _).2.2 (ix2 a b) + downPart (fun k => (outsAt0 m c n _).2.1 (ix2 a k)) _ _ _ b = _
      rw [e1, e2, downPart_eq, show (n + 1) % 11 = n % 11 + 1 by omega, Finset.sum_range_succ _ (n % 11 + 1)]
      refine congrArg₂ _ rfl (Finset.sum_congr rfl fun f _ => congrArg _ (Fin.ext ?_))
      show 512 * ((n + 1) % 11) + f.val = 512 * ((n % 11 + 1) % 11) + f.val
      omega

/-- The result: every row through the feed-forward part. -/
def result (c : Dev nD) : Vec Ideal S8192x2048 .f32 := fun i =>
  ffnRow siluTanh (xRow m c (i 0)) (modRow m c (i 0) 3) (modRow m c (i 0) 4) (modRow m c (i 0) 5) (gain m c 0) (gain m c 1)
    (wGate m c) (wUp m c) (wDown m c) (i 1)

theorem total (c : Dev nD) (r : Fin 8192) (b : Fin 2048) :
    (∑ s ∈ Finset.range 11, ∑ f : Fin 512, unit m c r b (part s f)) = ∑ f : Fin 5632, unit m c r b f := by
  rw [Finset.sum_range]
  refine Fin.sum_mul_add_congr fun s f hl => congrArg _ (Fin.ext ?_)
  show 512 * (s.val % 11) + f.val = s.val * 512 + f.val
  omega

theorem point_out (c : Dev nD) (t : Fin cfg0.N) (h : t.val % 11 = 10) (a : Fin 512) (b : Fin 2048) :
    (outsAt0 m c t.val t.isLt).1 (ix2 a b) = result m c (ix2 (rowOf t a) b) := by
  rw [caseC m c t h a b]
  obtain ⟨n, hn⟩ := t
  obtain ⟨n, rfl⟩ : ∃ k, n = k + 1 := ⟨n - 1, by dsimp only at h; omega⟩
  dsimp only at h
  have hr : rowOf ⟨n, by omega⟩ a = rowOf ⟨n + 1, hn⟩ a := by
    apply Fin.ext; show 512 * (n / 11) + a.val = 512 * ((n + 1) / 11) + a.val; omega
  obtain ⟨i1, i2⟩ := carried m c n (by omega) (by omega) a
  rw [hr] at i1 i2
  have e2 : (fun k => (outsAt0 m c n (by omega)).2.1 (ix2 a k)) = hiddenRow m c (rowOf ⟨n + 1, hn⟩ a) := funext i1
  have e3 : (fun k => (outsAt0 m c n (by omega)).2.2 (ix2 a k)
      + downPart (hiddenRow m c (rowOf ⟨n + 1, hn⟩ a)) (iblk m c 3 ⟨n + 1, hn⟩) (iblk m c 4 ⟨n + 1, hn⟩) (iblk m c 5 ⟨n + 1, hn⟩) k)
      = fun k => ∑ f : Fin 5632, unit m c (rowOf ⟨n + 1, hn⟩ a) k f := by
    funext k
    rw [i2 k, downPart_eq, ← total, show n % 11 + 1 = 10 by omega, Finset.sum_range_succ _ 10]
    refine congrArg₂ _ rfl (Finset.sum_congr rfl fun f _ => congrArg _ (Fin.ext ?_))
    show 512 * ((n + 1) % 11) + f.val = 512 * (10 % 11) + f.val
    omega
  show residual _ _ _ (fun k => (outsAt0 m c n _).2.2 (ix2 a k) + downPart (fun k => (outsAt0 m c n _).2.1 (ix2 a k)) _ _ _ k) b = _
  rw [e2, e3]
  unfold result ffnRow
  simp only [rows_block, mod_block m c _ a, gain_block]
  rfl

theorem arr (c : Dev nD) : (dats m 0 c).arrAt 6 (cfgs 0).N = result m c := by
  refine (dats m 0 c).arrAt_eq_of_covers 6 _ (by decide +kernel) fun t hf y => ?_
  have h10 : t.val % 11 = 10 := (flush0_6 t).mp hf
  blk_simp
  rw [after0_6]
  idx_vars y
  refine (point_out m c t h10 y0 y1).trans (congrArg (result m c) ?_)
  blk_ext [at_point t, rowOf]

/-- Every run ends with the result array made of the arguments row by row, the arguments unchanged. -/
theorem run_result : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr m c), (h c).2⟩) (run_blocks m ρ)

end Cert.KernelFfnPromptIdeal.Ffn

end
-- ==== Proof.FfnPromptRef.lean ====
module

public import proofs.«01_k».proof.Proof.Gen.ReferenceFfnPromptIdeal.Read
public import proofs.«01_k».proof.Proof.FfnRow

@[expose] public section

set_option maxRecDepth 16384

noncomputable section

/-! The feed-forward reference's result, element by element, as the row function over its arguments. -/

namespace Cert.ReferenceFfnPromptIdeal.Ffn

open Cert.ReferenceFfnPromptIdeal Cert.ReferenceFfnPromptIdeal.Gen Cert.ReferenceFfnPromptIdeal.Read Idealize.ShloMosaic Idealize.ShloMosaic.TcCoe Idealize.SL.Sem
open Cert.Row

variable (x0 : Vec Ideal S32x256x2048 .f32) (x1 : Vec Ideal S1x6x2048 .f32) (x2 : Vec Ideal S2x2048 .f32)
  (x3 x4 : Vec Ideal S2048x5632 .f32) (x5 : Vec Ideal S5632x2048 .f32)

theorem inv_rms (p : Fin 32) (q : Fin 256) :
    val_main_v7 (F := Ideal) x0 (ix3 p q (0 : Fin 1)) = invRms (fun k => x0 (ix3 p q k)) := by
  unfold invRms
  pointwise [val_main_v0, val_main_cst, val_main_v1, val_main_v2, val_main_cst_0, val_main_v3, val_main_v4, val_main_cst_1, val_main_v5, val_main_v6, val_main_v7]

theorem hidden (p : Fin 32) (q : Fin 256) (k : Fin 2048) :
    val_main_v26 (F := Ideal) x0 x1 x2 (ix3 p q k)
      = modNorm (fun k => x0 (ix3 p q k)) (fun k => x2 (ix2 (0 : Fin 2) k)) (fun k => x1 (ix3 (0 : Fin 1) (3 : Fin 6) k)) (fun k => x1 (ix3 (0 : Fin 1) (4 : Fin 6) k)) k := by
  unfold modNorm
  rw [← inv_rms]
  pointwise [val_main_v8, val_main_v9, val_main_v10, val_main_v11, val_main_v12, val_main_v13, val_main_v14, val_main_v15, val_main_v16, val_main_v17, val_main_cst_2, val_main_v18, val_main_v19, val_main_v20, val_main_v21, val_main_v22, val_main_v23, val_main_v24, val_main_v25, val_main_v26]

theorem hidden_unit (p : Fin 32) (q : Fin 256) (f : Fin 5632) :
    val_main_v30 (F := Ideal) x0 x1 x2 x3 x4 (ix3 p q f)
      = gated siluExp (fun k => val_main_v26 (F := Ideal) x0 x1 x2 (ix3 p q k)) (fun k => x3 (ix2 k f)) (fun k => x4 (ix2 k f)) := by
  unfold gated siluExp col
  pointwise [val_main_v27, val_main_call0_v0, val_main_call0_v1, val_main_call0_cst, val_main_call0_v2, val_main_call0_v3, val_main_call0_cst_0, val_main_call0_v4, val_main_call0_v5, val_main_v28, val_main_v29, val_main_v30]

theorem down (p : Fin 32) (q : Fin 256) (k : Fin 2048) :
    val_main_v31 (F := Ideal) x0 x1 x2 x3 x4 x5 (ix3 p q k)
      = ∑ f : Fin 5632, val_main_v30 (F := Ideal) x0 x1 x2 x3 x4 (ix3 p q f) * x5 (ix2 f k) := by
  pointwise [val_main_v31]

theorem last (r : Fin 8192) (k : Fin 2048) (p : Fin 32) (q : Fin 256) (hp : p.val = r.val / 256) (hq : q.val = r.val % 256) :
    val_main_v53 (F := Ideal) x0 x1 x2 x3 x4 x5 (ix2 r k)
      = Row.residual (fun k => x0 (ix3 p q k)) (fun k => x1 (ix3 (0 : Fin 1) (5 : Fin 6) k)) (fun k => x2 (ix2 (1 : Fin 2) k))
          (fun k => val_main_v31 (F := Ideal) x0 x1 x2 x3 x4 x5 (ix3 p q k)) k := by
  have ep : p = ⟨r.val / 256, by omega⟩ := Fin.ext hp
  have eq : q = ⟨r.val % 256, by omega⟩ := Fin.ext hq
  rw [ep, eq]
  unfold Row.residual invRms
  pointwise [val_main_v32, val_main_v33, val_main_v34, val_main_v35, val_main_cst_3, val_main_v36, val_main_v37, val_main_cst_4, val_main_v38, val_main_v39, val_main_cst_5, val_main_v40, val_main_v41, val_main_v42, val_main_v43, val_main_v44, val_main_v45, val_main_v46, val_main_v47, val_main_v48, val_main_v49, val_main_v50, val_main_v51, val_main_v52, val_main_v53]

theorem whole (r : Fin 8192) (k : Fin 2048) (p : Fin 32) (q : Fin 256) (hp : p.val = r.val / 256) (hq : q.val = r.val % 256) :
    val_main_v53 (F := Ideal) x0 x1 x2 x3 x4 x5 (ix2 r k)
      = ffnRow siluExp (fun k => x0 (ix3 p q k)) (fun k => x1 (ix3 (0 : Fin 1) (3 : Fin 6) k)) (fun k => x1 (ix3 (0 : Fin 1) (4 : Fin 6) k))
          (fun k => x1 (ix3 (0 : Fin 1) (5 : Fin 6) k)) (fun k => x2 (ix2 (0 : Fin 2) k)) (fun k => x2 (ix2 (1 : Fin 2) k))
          (fun k f => x3 (ix2 k f)) (fun k f => x4 (ix2 k f)) (fun f k => x5 (ix2 f k)) k := by
  rw [last x0 x1 x2 x3 x4 x5 r k p q hp hq]
  unfold ffnRow
  simp only [down, hidden_unit, hidden]

end Cert.ReferenceFfnPromptIdeal.Ffn

end
-- ==== Proof.FfnPromptFinal.lean ====
module

public import proofs.«01_k».proof.Defs
public import proofs.«01_k».proof.Proof.Gen.Pre_finite_prompt
public import proofs.«01_k».proof.Proof.FfnPromptC
public import proofs.«01_k».proof.Proof.RealRow
public import proofs.«01_k».proof.Proof.FfnPromptRef
public import proofs.«01_k».proof.Proof.Gen.ReferenceFfnPromptIdeal.Run
public import Idealize.ShloMosaic.Lib.ReduceAll

@[expose] public section

set_option maxRecDepth 16384

noncomputable section

namespace Cert.FfnPromptFinal

open Idealize.ShloMosaic Idealize.ShloMosaic.TcCoe Idealize.SL.Sem Cert.Row

theorem finite_of_pre (x0 : Vec Ideal Cert.Pre_finite_prompt.S32x256x2048 .f32) (x1 : Vec Ideal Cert.Pre_finite_prompt.S1x6x2048 .f32)
    (x2 : Vec Ideal Cert.Pre_finite_prompt.S2x2048 .f32) (x3 x4 : Vec Ideal Cert.Pre_finite_prompt.S2048x5632 .f32)
    (x5 : Vec Ideal Cert.Pre_finite_prompt.S5632x2048 .f32)
    (h0 : (Cert.Pre_finite_prompt.fn (F := Ideal) x0 x1 x2 x3 x4 x5).1 = fun _ => 1#1)
    (h1 : (Cert.Pre_finite_prompt.fn (F := Ideal) x0 x1 x2 x3 x4 x5).2.1 = fun _ => 1#1)
    (h2 : (Cert.Pre_finite_prompt.fn (F := Ideal) x0 x1 x2 x3 x4 x5).2.2.1 = fun _ => 1#1)
    (h3 : (Cert.Pre_finite_prompt.fn (F := Ideal) x0 x1 x2 x3 x4 x5).2.2.2 = fun _ => 1#1) :
    (∀ i, IsReal (x0 i)) ∧ (∀ i, IsReal (x1 i)) ∧ (∀ i, IsReal (x2 i)) ∧ (∀ i, IsReal (x3 i)) := by
  have s : Subsingleton Cert.Pre_finite_prompt.S_.Idx := ⟨fun a b => funext fun k => k.elim0⟩
  unfold Cert.Pre_finite_prompt.fn at h0 h1 h2 h3
  dsimp only at h0 h1 h2 h3
  have r0 := Host.reduce_andi_all _ _ _ _ _ (congrFun h0 fun a => a.elim0)
  have r1 := Host.reduce_andi_all _ _ _ _ _ (congrFun h1 fun a => a.elim0)
  have r2 := Host.reduce_andi_all _ _ _ _ _ (congrFun h2 fun a => a.elim0)
  have r3 := Host.reduce_andi_all _ _ _ _ _ (congrFun h3 fun a => a.elim0)
  exact ⟨fun i => isReal_of_test (r0 i), fun i => isReal_of_test (r1 i), fun i => isReal_of_test (r2 i), fun i => isReal_of_test (r3 i)⟩

theorem ffn_prompt_algebraic : Cert.algebraic_KernelFfnPromptIdeal_ReferenceFfnPromptIdeal_pre_finite_prompt := by
  pair_intro
  · run_from (Cert.KernelFfnPromptIdeal.Ffn.run_result m g)
  · run_from (Cert.ReferenceFfnPromptIdeal.Value.run m' g')
    obtain ⟨e0, e1, e2, e3, e4, e5⟩ := hagree c
    obtain ⟨h0, h1, h2, h3⟩ := hpre c
    obtain ⟨f0, f1, f2, f3⟩ := finite_of_pre _ _ _ _ _ _ h0 h1 h2 h3
    refine (Cert.ReferenceFfnPromptIdeal.Read.val_main_v53_eq _ _).trans ?_
    rw [e0, e1, e2, e3, e4, e5]
    funext i
    obtain ⟨r, k, rfl⟩ : ∃ (r : Fin 8192) (k : Fin 2048), i = ix2 r k := ⟨i 0, i 1, eq_ix2 i⟩
    rw [Cert.ReferenceFfnPromptIdeal.Ffn.whole _ _ _ _ _ _ r k (Cert.KernelFfnPromptIdeal.Ffn.batch r) (Cert.KernelFfnPromptIdeal.Ffn.place r) rfl rfl]
    exact (ffnRow_eq (fun k => f0 _) (fun k => f1 _) (fun k => f1 _) (fun k => f2 _) (fun k f => f3 _) k).symm

end Cert.FfnPromptFinal

end
-- ==== Proof.OutEvenKernel.lean ====
module

public import proofs.«01_k».proof.Proof.Gen.KernelOutEvenIdeal.Value
public import proofs.«01_k».proof.Proof.FfnRow
public import Idealize.ShloMosaic.Lib.Pipeline.ReadBack

@[expose] public section

set_option maxRecDepth 16384

noncomputable section

/-! The out-projection kernel's result as one array over its arguments. -/

namespace Cert.KernelOutEvenIdeal.Out

open Cert.KernelOutEvenIdeal Cert.KernelOutEvenIdeal.Gen Cert.KernelOutEvenIdeal.Value Idealize.ShloMosaic Idealize.ShloMosaic.TcCoe Idealize.SL.Sem
open Cert.Row
open Idealize.ShloMosaic.Pipeline (Dat Window)

/-- One row times the output weights, at one column. -/
def product (o y : Fin 2048 → EReal) (w : Fin 4096 → Fin 2048 → EReal) (b : Fin 2048) : EReal :=
  (∑ k : Fin 2048, o k * w ⟨k.val, by omega⟩ b) + ∑ k : Fin 2048, y k * w ⟨2048 + k.val, by omega⟩ b

variable (m : (ℓ : Loc nD τ sig) → Buf (Elt Ideal) ℓ) (ρ : Dev nD → PrngReg)

theorem lower (gate : Vec Ideal S1x1x2048 .f32) (o : Vec Ideal S256x2048 .bf16) (w1 : Vec Ideal S2048x2048 .bf16) (y : Vec Ideal S256x2048 .bf16) (w2 : Vec Ideal S2048x2048 .bf16) (x : Vec Ideal S256x2048 .f32) (g : Vec Ideal S1x2048 .f32) (a : Fin 256) (b : Fin 2048) :
    k0_pay3 (F := Ideal) gate o w1 y w2 x g (ix2 a b)
      = residual (fun k => x (ix2 a k)) (fun k => gate (ix3 0 0 k)) (fun k => g (ix2 0 k))
          (fun b => (∑ k : Fin 2048, o (ix2 a k) * w1 (ix2 k b)) + ∑ k : Fin 2048, y (ix2 a k) * w2 (ix2 k b)) b := by
  pointwise [k0_pay3, k0_pay2]
  rfl

theorem upper (gate : Vec Ideal S1x1x2048 .f32) (o : Vec Ideal S256x2048 .bf16) (w1 : Vec Ideal S2048x2048 .bf16) (y : Vec Ideal S256x2048 .bf16) (w2 : Vec Ideal S2048x2048 .bf16) (x : Vec Ideal S256x2048 .f32) (g : Vec Ideal S1x2048 .f32) (a : Fin 256) (b : Fin 2048) :
    k0_pay1 (F := Ideal) (k0_pay2 gate) (k0_pay4 o) w1 y w2 x g (ix2 a b)
      = residual (fun k => x (ix2 a k)) (fun k => gate (ix3 0 0 k)) (fun k => g (ix2 0 k))
          (fun b => (∑ k : Fin 2048, o (ix2 a k) * w1 (ix2 k b)) + ∑ k : Fin 2048, y (ix2 a k) * w2 (ix2 k b)) b := by
  pointwise [k0_pay1, k0_pay2, k0_pay4]
  rfl

/-- Where each window's block begins, in blocks, at a grid point. -/
theorem at_point : ∀ t : Fin cfg0.N,
    win0_0.index t = ![t.val, 0] ∧ win0_1.index t = ![t.val, 0] ∧ win0_2.index t = ![0, 0] ∧ win0_3.index t = ![t.val, 0] ∧ win0_4.index t = ![t.val / 4, 0, 0] ∧ win0_5.index t = ![0, 0] ∧ win0_6.index t = ![t.val, 0] := by
  decide +kernel

theorem point_lt (t : Fin cfg0.N) : t.val < 32 := lt_of_lt_of_eq t.isLt N_0

/-- The row of the whole array that row `a` of the row blocks at a point is. -/
def rowOf (t : Fin cfg0.N) (a : Fin 512) : Fin 16384 :=
  ⟨512 * t.val + a.val, by have := point_lt t; omega⟩

/-- The batch entry of a row. -/
def batch (r : Fin 16384) : Fin 8 := ⟨r.val / 2048, by omega⟩
/-- The position of a row in its batch entry. -/
def place (r : Fin 16384) : Fin 2048 := ⟨r.val % 2048, by omega⟩

theorem o_block (c : Dev nD) (t : Fin cfg0.N) (a : Fin 512) (k : Fin 2048) :
    iblk m c 0 t (ix2 a k) = m ((c : Thread nD τ).loc main_arg0) (ix3 (batch (rowOf t a)) (place (rowOf t a)) k) := by
  blk_ext! [iblk, V, at_point t, batch, place, rowOf]

theorem y_block (c : Dev nD) (t : Fin cfg0.N) (a : Fin 512) (k : Fin 2048) :
    iblk m c 1 t (ix2 a k) = m ((c : Thread nD τ).loc main_arg1) (ix3 (batch (rowOf t a)) (place (rowOf t a)) k) := by
  blk_ext! [iblk, V, at_point t, batch, place, rowOf]

theorem w_block (c : Dev nD) (t : Fin cfg0.N) (k : Fin 4096) (b : Fin 2048) :
    iblk m c 2 t (ix2 k b) = m ((c : Thread nD τ).loc main_arg2) (ix2 k b) := by
  blk_ext [iblk, V, at_point t]

theorem x_block (c : Dev nD) (t : Fin cfg0.N) (a : Fin 512) (k : Fin 2048) :
    iblk m c 3 t (ix2 a k) = m ((c : Thread nD τ).loc main_arg3) (ix3 (batch (rowOf t a)) (place (rowOf t a)) k) := by
  blk_ext! [iblk, V, at_point t, batch, place, rowOf]

theorem mod_block (c : Dev nD) (t : Fin cfg0.N) (a : Fin 512) (s : Fin 6) (k : Fin 2048) :
    iblk m c 4 t (ix3 (0 : Fin 1) s k) = m ((c : Thread nD τ).loc main_arg4) (ix3 (batch (rowOf t a)) s k) := by
  blk_ext [iblk, V, at_point t, batch, rowOf]

theorem gain_block (c : Dev nD) (t : Fin cfg0.N) (s : Fin 1) (k : Fin 2048) :
    iblk m c 5 t (ix2 s k) = m ((c : Thread nD τ).loc main_arg5) (ix2 s k) := by
  blk_ext [iblk, V, at_point t]

/-- The result: every row's product, normalised, gated and added to the row that came in. -/
def result (c : Dev nD) : Vec Ideal S16384x2048 .f32 := fun i =>
  let r : Fin 16384 := i 0
  residual (fun k => m ((c : Thread nD τ).loc main_arg3) (ix3 (batch r) (place r) k))
    (fun k => m ((c : Thread nD τ).loc main_arg4) (ix3 (batch r) (2 : Fin 6) k))
    (fun k => m ((c : Thread nD τ).loc main_arg5) (ix2 (0 : Fin 1) k))
    (product (fun k => m ((c : Thread nD τ).loc main_arg0) (ix3 (batch r) (place r) k)) (fun k => m ((c : Thread nD τ).loc main_arg1) (ix3 (batch r) (place r) k))
      (fun k b => m ((c : Thread nD τ).loc main_arg2) (ix2 k b))) (i 1)

/-- A row of the written block, made from the point's blocks. -/
def rowAt (c : Dev nD) (t : Fin cfg0.N) (a : Fin 512) : Fin 2048 → EReal :=
  residual (fun k => iblk m c 3 t (ix2 a k)) (fun k => iblk m c 4 t (ix3 (0 : Fin 1) (2 : Fin 6) k)) (fun k => iblk m c 5 t (ix2 (0 : Fin 1) k))
    (product (fun k => iblk m c 0 t (ix2 a k)) (fun k => iblk m c 1 t (ix2 a k)) (fun k b => iblk m c 2 t (ix2 k b)))

theorem rowAt_eq (c : Dev nD) (t : Fin cfg0.N) (a : Fin 512) (b : Fin 2048) :
    rowAt m c t a b = result m c (ix2 (rowOf t a) b) := by
  unfold rowAt result
  simp only [o_block, y_block, w_block, x_block, mod_block m c t a, gain_block]
  rfl

theorem arr (c : Dev nD) : (dats m 0 c).arrAt 6 (cfgs 0).N = result m c := by
  refine (dats m 0 c).arrAt_eq_of_covers 6 _ (by decide +kernel) fun t hf y => ?_
  blk_simp
  rw [after0_6]
  idx_vars y
  refine Eq.trans (b := rowAt m c t y0 y1) ?_ ((rowAt_eq m c t y0 y1).trans (congrArg (result m c) ?_))
  · frame_out
    canon_tiles x h
    · idx_vars x
      obtain rfl : y1 = x1 := Fin.ext h1
      have e : y0 = ⟨256 + x0.val, by omega⟩ := Fin.ext h0
      rw [upper, e]
      unfold rowAt product
      pointwise
    · idx_vars x
      obtain rfl : y1 = x1 := Fin.ext h1
      have e : y0 = ⟨x0.val, by omega⟩ := Fin.ext h0
      rw [lower, e]
      unfold rowAt product
      pointwise
  · blk_ext [at_point t, rowOf]

/-- Every run ends with the result array made of the arguments row by row, the arguments unchanged. -/
theorem run_result : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr m c), (h c).2⟩) (run_blocks m ρ)

end Cert.KernelOutEvenIdeal.Out

end
-- ==== Proof.OutEvenFinal.lean ====
module

public import proofs.«01_k».proof.Proof.Gen.ReferenceOutEvenIdeal.Read
public import proofs.«01_k».proof.Proof.Gen.ReferenceOutEvenIdeal.Run
public import proofs.«01_k».proof.Proof.OutEvenKernel
public import proofs.«01_k».proof.Defs

@[expose] public section

set_option maxRecDepth 16384

noncomputable section

/-! The out-projection reference, element by element, and the claim. -/

namespace Cert.OutEvenFinal

open Cert.ReferenceOutEvenIdeal Cert.ReferenceOutEvenIdeal.Gen Cert.ReferenceOutEvenIdeal.Read Idealize.ShloMosaic Idealize.ShloMosaic.TcCoe Idealize.SL.Sem
open Cert.Row

section
variable (x0 x1 : Vec Ideal S8x2048x2048 .bf16) (x2 : Vec Ideal S4096x2048 .f32) (x3 : Vec Ideal S8x2048x2048 .f32) (x4 : Vec Ideal S8x6x2048 .f32) (x5 : Vec Ideal S1x2048 .f32)

theorem product_eq (p : Fin 8) (q b : Fin 2048) :
    val_main_v2 (F := Ideal) x0 x1 x2 (ix3 p q b) = Cert.KernelOutEvenIdeal.Out.product (fun k => x0 (ix3 p q k)) (fun k => x1 (ix3 p q k)) (fun k b => x2 (ix2 k b)) b := by
  unfold Cert.KernelOutEvenIdeal.Out.product
  pointwise [val_main_v0, val_main_v1, val_main_v2]

theorem inv_rms (p : Fin 8) (q : Fin 2048) :
    val_main_v13 (F := Ideal) x0 x1 x2 (ix3 p q (0 : Fin 1)) = invRms (fun k => val_main_v2 (F := Ideal) x0 x1 x2 (ix3 p q k)) := by
  unfold invRms
  pointwise [val_main_v3, val_main_v4, val_main_v5, val_main_v6, val_main_cst, val_main_v7, val_main_v8, val_main_cst_0, val_main_v9, val_main_v10, val_main_cst_1, val_main_v11, val_main_v12, val_main_v13]

theorem whole (r : Fin 16384) (k : Fin 2048) (p : Fin 8) (q : Fin 2048) (hp : p.val = r.val / 2048) (hq : q.val = r.val % 2048) :
    val_main_v23 (F := Ideal) x0 x1 x2 x3 x4 x5 (ix2 r k)
      = Row.residual (fun k => x3 (ix3 p q k)) (fun k => x4 (ix3 p (2 : Fin 6) k)) (fun k => x5 (ix2 (0 : Fin 1) k))
          (fun k => val_main_v2 (F := Ideal) x0 x1 x2 (ix3 p q k)) k := by
  have ep : p = ⟨r.val / 2048, by omega⟩ := Fin.ext hp
  have eq : q = ⟨r.val % 2048, by omega⟩ := Fin.ext hq
  rw [ep, eq]
  unfold Row.residual
  rw [← inv_rms]
  pointwise [val_main_v3, val_main_v4, val_main_v5, val_main_v14, val_main_v15, val_main_v16, val_main_v17, val_main_v18, val_main_v19, val_main_v20, val_main_v21, val_main_v22, val_main_v23]

end

theorem out_algebraic : Cert.algebraic_KernelOutEvenIdeal_ReferenceOutEvenIdeal := by
  pair_intro
  · run_from (Cert.KernelOutEvenIdeal.Out.run_result m g)
  · run_from (Cert.ReferenceOutEvenIdeal.Value.run m' g')
    obtain ⟨e0, e1, e2, e3, e4, e5⟩ := hagree c
    refine (Cert.ReferenceOutEvenIdeal.Read.val_main_v23_eq _ _ _ _ _ _).trans ?_
    funext i
    obtain ⟨r, k, rfl⟩ : ∃ (r : Fin 16384) (k : Fin 2048), i = ix2 r k := ⟨i 0, i 1, eq_ix2 i⟩
    rw [whole _ _ _ _ _ _ r k (Cert.KernelOutEvenIdeal.Out.batch r) (Cert.KernelOutEvenIdeal.Out.place r) rfl rfl]
    simp only [product_eq]
    rfl

end Cert.OutEvenFinal

end
-- ==== Proof.OutOddKernel.lean ====
module

public import proofs.«01_k».proof.Proof.Gen.KernelOutOddIdeal.Value
public import proofs.«01_k».proof.Proof.FfnRow
public import Idealize.ShloMosaic.Lib.Pipeline.ReadBack

@[expose] public section

set_option maxRecDepth 16384

noncomputable section

/-! The out-projection kernel's result as one array over its arguments. -/

namespace Cert.KernelOutOddIdeal.Out

open Cert.KernelOutOddIdeal Cert.KernelOutOddIdeal.Gen Cert.KernelOutOddIdeal.Value Idealize.ShloMosaic Idealize.ShloMosaic.TcCoe Idealize.SL.Sem
open Cert.Row
open Idealize.ShloMosaic.Pipeline (Dat Window)

/-- One row times the output weights, at one column. -/
def product (o : Fin 4096 → EReal) (w : Fin 4096 → Fin 2048 → EReal) (b : Fin 2048) : EReal := ∑ k : Fin 4096, o k * w k b

variable (m : (ℓ : Loc nD τ sig) → Buf (Elt Ideal) ℓ) (ρ : Dev nD → PrngReg)

theorem lower (gate : Vec Ideal S1x1x2048 .f32) (o : Vec Ideal S256x4096 .bf16) (w : Vec Ideal S4096x2048 .bf16) (x : Vec Ideal S256x2048 .f32) (g : Vec Ideal S1x2048 .f32) (a : Fin 256) (b : Fin 2048) :
    k0_pay3 (F := Ideal) gate o w x g (ix2 a b)
      = residual (fun k => x (ix2 a k)) (fun k => gate (ix3 0 0 k)) (fun k => g (ix2 0 k))
          (fun b => ∑ k : Fin 4096, o (ix2 a k) * w (ix2 k b)) b := by
  pointwise [k0_pay3, k0_pay2]
  rfl

theorem upper (gate : Vec Ideal S1x1x2048 .f32) (o : Vec Ideal S256x4096 .bf16) (w : Vec Ideal S4096x2048 .bf16) (x : Vec Ideal S256x2048 .f32) (g : Vec Ideal S1x2048 .f32) (a : Fin 256) (b : Fin 2048) :
    k0_pay1 (F := Ideal) (k0_pay2 gate) (k0_pay4 o w) (k0_pay5 x) g (ix2 a b)
      = residual (fun k => x (ix2 a k)) (fun k => gate (ix3 0 0 k)) (fun k => g (ix2 0 k))
          (fun b => ∑ k : Fin 4096, o (ix2 a k) * w (ix2 k b)) b := by
  pointwise [k0_pay1, k0_pay2, k0_pay4, k0_pay5]
  rfl

/-- Where each window's block begins, in blocks, at a grid point. -/
theorem at_point : ∀ t : Fin cfg0.N,
    win0_0.index t = ![t.val, 0] ∧ win0_1.index t = ![0, 0] ∧ win0_2.index t = ![t.val, 0] ∧ win0_3.index t = ![t.val / 4, 0, 0] ∧ win0_4.index t = ![0, 0] ∧ win0_5.index t = ![t.val, 0] := by
  decide +kernel

theorem point_lt (t : Fin cfg0.N) : t.val < 32 := lt_of_lt_of_eq t.isLt N_0

/-- The row of the whole array that row `a` of the row blocks at a point is. -/
def rowOf (t : Fin cfg0.N) (a : Fin 512) : Fin 16384 :=
  ⟨512 * t.val + a.val, by have := point_lt t; omega⟩

/-- The batch entry of a row. -/
def batch (r : Fin 16384) : Fin 8 := ⟨r.val / 2048, by omega⟩
/-- The position of a row in its batch entry. -/
def place (r : Fin 16384) : Fin 2048 := ⟨r.val % 2048, by omega⟩

theorem o_block (c : Dev nD) (t : Fin cfg0.N) (a : Fin 512) (k : Fin 4096) :
    iblk m c 0 t (ix2 a k) = m ((c : Thread nD τ).loc main_arg0) (ix3 (batch (rowOf t a)) (place (rowOf t a)) k) := by
  blk_ext! [iblk, V, at_point t, batch, place, rowOf]

theorem w_block (c : Dev nD) (t : Fin cfg0.N) (k : Fin 4096) (b : Fin 2048) :
    iblk m c 1 t (ix2 k b) = m ((c : Thread nD τ).loc main_arg1) (ix2 k b) := by
  blk_ext [iblk, V, at_point t]

theorem x_block (c : Dev nD) (t : Fin cfg0.N) (a : Fin 512) (k : Fin 2048) :
    iblk m c 2 t (ix2 a k) = m ((c : Thread nD τ).loc main_arg2) (ix3 (batch (rowOf t a)) (place (rowOf t a)) k) := by
  blk_ext! [iblk, V, at_point t, batch, place, rowOf]

theorem mod_block (c : Dev nD) (t : Fin cfg0.N) (a : Fin 512) (s : Fin 6) (k : Fin 2048) :
    iblk m c 3 t (ix3 (0 : Fin 1) s k) = m ((c : Thread nD τ).loc main_arg3) (ix3 (batch (rowOf t a)) s k) := by
  blk_ext [iblk, V, at_point t, batch, rowOf]

theorem gain_block (c : Dev nD) (t : Fin cfg0.N) (s : Fin 1) (k : Fin 2048) :
    iblk m c 4 t (ix2 s k) = m ((c : Thread nD τ).loc main_arg4) (ix2 s k) := by
  blk_ext [iblk, V, at_point t]

/-- The result: every row's product, normalised, gated and added to the row that came in. -/
def result (c : Dev nD) : Vec Ideal S16384x2048 .f32 := fun i =>
  let r : Fin 16384 := i 0
  residual (fun k => m ((c : Thread nD τ).loc main_arg2) (ix3 (batch r) (place r) k))
    (fun k => m ((c : Thread nD τ).loc main_arg3) (ix3 (batch r) (2 : Fin 6) k))
    (fun k => m ((c : Thread nD τ).loc main_arg4) (ix2 (0 : Fin 1) k))
    (product (fun k => m ((c : Thread nD τ).loc main_arg0) (ix3 (batch r) (place r) k))
      (fun k b => m ((c : Thread nD τ).loc main_arg1) (ix2 k b))) (i 1)

/-- A row of the written block, made from the point's blocks. -/
def rowAt (c : Dev nD) (t : Fin cfg0.N) (a : Fin 512) : Fin 2048 → EReal :=
  residual (fun k => iblk m c 2 t (ix2 a k)) (fun k => iblk m c 3 t (ix3 (0 : Fin 1) (2 : Fin 6) k)) (fun k => iblk m c 4 t (ix2 (0 : Fin 1) k))
    (product (fun k => iblk m c 0 t (ix2 a k)) (fun k b => iblk m c 1 t (ix2 k b)))

theorem rowAt_eq (c : Dev nD) (t : Fin cfg0.N) (a : Fin 512) (b : Fin 2048) :
    rowAt m c t a b = result m c (ix2 (rowOf t a) b) := by
  unfold rowAt result
  simp only [o_block, w_block, x_block, mod_block m c t a, gain_block]
  rfl

theorem arr (c : Dev nD) : (dats m 0 c).arrAt 5 (cfgs 0).N = result m c := by
  refine (dats m 0 c).arrAt_eq_of_covers 5 _ (by decide +kernel) fun t hf y => ?_
  blk_simp
  rw [after0_5]
  idx_vars y
  refine Eq.trans (b := rowAt m c t y0 y1) ?_ ((rowAt_eq m c t y0 y1).trans (congrArg (result m c) ?_))
  · frame_out
    canon_tiles x h
    · idx_vars x
      obtain rfl : y1 = x1 := Fin.ext h1
      have e : y0 = ⟨256 + x0.val, by omega⟩ := Fin.ext h0
      rw [upper, e]
      unfold rowAt product
      pointwise
    · idx_vars x
      obtain rfl : y1 = x1 := Fin.ext h1
      have e : y0 = ⟨x0.val, by omega⟩ := Fin.ext h0
      rw [lower, e]
      unfold rowAt product
      pointwise
  · blk_ext [at_point t, rowOf]

/-- Every run ends with the result array made of the arguments row by row, the arguments unchanged. -/
theorem run_result : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr m c), (h c).2⟩) (run_blocks m ρ)

end Cert.KernelOutOddIdeal.Out

end
-- ==== Proof.OutOddFinal.lean ====
module

public import proofs.«01_k».proof.Proof.Gen.ReferenceOutOddIdeal.Read
public import proofs.«01_k».proof.Proof.Gen.ReferenceOutOddIdeal.Run
public import proofs.«01_k».proof.Proof.OutOddKernel
public import proofs.«01_k».proof.Defs

@[expose] public section

set_option maxRecDepth 16384

noncomputable section

/-! The out-projection reference, element by element, and the claim. -/

namespace Cert.OutOddFinal

open Cert.ReferenceOutOddIdeal Cert.ReferenceOutOddIdeal.Gen Cert.ReferenceOutOddIdeal.Read Idealize.ShloMosaic Idealize.ShloMosaic.TcCoe Idealize.SL.Sem
open Cert.Row

section
variable (x0 : Vec Ideal S8x2048x4096 .bf16) (x1 : Vec Ideal S4096x2048 .f32) (x2 : Vec Ideal S8x2048x2048 .f32) (x3 : Vec Ideal S8x6x2048 .f32) (x4 : Vec Ideal S1x2048 .f32)

theorem product_eq (p : Fin 8) (q b : Fin 2048) :
    val_main_v1 (F := Ideal) x0 x1 (ix3 p q b) = Cert.KernelOutOddIdeal.Out.product (fun k => x0 (ix3 p q k)) (fun k b => x1 (ix2 k b)) b := by
  unfold Cert.KernelOutOddIdeal.Out.product
  pointwise [val_main_v0, val_main_v1]

theorem inv_rms (p : Fin 8) (q : Fin 2048) :
    val_main_v12 (F := Ideal) x0 x1 (ix3 p q (0 : Fin 1)) = invRms (fun k => val_main_v1 (F := Ideal) x0 x1 (ix3 p q k)) := by
  unfold invRms
  pointwise [val_main_v2, val_main_v3, val_main_v4, val_main_v5, val_main_cst, val_main_v6, val_main_v7, val_main_cst_0, val_main_v8, val_main_v9, val_main_cst_1, val_main_v10, val_main_v11, val_main_v12]

theorem whole (r : Fin 16384) (k : Fin 2048) (p : Fin 8) (q : Fin 2048) (hp : p.val = r.val / 2048) (hq : q.val = r.val % 2048) :
    val_main_v22 (F := Ideal) x0 x1 x2 x3 x4 (ix2 r k)
      = Row.residual (fun k => x2 (ix3 p q k)) (fun k => x3 (ix3 p (2 : Fin 6) k)) (fun k => x4 (ix2 (0 : Fin 1) k))
          (fun k => val_main_v1 (F := Ideal) x0 x1 (ix3 p q k)) k := by
  have ep : p = ⟨r.val / 2048, by omega⟩ := Fin.ext hp
  have eq : q = ⟨r.val % 2048, by omega⟩ := Fin.ext hq
  rw [ep, eq]
  unfold Row.residual
  rw [← inv_rms]
  pointwise [val_main_v2, val_main_v3, val_main_v4, val_main_v13, val_main_v14, val_main_v15, val_main_v16, val_main_v17, val_main_v18, val_main_v19, val_main_v20, val_main_v21, val_main_v22]

end

theorem out_algebraic : Cert.algebraic_KernelOutOddIdeal_ReferenceOutOddIdeal := by
  pair_intro
  · run_from (Cert.KernelOutOddIdeal.Out.run_result m g)
  · run_from (Cert.ReferenceOutOddIdeal.Value.run m' g')
    obtain ⟨e0, e1, e2, e3, e4⟩ := hagree c
    refine (Cert.ReferenceOutOddIdeal.Read.val_main_v22_eq _ _ _ _ _).trans ?_
    funext i
    obtain ⟨r, k, rfl⟩ : ∃ (r : Fin 16384) (k : Fin 2048), i = ix2 r k := ⟨i 0, i 1, eq_ix2 i⟩
    rw [whole _ _ _ _ _ r k (Cert.KernelOutOddIdeal.Out.batch r) (Cert.KernelOutOddIdeal.Out.place r) rfl rfl]
    simp only [product_eq]
    rfl

end Cert.OutOddFinal

end
-- ==== Proof.InOddRunIdeal.lean ====
module

public import proofs.«01_k».proof.Proof.Gen.KernelInOddIdeal.Frame
public import proofs.«01_k».proof.Proof.Gen.KernelInOddIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The run of the odd layer's in-projection (`KernelInOddIdeal`).  At the first of the ten points of a row block the body
    normalizes and modulates the block's rows, keeps them in its scratch, and writes the small product; at the
    other nine it multiplies the kept rows with the next block of columns.  The small product's buffer is
    written at the first point only and leaves for the array at the tenth, so the proof data name, at every
    point, what the first point of its row block left in the scratch and in that buffer. -/

@[expose] public section

set_option maxRecDepth 16384

noncomputable section

namespace Cert.KernelInOddIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInOddIdeal.Gen

variable {F : FTy → Type} [FloatOps F]

/-- The resource algebra of the program's proofs. -/
abbrev World (F : FTy → Type) [FloatOps F] := MT nD τ sig Unit (Elt F) ℕ (UR sig nD τ) ℕ

variable (m : (ℓ : Loc nD τ sig) → Buf (Elt F) ℓ) (ρ : Dev nD → PrngReg)

/-! ## The two kinds of points -/

/-- The body's first branch: the point opens a row block. -/
abbrev opens (i : grid0.Coords) : Prop := k0_cond1 i = 1#1
theorem opens_iff : ∀ t : Fin cfg0.N, opens (grid0.coords t) ↔ t.val % 10 = 0 :=
  (by decide +kernel : ∀ t : Fin grid0.N, opens (grid0.coords t) ↔ t.val % 10 = 0)

/-- The body's second branch: the point goes on with a row block. -/
abbrev goesOn (i : grid0.Coords) : Prop := k0_cond2 i = 1#1
theorem goesOn_iff : ∀ t : Fin cfg0.N, goesOn (grid0.coords t) ↔ t.val % 10 ≠ 0 :=
  (by decide +kernel : ∀ t : Fin grid0.N, goesOn (grid0.coords t) ↔ t.val % 10 ≠ 0)

theorem live_in0 (t : Fin cfg0.N) : cfg0.idle 0 (grid0.coords t) = false := rfl
theorem live_in1 (t : Fin cfg0.N) : cfg0.idle 1 (grid0.coords t) = false := rfl
theorem live_in2 (t : Fin cfg0.N) : cfg0.idle 2 (grid0.coords t) = false := rfl
theorem live_in3 (t : Fin cfg0.N) : cfg0.idle 3 (grid0.coords t) = false := rfl
theorem live_in4 (t : Fin cfg0.N) : cfg0.idle 4 (grid0.coords t) = false := rfl
/-- Both kinds of points store into the main product's buffer, -/
theorem live_main : ∀ t : Fin cfg0.N, cfg0.idle 5 (grid0.coords t) = false :=
  (by decide +kernel : ∀ t : Fin grid0.N, cfg0.idle 5 (grid0.coords t) = false)
/-- only the opening ones into the small product's. -/
theorem idle_small : ∀ t : Fin cfg0.N, cfg0.idle 6 (grid0.coords t) = !decide (t.val % 10 = 0) :=
  (by decide +kernel : ∀ t : Fin grid0.N, cfg0.idle 6 (grid0.coords t) = !decide (t.val % 10 = 0))

/-! ## The staging buffers and the scratch -/

abbrev buf0 (t : Fin cfg0.N) : Memref sig .tc .vmem S1024x2048 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x6x2048 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x2048 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S2048x1024 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S2048x128 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S1024x1024 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S1024x128 .f32 := win0_6.stage (cfg0.slots t 6)
abbrev whole6 (t : Fin cfg0.N) : (buf6 t).IsWhole := hstage0_6 ((cfg0.slots t 6).cast nbuf0_6)
abbrev kept : Memref sig .tc .vmem S1024x2048 .bf16 := Memref.whole cc0_scratch0
/-- The views through which the contents of the scratch and of the two outputs' buffers are stated. -/
abbrev keptView : View sig .tc .vmem S1024x2048 .bf16 := kept.view
abbrev mainView : View sig .tc .vmem S1024x1024 .bf16 := (Memref.whole cc0_stg5_0 : Memref sig .tc .vmem S1024x1024 .bf16).view
abbrev smallView : View sig .tc .vmem S1024x128 .f32 := (Memref.whole cc0_stg6_0 : Memref sig .tc .vmem S1024x128 .f32).view

/-- Between the points, nothing more than the scratch and the generator's register is held. -/
theorem rest_eq (c : Dev nD) :
    (Pipeline.ΦA spec0 c : sProp (World F))
      = iprop((∃ d, owns (c : Thread nD τ) kept fullShare d) ∗ (∃ r, prngReg c r)) := by
  unfold Pipeline.ΦA; rw [scopedRest0_eq]; simp only [kept, owns_whole]; try rfl

/-! ## The body's runs -/

set_option maxHeartbeats 1000000 in
/-- What an opening point's stores leave in the two outputs' buffers and in the scratch, with the proof that the
    body runs so, whatever the three held. -/
def openRun (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) :
    Σ' (L5 : List (View.Piece (Elt F) S1024x1024 .bf16)), Σ' (L6 : List (View.Piece (Elt F) S1024x128 .f32)), { LS : List (View.Piece (Elt F) S1024x2048 .bf16) //
      ∀ (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_mm_in i arg2 harg2 arg3 harg3 arg4 harg4 arg5 harg5 arg6 harg6 arg7 harg7 arg8 harg8 arg9 harg9) K } := by
  refine ⟨?_, ?_, ?_, fun E K => ?run⟩
  case run =>
    simp only [cc0_mm_in_eq_skeleton]; unfold cc0_mm_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact HS

set_option maxHeartbeats 1000000 in
/-- What a later point's store leaves in the main product's buffer, from the rows the scratch keeps, with the proof
    that the body runs so and gives the scratch and the small product's buffer back as they were. -/
def nextRun (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : ¬opens i) (hc1 : goesOn i)
    (x0 : Vec F S1024x2048 .f32) (x1 : Vec F S1x6x2048 .f32) (x2 : Vec F S1x2048 .f32) (x3 : Vec F S2048x1024 .bf16) (x4 : Vec F S2048x128 .bf16) (xs : Vec F S1024x2048 .bf16) :
    { L5 : List (View.Piece (Elt F) S1024x1024 .bf16) //
      ∀ (x6 : Vec F S1024x128 .f32) (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare x6 ∗ owns (c : Thread nD τ) arg9 fullShare xs) -∗ K ⟨⟩))
          ⊢ wp frame (wpE (defs₀ (F := F)) Variants.none c none) E (cc0_mm_in i arg2 harg2 arg3 harg3 arg4 harg4 arg5 harg5 arg6 harg6 arg7 harg7 arg8 harg8 arg9 harg9) K } := by
  refine ⟨?_, fun x6 E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    iexists _; isplitr; · ipureintro; exact harg9.read_unread _
    iexact HS

/-! ## What the buffers hold after a point -/

theorem openMain_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x1024.Idx) :
    ∃ pc ∈ (openRun c i arg2 harg2 arg3 harg3 arg4 harg4 arg5 harg5 arg6 harg6 arg7 harg7 arg8 harg8 arg9 harg9 hc0 hc1 x0 x1 x2 x3 x4).1, y ∈ pc.1.set :=
  View.cover_of_tiledL (openRun c i arg2 harg2 arg3 harg3 arg4 harg4 arg5 harg5 arg6 harg6 arg7 harg7 arg8 harg8 arg9 harg9 hc0 hc1 x0 x1 x2 x3 x4).1 S512x1024.size (by sl_kernel_rfl) y

theorem openSmall_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x128.Idx) :
    ∃ pc ∈ (openRun c i arg2 harg2 arg3 harg3 arg4 harg4 arg5 harg5 arg6 harg6 arg7 harg7 arg8 harg8 arg9 harg9 hc0 hc1 x0 x1 x2 x3 x4).2.1, y ∈ pc.1.set :=
  View.cover_of_tiledL (openRun c i arg2 harg2 arg3 harg3 arg4 harg4 arg5 harg5 arg6 harg6 arg7 harg7 arg8 harg8 arg9 harg9 hc0 hc1 x0 x1 x2 x3 x4).2.1 S512x128.size (by sl_kernel_rfl) y

theorem openKept_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x2048.Idx) :
    ∃ pc ∈ (openRun c i arg2 harg2 arg3 harg3 arg4 harg4 arg5 harg5 arg6 harg6 arg7 harg7 arg8 harg8 arg9 harg9 hc0 hc1 x0 x1 x2 x3 x4).2.2.1, y ∈ pc.1.set :=
  View.cover_of_tiledL (openRun c i arg2 harg2 arg3 harg3 arg4 harg4 arg5 harg5 arg6 harg6 arg7 harg7 arg8 harg8 arg9 harg9 hc0 hc1 x0 x1 x2 x3 x4).2.2.1 S512x2048.size (by sl_kernel_rfl) y

theorem nextMain_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : ¬opens i) (hc1 : goesOn i)
    (x0 : Vec F S1024x2048 .f32) (x1 : Vec F S1x6x2048 .f32) (x2 : Vec F S1x2048 .f32) (x3 : Vec F S2048x1024 .bf16) (x4 : Vec F S2048x128 .bf16) (xs : Vec F S1024x2048 .bf16) (y : S1024x1024.Idx) :
    ∃ pc ∈ (nextRun c i arg2 harg2 arg3 harg3 arg4 harg4 arg5 harg5 arg6 harg6 arg7 harg7 arg8 harg8 arg9 harg9 hc0 hc1 x0 x1 x2 x3 x4 xs).1, y ∈ pc.1.set :=
  View.cover_of_tiledL (nextRun c i arg2 harg2 arg3 harg3 arg4 harg4 arg5 harg5 arg6 harg6 arg7 harg7 arg8 harg8 arg9 harg9 hc0 hc1 x0 x1 x2 x3 x4 xs).1 S1024x1024.size (by sl_kernel_rfl) y

theorem opens_of {t : Fin cfg0.N} (h : t.val % 10 = 0) : opens (grid0.coords t) := (opens_iff t).mpr h
theorem not_goesOn_of {t : Fin cfg0.N} (h : t.val % 10 = 0) : ¬goesOn (grid0.coords t) := fun g => (goesOn_iff t).mp g h
theorem not_opens_of {t : Fin cfg0.N} (h : t.val % 10 ≠ 0) : ¬opens (grid0.coords t) := fun g => h ((opens_iff t).mp g)
theorem goesOn_of {t : Fin cfg0.N} (h : t.val % 10 ≠ 0) : goesOn (grid0.coords t) := (goesOn_iff t).mpr h

/-- The main product's buffer, the small product's and the scratch after an opening point, -/
def openMain (c : Dev nD) (t : Fin cfg0.N) (h : t.val % 10 = 0) : Vec F S1024x1024 .bf16 :=
  mainView.read (Elt F) (mainView.writes (Elt F) mainView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).1)
def openSmall (c : Dev nD) (t : Fin cfg0.N) (h : t.val % 10 = 0) : Vec F S1024x128 .f32 :=
  smallView.read (Elt F) (smallView.writes (Elt F) smallView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).2.1)
def openKept (c : Dev nD) (t : Fin cfg0.N) (h : t.val % 10 = 0) : Vec F S1024x2048 .bf16 :=
  keptView.read (Elt F) (keptView.writes (Elt F) keptView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).2.2.1)
/-- and the main product's after a later one. -/
def nextMain (c : Dev nD) (t : Fin cfg0.N) (h : t.val % 10 ≠ 0) (xs : Vec F S1024x2048 .bf16) : Vec F S1024x1024 .bf16 :=
  mainView.read (Elt F) (mainView.writes (Elt F) mainView.junk (nextRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (not_opens_of h) (goesOn_of h) (iblk m c 0 t) (iblk m c 1 t) (iblk m c 2 t) (iblk m c 3 t) (iblk m c 4 t) xs).1)

/-- The point that opened the row block of point `t`. -/
def opener (t : Fin cfg0.N) : Fin cfg0.N := ⟨t.val - t.val % 10, lt_of_le_of_lt (Nat.sub_le _ _) t.isLt⟩
theorem opener_mod (t : Fin cfg0.N) : (opener t).val % 10 = 0 := by
  show (t.val - t.val % 10) % 10 = 0
  omega
theorem opener_self {t : Fin cfg0.N} (h : t.val % 10 = 0) : opener t = t := Fin.ext (by
  show t.val - t.val % 10 = t.val
  omega)
theorem opener_pred {t : Fin cfg0.N} (h : t.val % 10 ≠ 0) (hn : t.val - 1 < cfg0.N) : opener ⟨t.val - 1, hn⟩ = opener t := Fin.ext (by
  show (t.val - 1) - (t.val - 1) % 10 = t.val - t.val % 10
  omega)

/-- The rows the scratch keeps at point `t`, and the small product of its row block. -/
def rowsAt (c : Dev nD) (t : Fin cfg0.N) : Vec F S1024x2048 .bf16 := openKept m c (opener t) (opener_mod t)
def smallAt (c : Dev nD) (t : Fin cfg0.N) : Vec F S1024x128 .f32 := openSmall m c (opener t) (opener_mod t)
theorem rowsAt_open (c : Dev nD) (t : Fin cfg0.N) (h : t.val % 10 = 0) : rowsAt m c t = openKept m c t h := by
  unfold rowsAt; congr 1; exact opener_self h
theorem smallAt_open (c : Dev nD) (t : Fin cfg0.N) (h : t.val % 10 = 0) : smallAt m c t = openSmall m c t h := by
  unfold smallAt; congr 1; exact opener_self h
theorem rowsAt_pred (c : Dev nD) (t : Fin cfg0.N) (h : t.val % 10 ≠ 0) (hn : t.val - 1 < cfg0.N) : rowsAt m c ⟨t.val - 1, hn⟩ = rowsAt m c t := by
  unfold rowsAt; congr 1; exact opener_pred h hn
theorem smallAt_pred (c : Dev nD) (t : Fin cfg0.N) (h : t.val % 10 ≠ 0) (hn : t.val - 1 < cfg0.N) : smallAt m c ⟨t.val - 1, hn⟩ = smallAt m c t := by
  unfold smallAt; congr 1; exact opener_pred h hn

/-- The main product's buffer after point `t`. -/
def mainAt (c : Dev nD) (t : Fin cfg0.N) : Vec F S1024x1024 .bf16 :=
  if h : t.val % 10 = 0 then openMain m c t h else nextMain m c t h (rowsAt m c t)
theorem mainAt_open (c : Dev nD) (t : Fin cfg0.N) (h : t.val % 10 = 0) : mainAt m c t = openMain m c t h := by
  unfold mainAt; rw [dif_pos h]
theorem mainAt_next (c : Dev nD) (t : Fin cfg0.N) (h : t.val % 10 ≠ 0) : mainAt m c t = nextMain m c t h (rowsAt m c t) := by
  unfold mainAt; rw [dif_neg h]

/-! ## The pipeline's proof data -/

/-- Before the first point the scratch holds anything; after point `n`, the rows kept there. -/
def held (c : Dev nD) : (n : ℕ) → n ≤ cfg0.N → sProp (World F)
  | 0, _ => Pipeline.ΦA spec0 c
  | n + 1, hn => iprop(owns (c : Thread nD τ) kept fullShare (rowsAt m c ⟨n, hn⟩) ∗ (∃ r, prngReg c r))
theorem held_zero (c : Dev nD) (n : ℕ) (h : n ≤ cfg0.N) (hz : n = 0) : held m c n h = Pipeline.ΦA spec0 c := by
  subst hz; rfl
theorem held_succ (c : Dev nD) (n : ℕ) (hn : n < cfg0.N) :
    held m c (n + 1) hn = iprop(owns (c : Thread nD τ) kept fullShare (rowsAt m c ⟨n, hn⟩) ∗ (∃ r, prngReg c r)) := rfl
theorem held_pos (c : Dev nD) (n : ℕ) (h : n ≤ cfg0.N) (hz : n ≠ 0) :
    held m c n h = iprop(owns (c : Thread nD τ) kept fullShare (rowsAt m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => smallAt m c t
  Φ t := held m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = mainAt m c t := by dsimp only [dats]
theorem after_6 (c : Dev nD) (t : Fin cfg0.N) : (dats m 0 c).after 6 t = smallAt m c t := by dsimp only [dats]
theorem held_castSucc (c : Dev nD) (t : Fin cfg0.N) :
    (dats m 0 c).Φ t.castSucc = held m c t.val (Nat.le_of_lt t.isLt) := by
  dsimp only [dats]; exact Pipeline.Dat.Φ_castSucc (held m c) t

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- Past the opening point, the small product's buffer holds what the opening point left: no later point stores
    into it, and it leaves for the array only after the last. -/
theorem before_6 (c : Dev nD) (n : ℕ) : ∀ (t : Fin cfg0.N) (d), t.val = n → t.val % 10 ≠ 0 → (dats m 0 c).before 6 t d = smallAt m c t := by
  induction n with
  | zero => intro t d ht h; omega
  | succ n ih =>
    intro t d ht h
    have hN : t.val < 160 := lt_of_lt_of_eq t.isLt N_0
    have hn : t.val - 1 < cfg0.N := lt_of_le_of_lt (Nat.sub_le _ _) t.isLt
    have hfl : (cfg0.win 6).flush ⟨t.val - 1, hn⟩ = false := by
      rw [Bool.eq_false_iff]; intro hf
      have := (flush0_6 ⟨t.val - 1, hn⟩).mp hf
      simp only at this; omega
    rw [Dat.before_of_pos (dats m 0 c) 6 t (by omega) rfl d, hfl]
    simp only [Bool.false_eq_true, if_false]
    rw [← smallAt_pred m c t h hn]
    unfold Dat.left
    rw [show cfg0.idle 6 (cfg0.grid.coords ⟨t.val - 1, hn⟩) = !decide ((t.val - 1) % 10 = 0) from idle_small ⟨t.val - 1, hn⟩]
    by_cases h0 : (t.val - 1) % 10 = 0
    · rw [decide_eq_true h0]
      exact after_6 m c ⟨t.val - 1, hn⟩
    · rw [decide_eq_false h0]
      exact ih ⟨t.val - 1, hn⟩ d (by simp only; omega) h0

/-! ## The body obligation -/

def bodyPre (c : Dev nD) (t : Fin cfg0.N) : sProp (World F) :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At the last point of a row block the small product's buffer is given back at what it holds, to be written out. -/
theorem leaves_last (c : Dev nD) (t : Fin cfg0.N) (h : t.val % 10 = 9) :
    (dats m 0 c).leavesExact 6 t = owns (c : Thread nD τ) (buf6 t) fullShare (smallAt m c t) := by
  unfold Dat.leavesExact
  rw [show cfg0.idle 6 (cfg0.grid.coords t) = true from (idle_small t).trans (by rw [decide_eq_false (by omega)]; rfl),
    show (cfg0.win 6).flush t = true from (flush0_6 t).mpr h, after_6]

theorem leaves_middle (c : Dev nD) (t : Fin cfg0.N) (h : t.val % 10 ≠ 0) (h' : t.val % 10 ≠ 9) :
    (dats m 0 c).leavesExact 6 t = iprop(∃ d, owns (c : Thread nD τ) (buf6 t) fullShare ((dats m 0 c).before 6 t d)) :=
  Dat.leavesExact_idle (dats m 0 c) 6 t ((idle_small t).trans (by rw [decide_eq_false h]; rfl))
    (by rw [Bool.eq_false_iff]; intro hf; exact h' ((flush0_6 t).mp hf))

set_option maxHeartbeats 1600000 in
theorem sound_open (c : Dev nD) (t : Fin cfg0.N) (h : t.val % 10 = 0) :
    iprop((∃ d, owns (c : Thread nD τ) kept fullShare d) ∗ (∃ r, prngReg c r) ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))
    ⊢ wp frame (wpE (defs₀ (F := F)) Variants.none c none) Set.univ (bodyAt0 t) (fun _ => bodyPost m c t) := by
  unfold bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_succ]
  rw [leaves_live m c 0 t (live_in0 t), leaves_live m c 1 t (live_in1 t), leaves_live m c 2 t (live_in2 t),
    leaves_live m c 3 t (live_in3 t), leaves_live m c 4 t (live_in4 t), leaves_live m c 5 t (live_main t),
    leaves_live m c 6 t ((idle_small t).trans (by rw [decide_eq_true h]; rfl))]
  rw [after_0, after_1, after_2, after_3, after_4, after_5, after_6]
  rw [show rowsAt m c ⟨t.val, t.isLt⟩ = rowsAt m c t from rfl, rowsAt_open m c t h, smallAt_open m c t h, mainAt_open m c t h]
  unfold openKept openSmall openMain
  iintro ⟨HS, Hg, Ho, ⟨%d0, H0⟩, ⟨%d1, H1⟩, ⟨%d2, H2⟩, ⟨%d3, H3⟩, ⟨%d4, H4⟩, ⟨%d5, H5⟩, ⟨%d6, H6⟩⟩
  iapply ((openRun c (grid0.coords t) _ _ _ _ _ _ _ _ _ _ _ _ _ _ _ _ (opens_of h) (not_goesOn_of h) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%es, HS⟩⟩
  isplitl [HS Hg]
  · isplitl [HS]
    · unfold owns; iexists _; isplitr
      swap; · iexact HS
      ipureintro; exact View.read_writes_of_cover _ _ _ _ _ (openKept_cover c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (openMain_cover c _ _ _ _ _ _ _ _ _ _ _ _ _ _ _ _ _ _ _ _ _ _ _ _)
  unfold owns; iexists _; isplitr
  swap; · iexact H6
  ipureintro; exact View.read_writes_of_cover _ _ _ _ _ (openSmall_cover c _ _ _ _ _ _ _ _ _ _ _ _ _ _ _ _ _ _ _ _ _ _ _ _)

set_option maxHeartbeats 1600000 in
theorem sound_next (c : Dev nD) (t : Fin cfg0.N) (h : t.val % 10 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_succ]
  rw [held_castSucc m c t, held_pos m c _ _ (show t.val ≠ 0 by omega), rowsAt_pred m c t h]
  rw [leaves_live m c 0 t (live_in0 t), leaves_live m c 1 t (live_in1 t), leaves_live m c 2 t (live_in2 t),
    leaves_live m c 3 t (live_in3 t), leaves_live m c 4 t (live_in4 t), leaves_live m c 5 t (live_main t)]
  rw [after_0, after_1, after_2, after_3, after_4, after_5]
  rw [show rowsAt m c ⟨t.val, t.isLt⟩ = rowsAt m c t from rfl, mainAt_next m c t h]
  unfold nextMain
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((nextRun c (grid0.coords t) _ _ _ _ _ _ _ _ _ _ _ _ _ _ _ _ (not_opens_of h) (goesOn_of h) (iblk m c 0 t) (iblk m c 1 t) (iblk m c 2 t) (iblk m c 3 t) (iblk m c 4 t) (rowsAt m c t)).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (nextMain_cover c _ _ _ _ _ _ _ _ _ _ _ _ _ _ _ _ _ _ _ _ _ _ _ _ _)
  by_cases h9 : t.val % 10 = 9
  · rw [leaves_last m c t h9, before_6 m c t.val t d6 rfl h]
    iexact H6
  · rw [leaves_middle m c t h h9]
    iexists _; iexact H6

theorem sound_body (c : Dev nD) (t : Fin cfg0.N) :
    bodyPre m c t ⊢ wp frame (wpE (defs₀ (F := F)) Variants.none c none) Set.univ (bodyAt0 t) (fun _ => bodyPost m c t) := by
  by_cases h : t.val % 10 = 0
  · refine .trans ?_ (sound_open m c t h)
    unfold bodyPre
    rw [held_castSucc m c t]
    by_cases hz : t.val = 0
    · rw [held_zero m c _ _ hz, rest_eq]
      iintro ⟨⟨HS, Hg⟩, Hr⟩
      isplitl [HS]; · iexact HS
      isplitl [Hg]; · iexact Hg
      iexact Hr
    · rw [held_pos m c _ _ hz]
      iintro ⟨⟨HS, Hg⟩, Hr⟩
      isplitl [HS]; · iexists _; iexact HS
      isplitl [Hg]; · iexact Hg
      iexact Hr
  · exact sound_next m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]

theorem hout (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last]; have : cfg0.N = 160 := N_0; omega), rest_eq]
  iintro ⟨HS, Hg⟩
  isplitl [HS]
  · iexists _; iexact HS
  iexact Hg

/-! ## The run and the frame -/

set_option backward.isDefEq.respectTransparency.types false in
theorem run_still : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_still m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_still m ρ))

end Cert.KernelInOddIdeal.Hand

end
-- ==== Proof.InOddValue.lean ====
module

public import proofs.«01_k».proof.Proof.InOddRunIdeal
public import proofs.«01_k».proof.Proof.FfnRow
public import Idealize.ShloMosaic.Lib.Pipeline.ValueKit
public import Idealize.ShloMosaic.Lib.Pointwise
public import Idealize.ShloMosaic.Lib.Pipeline.ReadBack

@[expose] public section

set_option maxRecDepth 16384

noncomputable section

/-! The two results of the odd layer's in-projection as arrays over its arguments. -/

namespace Cert.KernelInOddIdeal.In

open Cert.KernelInOddIdeal Cert.KernelInOddIdeal.Gen Cert.KernelInOddIdeal.Hand Idealize.ShloMosaic Idealize.ShloMosaic.TcCoe Idealize.SL.Sem
open Cert.Row
open Idealize.ShloMosaic.Pipeline (Dat Window)

variable (m : (ℓ : Loc nD τ sig) → Buf (Elt Ideal) ℓ) (ρ : Dev nD → PrngReg)

/-! ## The payloads, row by row -/

theorem norm_lower (x : Vec Ideal S512x2048 .f32) (g : Vec Ideal S1x2048 .f32) (sh sc : Vec Ideal S1x1x2048 .f32) (a : Fin 512) (b : Fin 2048) :
    k0_pay4 (F := Ideal) x g sh sc (ix2 a b)
      = modNorm (fun k => x (ix2 a k)) (fun k => g (ix2 0 k)) (fun k => sh (ix3 0 0 k)) (fun k => sc (ix3 0 0 k)) b := by
  pointwise [k0_pay4]
  rfl

theorem norm_upper (x : Vec Ideal S512x2048 .f32) (g : Vec Ideal S1x2048 .f32) (sh sc : Vec Ideal S1x1x2048 .f32) (a : Fin 512) (b : Fin 2048) :
    k0_pay7 (F := Ideal) x g sh sc (ix2 a b)
      = modNorm (fun k => x (ix2 a k)) (fun k => g (ix2 0 k)) (fun k => sh (ix3 0 0 k)) (fun k => sc (ix3 0 0 k)) b := by
  pointwise [k0_pay7]
  rfl

theorem main_lower (h : Vec Ideal S512x2048 .bf16) (w : Vec Ideal S2048x1024 .bf16) (a : Fin 512) (b : Fin 1024) :
    k0_pay5 (F := Ideal) h w (ix2 a b) = col (fun k => h (ix2 a k)) (fun k => w (ix2 k b)) := by
  pointwise [k0_pay5]
  rfl

theorem main_upper (h : Vec Ideal S512x2048 .bf16) (w : Vec Ideal S2048x1024 .bf16) (a : Fin 512) (b : Fin 1024) :
    k0_pay1 (F := Ideal) h w (ix2 a b) = col (fun k => h (ix2 a k)) (fun k => w (ix2 k b)) := by
  pointwise [k0_pay1]
  rfl

theorem small_lower (h : Vec Ideal S512x2048 .bf16) (w : Vec Ideal S2048x128 .bf16) (a : Fin 512) (b : Fin 128) :
    k0_pay6 (F := Ideal) h w (ix2 a b) = col (fun k => h (ix2 a k)) (fun k => w (ix2 k b)) := by
  pointwise [k0_pay6]
  rfl

theorem small_upper (h : Vec Ideal S512x2048 .bf16) (w : Vec Ideal S2048x128 .bf16) (a : Fin 512) (b : Fin 128) :
    k0_pay2 (F := Ideal) h w (ix2 a b) = col (fun k => h (ix2 a k)) (fun k => w (ix2 k b)) := by
  pointwise [k0_pay2]
  rfl

theorem main_whole (h : Vec Ideal S1024x2048 .bf16) (w : Vec Ideal S2048x1024 .bf16) (a : Fin 1024) (b : Fin 1024) :
    k0_pay3 (F := Ideal) h w (ix2 a b) = col (fun k => h (ix2 a k)) (fun k => w (ix2 k b)) := by
  pointwise [k0_pay3]
  rfl

/-! ## The blocks -/

theorem at_point : ∀ t : Fin cfg0.N,
    win0_0.index t = ![t.val / 10, 0] ∧ win0_1.index t = ![t.val / 20, 0, 0] ∧ win0_2.index t = ![0, 0]
      ∧ win0_3.index t = ![0, t.val % 10] ∧ win0_4.index t = ![0, 0]
      ∧ win0_5.index t = ![t.val / 10, t.val % 10] ∧ win0_6.index t = ![t.val / 10, 0] := by
  decide +kernel

theorem point_lt (t : Fin cfg0.N) : t.val < 160 := lt_of_lt_of_eq t.isLt N_0

/-- The row of the whole array that row `a` of the row block at a point is. -/
def rowOf (t : Fin cfg0.N) (a : Fin 1024) : Fin 16384 :=
  ⟨1024 * (t.val / 10) + a.val, by have := point_lt t; omega⟩
/-- The column of the main product that column `b` of the block at a point is. -/
def colOf (t : Fin cfg0.N) (b : Fin 1024) : Fin 10240 :=
  ⟨1024 * (t.val % 10) + b.val, by have := point_lt t; omega⟩

/-- The batch entry of a row. -/
def batch (r : Fin 16384) : Fin 8 := ⟨r.val / 2048, by omega⟩
/-- The position of a row in its batch entry. -/
def place (r : Fin 16384) : Fin 2048 := ⟨r.val % 2048, by omega⟩

/-- The weights' column that a column of the main product is made of, -/
def mainCol (j : Fin 10240) : Fin 10368 := ⟨j.val, by omega⟩
/-- and a column of the small product: eight groups of both kinds of the eight heads' columns. -/
def smallCol (j : Fin 128) : Fin 10368 := ⟨10240 + (j.val / 8 % 2) * 64 + (j.val / 16) * 8 + j.val % 8, by omega⟩

theorem x_block (c : Dev nD) (t : Fin cfg0.N) (a : Fin 1024) (k : Fin 2048) :
    iblk m c 0 t (ix2 a k) = m ((c : Thread nD τ).loc main_arg0) (ix3 (batch (rowOf t a)) (place (rowOf t a)) k) := by
  blk_ext! [iblk, V, at_point t, batch, place, rowOf]

theorem mod_block (c : Dev nD) (t : Fin cfg0.N) (a : Fin 1024) (s : Fin 6) (k : Fin 2048) :
    iblk m c 1 t (ix3 (0 : Fin 1) s k) = m ((c : Thread nD τ).loc main_arg1) (ix3 (batch (rowOf t a)) s k) := by
  blk_ext [iblk, V, at_point t, batch, rowOf]

theorem gain_block (c : Dev nD) (t : Fin cfg0.N) (s : Fin 1) (k : Fin 2048) :
    iblk m c 2 t (ix2 s k) = m ((c : Thread nD τ).loc main_arg2) (ix2 s k) := by
  blk_ext [iblk, V, at_point t]

theorem w_block (c : Dev nD) (t : Fin cfg0.N) (k : Fin 2048) (b : Fin 1024) :
    iblk m c 3 t (ix2 k b) = m ((c : Thread nD τ).loc main_arg3) (ix3 (0 : Fin 1) k (mainCol (colOf t b))) := by
  blk_ext! [iblk, V, at_point t, mainCol, colOf]

theorem ws_block (c : Dev nD) (t : Fin cfg0.N) (k : Fin 2048) (b : Fin 128) :
    iblk m c 4 t (ix2 k b) = m ((c : Thread nD τ).loc main_arg3) (ix3 (0 : Fin 1) k (smallCol b)) := by
  blk_ext! [iblk, V, at_point t, smallCol]

end Cert.KernelInOddIdeal.In

end
-- ==== Proof.InOddResult.lean ====
module

public import proofs.«01_k».proof.Proof.InOddValue

@[expose] public section

set_option maxRecDepth 16384

noncomputable section

/-! What the in-projection's buffers hold at every point, and the two result arrays. -/

namespace Cert.KernelInOddIdeal.In

open Cert.KernelInOddIdeal Cert.KernelInOddIdeal.Gen Cert.KernelInOddIdeal.Hand Idealize.ShloMosaic Idealize.ShloMosaic.TcCoe Idealize.SL.Sem
open Cert.Row
open Idealize.ShloMosaic.Pipeline (Dat Window)

variable (m : (ℓ : Loc nD τ sig) → Buf (Elt Ideal) ℓ) (ρ : Dev nD → PrngReg)

/-- A row of the input, normalized and modulated. -/
def normRow (c : Dev nD) (r : Fin 16384) : Fin 2048 → EReal :=
  modNorm (fun k => m ((c : Thread nD τ).loc main_arg0) (ix3 (batch r) (place r) k))
    (fun k => m ((c : Thread nD τ).loc main_arg2) (ix2 (0 : Fin 1) k))
    (fun k => m ((c : Thread nD τ).loc main_arg1) (ix3 (batch r) (0 : Fin 6) k))
    (fun k => m ((c : Thread nD τ).loc main_arg1) (ix3 (batch r) (1 : Fin 6) k))

/-- A column of the weights. -/
def weightCol (c : Dev nD) (j : Fin 10368) : Fin 2048 → EReal := fun k => m ((c : Thread nD τ).loc main_arg3) (ix3 (0 : Fin 1) k j)

/-- The same row, made from a point's blocks. -/
def blockRow (c : Dev nD) (t : Fin cfg0.N) (a : Fin 1024) : Fin 2048 → EReal :=
  modNorm (fun k => iblk m c 0 t (ix2 a k)) (fun k => iblk m c 2 t (ix2 (0 : Fin 1) k))
    (fun k => iblk m c 1 t (ix3 (0 : Fin 1) (0 : Fin 6) k)) (fun k => iblk m c 1 t (ix3 (0 : Fin 1) (1 : Fin 6) k))

theorem blockRow_eq (c : Dev nD) (t : Fin cfg0.N) (a : Fin 1024) : blockRow m c t a = normRow m c (rowOf t a) := by
  unfold blockRow normRow
  simp only [x_block, gain_block, mod_block m c t a]

theorem openKept_at (c : Dev nD) (t : Fin cfg0.N) (h : t.val % 10 = 0) (a : Fin 1024) (k : Fin 2048) :
    openKept m c t h (ix2 a k) = blockRow m c t a k := by
  frame_out
  canon_tiles x h
  · idx_vars x
    obtain rfl : k = x1 := Fin.ext h1
    have e : a = ⟨512 + x0.val, by omega⟩ := Fin.ext h0
    rw [norm_upper, e]
    unfold blockRow
    pointwise
  · idx_vars x
    obtain rfl : k = x1 := Fin.ext h1
    have e : a = ⟨x0.val, by omega⟩ := Fin.ext h0
    rw [norm_lower, e]
    unfold blockRow
    pointwise

theorem rowsAt_at (c : Dev nD) (t : Fin cfg0.N) (a : Fin 1024) (k : Fin 2048) :
    rowsAt m c t (ix2 a k) = normRow m c (rowOf t a) k := by
  unfold rowsAt
  rw [openKept_at, blockRow_eq]
  congr 1
  refine Fin.ext ?_
  show 1024 * ((t.val - t.val % 10) / 10) + a.val = 1024 * (t.val / 10) + a.val
  omega

theorem openMain_at (c : Dev nD) (t : Fin cfg0.N) (h : t.val % 10 = 0) (a : Fin 1024) (b : Fin 1024) :
    openMain m c t h (ix2 a b) = col (blockRow m c t a) (fun k => iblk m c 3 t (ix2 k b)) := by
  frame_open
  simp (disch := decide) only [↓ View.readCov_skip, ↓ View.readCov_cons_toLoadRect, ↓ View.readCov_fill]
  frame_out
  canon_tiles x h
  · idx_vars x
    obtain rfl : b = x1 := Fin.ext h1
    have e : a = ⟨512 + x0.val, by omega⟩ := Fin.ext h0
    rw [main_upper, e]
    unfold col
    simp only [norm_upper]
    unfold blockRow
    pointwise
  · idx_vars x
    obtain rfl : b = x1 := Fin.ext h1
    have e : a = ⟨x0.val, by omega⟩ := Fin.ext h0
    rw [main_lower, e]
    unfold col
    simp only [norm_lower]
    unfold blockRow
    pointwise

theorem openSmall_at (c : Dev nD) (t : Fin cfg0.N) (h : t.val % 10 = 0) (a : Fin 1024) (b : Fin 128) :
    openSmall m c t h (ix2 a b) = col (blockRow m c t a) (fun k => iblk m c 4 t (ix2 k b)) := by
  frame_open
  simp (disch := decide) only [↓ View.readCov_skip, ↓ View.readCov_cons_toLoadRect, ↓ View.readCov_fill]
  frame_out
  canon_tiles x h
  · idx_vars x
    obtain rfl : b = x1 := Fin.ext h1
    have e : a = ⟨512 + x0.val, by omega⟩ := Fin.ext h0
    rw [small_upper, e]
    unfold col
    simp only [norm_upper]
    unfold blockRow
    pointwise
  · idx_vars x
    obtain rfl : b = x1 := Fin.ext h1
    have e : a = ⟨x0.val, by omega⟩ := Fin.ext h0
    rw [small_lower, e]
    unfold col
    simp only [norm_lower]
    unfold blockRow
    pointwise

theorem nextMain_at (c : Dev nD) (t : Fin cfg0.N) (h : t.val % 10 ≠ 0) (xs : Vec Ideal S1024x2048 .bf16) (a : Fin 1024) (b : Fin 1024) :
    nextMain m c t h xs (ix2 a b) = col (fun k => xs (ix2 a k)) (fun k => iblk m c 3 t (ix2 k b)) := by
  frame_out
  simp only [read_unread_whole]
  rw [main_whole]

theorem mainAt_at (c : Dev nD) (t : Fin cfg0.N) (a : Fin 1024) (b : Fin 1024) :
    mainAt m c t (ix2 a b) = col (normRow m c (rowOf t a)) (weightCol m c (mainCol (colOf t b))) := by
  by_cases h : t.val % 10 = 0
  · rw [mainAt_open m c t h, openMain_at, blockRow_eq]
    simp only [w_block]
    rfl
  · rw [mainAt_next m c t h, nextMain_at]
    simp only [rowsAt_at, w_block]
    rfl

theorem smallAt_at (c : Dev nD) (t : Fin cfg0.N) (a : Fin 1024) (b : Fin 128) :
    smallAt m c t (ix2 a b) = col (normRow m c (rowOf t a)) (weightCol m c (smallCol b)) := by
  unfold smallAt
  rw [openSmall_at, blockRow_eq]
  simp only [ws_block]
  rw [show rowOf (opener t) a = rowOf t a from Fin.ext (by
    show 1024 * ((t.val - t.val % 10) / 10) + a.val = 1024 * (t.val / 10) + a.val
    omega)]
  rfl

/-- The main product, -/
def mainResult (c : Dev nD) : Vec Ideal S16384x10240 .bf16 := fun i =>
  col (normRow m c (i 0)) (weightCol m c (mainCol (i 1)))
/-- and the small one. -/
def smallResult (c : Dev nD) : Vec Ideal S16384x128 .f32 := fun i =>
  col (normRow m c (i 0)) (weightCol m c (smallCol (i 1)))

theorem main_arr (c : Dev nD) : (dats m 0 c).arrAt 5 (cfgs 0).N = mainResult m c := by
  refine (dats m 0 c).arrAt_eq_of_covers 5 _ (by decide +kernel) fun t hf y => ?_
  blk_simp
  rw [after_5]
  idx_vars y
  refine (mainAt_at m c t y0 y1).trans ?_
  refine Eq.trans (b := mainResult m c (ix2 (rowOf t y0) (colOf t y1))) rfl (congrArg (mainResult m c) ?_)
  blk_ext [at_point t, rowOf, colOf]

theorem small_arr (c : Dev nD) : (dats m 0 c).arrAt 6 (cfgs 0).N = smallResult m c := by
  refine (dats m 0 c).arrAt_eq_of_covers 6 _ (by decide +kernel) fun t hf y => ?_
  blk_simp
  rw [after_6]
  idx_vars y
  refine (smallAt_at m c t y0 y1).trans ?_
  refine Eq.trans (b := smallResult m c (ix2 (rowOf t y0) y1)) rfl (congrArg (smallResult m c) ?_)
  blk_ext [at_point t, rowOf]

/-- Every run ends with the two products, the arguments unchanged. -/
theorem run_result : θ_run defs (onTc (τ := τ) (main (F := Ideal))) ⟨m, fun _ => 0, ρ⟩ fun r => ∀ c : Dev nD,
      r.2.mem ((c : Thread nD τ).loc main_v8_0) = mainResult m c
      ∧ r.2.mem ((c : Thread nD τ).loc main_v8_1) = smallResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 5).trans (main_arr m c), ((h.1 c).1 6).trans (small_arr m c), h.2.1 c⟩)
    (θ_run_and (run m ρ) (frame m ρ))

end Cert.KernelInOddIdeal.In

end
-- ==== Proof.InOddFinal.lean ====
module

public import proofs.«01_k».proof.Proof.Gen.ReferenceInOddIdeal.Read
public import proofs.«01_k».proof.Proof.Gen.ReferenceInOddIdeal.Run
public import proofs.«01_k».proof.Proof.InOddResult
public import proofs.«01_k».proof.Defs

@[expose] public section

set_option maxRecDepth 16384

noncomputable section

/-! The odd layer's in-projection reference, element by element, and the claim. -/

namespace Cert.InOddFinal

open Cert.ReferenceInOddIdeal Cert.ReferenceInOddIdeal.Gen Cert.ReferenceInOddIdeal.Read Idealize.ShloMosaic Idealize.ShloMosaic.TcCoe Idealize.SL.Sem
open Cert.Row

section
variable (x0 : Vec Ideal S8x2048x2048 .f32) (x1 : Vec Ideal S8x6x2048 .f32) (x2 : Vec Ideal S1x2048 .f32) (x3 : Vec Ideal S1x2048x10368 .f32)

theorem inv_rms (p : Fin 8) (q : Fin 2048) :
    val_main_v7 (F := Ideal) x0 (ix3 p q (0 : Fin 1)) = invRms (fun k => x0 (ix3 p q k)) := by
  unfold invRms
  pointwise [val_main_v0, val_main_cst, val_main_v1, val_main_v2, val_main_cst_0, val_main_v3, val_main_v4, val_main_cst_1, val_main_v5, val_main_v6, val_main_v7]

theorem norm_row (p : Fin 8) (q k : Fin 2048) :
    val_main_v25 (F := Ideal) x0 x1 x2 (ix3 p q k)
      = modNorm (fun k => x0 (ix3 p q k)) (fun k => x2 (ix2 (0 : Fin 1) k)) (fun k => x1 (ix3 p (0 : Fin 6) k)) (fun k => x1 (ix3 p (1 : Fin 6) k)) k := by
  unfold modNorm
  rw [← inv_rms]
  pointwise [val_main_v8, val_main_v9, val_main_v10, val_main_v11, val_main_v12, val_main_v13, val_main_v14, val_main_v15, val_main_v16, val_main_cst_2, val_main_v17, val_main_v18, val_main_v19, val_main_v20, val_main_v21, val_main_v22, val_main_v23, val_main_v24, val_main_v25]

theorem product (p : Fin 8) (q : Fin 2048) (j : Fin 10368) :
    val_main_v27 (F := Ideal) x0 x1 x2 x3 (ix3 p q j)
      = col (fun k => val_main_v25 (F := Ideal) x0 x1 x2 (ix3 p q k)) (fun k => x3 (ix3 (0 : Fin 1) k j)) := by
  unfold col
  pointwise [val_main_v26, val_main_v27]

theorem main_part (r : Fin 16384) (j : Fin 10240) :
    val_main_v34 (F := Ideal) x0 x1 x2 x3 (ix2 r j)
      = val_main_v27 (F := Ideal) x0 x1 x2 x3 (ix3 (⟨r.val / 2048, by omega⟩ : Fin 8) (⟨r.val % 2048, by omega⟩ : Fin 2048) (⟨j.val, by omega⟩ : Fin 10368)) := by
  pointwise [val_main_v28, val_main_v33, val_main_v34]

theorem small_part (r : Fin 16384) (j : Fin 128) :
    val_main_v32 (F := Ideal) x0 x1 x2 x3 (ix2 r j)
      = val_main_v27 (F := Ideal) x0 x1 x2 x3 (ix3 (⟨r.val / 2048, by omega⟩ : Fin 8) (⟨r.val % 2048, by omega⟩ : Fin 2048)
          (⟨10240 + (j.val / 8 % 2) * 64 + (j.val / 16) * 8 + j.val % 8, by omega⟩ : Fin 10368)) := by
  pointwise [val_main_v28, val_main_v29, val_main_v30, val_main_v31, val_main_v32]
  simp only [Nat.add_assoc]

end

theorem in_algebraic : Cert.algebraic_KernelInOddIdeal_ReferenceInOddIdeal := by
  pair_intro
  · run_from (Cert.KernelInOddIdeal.In.run_result m g)
  · run_from (Cert.ReferenceInOddIdeal.Value.run m' g')
    · obtain ⟨e0, e1, e2, e3⟩ := hagree c
      refine (Cert.ReferenceInOddIdeal.Read.val_main_v34_eq _ _ _ _).trans ?_
      funext i
      obtain ⟨r, k, rfl⟩ : ∃ (r : Fin 16384) (k : Fin 10240), i = ix2 r k := ⟨i 0, i 1, eq_ix2 i⟩
      rw [main_part, product]
      simp only [norm_row]
      rfl
    · obtain ⟨e0, e1, e2, e3⟩ := hagree c
      refine (Cert.ReferenceInOddIdeal.Read.val_main_v32_eq _ _ _ _).trans ?_
      funext i
      obtain ⟨r, k, rfl⟩ : ∃ (r : Fin 16384) (k : Fin 128), i = ix2 r k := ⟨i 0, i 1, eq_ix2 i⟩
      rw [small_part, product]
      simp only [norm_row]
      rfl

end Cert.InOddFinal

end
-- ==== Proof.InEvenRunIdeal.lean ====
module

public import proofs.«01_k».proof.Proof.Gen.KernelInEvenIdeal.Frame
public import proofs.«01_k».proof.Proof.Gen.KernelInEvenIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The run of the odd layer's in-projection (`KernelInEvenIdeal`).  At the first of the ten points of a row block the body
    normalizes and modulates the block's rows, keeps them in its scratch, and writes the small product; at the
    other nine it multiplies the kept rows with the next block of columns.  The small product's buffer is
    written at the first point only and leaves for the array at the tenth, so the proof data name, at every
    point, what the first point of its row block left in the scratch and in that buffer. -/

@[expose] public section

set_option maxRecDepth 16384

noncomputable section

namespace Cert.KernelInEvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInEvenIdeal.Gen

variable {F : FTy → Type} [FloatOps F]

/-- The resource algebra of the program's proofs. -/
abbrev World (F : FTy → Type) [FloatOps F] := MT nD τ sig Unit (Elt F) ℕ (UR sig nD τ) ℕ

variable (m : (ℓ : Loc nD τ sig) → Buf (Elt F) ℓ) (ρ : Dev nD → PrngReg)

/-! ## The two kinds of points -/

/-- The body's first branch: the point opens a row block. -/
abbrev opens (i : grid0.Coords) : Prop := k0_cond1 i = 1#1
theorem opens_iff : ∀ t : Fin cfg0.N, opens (grid0.coords t) ↔ t.val % 10 = 0 :=
  (by decide +kernel : ∀ t : Fin grid0.N, opens (grid0.coords t) ↔ t.val % 10 = 0)

/-- The body's second branch: the point goes on with a row block. -/
abbrev goesOn (i : grid0.Coords) : Prop := k0_cond2 i = 1#1
theorem goesOn_iff : ∀ t : Fin cfg0.N, goesOn (grid0.coords t) ↔ t.val % 10 ≠ 0 :=
  (by decide +kernel : ∀ t : Fin grid0.N, goesOn (grid0.coords t) ↔ t.val % 10 ≠ 0)

theorem live_in0 (t : Fin cfg0.N) : cfg0.idle 0 (grid0.coords t) = false := rfl
theorem live_in1 (t : Fin cfg0.N) : cfg0.idle 1 (grid0.coords t) = false := rfl
theorem live_in2 (t : Fin cfg0.N) : cfg0.idle 2 (grid0.coords t) = false := rfl
theorem live_in3 (t : Fin cfg0.N) : cfg0.idle 3 (grid0.coords t) = false := rfl
theorem live_in4 (t : Fin cfg0.N) : cfg0.idle 4 (grid0.coords t) = false := rfl
/-- Both kinds of points store into the main product's buffer, -/
theorem live_main : ∀ t : Fin cfg0.N, cfg0.idle 5 (grid0.coords t) = false :=
  (by decide +kernel : ∀ t : Fin grid0.N, cfg0.idle 5 (grid0.coords t) = false)
/-- only the opening ones into the small product's. -/
theorem idle_small : ∀ t : Fin cfg0.N, cfg0.idle 6 (grid0.coords t) = !decide (t.val % 10 = 0) :=
  (by decide +kernel : ∀ t : Fin grid0.N, cfg0.idle 6 (grid0.coords t) = !decide (t.val % 10 = 0))

/-! ## The staging buffers and the scratch -/

abbrev buf0 (t : Fin cfg0.N) : Memref sig .tc .vmem S1024x2048 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x6x2048 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x2048 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S2048x1024 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S2048x128 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S1024x1024 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S1024x128 .f32 := win0_6.stage (cfg0.slots t 6)
abbrev whole6 (t : Fin cfg0.N) : (buf6 t).IsWhole := hstage0_6 ((cfg0.slots t 6).cast nbuf0_6)
abbrev kept : Memref sig .tc .vmem S1024x2048 .bf16 := Memref.whole cc0_scratch0
/-- The views through which the contents of the scratch and of the two outputs' buffers are stated. -/
abbrev keptView : View sig .tc .vmem S1024x2048 .bf16 := kept.view
abbrev mainView : View sig .tc .vmem S1024x1024 .bf16 := (Memref.whole cc0_stg5_0 : Memref sig .tc .vmem S1024x1024 .bf16).view
abbrev smallView : View sig .tc .vmem S1024x128 .f32 := (Memref.whole cc0_stg6_0 : Memref sig .tc .vmem S1024x128 .f32).view

/-- Between the points, nothing more than the scratch and the generator's register is held. -/
theorem rest_eq (c : Dev nD) :
    (Pipeline.ΦA spec0 c : sProp (World F))
      = iprop((∃ d, owns (c : Thread nD τ) kept fullShare d) ∗ (∃ r, prngReg c r)) := by
  unfold Pipeline.ΦA; rw [scopedRest0_eq]; simp only [kept, owns_whole]; try rfl

/-! ## The body's runs -/

set_option maxHeartbeats 1000000 in
/-- What an opening point's stores leave in the two outputs' buffers and in the scratch, with the proof that the
    body runs so, whatever the three held. -/
def openRun (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) :
    Σ' (L5 : List (View.Piece (Elt F) S1024x1024 .bf16)), Σ' (L6 : List (View.Piece (Elt F) S1024x128 .f32)), { LS : List (View.Piece (Elt F) S1024x2048 .bf16) //
      ∀ (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_mm_in i arg2 harg2 arg3 harg3 arg4 harg4 arg5 harg5 arg6 harg6 arg7 harg7 arg8 harg8 arg9 harg9) K } := by
  refine ⟨?_, ?_, ?_, fun E K => ?run⟩
  case run =>
    simp only [cc0_mm_in_eq_skeleton]; unfold cc0_mm_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact HS

set_option maxHeartbeats 1000000 in
/-- What a later point's store leaves in the main product's buffer, from the rows the scratch keeps, with the proof
    that the body runs so and gives the scratch and the small product's buffer back as they were. -/
def nextRun (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : ¬opens i) (hc1 : goesOn i)
    (x0 : Vec F S1024x2048 .f32) (x1 : Vec F S1x6x2048 .f32) (x2 : Vec F S1x2048 .f32) (x3 : Vec F S2048x1024 .bf16) (x4 : Vec F S2048x128 .bf16) (xs : Vec F S1024x2048 .bf16) :
    { L5 : List (View.Piece (Elt F) S1024x1024 .bf16) //
      ∀ (x6 : Vec F S1024x128 .f32) (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare x6 ∗ owns (c : Thread nD τ) arg9 fullShare xs) -∗ K ⟨⟩))
          ⊢ wp frame (wpE (defs₀ (F := F)) Variants.none c none) E (cc0_mm_in i arg2 harg2 arg3 harg3 arg4 harg4 arg5 harg5 arg6 harg6 arg7 harg7 arg8 harg8 arg9 harg9) K } := by
  refine ⟨?_, fun x6 E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    iexists _; isplitr; · ipureintro; exact harg9.read_unread _
    iexact HS

/-! ## What the buffers hold after a point -/

theorem openMain_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x1024.Idx) :
    ∃ pc ∈ (openRun c i arg2 harg2 arg3 harg3 arg4 harg4 arg5 harg5 arg6 harg6 arg7 harg7 arg8 harg8 arg9 harg9 hc0 hc1 x0 x1 x2 x3 x4).1, y ∈ pc.1.set :=
  View.cover_of_tiledL (openRun c i arg2 harg2 arg3 harg3 arg4 harg4 arg5 harg5 arg6 harg6 arg7 harg7 arg8 harg8 arg9 harg9 hc0 hc1 x0 x1 x2 x3 x4).1 S512x1024.size (by sl_kernel_rfl) y

theorem openSmall_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x128.Idx) :
    ∃ pc ∈ (openRun c i arg2 harg2 arg3 harg3 arg4 harg4 arg5 harg5 arg6 harg6 arg7 harg7 arg8 harg8 arg9 harg9 hc0 hc1 x0 x1 x2 x3 x4).2.1, y ∈ pc.1.set :=
  View.cover_of_tiledL (openRun c i arg2 harg2 arg3 harg3 arg4 harg4 arg5 harg5 arg6 harg6 arg7 harg7 arg8 harg8 arg9 harg9 hc0 hc1 x0 x1 x2 x3 x4).2.1 S512x128.size (by sl_kernel_rfl) y

theorem openKept_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : opens i) (hc1 : ¬goesOn i)
    (x0 : Vec F S1024x2048 .f32) (x1 : Vec F S1x6x2048 .f32) (x2 : Vec F S1x2048 .f32) (x3 : Vec F S2048x1024 .bf16) (x4 : Vec F S2048x128 .bf16) (y : S1024x2048.Idx) :
    ∃ pc ∈ (openRun c i arg2 harg2 arg3 harg3 arg4 harg4 arg5 harg5 arg6 harg6 arg7 harg7 arg8 harg8 arg9 harg9 hc0 hc1 x0 x1 x2 x3 x4).2.2.1, y ∈ pc.1.set :=
  View.cover_of_tiledL (openRun c i arg2 harg2 arg3 harg3 arg4 harg4 arg5 harg5 arg6 harg6 arg7 harg7 arg8 harg8 arg9 harg9 hc0 hc1 x0 x1 x2 x3 x4).2.2.1 S512x2048.size (by sl_kernel_rfl) y

theorem nextMain_cover (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole) (hc0 : ¬opens i) (hc1 : goesOn i)
    (x0 : Vec F S1024x2048 .f32) (x1 : Vec F S1x6x2048 .f32) (x2 : Vec F S1x2048 .f32) (x3 : Vec F S2048x1024 .bf16) (x4 : Vec F S2048x128 .bf16) (xs : Vec F S1024x2048 .bf16) (y : S1024x1024.Idx) :
    ∃ pc ∈ (nextRun c i arg2 harg2 arg3 harg3 arg4 harg4 arg5 harg5 arg6 harg6 arg7 harg7 arg8 harg8 arg9 harg9 hc0 hc1 x0 x1 x2 x3 x4 xs).1, y ∈ pc.1.set :=
  View.cover_of_tiledL (nextRun c i arg2 harg2 arg3 harg3 arg4 harg4 arg5 harg5 arg6 harg6 arg7 harg7 arg8 harg8 arg9 harg9 hc0 hc1 x0 x1 x2 x3 x4 xs).1 S1024x1024.size (by sl_kernel_rfl) y

theorem opens_of {t : Fin cfg0.N} (h : t.val % 10 = 0) : opens (grid0.coords t) := (opens_iff t).mpr h
theorem not_goesOn_of {t : Fin cfg0.N} (h : t.val % 10 = 0) : ¬goesOn (grid0.coords t) := fun g => (goesOn_iff t).mp g h
theorem not_opens_of {t : Fin cfg0.N} (h : t.val % 10 ≠ 0) : ¬opens (grid0.coords t) := fun g => h ((opens_iff t).mp g)
theorem goesOn_of {t : Fin cfg0.N} (h : t.val % 10 ≠ 0) : goesOn (grid0.coords t) := (goesOn_iff t).mpr h

/-- The main product's buffer, the small product's and the scratch after an opening point, -/
def openMain (c : Dev nD) (t : Fin cfg0.N) (h : t.val % 10 = 0) : Vec F S1024x1024 .bf16 :=
  mainView.read (Elt F) (mainView.writes (Elt F) mainView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).1)
def openSmall (c : Dev nD) (t : Fin cfg0.N) (h : t.val % 10 = 0) : Vec F S1024x128 .f32 :=
  smallView.read (Elt F) (smallView.writes (Elt F) smallView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).2.1)
def openKept (c : Dev nD) (t : Fin cfg0.N) (h : t.val % 10 = 0) : Vec F S1024x2048 .bf16 :=
  keptView.read (Elt F) (keptView.writes (Elt F) keptView.junk (openRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (opens_of h) (not_goesOn_of h) (iblk m c 0 t) (iblk m c 1 t) (iblk m c 2 t) (iblk m c 3 t) (iblk m c 4 t)).2.2.1)
/-- and the main product's after a later one. -/
def nextMain (c : Dev nD) (t : Fin cfg0.N) (h : t.val % 10 ≠ 0) (xs : Vec F S1024x2048 .bf16) : Vec F S1024x1024 .bf16 :=
  mainView.read (Elt F) (mainView.writes (Elt F) mainView.junk (nextRun c (grid0.coords t) (buf0 t) (whole0 t) (buf1 t) (whole1 t) (buf2 t) (whole2 t) (buf3 t) (whole3 t) (buf4 t) (whole4 t) (buf5 t) (whole5 t) (buf6 t) (whole6 t) kept (Memref.isWhole_whole _) (not_opens_of h) (goesOn_of h) (iblk m c 0 t) (iblk m c 1 t) (iblk m c 2 t) (iblk m c 3 t) (iblk m c 4 t) xs).1)

/-- The point that opened the row block of point `t`. -/
def opener (t : Fin cfg0.N) : Fin cfg0.N := ⟨t.val - t.val % 10, lt_of_le_of_lt (Nat.sub_le _ _) t.isLt⟩
theorem opener_mod (t : Fin cfg0.N) : (opener t).val % 10 = 0 := by
  show (t.val - t.val % 10) % 10 = 0
  omega
theorem opener_self {t : Fin cfg0.N} (h : t.val % 10 = 0) : opener t = t := Fin.ext (by
  show t.val - t.val % 10 = t.val
  omega)
theorem opener_pred {t : Fin cfg0.N} (h : t.val % 10 ≠ 0) (hn : t.val - 1 < cfg0.N) : opener ⟨t.val - 1, hn⟩ = opener t := Fin.ext (by
  show (t.val - 1) - (t.val - 1) % 10 = t.val - t.val % 10
  omega)

/-- The rows the scratch keeps at point `t`, and the small product of its row block. -/
def rowsAt (c : Dev nD) (t : Fin cfg0.N) : Vec F S1024x2048 .bf16 := openKept m c (opener t) (opener_mod t)
def smallAt (c : Dev nD) (t : Fin cfg0.N) : Vec F S1024x128 .f32 := openSmall m c (opener t) (opener_mod t)
theorem rowsAt_open (c : Dev nD) (t : Fin cfg0.N) (h : t.val % 10 = 0) : rowsAt m c t = openKept m c t h := by
  unfold rowsAt; congr 1; exact opener_self h
theorem smallAt_open (c : Dev nD) (t : Fin cfg0.N) (h : t.val % 10 = 0) : smallAt m c t = openSmall m c t h := by
  unfold smallAt; congr 1; exact opener_self h
theorem rowsAt_pred (c : Dev nD) (t : Fin cfg0.N) (h : t.val % 10 ≠ 0) (hn : t.val - 1 < cfg0.N) : rowsAt m c ⟨t.val - 1, hn⟩ = rowsAt m c t := by
  unfold rowsAt; congr 1; exact opener_pred h hn
theorem smallAt_pred (c : Dev nD) (t : Fin cfg0.N) (h : t.val % 10 ≠ 0) (hn : t.val - 1 < cfg0.N) : smallAt m c ⟨t.val - 1, hn⟩ = smallAt m c t := by
  unfold smallAt; congr 1; exact opener_pred h hn

/-- The main product's buffer after point `t`. -/
def mainAt (c : Dev nD) (t : Fin cfg0.N) : Vec F S1024x1024 .bf16 :=
  if h : t.val % 10 = 0 then openMain m c t h else nextMain m c t h (rowsAt m c t)
theorem mainAt_open (c : Dev nD) (t : Fin cfg0.N) (h : t.val % 10 = 0) : mainAt m c t = openMain m c t h := by
  unfold mainAt; rw [dif_pos h]
theorem mainAt_next (c : Dev nD) (t : Fin cfg0.N) (h : t.val % 10 ≠ 0) : mainAt m c t = nextMain m c t h (rowsAt m c t) := by
  unfold mainAt; rw [dif_neg h]

/-! ## The pipeline's proof data -/

/-- Before the first point the scratch holds anything; after point `n`, the rows kept there. -/
def held (c : Dev nD) : (n : ℕ) → n ≤ cfg0.N → sProp (World F)
  | 0, _ => Pipeline.ΦA spec0 c
  | n + 1, hn => iprop(owns (c : Thread nD τ) kept fullShare (rowsAt m c ⟨n, hn⟩) ∗ (∃ r, prngReg c r))
theorem held_zero (c : Dev nD) (n : ℕ) (h : n ≤ cfg0.N) (hz : n = 0) : held m c n h = Pipeline.ΦA spec0 c := by
  subst hz; rfl
theorem held_succ (c : Dev nD) (n : ℕ) (hn : n < cfg0.N) :
    held m c (n + 1) hn = iprop(owns (c : Thread nD τ) kept fullShare (rowsAt m c ⟨n, hn⟩) ∗ (∃ r, prngReg c r)) := rfl
theorem held_pos (c : Dev nD) (n : ℕ) (h : n ≤ cfg0.N) (hz : n ≠ 0) :
    held m c n h = iprop(owns (c : Thread nD τ) kept fullShare (rowsAt m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => smallAt m c t
  Φ t := held m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = mainAt m c t := by dsimp only [dats]
theorem after_6 (c : Dev nD) (t : Fin cfg0.N) : (dats m 0 c).after 6 t = smallAt m c t := by dsimp only [dats]
theorem held_castSucc (c : Dev nD) (t : Fin cfg0.N) :
    (dats m 0 c).Φ t.castSucc = held m c t.val (Nat.le_of_lt t.isLt) := by
  dsimp only [dats]; exact Pipeline.Dat.Φ_castSucc (held m c) t

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- Past the opening point, the small product's buffer holds what the opening point left: no later point stores
    into it, and it leaves for the array only after the last. -/
theorem before_6 (c : Dev nD) (n : ℕ) : ∀ (t : Fin cfg0.N) (d), t.val = n → t.val % 10 ≠ 0 → (dats m 0 c).before 6 t d = smallAt m c t := by
  induction n with
  | zero => intro t d ht h; omega
  | succ n ih =>
    intro t d ht h
    have hN : t.val < 160 := lt_of_lt_of_eq t.isLt N_0
    have hn : t.val - 1 < cfg0.N := lt_of_le_of_lt (Nat.sub_le _ _) t.isLt
    have hfl : (cfg0.win 6).flush ⟨t.val - 1, hn⟩ = false := by
      rw [Bool.eq_false_iff]; intro hf
      have := (flush0_6 ⟨t.val - 1, hn⟩).mp hf
      simp only at this; omega
    rw [Dat.before_of_pos (dats m 0 c) 6 t (by omega) rfl d, hfl]
    simp only [Bool.false_eq_true, if_false]
    rw [← smallAt_pred m c t h hn]
    unfold Dat.left
    rw [show cfg0.idle 6 (cfg0.grid.coords ⟨t.val - 1, hn⟩) = !decide ((t.val - 1) % 10 = 0) from idle_small ⟨t.val - 1, hn⟩]
    by_cases h0 : (t.val - 1) % 10 = 0
    · rw [decide_eq_true h0]
      exact after_6 m c ⟨t.val - 1, hn⟩
    · rw [decide_eq_false h0]
      exact ih ⟨t.val - 1, hn⟩ d (by simp only; omega) h0

/-! ## The body obligation -/

def bodyPre (c : Dev nD) (t : Fin cfg0.N) : sProp (World F) :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At the last point of a row block the small product's buffer is given back at what it holds, to be written out. -/
theorem leaves_last (c : Dev nD) (t : Fin cfg0.N) (h : t.val % 10 = 9) :
    (dats m 0 c).leavesExact 6 t = owns (c : Thread nD τ) (buf6 t) fullShare (smallAt m c t) := by
  unfold Dat.leavesExact
  rw [show cfg0.idle 6 (cfg0.grid.coords t) = true from (idle_small t).trans (by rw [decide_eq_false (by omega)]; rfl),
    show (cfg0.win 6).flush t = true from (flush0_6 t).mpr h, after_6]

theorem leaves_middle (c : Dev nD) (t : Fin cfg0.N) (h : t.val % 10 ≠ 0) (h' : t.val % 10 ≠ 9) :
    (dats m 0 c).leavesExact 6 t = iprop(∃ d, owns (c : Thread nD τ) (buf6 t) fullShare ((dats m 0 c).before 6 t d)) :=
  Dat.leavesExact_idle (dats m 0 c) 6 t ((idle_small t).trans (by rw [decide_eq_false h]; rfl))
    (by rw [Bool.eq_false_iff]; intro hf; exact h' ((flush0_6 t).mp hf))

set_option maxHeartbeats 1600000 in
theorem sound_open (c : Dev nD) (t : Fin cfg0.N) (h : t.val % 10 = 0) :
    iprop((∃ d, owns (c : Thread nD τ) kept fullShare d) ∗ (∃ r, prngReg c r) ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))
    ⊢ wp frame (wpE (defs₀ (F := F)) Variants.none c none) Set.univ (bodyAt0 t) (fun _ => bodyPost m c t) := by
  unfold bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_succ]
  rw [leaves_live m c 0 t (live_in0 t), leaves_live m c 1 t (live_in1 t), leaves_live m c 2 t (live_in2 t),
    leaves_live m c 3 t (live_in3 t), leaves_live m c 4 t (live_in4 t), leaves_live m c 5 t (live_main t),
    leaves_live m c 6 t ((idle_small t).trans (by rw [decide_eq_true h]; rfl))]
  rw [after_0, after_1, after_2, after_3, after_4, after_5, after_6]
  rw [show rowsAt m c ⟨t.val, t.isLt⟩ = rowsAt m c t from rfl, rowsAt_open m c t h, smallAt_open m c t h, mainAt_open m c t h]
  unfold openKept openSmall openMain
  iintro ⟨HS, Hg, Ho, ⟨%d0, H0⟩, ⟨%d1, H1⟩, ⟨%d2, H2⟩, ⟨%d3, H3⟩, ⟨%d4, H4⟩, ⟨%d5, H5⟩, ⟨%d6, H6⟩⟩
  iapply ((openRun c (grid0.coords t) _ _ _ _ _ _ _ _ _ _ _ _ _ _ _ _ (opens_of h) (not_goesOn_of h) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%es, HS⟩⟩
  isplitl [HS Hg]
  · isplitl [HS]
    · unfold owns; iexists _; isplitr
      swap; · iexact HS
      ipureintro; exact View.read_writes_of_cover _ _ _ _ _ (openKept_cover c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (openMain_cover c _ _ _ _ _ _ _ _ _ _ _ _ _ _ _ _ _ _ _ _ _ _ _ _)
  unfold owns; iexists _; isplitr
  swap; · iexact H6
  ipureintro; exact View.read_writes_of_cover _ _ _ _ _ (openSmall_cover c _ _ _ _ _ _ _ _ _ _ _ _ _ _ _ _ _ _ _ _ _ _ _ _)

set_option maxHeartbeats 1600000 in
theorem sound_next (c : Dev nD) (t : Fin cfg0.N) (h : t.val % 10 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_succ]
  rw [held_castSucc m c t, held_pos m c _ _ (show t.val ≠ 0 by omega), rowsAt_pred m c t h]
  rw [leaves_live m c 0 t (live_in0 t), leaves_live m c 1 t (live_in1 t), leaves_live m c 2 t (live_in2 t),
    leaves_live m c 3 t (live_in3 t), leaves_live m c 4 t (live_in4 t), leaves_live m c 5 t (live_main t)]
  rw [after_0, after_1, after_2, after_3, after_4, after_5]
  rw [show rowsAt m c ⟨t.val, t.isLt⟩ = rowsAt m c t from rfl, mainAt_next m c t h]
  unfold nextMain
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((nextRun c (grid0.coords t) _ _ _ _ _ _ _ _ _ _ _ _ _ _ _ _ (not_opens_of h) (goesOn_of h) (iblk m c 0 t) (iblk m c 1 t) (iblk m c 2 t) (iblk m c 3 t) (iblk m c 4 t) (rowsAt m c t)).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (nextMain_cover c _ _ _ _ _ _ _ _ _ _ _ _ _ _ _ _ _ _ _ _ _ _ _ _ _)
  by_cases h9 : t.val % 10 = 9
  · rw [leaves_last m c t h9, before_6 m c t.val t d6 rfl h]
    iexact H6
  · rw [leaves_middle m c t h h9]
    iexists _; iexact H6

theorem sound_body (c : Dev nD) (t : Fin cfg0.N) :
    bodyPre m c t ⊢ wp frame (wpE (defs₀ (F := F)) Variants.none c none) Set.univ (bodyAt0 t) (fun _ => bodyPost m c t) := by
  by_cases h : t.val % 10 = 0
  · refine .trans ?_ (sound_open m c t h)
    unfold bodyPre
    rw [held_castSucc m c t]
    by_cases hz : t.val = 0
    · rw [held_zero m c _ _ hz, rest_eq]
      iintro ⟨⟨HS, Hg⟩, Hr⟩
      isplitl [HS]; · iexact HS
      isplitl [Hg]; · iexact Hg
      iexact Hr
    · rw [held_pos m c _ _ hz]
      iintro ⟨⟨HS, Hg⟩, Hr⟩
      isplitl [HS]; · iexists _; iexact HS
      isplitl [Hg]; · iexact Hg
      iexact Hr
  · exact sound_next m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]

theorem hout (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last]; have : cfg0.N = 160 := N_0; omega), rest_eq]
  iintro ⟨HS, Hg⟩
  isplitl [HS]
  · iexists _; iexact HS
  iexact Hg

/-! ## The run and the frame -/

set_option backward.isDefEq.respectTransparency.types false in
theorem run_still : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_still m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_still m ρ))

end Cert.KernelInEvenIdeal.Hand

end
-- ==== Proof.InEvenValue.lean ====
module

public import proofs.«01_k».proof.Proof.InEvenRunIdeal
public import proofs.«01_k».proof.Proof.FfnRow
public import Idealize.ShloMosaic.Lib.Pipeline.ValueKit
public import Idealize.ShloMosaic.Lib.Pointwise
public import Idealize.ShloMosaic.Lib.StableHlo.ReadAt
public import Idealize.ShloMosaic.Lib.Pipeline.ReadBack

@[expose] public section

set_option maxRecDepth 16384

noncomputable section

/-! The two results of the even layer's in-projection as arrays over its arguments. -/

namespace Cert.KernelInEvenIdeal.In

open Cert.KernelInEvenIdeal Cert.KernelInEvenIdeal.Gen Cert.KernelInEvenIdeal.Hand Idealize.ShloMosaic Idealize.ShloMosaic.TcCoe Idealize.SL.Sem
open Cert.Row
open Idealize.ShloMosaic.Pipeline (Dat Window)

variable (m : (ℓ : Loc nD τ sig) → Buf (Elt Ideal) ℓ) (ρ : Dev nD → PrngReg)

/-! ## The payloads, row by row -/

theorem norm_lower (x : Vec Ideal S512x2048 .f32) (g : Vec Ideal S1x2048 .f32) (sh sc : Vec Ideal S1x1x2048 .f32) (a : Fin 512) (b : Fin 2048) :
    k0_pay4 (F := Ideal) x g sh sc (ix2 a b)
      = modNorm (fun k => x (ix2 a k)) (fun k => g (ix2 0 k)) (fun k => sh (ix3 0 0 k)) (fun k => sc (ix3 0 0 k)) b := by
  pointwise [k0_pay4]
  rfl

theorem norm_upper (x : Vec Ideal S512x2048 .f32) (g : Vec Ideal S1x2048 .f32) (sh sc : Vec Ideal S1x1x2048 .f32) (a : Fin 512) (b : Fin 2048) :
    k0_pay7 (F := Ideal) x g sh sc (ix2 a b)
      = modNorm (fun k => x (ix2 a k)) (fun k => g (ix2 0 k)) (fun k => sh (ix3 0 0 k)) (fun k => sc (ix3 0 0 k)) b := by
  pointwise [k0_pay7]
  rfl

theorem main_lower (h : Vec Ideal S512x2048 .bf16) (w : Vec Ideal S2048x1024 .bf16) (a : Fin 512) (b : Fin 1024) :
    k0_pay5 (F := Ideal) h w (ix2 a b) = col (fun k => h (ix2 a k)) (fun k => w (ix2 k b)) := by
  pointwise [k0_pay5]
  rfl

theorem main_upper (h : Vec Ideal S512x2048 .bf16) (w : Vec Ideal S2048x1024 .bf16) (a : Fin 512) (b : Fin 1024) :
    k0_pay1 (F := Ideal) h w (ix2 a b) = col (fun k => h (ix2 a k)) (fun k => w (ix2 k b)) := by
  pointwise [k0_pay1]
  rfl

theorem small_lower (h : Vec Ideal S512x2048 .bf16) (w : Vec Ideal S2048x128 .bf16) (a : Fin 512) (b : Fin 128) :
    k0_pay6 (F := Ideal) h w (ix2 a b) = col (fun k => h (ix2 a k)) (fun k => w (ix2 k b)) := by
  pointwise [k0_pay6]
  rfl

theorem small_upper (h : Vec Ideal S512x2048 .bf16) (w : Vec Ideal S2048x128 .bf16) (a : Fin 512) (b : Fin 128) :
    k0_pay2 (F := Ideal) h w (ix2 a b) = col (fun k => h (ix2 a k)) (fun k => w (ix2 k b)) := by
  pointwise [k0_pay2]
  rfl

theorem main_whole (h : Vec Ideal S1024x2048 .bf16) (w : Vec Ideal S2048x1024 .bf16) (a : Fin 1024) (b : Fin 1024) :
    k0_pay3 (F := Ideal) h w (ix2 a b) = col (fun k => h (ix2 a k)) (fun k => w (ix2 k b)) := by
  pointwise [k0_pay3]
  rfl

/-! ## The blocks -/

theorem at_point : ∀ t : Fin cfg0.N,
    win0_0.index t = ![t.val / 10, 0] ∧ win0_1.index t = ![t.val / 20, 0, 0] ∧ win0_2.index t = ![0, 0]
      ∧ win0_3.index t = ![0, t.val % 10] ∧ win0_4.index t = ![0, 0]
      ∧ win0_5.index t = ![t.val / 10, t.val % 10] ∧ win0_6.index t = ![t.val / 10, 0] := by
  decide +kernel

theorem point_lt (t : Fin cfg0.N) : t.val < 160 := lt_of_lt_of_eq t.isLt N_0

/-- The row of the whole array that row `a` of the row block at a point is. -/
def rowOf (t : Fin cfg0.N) (a : Fin 1024) : Fin 16384 :=
  ⟨1024 * (t.val / 10) + a.val, by have := point_lt t; omega⟩
/-- The column of the main product that column `b` of the block at a point is. -/
def colOf (t : Fin cfg0.N) (b : Fin 1024) : Fin 10240 :=
  ⟨1024 * (t.val % 10) + b.val, by have := point_lt t; omega⟩

/-- The batch entry of a row. -/
def batch (r : Fin 16384) : Fin 8 := ⟨r.val / 2048, by omega⟩
/-- The position of a row in its batch entry. -/
def place (r : Fin 16384) : Fin 2048 := ⟨r.val % 2048, by omega⟩

theorem rows_at (c : Dev nD) (r : Fin 16384) (k : Fin 2048) :
    V m c main_v4 (ix2 r k) = m ((c : Thread nD τ).loc main_arg0) (ix3 (batch r) (place r) k) := by
  unfold V
  simp only [hostOps0, hostOps0_1, hostOps0_2, List.flatten_cons, List.flatten_nil, List.append_nil, List.cons_append, List.nil_append]
  after_reads_at
  rfl

theorem x_block (c : Dev nD) (t : Fin cfg0.N) (a : Fin 1024) (k : Fin 2048) :
    iblk m c 0 t (ix2 a k) = m ((c : Thread nD τ).loc main_arg0) (ix3 (batch (rowOf t a)) (place (rowOf t a)) k) := by
  refine Eq.trans (b := V m c main_v4 (ix2 (rowOf t a) k)) ?_ (rows_at m c _ k)
  unfold iblk
  blk_ext [at_point t, rowOf]

theorem mod_block (c : Dev nD) (t : Fin cfg0.N) (a : Fin 1024) (s : Fin 6) (k : Fin 2048) :
    iblk m c 1 t (ix3 (0 : Fin 1) s k) = m ((c : Thread nD τ).loc main_arg1) (ix3 (batch (rowOf t a)) s k) := by
  blk_ext [iblk, V, at_point t, batch, rowOf]

theorem gain_block (c : Dev nD) (t : Fin cfg0.N) (s : Fin 1) (k : Fin 2048) :
    iblk m c 2 t (ix2 s k) = m ((c : Thread nD τ).loc main_arg2) (ix2 s k) := by
  blk_ext [iblk, V, at_point t]

theorem w_block (c : Dev nD) (t : Fin cfg0.N) (k : Fin 2048) (b : Fin 1024) :
    iblk m c 3 t (ix2 k b) = m ((c : Thread nD τ).loc main_arg3) (ix2 k (colOf t b)) := by
  blk_ext [iblk, V, at_point t, colOf]

/-- A column of the small product's weights: the thirty-two low-rank columns, then nothing. -/
def smallCol (w : Vec Ideal S1x2048x10272 .f32) (j : Fin 128) (k : Fin 2048) : EReal :=
  if h : j.val < 32 then w (ix3 (0 : Fin 1) k (⟨6144 + j.val, by omega⟩ : Fin 10272)) else 0

theorem small_weights_at (c : Dev nD) (k : Fin 2048) (b : Fin 128) :
    V m c main_v3 (ix2 k b) = smallCol (m ((c : Thread nD τ).loc main_arg4)) b k := by
  unfold V smallCol
  simp only [hostOps0, hostOps0_1, hostOps0_2, List.flatten_cons, List.flatten_nil, List.append_nil, List.cons_append, List.nil_append]
  after_reads_at
  split
  · rfl
  · simp [FloatOps.sitofp]

theorem ws_block (c : Dev nD) (t : Fin cfg0.N) (k : Fin 2048) (b : Fin 128) :
    iblk m c 4 t (ix2 k b) = smallCol (m ((c : Thread nD τ).loc main_arg4)) b k := by
  refine Eq.trans (b := V m c main_v3 (ix2 k b)) ?_ (small_weights_at m c k b)
  unfold iblk
  blk_ext [at_point t]

end Cert.KernelInEvenIdeal.In

end
-- ==== Proof.InEvenResult.lean ====
module

public import proofs.«01_k».proof.Proof.InEvenValue

@[expose] public section

set_option maxRecDepth 16384

noncomputable section

/-! What the in-projection's buffers hold at every point, and the two result arrays. -/

namespace Cert.KernelInEvenIdeal.In

open Cert.KernelInEvenIdeal Cert.KernelInEvenIdeal.Gen Cert.KernelInEvenIdeal.Hand Idealize.ShloMosaic Idealize.ShloMosaic.TcCoe Idealize.SL.Sem
open Cert.Row
open Idealize.ShloMosaic.Pipeline (Dat Window)

variable (m : (ℓ : Loc nD τ sig) → Buf (Elt Ideal) ℓ) (ρ : Dev nD → PrngReg)

/-- A row of the input, normalized and modulated. -/
def normRow (c : Dev nD) (r : Fin 16384) : Fin 2048 → EReal :=
  modNorm (fun k => m ((c : Thread nD τ).loc main_arg0) (ix3 (batch r) (place r) k))
    (fun k => m ((c : Thread nD τ).loc main_arg2) (ix2 (0 : Fin 1) k))
    (fun k => m ((c : Thread nD τ).loc main_arg1) (ix3 (batch r) (0 : Fin 6) k))
    (fun k => m ((c : Thread nD τ).loc main_arg1) (ix3 (batch r) (1 : Fin 6) k))

/-- A column of the main weights. -/
def weightCol (c : Dev nD) (j : Fin 10240) : Fin 2048 → EReal := fun k => m ((c : Thread nD τ).loc main_arg3) (ix2 k j)

/-- The same row, made from a point's blocks. -/
def blockRow (c : Dev nD) (t : Fin cfg0.N) (a : Fin 1024) : Fin 2048 → EReal :=
  modNorm (fun k => iblk m c 0 t (ix2 a k)) (fun k => iblk m c 2 t (ix2 (0 : Fin 1) k))
    (fun k => iblk m c 1 t (ix3 (0 : Fin 1) (0 : Fin 6) k)) (fun k => iblk m c 1 t (ix3 (0 : Fin 1) (1 : Fin 6) k))

theorem blockRow_eq (c : Dev nD) (t : Fin cfg0.N) (a : Fin 1024) : blockRow m c t a = normRow m c (rowOf t a) := by
  unfold blockRow normRow
  simp only [x_block, gain_block, mod_block m c t a]

theorem openKept_at (c : Dev nD) (t : Fin cfg0.N) (h : t.val % 10 = 0) (a : Fin 1024) (k : Fin 2048) :
    openKept m c t h (ix2 a k) = blockRow m c t a k := by
  frame_out
  canon_tiles x h
  · idx_vars x
    obtain rfl : k = x1 := Fin.ext h1
    have e : a = ⟨512 + x0.val, by omega⟩ := Fin.ext h0
    rw [norm_upper, e]
    unfold blockRow
    pointwise
  · idx_vars x
    obtain rfl : k = x1 := Fin.ext h1
    have e : a = ⟨x0.val, by omega⟩ := Fin.ext h0
    rw [norm_lower, e]
    unfold blockRow
    pointwise

theorem rowsAt_at (c : Dev nD) (t : Fin cfg0.N) (a : Fin 1024) (k : Fin 2048) :
    rowsAt m c t (ix2 a k) = normRow m c (rowOf t a) k := by
  unfold rowsAt
  rw [openKept_at, blockRow_eq]
  congr 1
  refine Fin.ext ?_
  show 1024 * ((t.val - t.val % 10) / 10) + a.val = 1024 * (t.val / 10) + a.val
  omega

theorem openMain_at (c : Dev nD) (t : Fin cfg0.N) (h : t.val % 10 = 0) (a : Fin 1024) (b : Fin 1024) :
    openMain m c t h (ix2 a b) = col (blockRow m c t a) (fun k => iblk m c 3 t (ix2 k b)) := by
  frame_open
  simp (disch := decide) only [↓ View.readCov_skip, ↓ View.readCov_cons_toLoadRect, ↓ View.readCov_fill]
  frame_out
  canon_tiles x h
  · idx_vars x
    obtain rfl : b = x1 := Fin.ext h1
    have e : a = ⟨512 + x0.val, by omega⟩ := Fin.ext h0
    rw [main_upper, e]
    unfold col
    simp only [norm_upper]
    unfold blockRow
    pointwise
  · idx_vars x
    obtain rfl : b = x1 := Fin.ext h1
    have e : a = ⟨x0.val, by omega⟩ := Fin.ext h0
    rw [main_lower, e]
    unfold col
    simp only [norm_lower]
    unfold blockRow
    pointwise

theorem openSmall_at (c : Dev nD) (t : Fin cfg0.N) (h : t.val % 10 = 0) (a : Fin 1024) (b : Fin 128) :
    openSmall m c t h (ix2 a b) = col (blockRow m c t a) (fun k => iblk m c 4 t (ix2 k b)) := by
  frame_open
  simp (disch := decide) only [↓ View.readCov_skip, ↓ View.readCov_cons_toLoadRect, ↓ View.readCov_fill]
  frame_out
  canon_tiles x h
  · idx_vars x
    obtain rfl : b = x1 := Fin.ext h1
    have e : a = ⟨512 + x0.val, by omega⟩ := Fin.ext h0
    rw [small_upper, e]
    unfold col
    simp only [norm_upper]
    unfold blockRow
    pointwise
  · idx_vars x
    obtain rfl : b = x1 := Fin.ext h1
    have e : a = ⟨x0.val, by omega⟩ := Fin.ext h0
    rw [small_lower, e]
    unfold col
    simp only [norm_lower]
    unfold blockRow
    pointwise

theorem nextMain_at (c : Dev nD) (t : Fin cfg0.N) (h : t.val % 10 ≠ 0) (xs : Vec Ideal S1024x2048 .bf16) (a : Fin 1024) (b : Fin 1024) :
    nextMain m c t h xs (ix2 a b) = col (fun k => xs (ix2 a k)) (fun k => iblk m c 3 t (ix2 k b)) := by
  frame_out
  simp only [read_unread_whole]
  rw [main_whole]

theorem mainAt_at (c : Dev nD) (t : Fin cfg0.N) (a : Fin 1024) (b : Fin 1024) :
    mainAt m c t (ix2 a b) = col (normRow m c (rowOf t a)) (weightCol m c (colOf t b)) := by
  by_cases h : t.val % 10 = 0
  · rw [mainAt_open m c t h, openMain_at, blockRow_eq]
    simp only [w_block]
    rfl
  · rw [mainAt_next m c t h, nextMain_at]
    simp only [rowsAt_at, w_block]
    rfl

theorem smallAt_at (c : Dev nD) (t : Fin cfg0.N) (a : Fin 1024) (b : Fin 128) :
    smallAt m c t (ix2 a b) = col (normRow m c (rowOf t a)) (smallCol (m ((c : Thread nD τ).loc main_arg4)) b) := by
  unfold smallAt
  rw [openSmall_at, blockRow_eq]
  simp only [ws_block]
  rw [show rowOf (opener t) a = rowOf t a from Fin.ext (by
    show 1024 * ((t.val - t.val % 10) / 10) + a.val = 1024 * (t.val / 10) + a.val
    omega)]

/-- The main product, -/
def mainResult (c : Dev nD) : Vec Ideal S16384x10240 .bf16 := fun i =>
  col (normRow m c (i 0)) (weightCol m c (i 1))
/-- and the small one. -/
def smallResult (c : Dev nD) : Vec Ideal S16384x128 .f32 := fun i =>
  col (normRow m c (i 0)) (smallCol (m ((c : Thread nD τ).loc main_arg4)) (i 1))

theorem main_arr (c : Dev nD) : (dats m 0 c).arrAt 5 (cfgs 0).N = mainResult m c := by
  refine (dats m 0 c).arrAt_eq_of_covers 5 _ (by decide +kernel) fun t hf y => ?_
  blk_simp
  rw [after_5]
  idx_vars y
  refine (mainAt_at m c t y0 y1).trans ?_
  refine Eq.trans (b := mainResult m c (ix2 (rowOf t y0) (colOf t y1))) rfl (congrArg (mainResult m c) ?_)
  blk_ext [at_point t, rowOf, colOf]

theorem small_arr (c : Dev nD) : (dats m 0 c).arrAt 6 (cfgs 0).N = smallResult m c := by
  refine (dats m 0 c).arrAt_eq_of_covers 6 _ (by decide +kernel) fun t hf y => ?_
  blk_simp
  rw [after_6]
  idx_vars y
  refine (smallAt_at m c t y0 y1).trans ?_
  refine Eq.trans (b := smallResult m c (ix2 (rowOf t y0) y1)) rfl (congrArg (smallResult m c) ?_)
  blk_ext [at_point t, rowOf]

/-- Every run ends with the two products, the arguments unchanged. -/
theorem run_result : θ_run defs (onTc (τ := τ) (main (F := Ideal))) ⟨m, fun _ => 0, ρ⟩ fun r => ∀ c : Dev nD,
      r.2.mem ((c : Thread nD τ).loc main_v5_0) = mainResult m c
      ∧ r.2.mem ((c : Thread nD τ).loc main_v5_1) = smallResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (main_arr m c), ((h.1 c).1 6).trans (small_arr m c), h.2.1 c⟩)
    (θ_run_and (run m ρ) (frame m ρ))

end Cert.KernelInEvenIdeal.In

end
-- ==== Proof.InEvenFinal.lean ====
module

public import proofs.«01_k».proof.Proof.Gen.ReferenceInEvenIdeal.Read
public import proofs.«01_k».proof.Proof.Gen.ReferenceInEvenIdeal.Run
public import proofs.«01_k».proof.Proof.InEvenResult
public import proofs.«01_k».proof.Defs

@[expose] public section

set_option maxRecDepth 16384

noncomputable section

/-! The even layer's in-projection reference, element by element, and the claim. -/

namespace Cert.InEvenFinal

open Cert.ReferenceInEvenIdeal Cert.ReferenceInEvenIdeal.Gen Cert.ReferenceInEvenIdeal.Read Idealize.ShloMosaic Idealize.ShloMosaic.TcCoe Idealize.SL.Sem
open Cert.Row

section
variable (x0 : Vec Ideal S8x2048x2048 .f32) (x1 : Vec Ideal S8x6x2048 .f32) (x2 : Vec Ideal S1x2048 .f32) (x3 : Vec Ideal S2048x10240 .bf16) (x4 : Vec Ideal S1x2048x10272 .f32)

theorem inv_rms (p : Fin 8) (q : Fin 2048) :
    val_main_v7 (F := Ideal) x0 (ix3 p q (0 : Fin 1)) = invRms (fun k => x0 (ix3 p q k)) := by
  unfold invRms
  pointwise [val_main_v0, val_main_cst, val_main_v1, val_main_v2, val_main_cst_0, val_main_v3, val_main_v4, val_main_cst_1, val_main_v5, val_main_v6, val_main_v7]

theorem norm_row (p : Fin 8) (q k : Fin 2048) :
    val_main_v25 (F := Ideal) x0 x1 x2 (ix3 p q k)
      = modNorm (fun k => x0 (ix3 p q k)) (fun k => x2 (ix2 (0 : Fin 1) k)) (fun k => x1 (ix3 p (0 : Fin 6) k)) (fun k => x1 (ix3 p (1 : Fin 6) k)) k := by
  unfold modNorm
  rw [← inv_rms]
  pointwise [val_main_v8, val_main_v9, val_main_v10, val_main_v11, val_main_v12, val_main_v13, val_main_v14, val_main_v15, val_main_v16, val_main_cst_2, val_main_v17, val_main_v18, val_main_v19, val_main_v20, val_main_v21, val_main_v22, val_main_v23, val_main_v24, val_main_v25]

theorem main_product (p : Fin 8) (q : Fin 2048) (j : Fin 10240) :
    val_main_v27 (F := Ideal) x0 x1 x2 x3 (ix3 p q j)
      = col (fun k => val_main_v25 (F := Ideal) x0 x1 x2 (ix3 p q k)) (fun k => x3 (ix2 k j)) := by
  unfold col
  pointwise [val_main_v26, val_main_v27]

theorem main_part (r : Fin 16384) (j : Fin 10240) :
    val_main_v29 (F := Ideal) x0 x1 x2 x3 (ix2 r j)
      = val_main_v27 (F := Ideal) x0 x1 x2 x3 (ix3 (⟨r.val / 2048, by omega⟩ : Fin 8) (⟨r.val % 2048, by omega⟩ : Fin 2048) j) := by
  pointwise [val_main_v28, val_main_v29]

theorem small_product (p : Fin 8) (q : Fin 2048) (j : Fin 32) :
    val_main_v32 (F := Ideal) x0 x1 x2 x4 (ix3 p q j)
      = col (fun k => val_main_v25 (F := Ideal) x0 x1 x2 (ix3 p q k)) (fun k => x4 (ix3 (0 : Fin 1) k (⟨6144 + j.val, by omega⟩ : Fin 10272))) := by
  unfold col
  pointwise [val_main_v30, val_main_v31, val_main_v32]

theorem col_zero (h : Fin 2048 → EReal) : col h (fun _ => 0) = 0 := by
  unfold col
  simp

theorem small_part (r : Fin 16384) (j : Fin 128) :
    val_main_v34 (F := Ideal) x0 x1 x2 x4 (ix2 r j)
      = col (fun k => val_main_v25 (F := Ideal) x0 x1 x2 (ix3 (⟨r.val / 2048, by omega⟩ : Fin 8) (⟨r.val % 2048, by omega⟩ : Fin 2048) k))
          (Cert.KernelInEvenIdeal.In.smallCol x4 j) := by
  by_cases h : j.val < 32
  · rw [show Cert.KernelInEvenIdeal.In.smallCol x4 j = fun k => x4 (ix3 (0 : Fin 1) k (⟨6144 + j.val, by omega⟩ : Fin 10272)) from
      funext fun k => dif_pos h]
    refine Eq.trans ?_ (small_product x0 x1 x2 x4 _ _ (⟨j.val, h⟩ : Fin 32))
    pointwise [val_main_v33, val_main_v34]
    exact dif_pos h
  · rw [show Cert.KernelInEvenIdeal.In.smallCol x4 j = fun _ => 0 from funext fun k => dif_neg h, col_zero]
    pointwise [val_main_v33, val_main_v34]
    rw [dif_neg h, val_main_call0_v0_apply, val_main_c_apply]
    simp [FloatOps.sitofp]

end

theorem in_algebraic : Cert.algebraic_KernelInEvenIdeal_ReferenceInEvenIdeal := by
  pair_intro
  · run_from (Cert.KernelInEvenIdeal.In.run_result m g)
  · run_from (Cert.ReferenceInEvenIdeal.Value.run m' g')
    · obtain ⟨e0, e1, e2, e3, e4⟩ := hagree c
      refine (Cert.ReferenceInEvenIdeal.Read.val_main_v29_eq _ _ _ _).trans ?_
      funext i
      obtain ⟨r, k, rfl⟩ : ∃ (r : Fin 16384) (k : Fin 10240), i = ix2 r k := ⟨i 0, i 1, eq_ix2 i⟩
      rw [main_part, main_product]
      simp only [norm_row]
      rfl
    · obtain ⟨e0, e1, e2, e3, e4⟩ := hagree c
      refine (Cert.ReferenceInEvenIdeal.Read.val_main_v34_eq _ _ _ _).trans ?_
      funext i
      obtain ⟨r, k, rfl⟩ : ∃ (r : Fin 16384) (k : Fin 128), i = ix2 r k := ⟨i 0, i 1, eq_ix2 i⟩
      rw [small_part]
      simp only [norm_row]
      rfl

end Cert.InEvenFinal

end
-- ==== Proof.GlaMask.lean ====
module

public import proofs.«01_k».proof.Proof.Gen.KernelGlaIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.KernelGlaIdeal.St

open Cert.KernelGlaIdeal Cert.KernelGlaIdeal.Gen Idealize.ShloMosaic Idealize.ShloMosaic.TcCoe Idealize.SL.Sem
open Idealize.ShloMosaic.Pipeline (Dat Window)

theorem row_chunk (a b : Fin 256) : k0_pay2 (ix2 a b) = BitVec.ofNat 32 (a.val / 64) := by
  pointwise [k0_pay2]
  revert a
  decide +kernel

/-- The column's chunk number, as the words compute it. -/
def colWord : IVec S256x256 32 := select (andi k0_pay4 (cmpi .ne k0_pay5 k0_pay6)) (subi k0_pay3 (broadcast S256x256 1#32)) k0_pay3

theorem col_chunk (a b : Fin 256) : colWord (ix2 a b) = BitVec.ofNat 32 (b.val / 64) := by
  pointwise [colWord, k0_pay3, k0_pay4, k0_pay5, k0_pay6]
  revert b
  decide +kernel

theorem eq_word : ∀ p q : Fin 4, IntOp.cmpi CmpIPredicate.eq (BitVec.ofNat 32 p.val) (BitVec.ofNat 32 q.val) = if q.val = p.val then 1#1 else 0#1 := by
  decide

theorem same_chunk (a b : Fin 256) : k0_pay7 k0_pay2 k0_pay3 k0_pay4 k0_pay5 k0_pay6 (ix2 a b) = if b.val / 64 = a.val / 64 then 1#1 else 0#1 := by
  have h : k0_pay7 k0_pay2 k0_pay3 k0_pay4 k0_pay5 k0_pay6 (ix2 a b) = IntOp.cmpi CmpIPredicate.eq (k0_pay2 (ix2 a b)) (colWord (ix2 a b)) := rfl
  rw [h, row_chunk, col_chunk]
  exact eq_word ⟨a.val / 64, by omega⟩ ⟨b.val / 64, by omega⟩

theorem sge_word (a b : Fin 256) : IntOp.cmpi CmpIPredicate.sge (BitVec.ofNat 32 a.val) (BitVec.ofNat 32 b.val) = if b.val ≤ a.val then 1#1 else 0#1 := by
  rw [WordCmp.cmpi_sge_ofNat (by omega) (by omega)]
  by_cases h : b.val ≤ a.val <;> simp [h]

theorem sle_word (a b : Fin 256) : IntOp.cmpi CmpIPredicate.sle (BitVec.ofNat 32 a.val) (BitVec.ofNat 32 b.val) = if a.val ≤ b.val then 1#1 else 0#1 := by
  rw [WordCmp.cmpi_sle_ofNat (by omega) (by omega)]
  by_cases h : a.val ≤ b.val <;> simp [h]

/-- The mask of the positions at or before the row's, in its chunk. -/
theorem mask_before (a b : Fin 256) :
    k0_pay10 (F := Ideal) (iota .tc S256x256 32 [0] iota_S256x256_d0_w32) (iota .tc S256x256 32 [1] iota_S256x256_d1_w32) k0_pay2 k0_pay3 k0_pay4 k0_pay5 k0_pay6 (ix2 a b)
     = if b.val / 64 = a.val / 64 ∧ b.val ≤ a.val then (1 : EReal) else 0 := by
  pointwise [k0_pay10, k0_pay8, same_chunk, sge_word]
  by_cases h : b.val / 64 = a.val / 64 <;> by_cases g : b.val ≤ a.val <;> simp [h, g, Scalar.select, IntOp.andi]

/-- The mask of the positions at or after the row's, in its chunk. -/
theorem mask_after (a b : Fin 256) :
    k0_pay11 (F := Ideal) (iota .tc S256x256 32 [0] iota_S256x256_d0_w32) (iota .tc S256x256 32 [1] iota_S256x256_d1_w32) k0_pay2 k0_pay3 k0_pay4 k0_pay5 k0_pay6 (ix2 a b)
     = if b.val / 64 = a.val / 64 ∧ a.val ≤ b.val then (1 : EReal) else 0 := by
  pointwise [k0_pay11, k0_pay9, same_chunk, sle_word]
  by_cases h : b.val / 64 = a.val / 64 <;> by_cases g : a.val ≤ b.val <;> simp [h, g, Scalar.select, IntOp.andi]

end Cert.KernelGlaIdeal.St
end
-- ==== Proof.GlaMath.lean ====
module

public import Idealize.ShloMosaic.Lib.Pointwise

@[expose] public section

noncomputable section

/-! The gated linear attention state over 256 positions in four chunks of 64, in the extended reals: what both sides
compute, and the facts that let the masked base-2 sums of the tiled form be read as prefix sums of natural logarithms. -/

namespace Cert.Gla

open Idealize.ShloMosaic

/-- The logarithm of the logistic function. -/
def logSigmoid (z : EReal) : EReal := min z 0 - Ideal.log1p (Ideal.exp (0 - max z (-z)))

/-- The logarithm of the forget gate. -/
def logDecay (z : EReal) : EReal := logSigmoid z * ((1 / 16 : ℝ) : EReal)

theorem log1p_exp (r : ℝ) : Ideal.log1p (Ideal.exp (r : EReal)) = ((Real.log (1 + Real.exp r) : ℝ) : EReal) := by
  have h : (0 : ℝ) < 1 + Real.exp r := by positivity
  rw [Ideal.exp_coe]
  unfold Ideal.log1p
  rw [show (1 : EReal) = ((1 : ℝ) : EReal) from rfl, ← EReal.coe_add, Ideal.log_coe, if_neg (not_le.2 h)]

theorem log1p_zero : Ideal.log1p (0 : EReal) = 0 := by
  unfold Ideal.log1p
  rw [add_zero, show (1 : EReal) = ((1 : ℝ) : EReal) from rfl, Ideal.log_coe, if_neg (by norm_num), Real.log_one]
  rfl

theorem coe_min_zero (r : ℝ) : min (r : EReal) 0 = ((min r 0 : ℝ) : EReal) :=
  (EReal.coe_strictMono.monotone.map_min (a := r) (b := 0)).symm

theorem coe_max' (r s : ℝ) : max (r : EReal) (s : EReal) = ((max r s : ℝ) : EReal) :=
  (EReal.coe_strictMono.monotone.map_max (a := r) (b := s)).symm

theorem logSigmoid_coe (r : ℝ) : logSigmoid (r : EReal) = ((min r 0 - Real.log (1 + Real.exp (-|r|)) : ℝ) : EReal) := by
  unfold logSigmoid
  rw [coe_min_zero, ← EReal.coe_neg, coe_max', zero_sub, ← EReal.coe_neg, log1p_exp, ← EReal.coe_sub]
  rfl

theorem logSigmoid_bot : logSigmoid ⊥ = ⊥ := by
  unfold logSigmoid
  rw [min_eq_left bot_le, sub_eq_add_neg, EReal.bot_add]

theorem logSigmoid_top : logSigmoid ⊤ = 0 := by
  unfold logSigmoid
  rw [min_eq_right le_top, EReal.neg_top, max_eq_left bot_le, zero_sub (⊤ : EReal), EReal.neg_top, Ideal.exp_bot, log1p_zero, sub_zero]

theorem logSigmoid_ne_top (z : EReal) : logSigmoid z ≠ ⊤ := by
  induction z using EReal.rec with
  | bot => rw [logSigmoid_bot]; exact bot_ne_top
  | top => rw [logSigmoid_top]; exact EReal.zero_ne_top
  | coe r => rw [logSigmoid_coe]; exact EReal.coe_ne_top _

/-- The same through the sum of the larger of `-z` and zero with the correction. -/
theorem logSigmoid_eq (z : EReal) :
    -(max (-z) 0 + Ideal.log1p (Ideal.exp (-(max (-z - 0) (-(-z - 0)))))) = logSigmoid z := by
  induction z using EReal.rec with
  | bot =>
    rw [logSigmoid_bot, EReal.neg_bot, max_eq_left le_top, sub_zero, max_eq_left le_top, EReal.neg_top, Ideal.exp_bot, log1p_zero, add_zero, EReal.neg_top]
  | top =>
    rw [logSigmoid_top, EReal.neg_top, max_eq_right bot_le, sub_zero, EReal.neg_bot, max_eq_right bot_le, EReal.neg_top, Ideal.exp_bot, log1p_zero, add_zero, neg_zero]
  | coe r =>
    rw [logSigmoid_coe, sub_zero, neg_neg, ← EReal.coe_neg, coe_max', ← EReal.coe_neg, log1p_exp, show (0 : EReal) = ((0 : ℝ) : EReal) from rfl, coe_max',
      ← EReal.coe_add, ← EReal.coe_neg]
    refine congrArg _ ?_
    have h : max (-r) r = |r| := max_comm (-r) r
    have e : max (-r) 0 = -min r 0 := by rw [← neg_zero, max_neg_neg, neg_zero]
    rw [h, e]
    ring

/-- The named constant. -/
def scale : ℝ := (16 * Real.log 2)⁻¹

/-- Natural to base-2 logarithms. -/
def base2 : ℝ := 1 / Real.log 2

theorem base2_nonneg : (0 : EReal) ≤ (base2 : EReal) := EReal.coe_nonneg.2 (by unfold base2; have := Real.log_pos one_lt_two; positivity)

theorem scale_eq (z : EReal) : logSigmoid z * (scale : EReal) = logDecay z * (base2 : EReal) := by
  unfold logDecay
  rw [mul_assoc, ← EReal.coe_mul]
  refine congrArg (logSigmoid z * ·) (congrArg _ ?_)
  unfold scale base2
  rw [mul_inv]
  ring

theorem scaled_ne_top (z : EReal) : logSigmoid z * (scale : EReal) ≠ ⊤ := by
  have h : 0 < scale := by unfold scale; have := Real.log_pos one_lt_two; positivity
  have hz := logSigmoid_ne_top z
  generalize logSigmoid z = w at hz
  induction w using EReal.rec with
  | bot => rw [EReal.bot_mul_coe_of_pos h]; exact bot_ne_top
  | top => exact absurd rfl hz
  | coe r => rw [← EReal.coe_mul]; exact EReal.coe_ne_top _

theorem exp2_base2 (w : EReal) : Ideal.exp2 (w * (base2 : EReal)) = Ideal.exp w := by
  have h2 := Real.log_pos one_lt_two
  have h : 0 < base2 := by unfold base2; positivity
  induction w using EReal.rec with
  | bot => rw [EReal.bot_mul_coe_of_pos h]; rfl
  | top => rw [EReal.top_mul_coe_of_pos h]; rfl
  | coe r =>
    rw [← EReal.coe_mul, Ideal.exp2_coe, Ideal.exp_coe]
    refine congrArg _ ?_
    show (2 : ℝ) ^ (r * base2) = _
    rw [Real.rpow_def_of_pos two_pos]
    unfold base2
    refine congrArg _ ?_
    field_simp

theorem sum_scale {ι : Type} [Fintype ι] (f : ι → EReal) : ∑ x, f x * (base2 : EReal) = (∑ x, f x) * (base2 : EReal) := by
  classical
  induction (Finset.univ : Finset ι) using Finset.induction_on with
  | empty => rw [Finset.sum_empty, Finset.sum_empty, zero_mul]
  | insert a s ha ih => rw [Finset.sum_insert ha, Finset.sum_insert ha, ih, EReal.right_distrib_of_nonneg_of_ne_top base2_nonneg (EReal.coe_ne_top _)]

theorem sub_scale (x y : EReal) : x * (base2 : EReal) - y * (base2 : EReal) = (x - y) * (base2 : EReal) := by
  rw [sub_eq_add_neg, sub_eq_add_neg, EReal.right_distrib_of_nonneg_of_ne_top base2_nonneg (EReal.coe_ne_top _), EReal.neg_mul]

/-- A number below infinity with its two correction terms is itself. -/
theorem split3 (l : EReal) (h : l ≠ ⊤) : l + (l - l) + (l - l - (l - l)) = l := by
  induction l using EReal.rec with
  | bot => rfl
  | top => exact absurd rfl h
  | coe r => rw [← EReal.coe_sub, ← EReal.coe_sub, ← EReal.coe_add, ← EReal.coe_add]; refine congrArg _ ?_; ring

/-- A masked sum of split numbers is the masked sum of the numbers. -/
theorem sum_split3 {ι : Type} [Fintype ι] (p : ι → Prop) [DecidablePred p] (l : ι → EReal) (h : ∀ x, l x ≠ ⊤) :
    ∑ x, (if p x then (1 : EReal) else 0) * l x + ∑ x, (if p x then (1 : EReal) else 0) * (l x - l x)
        + ∑ x, (if p x then (1 : EReal) else 0) * (l x - l x - (l x - l x))
      = ∑ x, if p x then l x else 0 := by
  rw [← Finset.sum_add_distrib, ← Finset.sum_add_distrib]
  refine Finset.sum_congr rfl fun x _ => ?_
  by_cases hp : p x
  · simp only [if_pos hp, one_mul]
    exact split3 _ (h x)
  · simp only [if_neg hp, zero_mul, add_zero]

/-- Position `s` of chunk `q`. -/
def place (q : Fin 4) (s : Fin 64) : Fin 256 := ⟨64 * q.val + s.val, by omega⟩

theorem place_rev (q : Fin 4) (s : Fin 64) : (place q.rev s.rev).rev = place q s := by
  refine Fin.ext ?_
  simp only [place, Fin.val_rev]
  omega

theorem place_rev' (q : Fin 4) (s : Fin 64) : (place q.rev s).rev = place q s.rev := by
  rw [← place_rev q s.rev, Fin.rev_rev]

/-- A sum over the positions, chunk by chunk. -/
theorem sum_chunks (f : Fin 256 → EReal) : ∑ x, f x = ∑ q : Fin 4, ∑ s : Fin 64, f (place q s) := by
  rw [← Finset.sum_product']
  refine (Fintype.sum_equiv (finProdFinEquiv (m := 4) (n := 64)) _ _ fun p => ?_).symm
  refine congrArg f (Fin.ext ?_)
  show 64 * p.1.val + p.2.val = p.2.val + 64 * p.1.val
  omega

/-- The sum of a chunk's entries up to and including position `j`. -/
def chunkSum (y : Fin 256 → EReal) (q : Fin 4) (j : Fin 64) : EReal := ∑ s : Fin 64, if s ≤ j then y (place q s) else 0

theorem sum_before (y : Fin 256 → EReal) (q : Fin 4) (j : Fin 64) :
    (∑ x : Fin 256, if x.val / 64 = (place q j).val / 64 ∧ x.val ≤ (place q j).val then y x else 0) = chunkSum y q j := by
  rw [sum_chunks, Finset.sum_eq_single q]
  · refine Finset.sum_congr rfl fun s _ => ?_
    refine if_congr ?_ rfl rfl
    simp only [place, Fin.le_def]
    omega
  · intro r _ hr
    refine Finset.sum_eq_zero fun s _ => if_neg fun h => hr (Fin.ext ?_)
    have := h.1
    simp only [place] at this
    omega
  · exact fun h => absurd (Finset.mem_univ q) h

theorem sum_after (y : Fin 256 → EReal) (q : Fin 4) (j : Fin 64) :
    (∑ x : Fin 256, if x.val / 64 = (place q j).val / 64 ∧ (place q j).val ≤ x.val then y x else 0)
      = chunkSum (fun x => y x.rev) q.rev j.rev := by
  rw [sum_chunks, Finset.sum_eq_single q]
  · refine Eq.trans ?_ (Equiv.sum_comp Fin.revPerm fun s : Fin 64 => if s ≤ j.rev then y (place q.rev s).rev else 0)
    refine Finset.sum_congr rfl fun s _ => ?_
    rw [Fin.revPerm_apply, place_rev]
    refine if_congr ?_ rfl rfl
    simp only [place, Fin.le_def, Fin.val_rev]
    omega
  · intro r _ hr
    refine Finset.sum_eq_zero fun s _ => if_neg fun h => hr (Fin.ext ?_)
    have := h.1
    simp only [place] at this
    omega
  · exact fun h => absurd (Finset.mem_univ q) h

/-- What a chunk multiplies the state by. -/
def decay (y : Fin 256 → Fin 256 → EReal) (q : Fin 4) (a : Fin 256) : EReal := Ideal.exp (chunkSum (fun x => y x a) q 63)

/-- What a chunk adds to the state. -/
def gain (k : Fin 256 → Fin 256 → EReal) (v : Fin 256 → Fin 512 → EReal) (y : Fin 256 → Fin 256 → EReal) (q : Fin 4) (a : Fin 256) (b : Fin 512) : EReal :=
  ∑ j : Fin 64, k (place q j) a * Ideal.exp (chunkSum (fun x => y x a) q 63 - chunkSum (fun x => y x a) q j) * v (place q j) b

/-- The state after the four chunks. -/
def state (k : Fin 256 → Fin 256 → EReal) (v : Fin 256 → Fin 512 → EReal) (y : Fin 256 → Fin 256 → EReal) (a : Fin 256) (b : Fin 512) : EReal :=
  decay y 3 a * (decay y 2 a * (decay y 1 a * (decay y 0 a * 0 + gain k v y 0 a b) + gain k v y 1 a b) + gain k v y 2 a b) + gain k v y 3 a b

/-- A chunk's addition for the reversed positions, its own positions in order. -/
theorem gain_rev (k : Fin 256 → Fin 256 → EReal) (v : Fin 256 → Fin 512 → EReal) (y : Fin 256 → Fin 256 → EReal) (q : Fin 4) (a : Fin 256) (b : Fin 512) :
    (∑ j : Fin 64, k (place q j) a * Ideal.exp (chunkSum (fun x => y x.rev a) q.rev 63 - chunkSum (fun x => y x.rev a) q.rev j.rev) * v (place q j) b)
      = gain (fun x => k x.rev) (fun x => v x.rev) (fun x => y x.rev) q.rev a b := by
  unfold gain
  refine Eq.trans ?_ (Equiv.sum_comp Fin.revPerm _)
  refine Finset.sum_congr rfl fun j _ => ?_
  dsimp only
  rw [Fin.revPerm_apply, place_rev]

end Cert.Gla

end
-- ==== Proof.GlaPay.lean ====
module

public import proofs.«01_k».proof.Proof.Gen.KernelGlaIdeal.Skeleton
public import proofs.«01_k».proof.Proof.GlaMath
public import Idealize.ShloMosaic.Lib.Pipeline.ValueKit
public import Idealize.ShloMosaic.Lib.Pointwise

@[expose] public section

set_option maxRecDepth 16384

noncomputable section

/-! What the tiled form's stages hold, entry by entry. -/

namespace Cert.KernelGlaIdeal.St

open Cert.KernelGlaIdeal Cert.KernelGlaIdeal.Gen Idealize.ShloMosaic Idealize.ShloMosaic.TcCoe Idealize.SL.Sem
open Cert.Gla
open Idealize.ShloMosaic.Pipeline (Dat Window)

theorem named_scale : Named.named (F := Ideal) κ "log2e_over_16" (φ := .f32) 0x3DB8AA3B#32 = (scale : EReal) := rfl

theorem gate_in (lr : Vec Ideal S1x256x128 .f32) (w : Vec Ideal S1x128x256 .bf16) (a b : Fin 256) :
    k0_pay16 lr w (ix2 a b) = ∑ r : Fin 128, lr (ix3 0 a r) * w (ix3 0 r b) := by
  pointwise [k0_pay16, k0_pay15]

/-- The masked sums at or before a position. -/
theorem sums_before (mk : FVec Ideal S256x256 .bf16) (hm : ∀ a b : Fin 256, mk (ix2 a b) = if b.val / 64 = a.val / 64 ∧ b.val ≤ a.val then (1 : EReal) else 0)
    (z : FVec Ideal S256x256 .f32) (u : Vec Ideal S1x1x256 .f32) (q : Fin 4) (j : Fin 64) (b : Fin 256) :
    k0_pay17 mk z u (ix2 (place q j) b) = chunkSum (fun x => logDecay (z (ix2 x b) + u (ix3 0 0 b))) q j * (base2 : EReal) := by
  pointwise [k0_pay17]
  simp only [hm]
  refine (sum_split3 (fun x : Fin 256 => x.val / 64 = (place q j).val / 64 ∧ x.val ≤ (place q j).val)
    (fun x => logSigmoid (z (ix2 x b) + u (ix3 0 0 b)) * (scale : EReal)) fun x => scaled_ne_top _).trans ?_
  simp only [scale_eq]
  rw [← sum_before, ← sum_scale]
  refine Finset.sum_congr rfl fun x _ => ?_
  rw [ite_mul, zero_mul]

/-- The masked sums at or after a position. -/
theorem sums_after (mk : FVec Ideal S256x256 .bf16) (hm : ∀ a b : Fin 256, mk (ix2 a b) = if b.val / 64 = a.val / 64 ∧ a.val ≤ b.val then (1 : EReal) else 0)
    (l : Vec Ideal S1x256x128 .f32) (w : Vec Ideal S1x128x256 .bf16) (u : Vec Ideal S1x1x256 .f32) (q : Fin 4) (j : Fin 64) (b : Fin 256) :
    k0_pay34 mk (k0_pay15 l) w u (ix2 (place q j) b)
      = chunkSum (fun x => logDecay ((∑ r : Fin 128, l (ix3 0 x.rev r) * w (ix3 0 r b)) + u (ix3 0 0 b))) q.rev j.rev * (base2 : EReal) := by
  pointwise [k0_pay34, k0_pay15]
  simp only [hm]
  refine (sum_split3 (fun x : Fin 256 => x.val / 64 = (place q j).val / 64 ∧ (place q j).val ≤ x.val)
    (fun x => logSigmoid ((∑ r : Fin 128, l (ix3 0 x r) * w (ix3 0 r b)) + u (ix3 0 0 b)) * (scale : EReal)) fun x => scaled_ne_top _).trans ?_
  simp only [scale_eq]
  rw [← sum_after (fun x => logDecay ((∑ r : Fin 128, l (ix3 0 x r) * w (ix3 0 r b)) + u (ix3 0 0 b))), ← sum_scale]
  refine Finset.sum_congr rfl fun x _ => ?_
  rw [ite_mul, zero_mul]

/-- The one of four values the position's chunk names. -/
theorem pick (q : Fin 4) (j : Fin 64) (x0 x1 x2 x3 : EReal) (f : Fin 4 → EReal) (h0 : x0 = f 0) (h1 : x1 = f 1) (h2 : x2 = f 2) (h3 : x3 = f 3) :
    (if _ : (place q j).val < 64 then x0 else if _ : (place q j).val - 64 < 64 then x1 else if _ : (place q j).val - 64 - 64 < 64 then x2 else x3) = f q := by
  have hp : (place q j).val = 64 * q.val + j.val := rfl
  subst h0 h1 h2 h3
  obtain h | h | h | h : q = 0 ∨ q = 1 ∨ q = 2 ∨ q = 3 := by omega
  · subst h
    rw [dif_pos (by rw [hp]; show 64 * 0 + j.val < 64; omega)]
  · subst h
    rw [dif_neg (by rw [hp]; show ¬ 64 * 1 + j.val < 64; omega), dif_pos (by rw [hp]; show 64 * 1 + j.val - 64 < 64; omega)]
  · subst h
    rw [dif_neg (by rw [hp]; show ¬ 64 * 2 + j.val < 64; omega), dif_neg (by rw [hp]; show ¬ 64 * 2 + j.val - 64 < 64; omega),
      dif_pos (by rw [hp]; show 64 * 2 + j.val - 64 - 64 < 64; omega)]
  · subst h
    rw [dif_neg (by rw [hp]; show ¬ 64 * 3 + j.val < 64; omega), dif_neg (by rw [hp]; show ¬ 64 * 3 + j.val - 64 < 64; omega),
      dif_neg (by rw [hp]; show ¬ 64 * 3 + j.val - 64 - 64 < 64; omega)]

section totals
variable (mk : FVec Ideal S256x256 .bf16) (z : FVec Ideal S256x256 .f32) (u : Vec Ideal S1x1x256 .f32)

theorem last0 (b : Fin 256) : k0_pay18 mk z u (ix2 0 b) = k0_pay17 mk z u (ix2 (place 0 63) b) := by
  pointwise [k0_pay18]
  rfl

theorem last1 (b : Fin 256) : k0_pay19 mk z u (ix2 0 b) = k0_pay17 mk z u (ix2 (place 1 63) b) := by
  pointwise [k0_pay19]
  rfl

theorem last2 (b : Fin 256) : k0_pay20 mk z u (ix2 0 b) = k0_pay17 mk z u (ix2 (place 2 63) b) := by
  pointwise [k0_pay20]
  rfl

theorem last3 (b : Fin 256) : k0_pay21 mk z u (ix2 0 b) = k0_pay17 mk z u (ix2 (place 3 63) b) := by
  pointwise [k0_pay21]
  rfl

/-- Every row's chunk total. -/
theorem totals_before (q : Fin 4) (j : Fin 64) (b : Fin 256) :
    k0_pay22 mk z u (ix2 (place q j) b) = k0_pay17 mk z u (ix2 (place q 63) b) := by
  pointwise [k0_pay22, k0_pay18, k0_pay19, k0_pay20, k0_pay21]
  exact pick q j _ _ _ _ (fun q => k0_pay17 mk z u (ix2 (place q 63) b)) rfl rfl rfl rfl

end totals

theorem keys_before (k : Vec Ideal S1x256x256 .bf16) (s t : FVec Ideal S256x256 .f32) (a b : Fin 256) :
    k0_pay26 (k0_pay13 k) s t (ix3 0 a b) = k (ix3 0 a b) * Ideal.exp2 (t (ix2 a b) - s (ix2 a b)) := by
  pointwise [k0_pay26, k0_pay13]
  rfl

theorem keys_after (k : Vec Ideal S1x256x256 .bf16) (s : FVec Ideal S256x256 .f32) (t0 t1 t2 : FVec Ideal S1x256 .f32)
    (h0 : ∀ b : Fin 256, t0 (ix2 0 b) = s (ix2 (place 0 0) b)) (h1 : ∀ b : Fin 256, t1 (ix2 0 b) = s (ix2 (place 1 0) b))
    (h2 : ∀ b : Fin 256, t2 (ix2 0 b) = s (ix2 (place 2 0) b)) (q : Fin 4) (j : Fin 64) (b : Fin 256) :
    k0_pay42 (k0_pay13 k) s t0 t1 t2 (ix3 0 (place q j) b)
      = k (ix3 0 (place q j) b) * Ideal.exp2 (s (ix2 (place q 0) b) - s (ix2 (place q j) b)) := by
  pointwise [k0_pay42, k0_pay13, k0_pay38]
  rw [pick q j (t0 (ix2 0 b)) (t1 (ix2 0 b)) (t2 (ix2 0 b)) (s (ix2 192 b)) (fun q => s (ix2 (place q 0) b)) (h0 b) (h1 b) (h2 b) rfl]
  rfl

section totals
variable (mk : FVec Ideal S256x256 .bf16) (l : FVec Ideal S256x128 .bf16) (w : Vec Ideal S1x128x256 .bf16) (u : Vec Ideal S1x1x256 .f32)

theorem first0 (b : Fin 256) : k0_pay35 mk l w u (ix2 0 b) = k0_pay34 mk l w u (ix2 (place 0 0) b) := by
  pointwise [k0_pay35]
  rfl

theorem first1 (b : Fin 256) : k0_pay36 mk l w u (ix2 0 b) = k0_pay34 mk l w u (ix2 (place 1 0) b) := by
  pointwise [k0_pay36]
  rfl

theorem first2 (b : Fin 256) : k0_pay37 mk l w u (ix2 0 b) = k0_pay34 mk l w u (ix2 (place 2 0) b) := by
  pointwise [k0_pay37]
  rfl

theorem first3 (s : FVec Ideal S256x256 .f32) (b : Fin 256) : k0_pay38 s (ix2 0 b) = s (ix2 (place 3 0) b) := by
  pointwise [k0_pay38]
  rfl

end totals

theorem column27 (u : FVec Ideal S1x256 .f32) (a : Fin 256) (b : Fin 128) : k0_pay27 u (ix4 0 0 a b) = Ideal.exp2 (u (ix2 0 a)) := by
  pointwise [k0_pay27]
  split
  · rfl
  · exact congrArg (fun i => Ideal.exp2 (u (ix2 0 i))) (Fin.ext (by show 128 + (a.val - 128) = a.val; omega))

theorem column29 (u : FVec Ideal S1x256 .f32) (a : Fin 256) (b : Fin 128) : k0_pay29 (k0_pay28 u) (ix4 0 0 a b) = Ideal.exp2 (u (ix2 0 a)) := by
  pointwise [k0_pay29, k0_pay28]
  split
  · rfl
  · exact congrArg (fun i => Ideal.exp2 (u (ix2 0 i))) (Fin.ext (by show 128 + (a.val - 128) = a.val; omega))

theorem column30 (u : FVec Ideal S1x256 .f32) (a : Fin 256) (b : Fin 128) : k0_pay30 u (ix4 0 0 a b) = Ideal.exp2 (u (ix2 0 a)) := by
  pointwise [k0_pay30]
  split
  · rfl
  · exact congrArg (fun i => Ideal.exp2 (u (ix2 0 i))) (Fin.ext (by show 128 + (a.val - 128) = a.val; omega))

theorem column32 (u : FVec Ideal S1x256 .f32) (a : Fin 256) (b : Fin 128) : k0_pay32 (k0_pay31 u) (ix4 0 0 a b) = Ideal.exp2 (u (ix2 0 a)) := by
  pointwise [k0_pay32, k0_pay31]
  split
  · rfl
  · exact congrArg (fun i => Ideal.exp2 (u (ix2 0 i))) (Fin.ext (by show 128 + (a.val - 128) = a.val; omega))

theorem column44 (u : FVec Ideal S1x256 .f32) (a : Fin 256) (b : Fin 128) : k0_pay44 (k0_pay43 u) (ix4 0 0 a b) = Ideal.exp2 (u (ix2 0 a)) := by
  pointwise [k0_pay44, k0_pay43]
  split
  · rfl
  · exact congrArg (fun i => Ideal.exp2 (u (ix2 0 i))) (Fin.ext (by show 128 + (a.val - 128) = a.val; omega))

theorem column45 (u : FVec Ideal S1x256 .f32) (a : Fin 256) (b : Fin 128) : k0_pay45 u (ix4 0 0 a b) = Ideal.exp2 (u (ix2 0 a)) := by
  pointwise [k0_pay45]
  split
  · rfl
  · exact congrArg (fun i => Ideal.exp2 (u (ix2 0 i))) (Fin.ext (by show 128 + (a.val - 128) = a.val; omega))

theorem column46 (u : FVec Ideal S1x256 .f32) (a : Fin 256) (b : Fin 128) : k0_pay46 u (ix4 0 0 a b) = Ideal.exp2 (u (ix2 0 a)) := by
  pointwise [k0_pay46]
  split
  · rfl
  · exact congrArg (fun i => Ideal.exp2 (u (ix2 0 i))) (Fin.ext (by show 128 + (a.val - 128) = a.val; omega))

theorem column47 (u : FVec Ideal S1x256 .f32) (a : Fin 256) (b : Fin 128) : k0_pay47 u (ix4 0 0 a b) = Ideal.exp2 (u (ix2 0 a)) := by
  pointwise [k0_pay47]
  split
  · rfl
  · exact congrArg (fun i => Ideal.exp2 (u (ix2 0 i))) (Fin.ext (by show 128 + (a.val - 128) = a.val; omega))

theorem step53 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay53 s e k v (ix3 0 a b) = d a * s (ix3 0 a b) + ∑ x : Fin 64, k (ix3 0 x a) * v (ix3 0 x b) := by
  pointwise [k0_pay53, k0_pay52]
  simp only [he, ite_self, dite_eq_ite]

theorem step56 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay56 s e k v (ix3 0 a b) = d a * s (ix3 0 a b) + ∑ x : Fin 64, k (ix3 0 x a) * v (ix3 0 x b) := by
  pointwise [k0_pay56, k0_pay55]
  simp only [he, ite_self, dite_eq_ite]

theorem step59 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay59 s e k v (ix3 0 a b) = d a * s (ix3 0 a b) + ∑ x : Fin 64, k (ix3 0 x a) * v (ix3 0 x b) := by
  pointwise [k0_pay59, k0_pay58]
  simp only [he, ite_self, dite_eq_ite]

theorem step62 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay62 (k0_pay61 s) e k v (ix3 0 a b) = d a * s (ix3 0 a b) + ∑ x : Fin 64, k (ix3 0 x a) * v (ix3 0 x b) := by
  pointwise [k0_pay62, k0_pay61]
  simp only [he, ite_self, dite_eq_ite]

theorem step65 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay65 (k0_pay64 s) e k v (ix3 0 a b) = d a * s (ix3 0 a b) + ∑ x : Fin 64, k (ix3 0 x a) * v (ix3 0 x b) := by
  pointwise [k0_pay65, k0_pay64]
  simp only [he, ite_self, dite_eq_ite]

theorem step71 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay71 s e k v (ix3 0 a b) = d a * s (ix3 0 a b) + ∑ x : Fin 64, k (ix3 0 x a) * v (ix3 0 x b) := by
  pointwise [k0_pay71, k0_pay69]
  simp only [he, ite_self, dite_eq_ite]

theorem step76 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay76 (k0_pay73 s) e k v (ix3 0 a b) = d a * s (ix3 0 a b) + ∑ x : Fin 64, k (ix3 0 x a) * v (ix3 0 x b) := by
  pointwise [k0_pay76, k0_pay73]
  simp only [he, ite_self, dite_eq_ite]

theorem step83 (s : Vec Ideal S1x256x512 .f32) (e : Vec Ideal S1x1x256x128 .f32) (k : Vec Ideal S1x64x256 .bf16) (v : Vec Ideal S1x64x512 .bf16)
    (d : Fin 256 → EReal) (he : ∀ (a : Fin 256) (b : Fin 128), e (ix4 0 0 a b) = d a) (a : Fin 256) (b : Fin 512) :
    k0_pay83 s e k v (ix3 0 a b) = d a * s (ix3 0 a b) + ∑ x : Fin 64, k (ix3 0 x a) * v (ix3 0 x b) := by
  pointwise [k0_pay83, k0_pay81]
  simp only [he, ite_self, dite_eq_ite]

theorem zero_before (a : Fin 256) (b : Fin 512) : k0_pay49 (F := Ideal) (ix3 0 a b) = 0 := by
  pointwise [k0_pay49]

theorem zero_after (a : Fin 256) (b : Fin 512) : k0_pay51 (k0_pay50 (F := Ideal)) (ix3 0 a b) = 0 := by
  pointwise [k0_pay51, k0_pay50]

theorem copy_before (s : Vec Ideal S1x256x512 .f32) (a : Fin 256) (b : Fin 512) : k0_pay85 s (ix5 0 0 0 a b) = s (ix3 0 a b) := by
  pointwise [k0_pay85]

theorem copy_after (s : Vec Ideal S1x256x512 .f32) (a : Fin 256) (b : Fin 512) : k0_pay1 (k0_pay86 s) (ix5 0 0 0 a b) = s (ix3 0 a b) := by
  pointwise [k0_pay1, k0_pay86]

end Cert.KernelGlaIdeal.St

end
-- ==== Proof.GlaChunk.lean ====
module

public import proofs.«01_k».proof.Proof.GlaPay
public import Idealize.ShloMosaic.Lib.Pipeline.ReadBack

@[expose] public section

set_option maxRecDepth 16384

noncomputable section

/-! The four steps of the tiled form's state, in either direction, are the state of the chunk recursion. -/

namespace Cert.KernelGlaIdeal.St

open Cert.KernelGlaIdeal Cert.KernelGlaIdeal.Gen Idealize.ShloMosaic Idealize.ShloMosaic.TcCoe Idealize.SL.Sem
open Cert.Gla

/-- The log decays of a block, position by position. -/
def logs (l : Vec Ideal S1x256x128 .f32) (w : Vec Ideal S1x128x256 .bf16) (u : Vec Ideal S1x1x256 .f32) (x a : Fin 256) : EReal :=
  logDecay ((∑ r : Fin 128, l (ix3 0 x r) * w (ix3 0 r a)) + u (ix3 0 0 a))

section before
variable (mk : FVec Ideal S256x256 .bf16) (hm : ∀ a b : Fin 256, mk (ix2 a b) = if b.val / 64 = a.val / 64 ∧ b.val ≤ a.val then (1 : EReal) else 0)
  (l : Vec Ideal S1x256x128 .f32) (w : Vec Ideal S1x128x256 .bf16) (u : Vec Ideal S1x1x256 .f32)
include hm

theorem prefix_before (q : Fin 4) (j : Fin 64) (a : Fin 256) :
    k0_pay17 mk (k0_pay16 l w) u (ix2 (place q j) a) = chunkSum (fun x => logs l w u x a) q j * (base2 : EReal) := by
  rw [sums_before mk hm]
  simp only [gate_in]
  rfl

theorem decay_before (q : Fin 4) (a : Fin 256) :
    Ideal.exp2 (k0_pay17 mk (k0_pay16 l w) u (ix2 (place q 63) a)) = decay (logs l w u) q a := by
  rw [prefix_before mk hm, exp2_base2]
  rfl

theorem keyed_before (k : Vec Ideal S1x256x256 .bf16) (q : Fin 4) (j : Fin 64) (a : Fin 256) :
    k0_pay26 (k0_pay13 k) (k0_pay17 mk (k0_pay16 l w) u) (k0_pay22 mk (k0_pay16 l w) u) (ix3 0 (place q j) a)
      = k (ix3 0 (place q j) a) * Ideal.exp (chunkSum (fun x => logs l w u x a) q 63 - chunkSum (fun x => logs l w u x a) q j) := by
  rw [keys_before, totals_before, prefix_before mk hm, prefix_before mk hm, sub_scale, exp2_base2]

theorem state_before (k : Vec Ideal S1x256x256 .bf16) (v : Vec Ideal S1x256x512 .bf16) (kc : Fin 4 → Vec Ideal S1x64x256 .bf16) (vc : Fin 4 → Vec Ideal S1x64x512 .bf16)
    (hk : ∀ (q : Fin 4) (j : Fin 64) (a : Fin 256), kc q (ix3 0 j a)
      = k0_pay26 (k0_pay13 k) (k0_pay17 mk (k0_pay16 l w) u) (k0_pay22 mk (k0_pay16 l w) u) (ix3 0 (place q j) a))
    (hv : ∀ (q : Fin 4) (j : Fin 64) (b : Fin 512), vc q (ix3 0 j b) = v (ix3 0 (place q j) b)) (a : Fin 256) (b : Fin 512) :
    k0_pay85 (k0_pay76 (k0_pay73 (k0_pay65 (k0_pay64 (k0_pay59 (k0_pay53 k0_pay49
        (k0_pay27 (k0_pay18 mk (k0_pay16 l w) u)) (kc 0) (vc 0))
        (k0_pay29 (k0_pay28 (k0_pay19 mk (k0_pay16 l w) u))) (kc 1) (vc 1)))
        (k0_pay30 (k0_pay20 mk (k0_pay16 l w) u)) (kc 2) (vc 2)))
        (k0_pay32 (k0_pay31 (k0_pay21 mk (k0_pay16 l w) u))) (kc 3) (vc 3)) (ix5 0 0 0 a b)
      = state (fun x a => k (ix3 0 x a)) (fun x b => v (ix3 0 x b)) (logs l w u) a b := by
  rw [copy_before,
    step76 _ _ _ _ (decay (logs l w u) 3) fun a b => by rw [column32, last3, decay_before mk hm],
    step65 _ _ _ _ (decay (logs l w u) 2) fun a b => by rw [column30, last2, decay_before mk hm],
    step59 _ _ _ _ (decay (logs l w u) 1) fun a b => by rw [column29, last1, decay_before mk hm],
    step53 _ _ _ _ (decay (logs l w u) 0) fun a b => by rw [column27, last0, decay_before mk hm],
    zero_before]
  simp only [hk, hv, keyed_before mk hm]
  rfl

end before

section after
variable (mk : FVec Ideal S256x256 .bf16) (hm : ∀ a b : Fin 256, mk (ix2 a b) = if b.val / 64 = a.val / 64 ∧ a.val ≤ b.val then (1 : EReal) else 0)
  (l : Vec Ideal S1x256x128 .f32) (w : Vec Ideal S1x128x256 .bf16) (u : Vec Ideal S1x1x256 .f32)
include hm

theorem suffix_after (q : Fin 4) (j : Fin 64) (a : Fin 256) :
    k0_pay34 mk (k0_pay15 l) w u (ix2 (place q j) a) = chunkSum (fun x => logs l w u x.rev a) q.rev j.rev * (base2 : EReal) :=
  sums_after mk hm l w u q j a

theorem decay_after (q : Fin 4) (a : Fin 256) :
    Ideal.exp2 (k0_pay34 mk (k0_pay15 l) w u (ix2 (place q 0) a)) = decay (fun x => logs l w u x.rev) q.rev a := by
  rw [suffix_after mk hm, exp2_base2]
  rfl

theorem keyed_after (k : Vec Ideal S1x256x256 .bf16) (q : Fin 4) (j : Fin 64) (a : Fin 256) :
    k0_pay42 (k0_pay13 k) (k0_pay34 mk (k0_pay15 l) w u) (k0_pay35 mk (k0_pay15 l) w u) (k0_pay36 mk (k0_pay15 l) w u) (k0_pay37 mk (k0_pay15 l) w u) (ix3 0 (place q j) a)
      = k (ix3 0 (place q j) a) * Ideal.exp (chunkSum (fun x => logs l w u x.rev a) q.rev 63 - chunkSum (fun x => logs l w u x.rev a) q.rev j.rev) := by
  rw [keys_after _ _ _ _ _ (first0 mk _ w u) (first1 mk _ w u) (first2 mk _ w u), suffix_after mk hm, suffix_after mk hm, sub_scale, exp2_base2]
  rfl

theorem state_after (k : Vec Ideal S1x256x256 .bf16) (v : Vec Ideal S1x256x512 .bf16) (kc : Fin 4 → Vec Ideal S1x64x256 .bf16) (vc : Fin 4 → Vec Ideal S1x64x512 .bf16)
    (hk : ∀ (q : Fin 4) (j : Fin 64) (a : Fin 256), kc q (ix3 0 j a)
      = k0_pay42 (k0_pay13 k) (k0_pay34 mk (k0_pay15 l) w u) (k0_pay35 mk (k0_pay15 l) w u) (k0_pay36 mk (k0_pay15 l) w u) (k0_pay37 mk (k0_pay15 l) w u) (ix3 0 (place q j) a))
    (hv : ∀ (q : Fin 4) (j : Fin 64) (b : Fin 512), vc q (ix3 0 j b) = v (ix3 0 (place q j) b)) (a : Fin 256) (b : Fin 512) :
    k0_pay1 (k0_pay86 (k0_pay83 (k0_pay71 (k0_pay62 (k0_pay61 (k0_pay56 (k0_pay51 k0_pay50)
        (k0_pay47 (k0_pay38 (k0_pay34 mk (k0_pay15 l) w u))) (kc 3) (vc 3)))
        (k0_pay46 (k0_pay37 mk (k0_pay15 l) w u)) (kc 2) (vc 2))
        (k0_pay45 (k0_pay36 mk (k0_pay15 l) w u)) (kc 1) (vc 1))
        (k0_pay44 (k0_pay43 (k0_pay35 mk (k0_pay15 l) w u))) (kc 0) (vc 0))) (ix5 0 0 0 a b)
      = state (fun x a => k (ix3 0 x.rev a)) (fun x b => v (ix3 0 x.rev b)) (fun x => logs l w u x.rev) a b := by
  rw [copy_after,
    step83 _ _ _ _ (decay (fun x => logs l w u x.rev) 3) fun a b => by rw [column44, first0, decay_after mk hm]; rfl,
    step71 _ _ _ _ (decay (fun x => logs l w u x.rev) 2) fun a b => by rw [column45, first1, decay_after mk hm]; rfl,
    step62 _ _ _ _ (decay (fun x => logs l w u x.rev) 1) fun a b => by rw [column46, first2, decay_after mk hm]; rfl,
    step56 _ _ _ _ (decay (fun x => logs l w u x.rev) 0) fun a b => by rw [column47, first3, decay_after mk hm]; rfl,
    zero_after]
  simp only [hk, hv, keyed_after mk hm]
  unfold state
  have e0 : gain (fun x a => k (ix3 0 x.rev a)) (fun x b => v (ix3 0 x.rev b)) (fun x => logs l w u x.rev) 0 a b = _ := (gain_rev (fun x a => k (ix3 0 x a)) (fun x b => v (ix3 0 x b)) (logs l w u) 3 a b).symm
  have e1 : gain (fun x a => k (ix3 0 x.rev a)) (fun x b => v (ix3 0 x.rev b)) (fun x => logs l w u x.rev) 1 a b = _ := (gain_rev (fun x a => k (ix3 0 x a)) (fun x b => v (ix3 0 x b)) (logs l w u) 2 a b).symm
  have e2 : gain (fun x a => k (ix3 0 x.rev a)) (fun x b => v (ix3 0 x.rev b)) (fun x => logs l w u x.rev) 2 a b = _ := (gain_rev (fun x a => k (ix3 0 x a)) (fun x b => v (ix3 0 x b)) (logs l w u) 1 a b).symm
  have e3 : gain (fun x a => k (ix3 0 x.rev a)) (fun x b => v (ix3 0 x.rev b)) (fun x => logs l w u x.rev) 3 a b = _ := (gain_rev (fun x a => k (ix3 0 x a)) (fun x b => v (ix3 0 x b)) (logs l w u) 0 a b).symm
  rw [e0, e1, e2, e3]

end after

/-- A load through a box that lies in the last store's rectangle reads that store. -/
theorem read_in {sig : RefSig} {κ : Kind} {sp : Space} {s : Shape} {e : EltTy} (v : View sig κ sp s e) (r : Rect s) (w : r.shape.Idx → Elt Ideal e)
    (L : List (View.Piece (Elt Ideal) s e)) (B : LoadRect s) (j : B.shape.Idx) (x : r.shape.Idx) (h : r.emb x = B.idx j) : v.readCov (⟨r, w⟩ :: L) B j = w x := by
  rw [View.readCov_eq_canon']
  show View.canon _ (B.idx j) = _
  rw [← h]
  exact View.canon_cons_emb r w L x

end Cert.KernelGlaIdeal.St

end
-- ==== Proof.GlaPoint.lean ====
module

public import proofs.«01_k».proof.Proof.Gen.KernelGlaIdeal.Frame
public import proofs.«01_k».proof.Proof.GlaMask
public import proofs.«01_k».proof.Proof.GlaChunk
public import Idealize.ShloMosaic.Lib.Pipeline.ValueKit
public import Idealize.ShloMosaic.Lib.Pipeline.ReadBack
public import Idealize.ShloMosaic.Lib.Pointwise

@[expose] public section

set_option maxRecDepth 16384

noncomputable section

/-! What the second output's staging buffer holds after a grid point. -/

namespace Cert.KernelGlaIdeal.St

open Cert.KernelGlaIdeal Cert.KernelGlaIdeal.Gen Idealize.ShloMosaic Idealize.ShloMosaic.TcCoe Idealize.SL.Sem
open Cert.Gla
open Idealize.ShloMosaic.Pipeline (Dat Window)

variable (m : (ℓ : Loc nD τ sig) → Buf (Elt Ideal) ℓ) (c : Dev nD)

theorem state_before_parts (mk : FVec Ideal S256x256 .bf16) (hm : ∀ a b : Fin 256, mk (ix2 a b) = if b.val / 64 = a.val / 64 ∧ b.val ≤ a.val then (1 : EReal) else 0)
    (l : Vec Ideal S1x256x128 .f32) (w : Vec Ideal S1x128x256 .bf16) (u : Vec Ideal S1x1x256 .f32) (k : Vec Ideal S1x256x256 .bf16) (v : Vec Ideal S1x256x512 .bf16)
    (k0 k1 k2 k3 : Vec Ideal S1x64x256 .bf16) (v0 v1 v2 v3 : Vec Ideal S1x64x512 .bf16)
    (hk0 : ∀ (j : Fin 64) (a : Fin 256), k0 (ix3 0 j a) = k0_pay26 (k0_pay13 k) (k0_pay17 mk (k0_pay16 l w) u) (k0_pay22 mk (k0_pay16 l w) u) (ix3 0 (place 0 j) a))
    (hk1 : ∀ (j : Fin 64) (a : Fin 256), k1 (ix3 0 j a) = k0_pay26 (k0_pay13 k) (k0_pay17 mk (k0_pay16 l w) u) (k0_pay22 mk (k0_pay16 l w) u) (ix3 0 (place 1 j) a))
    (hk2 : ∀ (j : Fin 64) (a : Fin 256), k2 (ix3 0 j a) = k0_pay26 (k0_pay13 k) (k0_pay17 mk (k0_pay16 l w) u) (k0_pay22 mk (k0_pay16 l w) u) (ix3 0 (place 2 j) a))
    (hk3 : ∀ (j : Fin 64) (a : Fin 256), k3 (ix3 0 j a) = k0_pay26 (k0_pay13 k) (k0_pay17 mk (k0_pay16 l w) u) (k0_pay22 mk (k0_pay16 l w) u) (ix3 0 (place 3 j) a))
    (hv0 : ∀ (j : Fin 64) (b : Fin 512), v0 (ix3 0 j b) = v (ix3 0 (place 0 j) b))
    (hv1 : ∀ (j : Fin 64) (b : Fin 512), v1 (ix3 0 j b) = v (ix3 0 (place 1 j) b))
    (hv2 : ∀ (j : Fin 64) (b : Fin 512), v2 (ix3 0 j b) = v (ix3 0 (place 2 j) b))
    (hv3 : ∀ (j : Fin 64) (b : Fin 512), v3 (ix3 0 j b) = v (ix3 0 (place 3 j) b))
    (a : Fin 256) (b : Fin 512) :
    k0_pay85 (k0_pay76 (k0_pay73 (k0_pay65 (k0_pay64 (k0_pay59 (k0_pay53 k0_pay49
        (k0_pay27 (k0_pay18 mk (k0_pay16 l w) u)) k0 v0)
        (k0_pay29 (k0_pay28 (k0_pay19 mk (k0_pay16 l w) u))) k1 v1))
        (k0_pay30 (k0_pay20 mk (k0_pay16 l w) u)) k2 v2))
        (k0_pay32 (k0_pay31 (k0_pay21 mk (k0_pay16 l w) u))) k3 v3) (ix5 0 0 0 a b)
      = state (fun x a => k (ix3 0 x a)) (fun x b => v (ix3 0 x b)) (logs l w u) a b :=
  state_before mk hm l w u k v ![k0, k1, k2, k3] ![v0, v1, v2, v3]
    (fun q j a => by fin_cases q; exacts [hk0 j a, hk1 j a, hk2 j a, hk3 j a])
    (fun q j b => by fin_cases q; exacts [hv0 j b, hv1 j b, hv2 j b, hv3 j b]) a b

theorem state_after_parts (mk : FVec Ideal S256x256 .bf16) (hm : ∀ a b : Fin 256, mk (ix2 a b) = if b.val / 64 = a.val / 64 ∧ a.val ≤ b.val then (1 : EReal) else 0)
    (l : Vec Ideal S1x256x128 .f32) (w : Vec Ideal S1x128x256 .bf16) (u : Vec Ideal S1x1x256 .f32) (k : Vec Ideal S1x256x256 .bf16) (v : Vec Ideal S1x256x512 .bf16)
    (k0 k1 k2 k3 : Vec Ideal S1x64x256 .bf16) (v0 v1 v2 v3 : Vec Ideal S1x64x512 .bf16)
    (hk0 : ∀ (j : Fin 64) (a : Fin 256), k0 (ix3 0 j a) = k0_pay42 (k0_pay13 k) (k0_pay34 mk (k0_pay15 l) w u) (k0_pay35 mk (k0_pay15 l) w u) (k0_pay36 mk (k0_pay15 l) w u) (k0_pay37 mk (k0_pay15 l) w u) (ix3 0 (place 0 j) a))
    (hk1 : ∀ (j : Fin 64) (a : Fin 256), k1 (ix3 0 j a) = k0_pay42 (k0_pay13 k) (k0_pay34 mk (k0_pay15 l) w u) (k0_pay35 mk (k0_pay15 l) w u) (k0_pay36 mk (k0_pay15 l) w u) (k0_pay37 mk (k0_pay15 l) w u) (ix3 0 (place 1 j) a))
    (hk2 : ∀ (j : Fin 64) (a : Fin 256), k2 (ix3 0 j a) = k0_pay42 (k0_pay13 k) (k0_pay34 mk (k0_pay15 l) w u) (k0_pay35 mk (k0_pay15 l) w u) (k0_pay36 mk (k0_pay15 l) w u) (k0_pay37 mk (k0_pay15 l) w u) (ix3 0 (place 2 j) a))
    (hk3 : ∀ (j : Fin 64) (a : Fin 256), k3 (ix3 0 j a) = k0_pay42 (k0_pay13 k) (k0_pay34 mk (k0_pay15 l) w u) (k0_pay35 mk (k0_pay15 l) w u) (k0_pay36 mk (k0_pay15 l) w u) (k0_pay37 mk (k0_pay15 l) w u) (ix3 0 (place 3 j) a))
    (hv0 : ∀ (j : Fin 64) (b : Fin 512), v0 (ix3 0 j b) = v (ix3 0 (place 0 j) b))
    (hv1 : ∀ (j : Fin 64) (b : Fin 512), v1 (ix3 0 j b) = v (ix3 0 (place 1 j) b))
    (hv2 : ∀ (j : Fin 64) (b : Fin 512), v2 (ix3 0 j b) = v (ix3 0 (place 2 j) b))
    (hv3 : ∀ (j : Fin 64) (b : Fin 512), v3 (ix3 0 j b) = v (ix3 0 (place 3 j) b))
    (a : Fin 256) (b : Fin 512) :
    k0_pay1 (k0_pay86 (k0_pay83 (k0_pay71 (k0_pay62 (k0_pay61 (k0_pay56 (k0_pay51 k0_pay50)
        (k0_pay47 (k0_pay38 (k0_pay34 mk (k0_pay15 l) w u))) k3 v3))
        (k0_pay46 (k0_pay37 mk (k0_pay15 l) w u)) k2 v2)
        (k0_pay45 (k0_pay36 mk (k0_pay15 l) w u)) k1 v1)
        (k0_pay44 (k0_pay43 (k0_pay35 mk (k0_pay15 l) w u))) k0 v0)) (ix5 0 0 0 a b)
      = state (fun x a => k (ix3 0 x.rev a)) (fun x b => v (ix3 0 x.rev b)) (fun x => logs l w u x.rev) a b :=
  state_after mk hm l w u k v ![k0, k1, k2, k3] ![v0, v1, v2, v3]
    (fun q j a => by fin_cases q; exacts [hk0 j a, hk1 j a, hk2 j a, hk3 j a])
    (fun q j b => by fin_cases q; exacts [hv0 j b, hv1 j b, hv2 j b, hv3 j b]) a b

/-- A load of one chunk's rows reads those rows. -/
theorem ld_rows (v : Vec Ideal S1x256x512 .bf16) (o : ℕ) (inb) (q : Fin 4) (ho : o = 64 * q.val) (j : Fin 64) (b : Fin 512) :
    View.ld v (Rect.unit (s := S1x256x512) ![0, o, 0] ![1, 64, 512] inb) (ix3 0 j b) = v (ix3 0 (place q j) b) := by
  subst ho
  refine congrArg v (funext fun x => Fin.ext ?_)
  rw [LoadRect.idx_apply]
  fin_cases x <;> simp [place]

theorem ld_w (w : Vec Ideal S2x128x256 .bf16) (d : Fin 2) (o : ℕ) (inb) (ho : o = d.val) (r : Fin 128) (a : Fin 256) :
    View.ld w (Rect.unit (s := S2x128x256) ![o, 0, 0] ![1, 128, 256] inb) (ix3 0 r a) = w (ix3 d r a) := by
  subst ho
  refine congrArg w (funext fun x => Fin.ext ?_)
  rw [LoadRect.idx_apply]
  fin_cases x <;> simp

theorem ld_u (u : Vec Ideal S2x1x256 .f32) (d : Fin 2) (o : ℕ) (inb) (ho : o = d.val) (a : Fin 256) :
    View.ld u (Rect.unit (s := S2x1x256) ![o, 0, 0] ![1, 1, 256] inb) (ix3 0 0 a) = u (ix3 d 0 a) := by
  subst ho
  refine congrArg u (funext fun x => Fin.ext ?_)
  rw [LoadRect.idx_apply]
  fin_cases x <;> simp

theorem store_before (o : ℕ) (inb) (q : Fin 4) (ho : o = 64 * q.val) (j : Fin 64) (a : Fin 256) :
    (Rect.unit (s := S2x256x256) k0_off4 ![1, 256, 256] k0_off4_inb).emb (ix3 0 (place q j) a)
      = (Rect.unit (s := S2x256x256) ![0, o, 0] ![1, 64, 256] inb).toLoadRect.idx (ix3 0 j a) := by
  subst ho
  refine funext fun x => Fin.ext ?_
  rw [Rect.emb_apply, LoadRect.idx_apply]
  fin_cases x <;> simp [place, k0_off4]
  all_goals rfl

theorem store_after (o : ℕ) (inb) (q : Fin 4) (ho : o = 64 * q.val) (j : Fin 64) (a : Fin 256) :
    (Rect.unit (s := S2x256x256) k0_off6 ![1, 256, 256] k0_off6_inb).emb (ix3 0 (place q j) a)
      = (Rect.unit (s := S2x256x256) ![1, o, 0] ![1, 64, 256] inb).toLoadRect.idx (ix3 0 j a) := by
  subst ho
  refine funext fun x => Fin.ext ?_
  rw [Rect.emb_apply, LoadRect.idx_apply]
  fin_cases x <;> simp [place, k0_off6]
  all_goals rfl

/-- The state of one direction, from a point's blocks. -/
def stateAt (k : Vec Ideal S1x256x256 .bf16) (v : Vec Ideal S1x256x512 .bf16) (l : Vec Ideal S1x256x128 .f32) (w : Vec Ideal S2x128x256 .bf16) (u : Vec Ideal S2x1x256 .f32)
    (d : Fin 2) (a : Fin 256) (b : Fin 512) : EReal :=
  let y : Fin 256 → Fin 256 → EReal := fun x a => logDecay ((∑ r : Fin 128, l (ix3 0 x r) * w (ix3 d r a)) + u (ix3 d 0 a))
  if d = 0 then state (fun x a => k (ix3 0 x a)) (fun x b => v (ix3 0 x b)) y a b
  else state (fun x a => k (ix3 0 x.rev a)) (fun x b => v (ix3 0 x.rev b)) (fun x => y x.rev) a b

set_option maxHeartbeats 400000 in
theorem contents (t : Fin cfg0.N) (y0 : Fin 1) (y1 : Fin 2) (y2 : Fin 1) (y3 : Fin 256) (y4 : Fin 512) :
    (outsAt0 m c t).2 (ix5 y0 y1 y2 y3 y4) = stateAt (iblk m c 1 t) (iblk m c 2 t) (iblk m c 4 t) (iblk m c 5 t) (iblk m c 6 t) y1 y3 y4 := by
  unfold outsAt0
  generalize iblk m c 0 t = qB
  generalize iblk m c 1 t = kB
  generalize iblk m c 2 t = vB
  generalize iblk m c 3 t = gB
  generalize iblk m c 4 t = lB
  generalize iblk m c 5 t = wB
  generalize iblk m c 6 t = uB
  generalize iblk m c 7 t = nB
  frame_open
  simp (disch := decide) only [↓ View.readCov_skip, ↓ View.readCov_cons_toLoadRect, ↓ View.readCov_fill]
  frame_out
  have hf := mask_before
  have hb := mask_after
  generalize k0_pay10 (F := Ideal) _ _ _ _ _ _ _ = mf at hf ⊢
  generalize k0_pay11 (F := Ideal) _ _ _ _ _ _ _ = mb at hb ⊢
  canon_tiles x h
  · idx_vars x
    obtain rfl : y3 = x3 := Fin.ext h3
    obtain rfl : y4 = x4 := Fin.ext h4
    obtain rfl : y1 = 1 := Fin.ext (by omega)
    obtain rfl : x0 = 0 := Subsingleton.elim _ _
    obtain rfl : x1 = 0 := Subsingleton.elim _ _
    obtain rfl : x2 = 0 := Subsingleton.elim _ _
    refine (state_after_parts mb hb lB (View.ld wB (Rect.unit ![1, 0, 0] ![1, 128, 256] inb_S2x128x256_S1x128x256_1_0_0)) (View.ld uB (Rect.unit ![1, 0, 0] ![1, 1, 256] inb_S2x1x256_S1x1x256_1_0_0)) kB vB _ _ _ _ _ _ _ _ ?_ ?_ ?_ ?_ ?_ ?_ ?_ ?_ y3 y4).trans ?_
    · exact fun j a => read_in _ _ _ _ _ _ _ (store_after 0 _ 0 rfl j a)
    · exact fun j a => read_in _ _ _ _ _ _ _ (store_after 64 _ 1 rfl j a)
    · exact fun j a => read_in _ _ _ _ _ _ _ (store_after 128 _ 2 rfl j a)
    · exact fun j a => read_in _ _ _ _ _ _ _ (store_after 192 _ 3 rfl j a)
    · exact fun j b => ld_rows vB 0 _ 0 rfl j b
    · exact fun j b => ld_rows vB 64 _ 1 rfl j b
    · exact fun j b => ld_rows vB 128 _ 2 rfl j b
    · exact fun j b => ld_rows vB 192 _ 3 rfl j b
    · unfold stateAt
      rw [if_neg (by decide)]
      congr 1
      funext x a
      unfold logs
      simp only [ld_w wB 1 1 _ rfl, ld_u uB 1 1 _ rfl]
  · idx_vars x
    obtain rfl : y3 = x3 := Fin.ext h3
    obtain rfl : y4 = x4 := Fin.ext h4
    obtain rfl : y1 = 0 := Fin.ext (by omega)
    obtain rfl : x0 = 0 := Subsingleton.elim _ _
    obtain rfl : x1 = 0 := Subsingleton.elim _ _
    obtain rfl : x2 = 0 := Subsingleton.elim _ _
    refine (state_before_parts mf hf lB (View.ld wB (Rect.unit ![0, 0, 0] ![1, 128, 256] inb_S2x128x256_S1x128x256_0_0_0)) (View.ld uB (Rect.unit ![0, 0, 0] ![1, 1, 256] inb_S2x1x256_S1x1x256_0_0_0)) kB vB _ _ _ _ _ _ _ _ ?_ ?_ ?_ ?_ ?_ ?_ ?_ ?_ y3 y4).trans ?_
    · exact fun j a => read_in _ _ _ _ _ _ _ (store_before 0 _ 0 rfl j a)
    · exact fun j a => read_in _ _ _ _ _ _ _ (store_before 64 _ 1 rfl j a)
    · exact fun j a => read_in _ _ _ _ _ _ _ (store_before 128 _ 2 rfl j a)
    · exact fun j a => read_in _ _ _ _ _ _ _ (store_before 192 _ 3 rfl j a)
    · exact fun j b => ld_rows vB 0 _ 0 rfl j b
    · exact fun j b => ld_rows vB 64 _ 1 rfl j b
    · exact fun j b => ld_rows vB 128 _ 2 rfl j b
    · exact fun j b => ld_rows vB 192 _ 3 rfl j b
    · unfold stateAt
      rw [if_pos rfl]
      congr 1
      funext x a
      unfold logs
      simp only [ld_w wB 0 0 _ rfl, ld_u uB 0 0 _ rfl]

end Cert.KernelGlaIdeal.St
end
-- ==== Proof.GlaHost.lean ====
module

public import proofs.«01_k».proof.Proof.Gen.KernelGlaIdeal.Frame
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Routing.OpsPair

@[expose] public section

set_option maxRecDepth 16384

noncomputable section

/-! The blocks of the tiled form at a grid point, and the two low-rank factors laid into one padded array. -/

namespace Cert.KernelGlaIdeal.St

open Cert.KernelGlaIdeal Cert.KernelGlaIdeal.Gen Idealize.ShloMosaic Idealize.ShloMosaic.TcCoe Idealize.SL.Sem
open Idealize.ShloMosaic.Pipeline (Dat Window)

/-! ## Writing one matrix into a larger array -/

/-- Keeping the last value whose place is the wanted one, when one place at most is. -/
theorem keep_last {N : ℕ} {α : Type} (P : Fin N → Prop) [DecidablePred P] (g : Fin N → α) (n0 : Fin N) (h : ∀ n, P n ↔ n = n0) (l : List (Fin N)) :
    ∀ a : α, l.foldl (fun a n => if P n then g n else a) a = if n0 ∈ l then g n0 else a := by
  induction l with
  | nil => intro a; simp
  | cons n l ih =>
    intro a
    rw [List.foldl_cons, ih]
    by_cases e : n = n0
    · subst e
      simp [h]
    · have e' : ¬ n0 = n := fun q => e q.symm
      simp [h, e, e']

theorem keep_none {N : ℕ} {α : Type} (P : Fin N → Prop) [DecidablePred P] (g : Fin N → α) (h : ∀ n, ¬ P n) (l : List (Fin N)) :
    ∀ a : α, l.foldl (fun a n => if P n then g n else a) a = a := by
  induction l with
  | nil => intro a; rfl
  | cons n l ih =>
    intro a
    rw [List.foldl_cons, ih, if_neg (h n)]

theorem lands (idx : IVec S2 32) (r : Fin 16) (b : Fin 1024) (d : Fin 2) (x : Fin 128) (y : Fin 1024) :
    scatter_S2x128x1024_S2_S16x1024_01_0_01_0.resultIdx? (ix2 r b) idx = some (ix3 d x y)
      ↔ (idx (ix1 0)).toInt = d.val ∧ (idx (ix1 1)).toInt + r.val = x.val ∧ b = y := by
  rw [Routing.resultIdx?_eq_some]
  have s0 : scatter_S2x128x1024_S2_S16x1024_01_0_01_0.start (ix2 r b) idx 0 = (idx (ix1 0)).toInt := by
    show (idx _).toInt = _
    refine congrArg (fun i => (idx i).toInt) (funext fun a => ?_)
    fin_cases a
    rfl
  have s1 : scatter_S2x128x1024_S2_S16x1024_01_0_01_0.start (ix2 r b) idx 1 = (idx (ix1 1)).toInt := by
    show (idx _).toInt = _
    refine congrArg (fun i => (idx i).toInt) (funext fun a => ?_)
    fin_cases a
    rfl
  have s2 : scatter_S2x128x1024_S2_S16x1024_01_0_01_0.start (ix2 r b) idx 2 = 0 := rfl
  have w0 : scatter_S2x128x1024_S2_S16x1024_01_0_01_0.window (ix2 r b) 0 = 0 := rfl
  have w1 : scatter_S2x128x1024_S2_S16x1024_01_0_01_0.window (ix2 r b) 1 = r.val := rfl
  have w2 : scatter_S2x128x1024_S2_S16x1024_01_0_01_0.window (ix2 r b) 2 = b.val := rfl
  constructor
  · intro h
    have h0 := h 0
    have h1 := h 1
    have h2 := h 2
    rw [s0, w0] at h0
    rw [s1, w1] at h1
    rw [s2, w2] at h2
    refine ⟨?_, ?_, Fin.ext ?_⟩
    · simpa using h0
    · simpa using h1
    · have : ((b.val : ℤ)) = y.val := by simpa using h2
      omega
  · rintro ⟨h0, h1, rfl⟩ a
    match a with
    | ⟨0, _⟩ => exact (by rw [s0, w0, h0]; simp : scatter_S2x128x1024_S2_S16x1024_01_0_01_0.start (ix2 r b) idx 0 + (scatter_S2x128x1024_S2_S16x1024_01_0_01_0.window (ix2 r b) 0 : ℤ) = d.val)
    | ⟨1, _⟩ => exact (by rw [s1, w1, h1] : scatter_S2x128x1024_S2_S16x1024_01_0_01_0.start (ix2 r b) idx 1 + (scatter_S2x128x1024_S2_S16x1024_01_0_01_0.window (ix2 r b) 1 : ℤ) = x.val)
    | ⟨2, _⟩ => exact (by rw [s2, w2]; simp : scatter_S2x128x1024_S2_S16x1024_01_0_01_0.start (ix2 r b) idx 2 + (scatter_S2x128x1024_S2_S16x1024_01_0_01_0.window (ix2 r b) 2 : ℤ) = b.val)

/-- A matrix written at one of the two leading entries, from a row on: that matrix on its rows, the old array elsewhere. -/
theorem written (x0 : S2x128x1024.Idx → EReal) (idx : IVec S2 32) (upd : S16x1024.Idx → EReal) (e : Fin 2) (o : ℕ)
    (h0 : (idx (ix1 0)).toInt = e.val) (h1 : (idx (ix1 1)).toInt = o) (d : Fin 2) (x : Fin 128) (y : Fin 1024) :
    Host.scatter scatter_S2x128x1024_S2_S16x1024_01_0_01_0 (fun _ b => b) x0 idx upd (ix3 d x y)
      = if h : d = e ∧ o ≤ x.val ∧ x.val < o + 16 then upd (ix2 ⟨x.val - o, by omega⟩ y) else x0 (ix3 d x y) := by
  rw [Routing.scatter_at]
  have key : ∀ n : Fin S16x1024.numel, scatter_S2x128x1024_S2_S16x1024_01_0_01_0.resultIdx? (S16x1024.rowMajor.symm n) idx = some (ix3 d x y)
      ↔ e = d ∧ ∃ r : Fin 16, o + r.val = x.val ∧ S16x1024.rowMajor.symm n = ix2 r y := by
    intro n
    generalize S16x1024.rowMajor.symm n = k
    idx_vars k
    rw [lands, h0, h1]
    constructor
    · rintro ⟨a, b, rfl⟩
      exact ⟨Fin.ext (by omega), k0, by omega, rfl⟩
    · rintro ⟨rfl, r, b, q⟩
      have q0 : k0 = r := congrFun q 0
      have q1 : k1 = y := congrFun q 1
      subst q0 q1
      exact ⟨rfl, by omega, rfl⟩
  by_cases h : d = e ∧ o ≤ x.val ∧ x.val < o + 16
  · rw [dif_pos h, keep_last _ (fun n => upd (S16x1024.rowMajor.symm n)) (S16x1024.rowMajor (ix2 ⟨x.val - o, by omega⟩ y)) (fun n => ?_), if_pos (List.mem_finRange _), Equiv.symm_apply_apply]
    rw [key, ← Equiv.symm_apply_eq]
    constructor
    · rintro ⟨-, r, a, b⟩
      rw [b]
      congr 1
      exact Fin.ext (by show r.val = x.val - o; omega)
    · intro q
      exact ⟨h.1.symm, ⟨x.val - o, by omega⟩, by show o + (x.val - o) = x.val; omega, q⟩
  · rw [dif_neg h, keep_none]
    intro n q
    obtain ⟨a, r, b, -⟩ := (key n).1 q
    exact h ⟨a.symm, by omega, by omega⟩

variable (m : (ℓ : Loc nD τ sig) → Buf (Elt Ideal) ℓ) (c : Dev nD)

/-- The padded low-rank factors: direction `d`'s sixteen rows begin at row `16 d`; the other rows are nothing. -/
def padded (w : Vec Ideal S2x16x1024 .f32) (d : Fin 2) (x : Fin 128) (y : Fin 1024) : EReal :=
  if h : 16 * d.val ≤ x.val ∧ x.val < 16 * d.val + 16 then w (ix3 d ⟨x.val - 16 * d.val, by omega⟩ y) else 0

/-- The two index words of a write. -/
def words (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- One direction's matrix out of the two. -/
def matrix0 (w : Vec Ideal S2x16x1024 .f32) : S16x1024.Idx → EReal :=
  shapeCast S16x1024 (extractStridedSlice S1x16x1024 ![0, 0, 0] w slices_S2x16x1024_S1x16x1024_0_0_0) shapeCasts_S1x16x1024_S16x1024
def matrix1 (w : Vec Ideal S2x16x1024 .f32) : S16x1024.Idx → EReal :=
  shapeCast S16x1024 (extractStridedSlice S1x16x1024 ![1, 0, 0] w slices_S2x16x1024_S1x16x1024_1_0_0) shapeCasts_S1x16x1024_S16x1024

def nothing : S2x128x1024.Idx → EReal := broadcastInDim S2x128x1024 ![] bcast_S_S2x128x1024 (constant (F := Ideal) S_ .f32 0x00000000#32)

theorem words_at0 (a b : BitVec 32) : words a b (ix1 0) = a := by
  unfold words
  pointwise
theorem words_at1 (a b : BitVec 32) : words a b (ix1 1) = b := by
  unfold words
  pointwise
theorem matrix0_at (w : Vec Ideal S2x16x1024 .f32) (r : Fin 16) (y : Fin 1024) : matrix0 w (ix2 r y) = w (ix3 0 r y) := by
  unfold matrix0
  pointwise
theorem matrix1_at (w : Vec Ideal S2x16x1024 .f32) (r : Fin 16) (y : Fin 1024) : matrix1 w (ix2 r y) = w (ix3 1 r y) := by
  unfold matrix1
  pointwise
theorem nothing_at (d : Fin 2) (x : Fin 128) (y : Fin 1024) : nothing (ix3 d x y) = 0 := by
  unfold nothing
  pointwise

theorem narrow_at (x : FVec Ideal S2x128x1024 .f32) (i : S2x128x1024.Idx) : truncf (F := Ideal) .bf16 x bitsLt_bf16_f32 i = x i := rfl

theorem weights_eq :
    (V m c main_v13 : S2x128x1024.Idx → EReal)
      = truncf (F := Ideal) .bf16 (Host.scatter scatter_S2x128x1024_S2_S16x1024_01_0_01_0 (fun _ b => b)
          (Host.scatter scatter_S2x128x1024_S2_S16x1024_01_0_01_0 (fun _ b => b) nothing (words 0#32 0#32) (matrix0 (m ((c : Thread nD τ).loc main_arg2))))
          (words 1#32 16#32) (matrix1 (m ((c : Thread nD τ).loc main_arg2)))) bitsLt_bf16_f32 := by
  unfold V
  simp only [hostOps0, List.flatten_cons, List.flatten_nil, List.append_nil, List.cons_append, List.nil_append]
  after_results
  rfl

theorem weights_at (d : Fin 2) (x : Fin 128) (y : Fin 1024) :
    V m c main_v13 (ix3 d x y) = padded (m ((c : Thread nD τ).loc main_arg2)) d x y := by
  refine (congrFun (weights_eq m c) (ix3 d x y)).trans ?_
  generalize m ((c : Thread nD τ).loc main_arg2) = w
  rw [narrow_at]
  refine (written _ (words 1#32 16#32) (matrix1 w) 1 16 ?_ ?_ d x y).trans ?_
  · rw [words_at0]; rfl
  · rw [words_at1]; rfl
  unfold padded
  by_cases h : d = 1 ∧ 16 ≤ x.val ∧ x.val < 16 + 16
  · rw [dif_pos h]
    obtain ⟨rfl, h1, h2⟩ := h
    rw [dif_pos ⟨by simpa using h1, by simpa using h2⟩, matrix1_at]
    rfl
  · rw [dif_neg h]
    refine (written nothing (words 0#32 0#32) (matrix0 w) 0 0 ?_ ?_ d x y).trans ?_
    · rw [words_at0]; rfl
    · rw [words_at1]; rfl
    by_cases h' : d = 0 ∧ 0 ≤ x.val ∧ x.val < 0 + 16
    · rw [dif_pos h']
      obtain ⟨rfl, h1, h2⟩ := h'
      rw [dif_pos ⟨by simp, by simpa using h2⟩, matrix0_at]
      rfl
    · rw [dif_neg h', dif_neg fun q => ?_, nothing_at]
      fin_cases d
      · exact h' ⟨rfl, by omega, by simpa using q.2⟩
      · exact h ⟨rfl, by simpa using q.1, by simpa using q.2⟩

theorem at_point : ∀ t : Fin cfg0.N,
    win0_1.index t = ![t.val / 4, 0, 4 + t.val % 4] ∧ win0_2.index t = ![t.val / 4, 0, 4 + t.val % 4]
      ∧ win0_4.index t = ![t.val / 4, 0, 0] ∧ win0_5.index t = ![0, 0, t.val % 4] ∧ win0_6.index t = ![0, 0, t.val % 4]
      ∧ win0_9.index t = ![t.val / 4, 0, t.val % 4, 0, 0] := by
  decide +kernel

end Cert.KernelGlaIdeal.St

end
-- ==== Proof.GlaSpec.lean ====
module

public import proofs.«01_k».proof.Proof.GlaMath

@[expose] public section

noncomputable section

/-! The state of both directions over a projection's output, its low-rank gate input, and the gate's weights. -/

namespace Cert.Gla

/-- The gate's argument at a position and column: the direction's sixteen low-rank values through its second factor, plus the bias. -/
def gateArg (l : Fin 32 → Fin 256 → Fin 128 → EReal) (w : Fin 2 → Fin 16 → Fin 1024 → EReal) (u : Fin 2 → Fin 1024 → EReal)
    (n : Fin 32) (d : Fin 2) (h : Fin 4) (x a : Fin 256) : EReal :=
  (∑ r : Fin 16, l n x ⟨16 * d.val + r.val, by omega⟩ * w d r ⟨256 * h.val + a.val, by omega⟩) + u d ⟨256 * h.val + a.val, by omega⟩

/-- The key of a head, and its value, in the projection's columns. -/
def keyOf (p : Fin 32 → Fin 256 → Fin 10240 → EReal) (n : Fin 32) (h : Fin 4) (x a : Fin 256) : EReal :=
  p n x ⟨1024 + (256 * h.val + a.val), by omega⟩
def valueOf (p : Fin 32 → Fin 256 → Fin 10240 → EReal) (n : Fin 32) (h : Fin 4) (x : Fin 256) (b : Fin 512) : EReal :=
  p n x ⟨2048 + (512 * h.val + b.val), by omega⟩

/-- One entry of the final state: forwards for direction 0, over the reversed positions for direction 1. -/
def finalState (p : Fin 32 → Fin 256 → Fin 10240 → EReal) (l : Fin 32 → Fin 256 → Fin 128 → EReal) (w : Fin 2 → Fin 16 → Fin 1024 → EReal) (u : Fin 2 → Fin 1024 → EReal)
    (n : Fin 32) (d : Fin 2) (h : Fin 4) (a : Fin 256) (b : Fin 512) : EReal :=
  if d = 0 then state (keyOf p n h) (valueOf p n h) (fun x a => logDecay (gateArg l w u n d h x a)) a b
  else state (fun x a => keyOf p n h x.rev a) (fun x b => valueOf p n h x.rev b) (fun x a => logDecay (gateArg l w u n d h x.rev a)) a b

/-- A sum over the padded rows is the sum over the direction's own sixteen. -/
theorem sum_padded (f : Fin 128 → EReal) (g : Fin 16 → EReal) (d : Fin 2) :
    (∑ r : Fin 128, f r * (if h : 16 * d.val ≤ r.val ∧ r.val < 16 * d.val + 16 then g ⟨r.val - 16 * d.val, by omega⟩ else 0))
      = ∑ r : Fin 16, f ⟨16 * d.val + r.val, by omega⟩ * g r := by
  symm
  refine Finset.sum_of_injOn (fun r : Fin 16 => (⟨16 * d.val + r.val, by omega⟩ : Fin 128)) ?_ ?_ ?_ ?_
  · intro r _ s _ e
    have e' : 16 * d.val + r.val = 16 * d.val + s.val := congrArg Fin.val e
    exact Fin.ext (by omega)
  · intro r _
    exact Finset.mem_coe.2 (Finset.mem_univ _)
  · intro r _ hr
    rw [dif_neg, mul_zero]
    intro h
    refine hr ⟨⟨r.val - 16 * d.val, by omega⟩, Finset.mem_coe.2 (Finset.mem_univ _), Fin.ext ?_⟩
    show 16 * d.val + (r.val - 16 * d.val) = r.val
    omega
  · intro r _
    rw [dif_pos ⟨by show 16 * d.val ≤ 16 * d.val + r.val; omega, by show 16 * d.val + r.val < _; omega⟩]
    congr 2
    exact Fin.ext (by show r.val = 16 * d.val + r.val - 16 * d.val; omega)

end Cert.Gla

end
-- ==== Proof.GlaResult.lean ====
module

public import proofs.«01_k».proof.Proof.GlaPoint
public import proofs.«01_k».proof.Proof.GlaHost
public import proofs.«01_k».proof.Proof.GlaSpec
public import Idealize.ShloMosaic.Lib.Claim

@[expose] public section

set_option maxRecDepth 16384

noncomputable section

/-! The tiled form's final state as one array over its arguments, and its run. -/

namespace Cert.KernelGlaIdeal.St

open Cert.KernelGlaIdeal Cert.KernelGlaIdeal.Gen Idealize.ShloMosaic Idealize.ShloMosaic.TcCoe Idealize.SL.Sem
open Cert.Gla
open Idealize.ShloMosaic.Pipeline (Dat Window)

variable (m : (ℓ : Loc nD τ sig) → Buf (Elt Ideal) ℓ) (ρ : Dev nD → PrngReg) (c : Dev nD)

theorem point_lt (t : Fin cfg0.N) : t.val < 128 := lt_of_lt_of_eq t.isLt N_0

/-- The batch entry and the head of a grid point. -/
def entry (t : Fin cfg0.N) : Fin 32 := ⟨t.val / 4, by have := point_lt t; omega⟩
def headOf (t : Fin cfg0.N) : Fin 4 := ⟨t.val % 4, by omega⟩

theorem k_block (t : Fin cfg0.N) (x a : Fin 256) :
    iblk m c 1 t (ix3 (0 : Fin 1) x a) = m ((c : Thread nD τ).loc main_arg0) (ix3 (entry t) x (⟨1024 + (256 * (headOf t).val + a.val), by omega⟩ : Fin 10240)) := by
  blk_ext [iblk, V, at_point t, entry, headOf]

theorem v_block (t : Fin cfg0.N) (x : Fin 256) (b : Fin 512) :
    iblk m c 2 t (ix3 (0 : Fin 1) x b) = m ((c : Thread nD τ).loc main_arg0) (ix3 (entry t) x (⟨2048 + (512 * (headOf t).val + b.val), by omega⟩ : Fin 10240)) := by
  blk_ext [iblk, V, at_point t, entry, headOf]

theorem l_block (t : Fin cfg0.N) (x : Fin 256) (r : Fin 128) :
    iblk m c 4 t (ix3 (0 : Fin 1) x r) = m ((c : Thread nD τ).loc main_arg1) (ix3 (entry t) x r) := by
  blk_ext [iblk, V, at_point t, entry]

theorem w_block (t : Fin cfg0.N) (d : Fin 2) (r : Fin 128) (a : Fin 256) :
    iblk m c 5 t (ix3 d r a) = padded (m ((c : Thread nD τ).loc main_arg2)) d r (⟨256 * (headOf t).val + a.val, by omega⟩ : Fin 1024) := by
  refine Eq.trans (b := V m c main_v13 (ix3 d r (⟨256 * (headOf t).val + a.val, by omega⟩ : Fin 1024))) ?_ (weights_at m c d r _)
  unfold iblk
  generalize V m c = W
  blk_ext [at_point t, headOf]

theorem bias_at (d : Fin 2) (y : Fin 1024) : V m c main_v14 (ix3 d (0 : Fin 1) y) = m ((c : Thread nD τ).loc main_arg3) (ix2 d y) := by
  unfold V
  simp only [hostOps0, List.flatten_cons, List.flatten_nil, List.append_nil, List.cons_append, List.nil_append]
  after_reads_at

theorem u_block (t : Fin cfg0.N) (d : Fin 2) (a : Fin 256) :
    iblk m c 6 t (ix3 d (0 : Fin 1) a) = m ((c : Thread nD τ).loc main_arg3) (ix2 d (⟨256 * (headOf t).val + a.val, by omega⟩ : Fin 1024)) := by
  refine Eq.trans (b := V m c main_v14 (ix3 d (0 : Fin 1) (⟨256 * (headOf t).val + a.val, by omega⟩ : Fin 1024))) ?_ (bias_at m c d _)
  unfold iblk
  blk_ext [at_point t, headOf]

/-- One entry of the result, over the argument arrays. -/
def entryAt (n : Fin 32) (d : Fin 2) (h : Fin 4) (a : Fin 256) (b : Fin 512) : EReal :=
  finalState (fun n x j => m ((c : Thread nD τ).loc main_arg0) (ix3 n x j)) (fun n x r => m ((c : Thread nD τ).loc main_arg1) (ix3 n x r))
    (fun d r y => m ((c : Thread nD τ).loc main_arg2) (ix3 d r y)) (fun d y => m ((c : Thread nD τ).loc main_arg3) (ix2 d y)) n d h a b

/-- The result: both directions' final states. -/
def result : Vec Ideal S32x2x4x256x512 .f32 := fun i => entryAt m c (i 0) (i 1) (i 2) (i 3) (i 4)

theorem gate_eq (l : Vec Ideal S1x256x128 .f32) (w : Vec Ideal S2x128x256 .bf16) (u : Vec Ideal S2x1x256 .f32)
    (L : Fin 32 → Fin 256 → Fin 128 → EReal) (W : Vec Ideal S2x16x1024 .f32) (U : Fin 2 → Fin 1024 → EReal) (n : Fin 32) (h : Fin 4)
    (hl : ∀ (x : Fin 256) (r : Fin 128), l (ix3 0 x r) = L n x r)
    (hw : ∀ (d : Fin 2) (r : Fin 128) (a : Fin 256), w (ix3 d r a) = padded W d r (⟨256 * h.val + a.val, by omega⟩ : Fin 1024))
    (hu : ∀ (d : Fin 2) (a : Fin 256), u (ix3 d 0 a) = U d ⟨256 * h.val + a.val, by omega⟩) (d : Fin 2) (x a : Fin 256) :
    (∑ r : Fin 128, l (ix3 0 x r) * w (ix3 d r a)) + u (ix3 d 0 a) = gateArg L (fun d r y => W (ix3 d r y)) U n d h x a := by
  simp only [hl, hw, hu]
  unfold gateArg padded
  rw [sum_padded (fun r => L n x r) (fun r => W (ix3 d r (⟨256 * h.val + a.val, by omega⟩ : Fin 1024))) d]

theorem stateAt_eq (k : Vec Ideal S1x256x256 .bf16) (v : Vec Ideal S1x256x512 .bf16) (l : Vec Ideal S1x256x128 .f32) (w : Vec Ideal S2x128x256 .bf16) (u : Vec Ideal S2x1x256 .f32)
    (P : Fin 32 → Fin 256 → Fin 10240 → EReal) (L : Fin 32 → Fin 256 → Fin 128 → EReal) (W : Vec Ideal S2x16x1024 .f32) (U : Fin 2 → Fin 1024 → EReal) (n : Fin 32) (h : Fin 4)
    (hk : ∀ x a : Fin 256, k (ix3 0 x a) = keyOf P n h x a) (hv : ∀ (x : Fin 256) (b : Fin 512), v (ix3 0 x b) = valueOf P n h x b)
    (hl : ∀ (x : Fin 256) (r : Fin 128), l (ix3 0 x r) = L n x r)
    (hw : ∀ (d : Fin 2) (r : Fin 128) (a : Fin 256), w (ix3 d r a) = padded W d r (⟨256 * h.val + a.val, by omega⟩ : Fin 1024))
    (hu : ∀ (d : Fin 2) (a : Fin 256), u (ix3 d 0 a) = U d ⟨256 * h.val + a.val, by omega⟩) (d : Fin 2) (a : Fin 256) (b : Fin 512) :
    stateAt k v l w u d a b = finalState P L (fun d r y => W (ix3 d r y)) U n d h a b := by
  unfold stateAt finalState
  simp only [hk, hv, gate_eq l w u L W U n h hl hw hu]

theorem point_eq (t : Fin cfg0.N) (d : Fin 2) (a : Fin 256) (b : Fin 512) :
    stateAt (iblk m c 1 t) (iblk m c 2 t) (iblk m c 4 t) (iblk m c 5 t) (iblk m c 6 t) d a b
      = entryAt m c (entry t) d (headOf t) a b :=
  stateAt_eq _ _ _ _ _ _ _ _ _ _ _ (k_block m c t) (v_block m c t) (l_block m c t) (w_block m c t) (u_block m c t) d a b

theorem arr : (dats m 0 c).arrAt 9 (cfgs 0).N = result m c := by
  refine (dats m 0 c).arrAt_eq_of_covers 9 _ (by decide +kernel) fun t hf y => ?_
  blk_simp
  rw [after0_9]
  idx_vars y
  refine (contents m c t y0 y1 y2 y3 y4).trans ((point_eq m c t y1 y3 y4).trans (congrArg (result m c) (?_ : ix5 (entry t) y1 (headOf t) y3 y4 = _)))
  blk_ext [at_point t, entry, headOf]

/-- Every run ends with the state array at that result, the arguments unchanged. -/
theorem run_result : θ_run defs (onTc (τ := τ) (main (F := Ideal))) ⟨m, fun _ => 0, ρ⟩ fun r => ∀ c : Dev nD,
      r.2.mem ((c : Thread nD τ).loc main_v15_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 9).trans (arr m c), h.2 c⟩) (θ_run_and (run_main m ρ) (unchanged m ρ))

end Cert.KernelGlaIdeal.St

end
-- ==== Proof.GlaCum.lean ====
module

public import proofs.«01_k».proof.Proof.Gen.ReferenceGlaIdeal.Read
public import proofs.«01_k».proof.Proof.GlaSpec
public import Idealize.ShloMosaic.Lib.Pointwise

@[expose] public section

set_option maxRecDepth 16384

noncomputable section

/-! The prefix sum along the positions of a chunk, written as a window sum over the padded axis. -/

namespace Cert.GlaFinal

open Cert.ReferenceGlaIdeal Cert.ReferenceGlaIdeal.Gen Cert.ReferenceGlaIdeal.Read Idealize.ShloMosaic Idealize.ShloMosaic.TcCoe Idealize.SL.Sem
open Cert.Gla

/-- Adding a list's values one after the other to a start. -/
theorem foldl_add {ι : Type} (g : ι → EReal) (l : List ι) : ∀ v : EReal, l.foldl (fun r n => r + g n) v = v + (l.map g).sum := by
  induction l with
  | nil => intro v; simp
  | cons n l ih => intro v; rw [List.foldl_cons, ih, List.map_cons, List.sum_cons, add_assoc]

/-- The windows' own shape: 64 positions along the middle axis. -/
abbrev W : Shape := ⟨5, ![1, 1, 64, 1, 1]⟩

/-- A window position is a number below 64. -/
def pos : W.Idx ≃ Fin 64 where
  toFun w := w 2
  invFun s := ix5 (0 : Fin 1) (0 : Fin 1) s (0 : Fin 1) (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv s := rfl

/-- The sum over window positions, in row-major order, is the sum over the numbers below 64. -/
theorem sum_window (g : W.Idx → EReal) : ((List.finRange W.numel).map fun n => g (W.rowMajor.symm n)).sum = ∑ s : Fin 64, g (pos.symm s) := by
  rw [show ((List.finRange W.numel).map fun n => g (W.rowMajor.symm n)).sum = ∑ n : Fin W.numel, g (W.rowMajor.symm n) from (List.sum_ofFn (f := fun n => g (W.rowMajor.symm n)) ▸ by rw [List.ofFn_eq_map]),
    Equiv.sum_comp W.rowMajor.symm g, ← Equiv.sum_comp pos.symm g]

/-- Of a window that ends at `j`, the positions that are not padding are those up to `j`. -/
theorem sum_shifted (f : Fin 64 → EReal) (j : Fin 64) :
    (∑ s : Fin 64, if h : 63 ≤ j.val + s.val ∧ j.val + s.val - 63 < 64 then f ⟨j.val + s.val - 63, h.2⟩ else 0) = ∑ s : Fin 64, if s ≤ j then f s else 0 := by
  rw [← Finset.sum_filter]
  refine (Finset.sum_of_injOn (fun s : Fin 64 => if h : s ≤ j then (⟨s.val + 63 - j.val, by have : s.val ≤ j.val := h; omega⟩ : Fin 64) else 0) ?_ ?_ ?_ ?_).symm
  · intro s hs r hr e
    have hs' : s ≤ j := by simpa using hs
    have hr' : r ≤ j := by simpa using hr
    dsimp only at e
    rw [dif_pos hs', dif_pos hr'] at e
    have e' : s.val + 63 - j.val = r.val + 63 - j.val := congrArg Fin.val e
    have : s.val ≤ j.val := hs'
    have : r.val ≤ j.val := hr'
    exact Fin.ext (by omega)
  · intro s _
    exact Finset.mem_coe.2 (Finset.mem_univ _)
  · intro s _ hs
    rw [dif_neg]
    rintro ⟨h, h'⟩
    have hle : (⟨j.val + s.val - 63, h'⟩ : Fin 64) ≤ j := by show j.val + s.val - 63 ≤ j.val; omega
    refine hs ⟨⟨j.val + s.val - 63, h'⟩, by simpa using hle, ?_⟩
    dsimp only
    rw [dif_pos hle]
    exact Fin.ext (by show j.val + s.val - 63 + 63 - j.val = s.val; omega)
  · intro s hs
    have hs' : s ≤ j := by simpa using hs
    have hl : s.val ≤ j.val := hs'
    rw [dif_pos hs', dif_pos ⟨by show 63 ≤ j.val + (s.val + 63 - j.val); omega, by show j.val + (s.val + 63 - j.val) - 63 < 64; omega⟩]
    exact congrArg f (Fin.ext (by show s.val = j.val + (s.val + 63 - j.val) - 63; omega))

/-- What one window position adds: the operand's element under it, or the initial value on the padding. -/
def summand {s t : Shape} (window strides lo hi : Fin s.rank → ℕ) (x : s.Idx → EReal) (v : EReal) (h : s.ReduceWindows window strides lo hi t) (j : t.Idx)
    (w : (⟨s.rank, window⟩ : Shape).Idx) : EReal :=
  let p : Fin s.rank → ℕ := fun a => (j (a.cast h.1.symm)).val * strides a + (w a).val
  if hin : ∀ a, lo a ≤ p a ∧ p a - lo a < s.size a then x (fun a => ⟨p a - lo a, (hin a).2⟩) else v

theorem windowed {s t : Shape} (window strides lo hi : Fin s.rank → ℕ) (x : s.Idx → EReal) (v : EReal) (h : s.ReduceWindows window strides lo hi t) (j : t.Idx) :
    Ideal.hostReduceWindowAdd window strides lo hi h x v j
      = v + ((List.finRange (⟨s.rank, window⟩ : Shape).numel).map fun n => summand window strides lo hi x v h j ((⟨s.rank, window⟩ : Shape).rowMajor.symm n)).sum := by
  rw [← foldl_add]
  unfold Ideal.hostReduceWindowAdd Host.reduceWindow summand
  refine congrArg (fun f => List.foldl f v _) (funext fun r => funext fun n => congrArg (r + ·) ?_)
  dsimp only
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

theorem summand_at (x : FVec Ideal S32x4x64x4x256 .f32) (n : Fin 32) (q : Fin 4) (j : Fin 64) (h : Fin 4) (a : Fin 256) (s : Fin 64) :
    summand ![1, 1, 64, 1, 1] ![1, 1, 1, 1, 1] ![0, 0, 63, 0, 0] ![0, 0, 0, 0, 0] x 0 reduceWindows_S32x4x64x4x256_S32x4x64x4x256_w1s1p0_0_w1s1p0_0_w64s1p63_0_w1s1p0_0_w1s1p0_0 (ix5 n q j h a) (pos.symm s)
      = if h' : 63 ≤ j.val + s.val ∧ j.val + s.val - 63 < 64 then x (ix5 n q ⟨j.val + s.val - 63, h'.2⟩ h a) else 0 := by
  unfold summand
  dsimp only
  by_cases h' : 63 ≤ j.val + s.val ∧ j.val + s.val - 63 < 64
  · rw [dif_pos h', dif_pos]
    · refine congrArg x (funext fun b => Fin.ext ?_)
      match b with
      | ⟨0, _⟩ => show n.val * 1 + 0 - 0 = n.val; omega
      | ⟨1, _⟩ => show q.val * 1 + 0 - 0 = q.val; omega
      | ⟨2, _⟩ => show j.val * 1 + s.val - 63 = j.val + s.val - 63; omega
      | ⟨3, _⟩ => show h.val * 1 + 0 - 0 = h.val; omega
      | ⟨4, _⟩ => show a.val * 1 + 0 - 0 = a.val; omega
    · intro b
      match b with
      | ⟨0, _⟩ => show 0 ≤ n.val * 1 + 0 ∧ n.val * 1 + 0 - 0 < 32; omega
      | ⟨1, _⟩ => show 0 ≤ q.val * 1 + 0 ∧ q.val * 1 + 0 - 0 < 4; omega
      | ⟨2, _⟩ => show 63 ≤ j.val * 1 + s.val ∧ j.val * 1 + s.val - 63 < 64; omega
      | ⟨3, _⟩ => show 0 ≤ h.val * 1 + 0 ∧ h.val * 1 + 0 - 0 < 4; omega
      | ⟨4, _⟩ => show 0 ≤ a.val * 1 + 0 ∧ a.val * 1 + 0 - 0 < 256; omega
  · rw [dif_neg h', dif_neg]
    intro hin
    have h2 : 63 ≤ j.val * 1 + s.val ∧ j.val * 1 + s.val - 63 < 64 := hin 2
    exact h' (by omega)

/-- The prefix sum of the printed window sum. -/
theorem prefix_sum (x : FVec Ideal S32x4x64x4x256 .f32) (init : FVec Ideal S_ .f32) (h0 : init (Shape.Idx.first h_S_) = 0) (n : Fin 32) (q : Fin 4) (j : Fin 64) (h : Fin 4) (a : Fin 256) :
    Host.reduceWindowAdd ![1, 1, 64, 1, 1] ![1, 1, 1, 1, 1] ![0, 0, 63, 0, 0] ![0, 0, 0, 0, 0] x init reduceWindows_S32x4x64x4x256_S32x4x64x4x256_w1s1p0_0_w1s1p0_0_w64s1p63_0_w1s1p0_0_w1s1p0_0 h_S_ (ix5 n q j h a)
      = ∑ s : Fin 64, if s ≤ j then x (ix5 n q s h a) else 0 := by
  rw [← sum_shifted (fun s => x (ix5 n q s h a)) j]
  have e : Host.reduceWindowAdd ![1, 1, 64, 1, 1] ![1, 1, 1, 1, 1] ![0, 0, 63, 0, 0] ![0, 0, 0, 0, 0] x init reduceWindows_S32x4x64x4x256_S32x4x64x4x256_w1s1p0_0_w1s1p0_0_w64s1p63_0_w1s1p0_0_w1s1p0_0 h_S_
      = Ideal.hostReduceWindowAdd ![1, 1, 64, 1, 1] ![1, 1, 1, 1, 1] ![0, 0, 63, 0, 0] ![0, 0, 0, 0, 0] reduceWindows_S32x4x64x4x256_S32x4x64x4x256_w1s1p0_0_w1s1p0_0_w64s1p63_0_w1s1p0_0_w1s1p0_0 x (init (Shape.Idx.first h_S_)) := rfl
  rw [e, h0]
  rw [windowed, zero_add]
  exact (sum_window _).trans (Finset.sum_congr rfl fun s _ => summand_at x n q j h a s)

end Cert.GlaFinal

end
-- ==== Proof.GlaRef.lean ====
module

public import proofs.«01_k».proof.Proof.Gen.ReferenceGlaIdeal.Read
public import proofs.«01_k».proof.Proof.GlaCum

@[expose] public section

set_option maxRecDepth 16384

noncomputable section

/-! The gated linear attention reference, element by element: both directions' states. -/

namespace Cert.GlaFinal

open Cert.ReferenceGlaIdeal Cert.ReferenceGlaIdeal.Gen Cert.ReferenceGlaIdeal.Read Idealize.ShloMosaic Idealize.ShloMosaic.TcCoe Idealize.SL.Sem
open Cert.Gla

section
variable (x0 : Vec Ideal S32x256x10240 .bf16) (x1 : Vec Ideal S32x256x128 .f32) (x2 : Vec Ideal S2x16x1024 .f32) (x3 : Vec Ideal S2x1024 .f32)

abbrev keys (n : Fin 32) (h : Fin 4) (x a : Fin 256) : EReal := keyOf (fun n x j => x0 (ix3 n x j)) n h x a
abbrev values (n : Fin 32) (h : Fin 4) (x : Fin 256) (b : Fin 512) : EReal := valueOf (fun n x j => x0 (ix3 n x j)) n h x b
abbrev gates (n : Fin 32) (d : Fin 2) (h : Fin 4) (x a : Fin 256) : EReal :=
  logDecay (gateArg (fun n x r => x1 (ix3 n x r)) (fun d r y => x2 (ix3 d r y)) (fun d y => x3 (ix2 d y)) n d h x a)

theorem key_at (n : Fin 32) (x : Fin 256) (h : Fin 4) (a : Fin 256) : val_main_v2 (F := Ideal) x0 (ix4 n x h a) = keys x0 n h x a := by
  unfold keys keyOf
  pointwise [val_main_v0, val_main_v1, val_main_v2]
  simp only [Nat.mul_comm]

theorem value_at (n : Fin 32) (x : Fin 256) (h : Fin 4) (b : Fin 512) : val_main_v5 (F := Ideal) x0 (ix4 n x h b) = values x0 n h x b := by
  unfold values valueOf
  pointwise [val_main_v3, val_main_v4, val_main_v5]
  simp only [Nat.mul_comm]

theorem arg_at (n : Fin 32) (x : Fin 256) (d : Fin 2) (h : Fin 4) (a : Fin 256) :
    val_main_v12 (F := Ideal) x1 x2 x3 (ix4 n x d (⟨256 * h.val + a.val, by omega⟩ : Fin 1024))
      = gateArg (fun n x r => x1 (ix3 n x r)) (fun d r y => x2 (ix3 d r y)) (fun d y => x3 (ix2 d y)) n d h x a := by
  unfold gateArg
  simp only [mul_comm (x1 _)]
  pointwise [val_main_v6, val_main_v7, val_main_v8, val_main_v9, val_main_v10, val_main_v11, val_main_v12]
  simp only [Nat.mul_comm]

theorem sixteen : Ideal.ofBits .f32 0x41800000#32 = ((16 : ℝ) : EReal) := by
  simp [Ideal.ofBits, Ideal.ieee, -EReal.coe_mul]; norm_num

theorem log_at (n : Fin 32) (x : Fin 256) (d : Fin 2) (y : Fin 1024) :
    val_main_v15 (F := Ideal) x1 x2 x3 (ix4 n x d y) = logDecay (val_main_v12 (F := Ideal) x1 x2 x3 (ix4 n x d y)) := by
  unfold logDecay
  rw [← logSigmoid_eq]
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v13, val_main_cst, val_main_v14, val_main_v15]
  rw [if_neg (fun h => h rfl), show (1098907648#32 : BitVec 32) = 0x41800000#32 from rfl, sixteen, Ideal.div_coe (by norm_num)]
  rfl

theorem gate_at (n : Fin 32) (x : Fin 256) (d : Fin 2) (h : Fin 4) (a : Fin 256) :
    val_main_v16 (F := Ideal) x1 x2 x3 (ix5 n x d h a) = gates x1 x2 x3 n d h x a := by
  unfold gates
  rw [← arg_at, ← log_at]
  pointwise [val_main_v16]
  simp only [Nat.mul_comm]

/-! The parts of the two directions. -/

theorem reversed {w : ℕ} (x : (⟨4, ![32, 256, 4, w]⟩ : Shape).Idx → EReal) (n : Fin 32) (p : Fin 256) (h : Fin 4) (a : Fin w) :
    Host.reverse (s := ⟨4, ![32, 256, 4, w]⟩) [1] x (ix4 n p h a) = x (ix4 n p.rev h a) := by
  unfold Host.reverse
  refine congrArg x (funext fun b => ?_)
  match b with
  | ⟨0, _⟩ => rfl
  | ⟨1, _⟩ => rfl
  | ⟨2, _⟩ => rfl
  | ⟨3, _⟩ => rfl

theorem key_rev (n : Fin 32) (x : Fin 256) (h : Fin 4) (a : Fin 256) : val_main_v68 (F := Ideal) x0 (ix4 n x h a) = keys x0 n h x.rev a :=
  (reversed _ n x h a).trans (key_at x0 n x.rev h a)

theorem value_rev (n : Fin 32) (x : Fin 256) (h : Fin 4) (b : Fin 512) : val_main_v69 (F := Ideal) x0 (ix4 n x h b) = values x0 n h x.rev b :=
  (reversed _ n x h b).trans (value_at x0 n x.rev h b)

theorem gate_fwd (n : Fin 32) (x : Fin 256) (h : Fin 4) (a : Fin 256) :
    val_main_v18 (F := Ideal) x1 x2 x3 (ix4 n x h a) = gates x1 x2 x3 n 0 h x a := by
  rw [← gate_at]
  pointwise [val_main_v17, val_main_v18]

theorem gate_back (n : Fin 32) (x : Fin 256) (h : Fin 4) (a : Fin 256) :
    val_main_v71 (F := Ideal) x1 x2 x3 (ix4 n x h a) = gates x1 x2 x3 n 1 h x a := by
  rw [← gate_at]
  pointwise [val_main_v70, val_main_v71]

theorem gate_rev (n : Fin 32) (x : Fin 256) (h : Fin 4) (a : Fin 256) :
    val_main_v72 (F := Ideal) x1 x2 x3 (ix4 n x h a) = gates x1 x2 x3 n 1 h x.rev a :=
  (reversed _ n x h a).trans (gate_back x1 x2 x3 n x.rev h a)

/-! The forwards direction's chunks. -/

theorem chunk_key (n : Fin 32) (q : Fin 4) (j : Fin 64) (h : Fin 4) (a : Fin 256) :
    val_main_v19 (F := Ideal) x0 (ix5 n q j h a) = keys x0 n h (place q j) a := by
  rw [← key_at]
  unfold place
  pointwise [val_main_v19]
  simp only [Nat.mul_comm]

theorem chunk_value (n : Fin 32) (q : Fin 4) (j : Fin 64) (h : Fin 4) (b : Fin 512) :
    val_main_v20 (F := Ideal) x0 (ix5 n q j h b) = values x0 n h (place q j) b := by
  rw [← value_at]
  unfold place
  pointwise [val_main_v20]
  simp only [Nat.mul_comm]

theorem chunk_gate (n : Fin 32) (q : Fin 4) (j : Fin 64) (h : Fin 4) (a : Fin 256) :
    val_main_v21 (F := Ideal) x1 x2 x3 (ix5 n q j h a) = gates x1 x2 x3 n 0 h (place q j) a := by
  rw [← gate_fwd]
  unfold place
  pointwise [val_main_v21]
  simp only [Nat.mul_comm]

theorem zero_init : val_main_call1_call0_v0 (F := Ideal) (Shape.Idx.first h_S_) = 0 := by
  rw [val_main_call1_call0_v0_apply, val_main_call1_call0_cst_apply]
  exact Ideal.ofBits_zero_f32

theorem sum_at (n : Fin 32) (q : Fin 4) (j : Fin 64) (h : Fin 4) (a : Fin 256) :
    val_main_v22 (F := Ideal) x1 x2 x3 (ix5 n q j h a) = chunkSum (fun x => gates x1 x2 x3 n 0 h x a) q j := by
  unfold val_main_v22
  rw [prefix_sum _ _ zero_init]
  unfold chunkSum
  simp only [chunk_gate]

theorem last_at (n : Fin 32) (q : Fin 4) (h : Fin 4) (a : Fin 256) :
    val_main_v24 (F := Ideal) x1 x2 x3 (ix4 n q h a) = chunkSum (fun x => gates x1 x2 x3 n 0 h x a) q 63 := by
  rw [← sum_at]
  pointwise [val_main_v23, val_main_v24]

theorem left_at (n : Fin 32) (q : Fin 4) (j : Fin 64) (h : Fin 4) (a : Fin 256) :
    val_main_v28 (F := Ideal) x1 x2 x3 (ix5 n q j h a) = Ideal.exp (chunkSum (fun x => gates x1 x2 x3 n 0 h x a) q 63 - chunkSum (fun x => gates x1 x2 x3 n 0 h x a) q j) := by
  rw [← last_at, ← sum_at]
  pointwise [val_main_v25, val_main_v26, val_main_v27, val_main_v28]

theorem gain_at (n : Fin 32) (q : Fin 4) (h : Fin 4) (a : Fin 256) (b : Fin 512) :
    val_main_v30 (F := Ideal) x0 x1 x2 x3 (ix5 n q h a b) = gain (fun x a => keys x0 n h x a) (fun x b => values x0 n h x b) (fun x a => gates x1 x2 x3 n 0 h x a) q a b := by
  unfold gain
  simp only [← chunk_key, ← chunk_value, ← left_at]
  pointwise [val_main_v29, val_main_v30]

theorem decay_at_0 (n : Fin 32) (h : Fin 4) (a : Fin 256) (b : Fin 512) :
    val_main_v36 (F := Ideal) x1 x2 x3 (ix4 n h a b) = decay (fun x a => gates x1 x2 x3 n 0 h x a) 0 a := by
  unfold decay
  rw [← last_at]
  pointwise [val_main_v32, val_main_v33, val_main_v34, val_main_v35, val_main_v36]

theorem add_at_0 (n : Fin 32) (h : Fin 4) (a : Fin 256) (b : Fin 512) :
    val_main_v39 (F := Ideal) x0 x1 x2 x3 (ix4 n h a b) = gain (fun x a => keys x0 n h x a) (fun x b => values x0 n h x b) (fun x a => gates x1 x2 x3 n 0 h x a) 0 a b := by
  rw [← gain_at]
  pointwise [val_main_v38, val_main_v39]

theorem decay_at_1 (n : Fin 32) (h : Fin 4) (a : Fin 256) (b : Fin 512) :
    val_main_v45 (F := Ideal) x1 x2 x3 (ix4 n h a b) = decay (fun x a => gates x1 x2 x3 n 0 h x a) 1 a := by
  unfold decay
  rw [← last_at]
  pointwise [val_main_v41, val_main_v42, val_main_v43, val_main_v44, val_main_v45]

theorem add_at_1 (n : Fin 32) (h : Fin 4) (a : Fin 256) (b : Fin 512) :
    val_main_v48 (F := Ideal) x0 x1 x2 x3 (ix4 n h a b) = gain (fun x a => keys x0 n h x a) (fun x b => values x0 n h x b) (fun x a => gates x1 x2 x3 n 0 h x a) 1 a b := by
  rw [← gain_at]
  pointwise [val_main_v47, val_main_v48]

theorem decay_at_2 (n : Fin 32) (h : Fin 4) (a : Fin 256) (b : Fin 512) :
    val_main_v54 (F := Ideal) x1 x2 x3 (ix4 n h a b) = decay (fun x a => gates x1 x2 x3 n 0 h x a) 2 a := by
  unfold decay
  rw [← last_at]
  pointwise [val_main_v50, val_main_v51, val_main_v52, val_main_v53, val_main_v54]

theorem add_at_2 (n : Fin 32) (h : Fin 4) (a : Fin 256) (b : Fin 512) :
    val_main_v57 (F := Ideal) x0 x1 x2 x3 (ix4 n h a b) = gain (fun x a => keys x0 n h x a) (fun x b => values x0 n h x b) (fun x a => gates x1 x2 x3 n 0 h x a) 2 a b := by
  rw [← gain_at]
  pointwise [val_main_v56, val_main_v57]

theorem decay_at_3 (n : Fin 32) (h : Fin 4) (a : Fin 256) (b : Fin 512) :
    val_main_v63 (F := Ideal) x1 x2 x3 (ix4 n h a b) = decay (fun x a => gates x1 x2 x3 n 0 h x a) 3 a := by
  unfold decay
  rw [← last_at]
  pointwise [val_main_v59, val_main_v60, val_main_v61, val_main_v62, val_main_v63]

theorem add_at_3 (n : Fin 32) (h : Fin 4) (a : Fin 256) (b : Fin 512) :
    val_main_v66 (F := Ideal) x0 x1 x2 x3 (ix4 n h a b) = gain (fun x a => keys x0 n h x a) (fun x b => values x0 n h x b) (fun x a => gates x1 x2 x3 n 0 h x a) 3 a b := by
  rw [← gain_at]
  pointwise [val_main_v65, val_main_v66]

theorem zero_at (n : Fin 32) (h : Fin 4) (a : Fin 256) (b : Fin 512) : val_main_v31 (F := Ideal) (ix4 n h a b) = 0 := by
  rw [val_main_v31_apply, val_main_cst_0_apply]
  exact Ideal.ofBits_zero_f32

theorem state_at (n : Fin 32) (h : Fin 4) (a : Fin 256) (b : Fin 512) :
    val_main_v67 (F := Ideal) x0 x1 x2 x3 (ix4 n h a b) = state (fun x a => keys x0 n h x a) (fun x b => values x0 n h x b) (fun x a => gates x1 x2 x3 n 0 h x a) a b := by
  unfold state
  rw [val_main_v67_apply, val_main_v64_apply, val_main_v58_apply, val_main_v55_apply, val_main_v49_apply, val_main_v46_apply, val_main_v40_apply, val_main_v37_apply,
    decay_at_0, decay_at_1, decay_at_2, decay_at_3, add_at_0, add_at_1, add_at_2, add_at_3, zero_at]
  rfl

/-! The backwards direction's chunks, over the reversed positions. -/

theorem chunk_key_rev (n : Fin 32) (q : Fin 4) (j : Fin 64) (h : Fin 4) (a : Fin 256) :
    val_main_v73 (F := Ideal) x0 (ix5 n q j h a) = keys x0 n h (place q j).rev a := by
  rw [← key_rev]
  unfold place
  pointwise [val_main_v73]
  simp only [Nat.mul_comm]

theorem chunk_value_rev (n : Fin 32) (q : Fin 4) (j : Fin 64) (h : Fin 4) (b : Fin 512) :
    val_main_v74 (F := Ideal) x0 (ix5 n q j h b) = values x0 n h (place q j).rev b := by
  rw [← value_rev]
  unfold place
  pointwise [val_main_v74]
  simp only [Nat.mul_comm]

theorem chunk_gate_rev (n : Fin 32) (q : Fin 4) (j : Fin 64) (h : Fin 4) (a : Fin 256) :
    val_main_v75 (F := Ideal) x1 x2 x3 (ix5 n q j h a) = gates x1 x2 x3 n 1 h (place q j).rev a := by
  rw [← gate_rev]
  unfold place
  pointwise [val_main_v75]
  simp only [Nat.mul_comm]

theorem zero_init_rev : val_main_call5_call0_v0 (F := Ideal) (Shape.Idx.first h_S_) = 0 := by
  rw [val_main_call5_call0_v0_apply, val_main_call5_call0_cst_apply]
  exact Ideal.ofBits_zero_f32

theorem sum_at_rev (n : Fin 32) (q : Fin 4) (j : Fin 64) (h : Fin 4) (a : Fin 256) :
    val_main_v76 (F := Ideal) x1 x2 x3 (ix5 n q j h a) = chunkSum (fun x => gates x1 x2 x3 n 1 h x.rev a) q j := by
  unfold val_main_v76
  rw [prefix_sum _ _ zero_init_rev]
  unfold chunkSum
  simp only [chunk_gate_rev]

theorem last_at_rev (n : Fin 32) (q : Fin 4) (h : Fin 4) (a : Fin 256) :
    val_main_v78 (F := Ideal) x1 x2 x3 (ix4 n q h a) = chunkSum (fun x => gates x1 x2 x3 n 1 h x.rev a) q 63 := by
  rw [← sum_at_rev]
  pointwise [val_main_v77, val_main_v78]

theorem left_at_rev (n : Fin 32) (q : Fin 4) (j : Fin 64) (h : Fin 4) (a : Fin 256) :
    val_main_v82 (F := Ideal) x1 x2 x3 (ix5 n q j h a) = Ideal.exp (chunkSum (fun x => gates x1 x2 x3 n 1 h x.rev a) q 63 - chunkSum (fun x => gates x1 x2 x3 n 1 h x.rev a) q j) := by
  rw [← last_at_rev, ← sum_at_rev]
  pointwise [val_main_v79, val_main_v80, val_main_v81, val_main_v82]

theorem gain_at_rev (n : Fin 32) (q : Fin 4) (h : Fin 4) (a : Fin 256) (b : Fin 512) :
    val_main_v84 (F := Ideal) x0 x1 x2 x3 (ix5 n q h a b) = gain (fun x a => keys x0 n h x.rev a) (fun x b => values x0 n h x.rev b) (fun x a => gates x1 x2 x3 n 1 h x.rev a) q a b := by
  unfold gain
  simp only [← chunk_key_rev, ← chunk_value_rev, ← left_at_rev]
  pointwise [val_main_v83, val_main_v84]

theorem decay_at_rev_0 (n : Fin 32) (h : Fin 4) (a : Fin 256) (b : Fin 512) :
    val_main_v90 (F := Ideal) x1 x2 x3 (ix4 n h a b) = decay (fun x a => gates x1 x2 x3 n 1 h x.rev a) 0 a := by
  unfold decay
  rw [← last_at_rev]
  pointwise [val_main_v86, val_main_v87, val_main_v88, val_main_v89, val_main_v90]

theorem add_at_rev_0 (n : Fin 32) (h : Fin 4) (a : Fin 256) (b : Fin 512) :
    val_main_v93 (F := Ideal) x0 x1 x2 x3 (ix4 n h a b) = gain (fun x a => keys x0 n h x.rev a) (fun x b => values x0 n h x.rev b) (fun x a => gates x1 x2 x3 n 1 h x.rev a) 0 a b := by
  rw [← gain_at_rev]
  pointwise [val_main_v92, val_main_v93]

theorem decay_at_rev_1 (n : Fin 32) (h : Fin 4) (a : Fin 256) (b : Fin 512) :
    val_main_v99 (F := Ideal) x1 x2 x3 (ix4 n h a b) = decay (fun x a => gates x1 x2 x3 n 1 h x.rev a) 1 a := by
  unfold decay
  rw [← last_at_rev]
  pointwise [val_main_v95, val_main_v96, val_main_v97, val_main_v98, val_main_v99]

theorem add_at_rev_1 (n : Fin 32) (h : Fin 4) (a : Fin 256) (b : Fin 512) :
    val_main_v102 (F := Ideal) x0 x1 x2 x3 (ix4 n h a b) = gain (fun x a => keys x0 n h x.rev a) (fun x b => values x0 n h x.rev b) (fun x a => gates x1 x2 x3 n 1 h x.rev a) 1 a b := by
  rw [← gain_at_rev]
  pointwise [val_main_v101, val_main_v102]

theorem decay_at_rev_2 (n : Fin 32) (h : Fin 4) (a : Fin 256) (b : Fin 512) :
    val_main_v108 (F := Ideal) x1 x2 x3 (ix4 n h a b) = decay (fun x a => gates x1 x2 x3 n 1 h x.rev a) 2 a := by
  unfold decay
  rw [← last_at_rev]
  pointwise [val_main_v104, val_main_v105, val_main_v106, val_main_v107, val_main_v108]

theorem add_at_rev_2 (n : Fin 32) (h : Fin 4) (a : Fin 256) (b : Fin 512) :
    val_main_v111 (F := Ideal) x0 x1 x2 x3 (ix4 n h a b) = gain (fun x a => keys x0 n h x.rev a) (fun x b => values x0 n h x.rev b) (fun x a => gates x1 x2 x3 n 1 h x.rev a) 2 a b := by
  rw [← gain_at_rev]
  pointwise [val_main_v110, val_main_v111]

theorem decay_at_rev_3 (n : Fin 32) (h : Fin 4) (a : Fin 256) (b : Fin 512) :
    val_main_v117 (F := Ideal) x1 x2 x3 (ix4 n h a b) = decay (fun x a => gates x1 x2 x3 n 1 h x.rev a) 3 a := by
  unfold decay
  rw [← last_at_rev]
  pointwise [val_main_v113, val_main_v114, val_main_v115, val_main_v116, val_main_v117]

theorem add_at_rev_3 (n : Fin 32) (h : Fin 4) (a : Fin 256) (b : Fin 512) :
    val_main_v120 (F := Ideal) x0 x1 x2 x3 (ix4 n h a b) = gain (fun x a => keys x0 n h x.rev a) (fun x b => values x0 n h x.rev b) (fun x a => gates x1 x2 x3 n 1 h x.rev a) 3 a b := by
  rw [← gain_at_rev]
  pointwise [val_main_v119, val_main_v120]

theorem zero_at_rev (n : Fin 32) (h : Fin 4) (a : Fin 256) (b : Fin 512) : val_main_v85 (F := Ideal) (ix4 n h a b) = 0 := by
  rw [val_main_v85_apply, val_main_cst_1_apply]
  exact Ideal.ofBits_zero_f32

theorem state_at_rev (n : Fin 32) (h : Fin 4) (a : Fin 256) (b : Fin 512) :
    val_main_v121 (F := Ideal) x0 x1 x2 x3 (ix4 n h a b) = state (fun x a => keys x0 n h x.rev a) (fun x b => values x0 n h x.rev b) (fun x a => gates x1 x2 x3 n 1 h x.rev a) a b := by
  unfold state
  rw [val_main_v121_apply, val_main_v118_apply, val_main_v112_apply, val_main_v109_apply, val_main_v103_apply, val_main_v100_apply, val_main_v94_apply, val_main_v91_apply,
    decay_at_rev_0, decay_at_rev_1, decay_at_rev_2, decay_at_rev_3, add_at_rev_0, add_at_rev_1, add_at_rev_2, add_at_rev_3, zero_at_rev]
  rfl

theorem final_at (n : Fin 32) (d : Fin 2) (h : Fin 4) (a : Fin 256) (b : Fin 512) :
    val_main_v124 (F := Ideal) x0 x1 x2 x3 (ix5 n d h a b)
      = finalState (fun n x j => x0 (ix3 n x j)) (fun n x r => x1 (ix3 n x r)) (fun d r y => x2 (ix3 d r y)) (fun d y => x3 (ix2 d y)) n d h a b := by
  unfold finalState
  by_cases hd : d = 0
  · subst hd
    rw [if_pos rfl]
    refine Eq.trans ?_ (state_at x0 x1 x2 x3 n h a b)
    pointwise [val_main_v122, val_main_v123, val_main_v124]
  · obtain rfl : d = 1 := by omega
    rw [if_neg hd]
    refine Eq.trans ?_ (state_at_rev x0 x1 x2 x3 n h a b)
    pointwise [val_main_v122, val_main_v123, val_main_v124]

end

end Cert.GlaFinal

end
-- ==== Proof.GlaFinal.lean ====
module

public import proofs.«01_k».proof.Proof.Gen.ReferenceGlaIdeal.Read
public import proofs.«01_k».proof.Proof.Gen.ReferenceGlaIdeal.Run
public import proofs.«01_k».proof.Proof.GlaResult
public import proofs.«01_k».proof.Proof.GlaRef
public import proofs.«01_k».proof.Defs

@[expose] public section

set_option maxRecDepth 16384

noncomputable section

/-! The claim of the gated linear attention's final state. -/

namespace Cert.GlaFinal

open Cert.ReferenceGlaIdeal Cert.ReferenceGlaIdeal.Gen Cert.ReferenceGlaIdeal.Read Idealize.ShloMosaic Idealize.ShloMosaic.TcCoe Idealize.SL.Sem

theorem gla_algebraic : Cert.algebraic_KernelGlaIdeal_ReferenceGlaIdeal := by
  pair_intro
  · run_from (Cert.KernelGlaIdeal.St.run_result m g)
  · run_from (Cert.ReferenceGlaIdeal.Value.run m' g')
    · obtain ⟨e0, e1, e2, e3, e4⟩ := hagree c
      refine (Cert.ReferenceGlaIdeal.Read.val_main_v124_eq _).trans ?_
      funext i
      obtain ⟨n, d, h, a, b, rfl⟩ : ∃ (n : Fin 32) (d : Fin 2) (h : Fin 4) (a : Fin 256) (b : Fin 512), i = ix5 n d h a b := ⟨i 0, i 1, i 2, i 3, i 4, eq_ix5 i⟩
      rw [final_at]
      show Cert.Gla.finalState (fun n x j => m' (c.tc.loc main_arg0) (ix3 n x j)) (fun n x r => m' (c.tc.loc main_arg1) (ix3 n x r))
        (fun d r y => m' (c.tc.loc main_arg2) (ix3 d r y)) (fun d y => m' (c.tc.loc main_arg3) (ix2 d y)) n d h a b = _
      rw [e0, e1, e2, e3]
      rfl

end Cert.GlaFinal

end
-- ==== Proof.RgScan.lean ====
module

public import proofs.«01_k».proof.Proof.Gen.KernelRglruIdeal.Skeleton
public import proofs.«01_k».proof.Proof.GlaMath
public import Idealize.ShloMosaic.Lib.Pointwise

@[expose] public section

set_option maxRecDepth 16384

noncomputable section

/-! The linear recurrence, and how a tile of eight rows runs eight steps of it. -/

namespace Cert.Rglru

open Idealize.ShloMosaic

/-- The recurrence from a starting value. -/
def lin (a u : ℕ → EReal) (h : EReal) : ℕ → EReal
  | 0 => h
  | n + 1 => a n * lin a u h n + u n

/-- A decay: finite and not negative. -/
def Decay (x : EReal) : Prop := 0 ≤ x ∧ x ≠ ⊤

theorem Decay.mul_add {x : EReal} (h : Decay x) (y z : EReal) : x * (y + z) = x * y + x * z :=
  EReal.left_distrib_of_nonneg_of_ne_top h.1 h.2 y z

theorem lin_congr {a a' u u' : ℕ → EReal} (h : EReal) (n : ℕ) (ha : ∀ k < n, a k = a' k) (hu : ∀ k < n, u k = u' k) : lin a u h n = lin a' u' h n := by
  induction n with
  | zero => rfl
  | succ n ih => rw [lin, lin, ha n (Nat.lt_succ_self n), hu n (Nat.lt_succ_self n), ih (fun k hk => ha k (Nat.lt_succ_of_lt hk)) (fun k hk => hu k (Nat.lt_succ_of_lt hk))]

/-- Eight steps, as three doublings of the step combine them. -/
theorem eight {a0 a1 a2 a3 a4 a5 a6 a7 : EReal} (h0 : Decay a0) (h1 : Decay a1) (h2 : Decay a2) (h3 : Decay a3) (h4 : Decay a4) (h5 : Decay a5) (h6 : Decay a6) (h7 : Decay a7)
    (u0 u1 u2 u3 u4 u5 u6 u7 h : EReal) :
    (u7 + a7 * u6) + (a7 * a6) * (u5 + a5 * u4) + (a7 * a6) * (a5 * a4) * ((u3 + a3 * u2) + (a3 * a2) * (u1 + a1 * u0))
        + (a7 * a6) * (a5 * a4) * ((a3 * a2) * (a1 * a0)) * h
      = a7 * (a6 * (a5 * (a4 * (a3 * (a2 * (a1 * (a0 * h + u0) + u1) + u2) + u3) + u4) + u5) + u6) + u7 := by
  simp only [mul_assoc, h0.mul_add, h1.mul_add, h2.mul_add, h3.mul_add, h4.mul_add, h5.mul_add, h6.mul_add, h7.mul_add]
  abel

theorem lin_eight (a u : ℕ → EReal) (h : EReal) (o : ℕ) (ha : ∀ k, Decay (a k)) :
    (u (o + 7) + a (o + 7) * u (o + 6)) + (a (o + 7) * a (o + 6)) * (u (o + 5) + a (o + 5) * u (o + 4))
        + (a (o + 7) * a (o + 6)) * (a (o + 5) * a (o + 4)) * ((u (o + 3) + a (o + 3) * u (o + 2)) + (a (o + 3) * a (o + 2)) * (u (o + 1) + a (o + 1) * u o))
        + (a (o + 7) * a (o + 6)) * (a (o + 5) * a (o + 4)) * ((a (o + 3) * a (o + 2)) * (a (o + 1) * a o)) * lin a u h o
      = lin a u h (o + 8) :=
  eight (ha _) (ha _) (ha _) (ha _) (ha _) (ha _) (ha _) (ha _) _ _ _ _ _ _ _ _ _

end Cert.Rglru

namespace Cert.KernelRglruIdeal.St

open Cert.KernelRglruIdeal Cert.KernelRglruIdeal.Gen Idealize.ShloMosaic Idealize.ShloMosaic.TcCoe Idealize.SL.Sem Cert.Rglru

theorem sel_true {α : Type} (p : BitVec 1) (hp : p = 1#1) (x y : α) : Scalar.select p x y = x := by subst hp; rfl

theorem forward_apply (acc : FVec Ideal S1x512 .f32) (A U : Vec Ideal S8x512 .f32) (c : Fin 512) (a u : ℕ → EReal) (o : ℕ) (ha : ∀ k, Decay (a k))
    (hA : ∀ j : Fin 8, A (ix2 j c) = a (o + j.val)) (hU : ∀ j : Fin 8, U (ix2 j c) = u (o + j.val)) (h : EReal) (hacc : acc (ix2 0 c) = lin a u h o) :
    k0_pay3 acc A U (ix2 0 c) = lin a u h (o + 8) := by
  pointwise [k0_pay3, k0_pay1]
  simp (disch := decide) only [sel_true]
  simp only [hA, hU, hacc]
  exact lin_eight a u h o ha

theorem backward_apply (acc : FVec Ideal S1x512 .f32) (A U : Vec Ideal S8x512 .f32) (c : Fin 512) (a u : ℕ → EReal) (o : ℕ) (ha : ∀ k, Decay (a k))
    (hA : ∀ j : Fin 8, A (ix2 j c) = a (o + (7 - j.val))) (hU : ∀ j : Fin 8, U (ix2 j c) = u (o + (7 - j.val))) (h : EReal) (hacc : acc (ix2 0 c) = lin a u h o) :
    k0_pay8 acc A U (ix2 0 c) = lin a u h (o + 8) := by
  pointwise [k0_pay8]
  simp (disch := decide) only [sel_true]
  simp only [hA, hU, hacc]
  exact lin_eight a u h o ha

theorem backward_next (p : FVec Ideal S8x512 .f32) (A U : Vec Ideal S8x512 .f32) (c : Fin 512) (a u : ℕ → EReal) (o : ℕ) (ha : ∀ k, Decay (a k))
    (hA : ∀ j : Fin 8, A (ix2 j c) = a (o + (7 - j.val))) (hU : ∀ j : Fin 8, U (ix2 j c) = u (o + (7 - j.val))) (h : EReal) (hacc : p (ix2 0 c) = lin a u h o) :
    k0_pay5 (k0_pay9 p A U) (ix2 0 c) = lin a u h (o + 8) := by
  pointwise [k0_pay5, k0_pay9]
  simp (disch := decide) only [sel_true]
  simp only [hA, hU, hacc]
  exact lin_eight a u h o ha

end Cert.KernelRglruIdeal.St

end
-- ==== Proof.RgMath.lean ====
module

public import proofs.«01_k».proof.Proof.RgScan

@[expose] public section

noncomputable section

/-! The gates of the recurrence: the decay and the input's weight, in the two ways they are written. -/

namespace Cert.Rglru

open Idealize.ShloMosaic Cert.Gla

/-- A gate that is a number between nothing and one. -/
theorem gate_real (z : EReal) : ∃ ρ : ℝ, 0 ≤ ρ ∧ Ideal.logistic z = (ρ : EReal) := by
  induction z using EReal.rec with
  | bot =>
    refine ⟨0, le_refl _, ?_⟩
    unfold Ideal.logistic Ideal.div
    rw [EReal.neg_bot, Ideal.exp_top, EReal.add_top_of_ne_bot (by decide), if_neg EReal.top_ne_zero, EReal.inv_top, mul_zero]
    rfl
  | top =>
    refine ⟨1, zero_le_one, ?_⟩
    unfold Ideal.logistic Ideal.div
    rw [EReal.neg_top, Ideal.exp_bot, add_zero, if_neg one_ne_zero, one_mul]
    exact inv_one
  | coe r =>
    refine ⟨_, ?_, Ideal.logistic_coe r⟩
    positivity

/-- The decay's logarithm. -/
def expo (ρ l : EReal) : EReal := ((8 : ℝ) : EReal) * ρ * l

theorem expo_ne_top (ρ : ℝ) (h : 0 ≤ ρ) (l : EReal) (hl : l ≠ ⊤) : expo ρ l ≠ ⊤ := by
  unfold expo
  rw [← EReal.coe_mul]
  rcases h.eq_or_lt with rfl | h
  · rw [mul_zero, EReal.coe_zero, zero_mul]; exact EReal.zero_ne_top
  · induction l using EReal.rec with
    | bot => rw [EReal.coe_mul_bot_of_pos (by positivity)]; exact bot_ne_top
    | top => exact absurd rfl hl
    | coe r => rw [← EReal.coe_mul]; exact EReal.coe_ne_top _

theorem decay_exp (z : EReal) (h : z ≠ ⊤) : Decay (Ideal.exp z) := by
  induction z using EReal.rec with
  | bot => exact ⟨le_refl _, EReal.zero_ne_top⟩
  | top => exact absurd rfl h
  | coe r => rw [Ideal.exp_coe]; exact ⟨EReal.coe_nonneg.2 (Real.exp_pos r).le, EReal.coe_ne_top _⟩

/-- The decay through a power of two. -/
theorem decay_eq (ρ l : EReal) : Ideal.exp2 (ρ * (((8 * (Real.log 2)⁻¹ : ℝ) : EReal) * l)) = Ideal.exp (expo ρ l) := by
  rw [← exp2_base2]
  refine congrArg _ ?_
  unfold expo base2
  rw [one_div, EReal.coe_mul]
  ac_rfl

theorem neg_expo (ρ l : EReal) : ρ * (((-8 : ℝ) : EReal) * l) = -expo ρ l := by
  unfold expo
  rw [EReal.coe_neg, EReal.neg_mul, mul_comm, EReal.neg_mul]
  refine congrArg _ ?_
  ac_rfl

theorem tanh_form (r : ℝ) : Real.tanh (-r) * (Real.exp r * Real.exp r + 1) = 1 - Real.exp (2 * r) := by
  rw [Real.tanh_eq_sinh_div_cosh, Real.sinh_eq, Real.cosh_eq, neg_neg, two_mul, Real.exp_add, Real.exp_neg]
  have h := Real.exp_pos r
  have h2 : (0 : ℝ) < (Real.exp r)⁻¹ + Real.exp r := by positivity
  field_simp
  ring

/-- The input's weight under its root. -/
theorem weight_eq (z : EReal) (h : z ≠ ⊤) : Ideal.tanh (-z) * (Ideal.exp z * Ideal.exp z + 1) = 1 - Ideal.exp (((2 : ℝ) : EReal) * z) := by
  induction z using EReal.rec with
  | bot =>
    rw [EReal.neg_bot, EReal.coe_mul_bot_of_pos (by norm_num)]
    show (1 : EReal) * (0 * 0 + 1) = 1 - 0
    rw [zero_mul, zero_add, one_mul, sub_zero]
  | top => exact absurd rfl h
  | coe r =>
    rw [← EReal.coe_neg, ← EReal.coe_mul, Ideal.exp_coe, Ideal.exp_coe]
    show ((Real.tanh (-r) : ℝ) : EReal) * (((Real.exp r : ℝ) : EReal) * ((Real.exp r : ℝ) : EReal) + ((1 : ℝ) : EReal)) = ((1 : ℝ) : EReal) - _
    rw [← EReal.coe_mul, ← EReal.coe_add, ← EReal.coe_mul, ← EReal.coe_sub, tanh_form]

/-- The decay and the input of one step: from the two gates' arguments, the logarithm of the rate and the value that enters. -/
def decayOf (p l : EReal) : EReal := Ideal.exp (expo (Ideal.logistic p) l)
def inputOf (p l s x : EReal) : EReal := Ideal.sqrt (1 - Ideal.exp (((2 : ℝ) : EReal) * expo (Ideal.logistic p) l)) * Ideal.logistic s * x

theorem decayOf_decay (p l : EReal) (hl : l ≠ ⊤) : Decay (decayOf p l) := by
  unfold decayOf
  obtain ⟨ρ, h, e⟩ := gate_real p
  rw [e]
  exact decay_exp _ (expo_ne_top ρ h l hl)

theorem decay_form (p l : EReal) : Ideal.exp2 (Ideal.logistic p * (((8 * (Real.log 2)⁻¹ : ℝ) : EReal) * l)) = decayOf p l := decay_eq _ _

theorem input_form (p l s x : EReal) (hl : l ≠ ⊤) :
    Ideal.sqrt (Ideal.tanh (Ideal.logistic p * (((-8 : ℝ) : EReal) * l)) * (decayOf p l * decayOf p l + 1)) * Ideal.logistic s * x = inputOf p l s x := by
  unfold decayOf inputOf
  obtain ⟨ρ, h, e⟩ := gate_real p
  rw [neg_expo, weight_eq _ (by rw [e]; exact expo_ne_top ρ h l hl)]

/-- The four taps over a row with two rows of nothing before it and one behind. -/
def padRow (x : Fin 256 → EReal) (n : ℕ) : EReal := if h : 2 ≤ n ∧ n < 258 then x ⟨n - 2, by omega⟩ else 0
def tapped (x : Fin 256 → EReal) (k : Fin 4 → EReal) (b : EReal) (r : Fin 256) : EReal :=
  padRow x r.val * k 0 + padRow x (r.val + 1) * k 1 + padRow x (r.val + 2) * k 2 + padRow x (r.val + 3) * k 3 + b

end Cert.Rglru

end
-- ==== Proof.RgSpec.lean ====
module

public import proofs.«01_k».proof.Proof.RgMath

@[expose] public section

noncomputable section

/-! The last state of both directions over a projection's output and the gates' weights. -/

namespace Cert.Rglru

open Cert.Gla

/-- The four taps over the projection's columns. -/
def convOf (p : Fin 32 → Fin 256 → Fin 10240 → EReal) (k : Fin 4 → Fin 2048 → EReal) (b : Fin 2048 → EReal) (n : Fin 32) (r : Fin 256) (q : Fin 2048) : EReal :=
  tapped (fun s => p n s ⟨6144 + q.val, by omega⟩) (fun i => k i q) (b q) r

/-- A gate's argument: the column's block of 128 through its matrix, plus the bias. -/
def blockArg (x : Fin 2048 → EReal) (w : Fin 16 → Fin 128 → Fin 128 → EReal) (b : Fin 2048 → EReal) (q : Fin 2048) : EReal :=
  (∑ i : Fin 128, x ⟨128 * (q.val / 128) + i.val, by omega⟩ * w ⟨q.val / 128, by omega⟩ i ⟨q.val % 128, by omega⟩) + b q

/-- The row a direction visits at a step. -/
def rowAt (d : Fin 2) (n : Fin 256) : Fin 256 := if d = 0 then n else ⟨255 - n.val, by omega⟩

/-- The decay and the input of a direction at a row and column, over the taps. -/
def decayAt (x : Fin 256 → Fin 2048 → EReal) (w : Fin 2 → Fin 16 → Fin 128 → Fin 128 → EReal) (b l : Fin 2 → Fin 2048 → EReal) (d : Fin 2) (r : Fin 256) (q : Fin 2048) : EReal :=
  decayOf (blockArg (x r) (w d) (b d) q) (logSigmoid (l d q))
def inputAt (x : Fin 256 → Fin 2048 → EReal) (w v : Fin 2 → Fin 16 → Fin 128 → Fin 128 → EReal) (b e l : Fin 2 → Fin 2048 → EReal) (d : Fin 2) (r : Fin 256) (q : Fin 2048) : EReal :=
  inputOf (blockArg (x r) (w d) (b d) q) (logSigmoid (l d q)) (blockArg (x r) (v d) (e d) q) (x r q)

/-- The last state at a column. -/
def lastState (x : Fin 256 → Fin 2048 → EReal) (w v : Fin 2 → Fin 16 → Fin 128 → Fin 128 → EReal) (b e l : Fin 2 → Fin 2048 → EReal) (d : Fin 2) (q : Fin 2048) : EReal :=
  lin (fun n => if h : n < 256 then decayAt x w b l d (rowAt d ⟨n, h⟩) q else 0) (fun n => if h : n < 256 then inputAt x w v b e l d (rowAt d ⟨n, h⟩) q else 0) 0 256

end Cert.Rglru

end
-- ==== Proof.RgRef.lean ====
module

public import proofs.«01_k».proof.Proof.Gen.ReferenceRglruIdeal.Run
public import proofs.«01_k».proof.Proof.RgSpec
public import Idealize.ShloMosaic.Lib.StableHlo.ReadAt
public import Idealize.ShloMosaic.Lib.Pointwise
public import Idealize.ShloMosaic.Lib.DynamicIndex

@[expose] public section

set_option maxRecDepth 16384

noncomputable section

/-! The plain form's arrays at an index, stretch by stretch. -/

namespace Cert.RglruRef

open Cert.ReferenceRglruIdeal Cert.ReferenceRglruIdeal.Gen Cert.ReferenceRglruIdeal.Value Idealize.ShloMosaic Idealize.ShloMosaic.TcCoe Idealize.SL.Sem Cert.Rglru Cert.Gla
open Idealize.ShloMosaic.StableHlo
variable (X : Valuation τ sig (Elt Ideal))

/-- A step's two directions laid one after the other. -/
def both (a b : FVec Ideal S32x256x2048 .f32) : FVec Ideal S2x32x256x2048 .f32 :=
  concatenate S2x32x256x2048 0 [⟨S1x32x256x2048, broadcastInDim S1x32x256x2048 ![1, 2, 3] bcast_S32x256x2048_S1x32x256x2048_1_2_3 a⟩, ⟨S1x32x256x2048, broadcastInDim S1x32x256x2048 ![1, 2, 3] bcast_S32x256x2048_S1x32x256x2048_1_2_3 (Host.reverse [1] b)⟩] concatenates_S1x32x256x2048_S1x32x256x2048_S2x32x256x2048_d0

theorem decays_eq : (afterL [hostOps0_5, hostOps0_6, hostOps0_7, hostOps0_8] X (Proc.devRef .tc main_v91_0) : FVec Ideal S2x32x256x2048 .f32) = both (X (Proc.devRef .tc main_v75)) (X (Proc.devRef .tc main_v77)) := by
  simp only [afterL_eq_after_flatten, hostOps0_5, hostOps0_6, hostOps0_7, hostOps0_8, List.flatten_cons, List.flatten_nil, List.append_nil, List.cons_append, List.nil_append]
  after_results
  rfl

theorem inputs_eq : (afterL [hostOps0_5, hostOps0_6, hostOps0_7, hostOps0_8] X (Proc.devRef .tc main_v91_1) : FVec Ideal S2x32x256x2048 .f32)
    = both (shapeCast S32x256x2048 (extractStridedSlice S32x256x1x2048 ![0, 0, 0, 0] (X (Proc.devRef .tc main_v73)) slices_S32x256x2x2048_S32x256x1x2048_0_0_0_0) shapeCasts_S32x256x1x2048_S32x256x2048)
        (shapeCast S32x256x2048 (extractStridedSlice S32x256x1x2048 ![0, 0, 1, 0] (X (Proc.devRef .tc main_v73)) slices_S32x256x2x2048_S32x256x1x2048_0_0_1_0) shapeCasts_S32x256x1x2048_S32x256x2048) := by
  simp only [afterL_eq_after_flatten, hostOps0_5, hostOps0_6, hostOps0_7, hostOps0_8, List.flatten_cons, List.flatten_nil, List.append_nil, List.cons_append, List.nil_append]
  after_results
  rfl

theorem counter_eq : afterL [hostOps0_5, hostOps0_6, hostOps0_7, hostOps0_8] X (Proc.devRef .tc main_v91_3) = fun _ => (0#32 : BitVec 32) := by
  simp only [afterL_eq_after_flatten, hostOps0_5, hostOps0_6, hostOps0_7, hostOps0_8, List.flatten_cons, List.flatten_nil, List.append_nil, List.cons_append, List.nil_append]
  after_results
  rfl

theorem start_eq : (afterL [hostOps0_5, hostOps0_6, hostOps0_7, hostOps0_8] X (Proc.devRef .tc main_v91_4) : FVec Ideal S2x32x2048 .f32) = broadcastInDim S2x32x2048 ![] bcast_S_S2x32x2048 (constant (F := Ideal) S_ .f32 0x00000000#32) := by
  simp only [afterL_eq_after_flatten, hostOps0_5, hostOps0_6, hostOps0_7, hostOps0_8, List.flatten_cons, List.flatten_nil, List.append_nil, List.cons_append, List.nil_append]
  after_results
  rfl

theorem zeros_at (d : Fin 2) (n : Fin 32) (q : Fin 2048) : broadcastInDim S2x32x2048 ![] bcast_S_S2x32x2048 (constant (F := Ideal) S_ .f32 0x00000000#32) (ix3 d n q) = (0 : EReal) := by
  pointwise

theorem both_at (a b : FVec Ideal S32x256x2048 .f32) (e : FVec Ideal S32x256x2x2048 .f32) (ha : ∀ n r q, a (ix3 n r q) = e (ix4 n r 0 q)) (hb : ∀ n r q, b (ix3 n r q) = e (ix4 n r 1 q))
    (d : Fin 2) (n : Fin 32) (r : Fin 256) (q : Fin 2048) : both a b (ix4 d n r q) = e (ix4 n (rowAt d r) d q) := by
  fin_cases d
  · refine Eq.trans (b := a (ix3 n r q)) ?_ (ha n r q)
    show both a b (ix4 0 n r q) = _
    unfold both
    pointwise
  · refine Eq.trans (b := b (ix3 n (rowAt 1 r) q)) ?_ (hb n _ q)
    show both a b (ix4 1 n r q) = _
    unfold both
    pointwise
    refine congrArg b ?_
    refine congrArg (fun t => ix3 n t q) (Fin.ext ?_)
    show 256 - (r.val + 1) = 255 - r.val
    omega

theorem slice0 (a : FVec Ideal S32x256x2x2048 .f32) (n : Fin 32) (r : Fin 256) (q : Fin 2048) :
    shapeCast S32x256x2048 (extractStridedSlice S32x256x1x2048 ![0, 0, 0, 0] a slices_S32x256x2x2048_S32x256x1x2048_0_0_0_0) shapeCasts_S32x256x1x2048_S32x256x2048 (ix3 n r q) = a (ix4 n r 0 q) := by
  pointwise
theorem slice1 (a : FVec Ideal S32x256x2x2048 .f32) (n : Fin 32) (r : Fin 256) (q : Fin 2048) :
    shapeCast S32x256x2048 (extractStridedSlice S32x256x1x2048 ![0, 0, 1, 0] a slices_S32x256x2x2048_S32x256x1x2048_0_0_1_0) shapeCasts_S32x256x1x2048_S32x256x2048 (ix3 n r q) = a (ix4 n r 1 q) := by
  pointwise

theorem two_lit : Ideal.ofBits .f32 0x40000000#32 = ((2 : ℝ) : EReal) := by
  simp [Ideal.ofBits, Ideal.ieee, -EReal.coe_mul]; norm_num
theorem eight_lit : Ideal.ofBits .f32 0x41000000#32 = ((8 : ℝ) : EReal) := by
  simp [Ideal.ofBits, Ideal.ieee, -EReal.coe_mul]; norm_num

/-- One less the exponential, as the plain form writes it. -/
theorem minus_expm1 (z : EReal) : -(Ideal.exp z - 1) = 1 - Ideal.exp z :=
  (EReal.neg_sub (Or.inr (by decide)) (Or.inr (by decide))).trans (by rw [add_comm, sub_eq_add_neg])

section
variable (rate gate : FVec Ideal S32x256x2x2048 .f32) (ls : FVec Ideal S2x2048 .f32) (xc : FVec Ideal S32x256x2048 .f32)
  (h59 : X (Proc.devRef .tc main_v59) = rate) (h57 : X (Proc.devRef .tc main_v57) = gate) (h60 : X (Proc.devRef .tc main_v60) = ls) (h32 : X (Proc.devRef .tc main_v32) = xc)
include h59 h60

theorem decay0 (n : Fin 32) (r : Fin 256) (q : Fin 2048) : after hostOps0_4 X (Proc.devRef .tc main_v75) (ix3 n r q) = Ideal.exp (rate (ix4 n r 0 q) * ls (ix2 0 q)) := by
  simp only [hostOps0_4]
  after_reads_at
  rw [h59, h60]
theorem decay1 (n : Fin 32) (r : Fin 256) (q : Fin 2048) : after hostOps0_4 X (Proc.devRef .tc main_v77) (ix3 n r q) = Ideal.exp (rate (ix4 n r 1 q) * ls (ix2 1 q)) := by
  simp only [hostOps0_4]
  after_reads_at
  rw [h59, h60]
include h57 h32
theorem input (n : Fin 32) (r : Fin 256) (d : Fin 2) (q : Fin 2048) : after hostOps0_4 X (Proc.devRef .tc main_v73) (ix4 n r d q)
    = Ideal.sqrt (1 - Ideal.exp (((2 : ℝ) : EReal) * (rate (ix4 n r d q) * ls (ix2 d q)))) * gate (ix4 n r d q) * xc (ix3 n r q) := by
  simp only [hostOps0_4]
  after_reads_at
  rw [two_lit, h59, h60, h57, h32]
  refine congrArg (fun t : EReal => Ideal.sqrt t * gate (ix4 n r d q) * xc (ix3 n r q)) ?_
  exact minus_expm1 _
end

/-- The rate's logarithm. -/
theorem rates (lam : FVec Ideal S2x2048 .f32) (h7 : X (Proc.devRef .tc main_arg7) = lam) (d : Fin 2) (q : Fin 2048) : after hostOps0_3 X (Proc.devRef .tc main_v60) (ix2 d q) = logSigmoid (lam (ix2 d q)) := by
  simp only [hostOps0_3]
  after_reads_at
  rw [h7, if_neg (fun h => h rfl), ← logSigmoid_eq, sub_zero]
  rfl

/-- The rows with nothing around them. -/
theorem rows (p : FVec Ideal S32x256x10240 .bf16) (h0 : X (Proc.devRef .tc main_arg0) = p) (n : Fin 32) (r : Fin 259) (q : Fin 2048) :
    afterL [hostOps0, hostOps0_1] X (Proc.devRef .tc main_v2) (ix3 n r q) = padRow (fun s => p (ix3 n s ⟨6144 + q.val, by omega⟩)) r.val := by
  simp only [afterL_eq_after_flatten, hostOps0, hostOps0_1, List.flatten_cons, List.flatten_nil, List.append_nil, List.cons_append, List.nil_append]
  after_reads_at
  rw [h0]
  unfold padRow
  by_cases h : 2 ≤ r.val ∧ r.val < 258
  · rw [dif_pos h, dif_pos ⟨h.1, by omega⟩]
  · rw [dif_neg h, dif_neg (fun e => h ⟨e.1, by omega⟩)]
    show (((0#32).toInt : ℝ) : EReal) = 0
    simp

/-! The taps, and a gate over them. -/
section
variable (v : FVec Ideal S32x259x2048 .f32) (k : FVec Ideal S4x2048 .f32) (b : FVec Ideal S1x2048 .f32) (h2 : X (Proc.devRef .tc main_v2) = v) (h1 : X (Proc.devRef .tc main_arg1) = k) (hb : X (Proc.devRef .tc main_arg2) = b)
include h2 h1 hb

theorem taps (n : Fin 32) (r : Fin 256) (q : Fin 2048) : after hostOps0_2 X (Proc.devRef .tc main_v32) (ix3 n r q)
    = v (ix3 n ⟨r.val, by omega⟩ q) * k (ix2 0 q) + v (ix3 n ⟨1 + r.val, by omega⟩ q) * k (ix2 1 q) + v (ix3 n ⟨2 + r.val, by omega⟩ q) * k (ix2 2 q) + v (ix3 n ⟨3 + r.val, by omega⟩ q) * k (ix2 3 q) + b (ix2 0 q) := by
  simp only [hostOps0_2]
  after_reads_at
  rw [h2, h1, hb]

variable (xc : Fin 32 → Fin 256 → Fin 2048 → EReal)
  (hx : ∀ (n : Fin 32) (r : Fin 256) (q : Fin 2048), v (ix3 n ⟨r.val, by omega⟩ q) * k (ix2 0 q) + v (ix3 n ⟨1 + r.val, by omega⟩ q) * k (ix2 1 q) + v (ix3 n ⟨2 + r.val, by omega⟩ q) * k (ix2 2 q) + v (ix3 n ⟨3 + r.val, by omega⟩ q) * k (ix2 3 q) + b (ix2 0 q) = xc n r q)
  (w : FVec Ideal S2x16x128x128 .f32) (u : FVec Ideal S2x2048 .f32)
include hx

theorem first (h3 : X (Proc.devRef .tc main_arg3) = w) (h5 : X (Proc.devRef .tc main_arg5) = u) (n : Fin 32) (r : Fin 256) (d : Fin 2) (q : Fin 2048) : after hostOps0_2 X (Proc.devRef .tc main_v59) (ix4 n r d q)
    = ((8 : ℝ) : EReal) * Ideal.logistic (blockArg (xc n r) (fun p i j => w (ix4 d p i j)) (fun j => u (ix2 d j)) q) := by
  subst h2 h1 hb h3 h5
  simp only [hostOps0_2]
  after_reads_at
  refine congrArg₂ (fun a b : EReal => a * b) eight_lit ?_
  refine congrArg Ideal.logistic ?_
  unfold blockArg
  refine congrArg (fun z : EReal => z + _) (Finset.sum_congr rfl fun i _ => ?_)
  refine (mul_comm _ _).trans (congrArg₂ (fun a b : EReal => a * b) ?_ rfl)
  exact (hx n r _).trans (congrArg (xc n r) (Fin.ext (by show q.val / 128 * 128 + i.val = 128 * (q.val / 128) + i.val; omega)))

theorem second (h4 : X (Proc.devRef .tc main_arg4) = w) (h6 : X (Proc.devRef .tc main_arg6) = u) (n : Fin 32) (r : Fin 256) (d : Fin 2) (q : Fin 2048) : after hostOps0_2 X (Proc.devRef .tc main_v57) (ix4 n r d q)
    = Ideal.logistic (blockArg (xc n r) (fun p i j => w (ix4 d p i j)) (fun j => u (ix2 d j)) q) := by
  subst h2 h1 hb h4 h6
  simp only [hostOps0_2]
  after_reads_at
  refine congrArg Ideal.logistic ?_
  unfold blockArg
  refine congrArg (fun z : EReal => z + _) (Finset.sum_congr rfl fun i _ => ?_)
  refine (mul_comm _ _).trans (congrArg₂ (fun a b : EReal => a * b) ?_ rfl)
  exact (hx n r _).trans (congrArg (xc n r) (Fin.ext (by show q.val / 128 * 128 + i.val = 128 * (q.val / 128) + i.val; omega)))

end

theorem rowNat (k : ℕ) (hk : k < 256) : (Scf.iv (0#32) (1#32) k).toInt = k := by
  unfold Scf.iv
  simp only [BitVec.zero_add, BitVec.mul_one, BitVec.one_mul]
  rw [BitVec.toInt_eq_toNat_cond]
  simp
  omega

theorem piece (x : FVec Ideal S2x32x256x2048 .f32) (s : Fin 4 → Int) (k : ℕ) (hk : k < 256) (s0 : s 0 = 0) (s1 : s 1 = 0) (s2 : s 2 = k) (s3 : s 3 = 0) (d : Fin 2) (n : Fin 32) (q : Fin 2048) :
    shapeCast S2x32x2048 (Host.dynamicSlice S2x32x1x2048 x s sliceFits_S2x32x256x2048_S2x32x1x2048) shapeCasts_S2x32x1x2048_S2x32x2048 (ix3 d n q) = x (ix4 d n ⟨k, hk⟩ q) := by
  rw [Host.dynamicSlice_eq_extractStridedSlice S2x32x1x2048 x s ![0, 0, k, 0] _ ⟨rfl, fun a => by
    fin_cases a
    · show 0 + 2 ≤ 2; omega
    · show 0 + 32 ≤ 32; omega
    · show k + 1 ≤ 256; omega
    · show 0 + 2048 ≤ 2048; omega⟩ (fun a => by
    fin_cases a
    · exact s0
    · exact s1
    · exact s2
    · exact s3)]
  pointwise

theorem step_at (A U : FVec Ideal S2x32x256x2048 .f32) (H : FVec Ideal S2x32x2048 .f32) (h0 : X (Proc.devRef .tc main_v91_0) = A) (h1 : X (Proc.devRef .tc main_v91_1) = U) (h4 : X (Proc.devRef .tc main_v91_4) = H)
    (n : Fin 32) (d : Fin 2) (q : Fin 2048) (k : ℕ) (hk : k < 256) (h : X (Proc.devRef .tc main_v91_3) = fun _ => Scf.iv 0#32 1#32 k) :
    step_main_v91_4 X (ix3 d n q) = A (ix4 d n ⟨k, hk⟩ q) * H (ix3 d n q) + U (ix4 d n ⟨k, hk⟩ q) := by
  unfold step_main_v91_4 res_main_while0b_v94 res_main_while0b_v110
  rw [h, h0, h1, h4, id_eq]
  have e := select_slt_zero_of_nonneg (w := 32) (s := S_) (fun _ => Scf.iv 0#32 1#32 k) (addi (fun _ => Scf.iv 0#32 1#32 k) (constantI S_ 32 256#32)) (fun _ => Scf.iv 0#32 1#32 k) (Shape.Idx.first h_S_)
    (by show 0 ≤ (Scf.iv 0#32 1#32 k).toInt; rw [rowNat k hk]; exact Int.natCast_nonneg k)
  have e' := (congrArg BitVec.toInt e).trans (rowNat k hk)
  exact congrArg₂ (fun a b : EReal => a * H (ix3 d n q) + b) (piece A _ k hk rfl rfl e' rfl d n q) (piece U _ k hk rfl rfl e' rfl d n q)

end Cert.RglruRef

end
-- ==== Proof.RgGate.lean ====
module

public import proofs.«01_k».proof.Proof.Gen.KernelRglruIdeal.Skeleton
public import proofs.«01_k».proof.Proof.RgMath
public import Idealize.ShloMosaic.Lib.Pointwise

@[expose] public section

set_option maxRecDepth 16384

noncomputable section

/-! The gates of one tile, slice by slice and direction by direction. -/

namespace Cert.KernelRglruIdeal.St

open Cert.KernelRglruIdeal Cert.KernelRglruIdeal.Gen Idealize.ShloMosaic Idealize.ShloMosaic.TcCoe Idealize.SL.Sem Cert.Rglru

/-- One gate's argument in slice `j`, whose matrix stands at column `o`. -/
def gateIn (xc : FVec Ideal S256x512 .f32) (w : Vec Ideal S1x128x512 .bf16) (g : Vec Ideal S1x1x512 .f32) (j : Fin 4) (o : ℕ) (ho : o ≤ 384) (r : Fin 256) (q : Fin 128) : EReal :=
  (∑ x : Fin 128, xc (ix2 r ⟨128 * j.val + x.val, by omega⟩) * w (ix3 0 x ⟨o + q.val, by omega⟩)) + g (ix3 0 0 ⟨o + q.val, by omega⟩)

/-- The decay and the input of one cell as the tile computes them. -/
def cellA (p e : EReal) : EReal := Ideal.exp2 (Ideal.logistic p * e)
def cellU (p e l s x : EReal) : EReal := Ideal.sqrt (Ideal.tanh (Ideal.logistic p * l) * (cellA p e * cellA p e + 1)) * Ideal.logistic s * x

theorem decay0_0 (e l : FVec Ideal S2x512 .f32) (xc : FVec Ideal S256x512 .f32) (w : Vec Ideal S1x128x512 .bf16) (g : Vec Ideal S1x1x512 .f32) (r : Fin 256) (q : Fin 128) :
    (k0_pay29 (k0_pay26 e xc w g)) (ix2 r q) = cellA (gateIn xc w g 0 0 (by omega) r q) (e (ix2 0 (⟨0 + q.val, by omega⟩ : Fin 512))) := by
  unfold cellA Ideal.logistic gateIn
  simp only [← zero_sub]
  pointwise [k0_pay22, k0_pay23, k0_pay24, k0_pay25, k0_pay26, k0_pay27, k0_pay28, k0_pay29, k0_pay30, k0_pay31, k0_pay32, k0_pay33, k0_pay34, k0_pay35]
  rfl
theorem input0_0 (e l : FVec Ideal S2x512 .f32) (xc : FVec Ideal S256x512 .f32) (w : Vec Ideal S1x128x512 .bf16) (g : Vec Ideal S1x1x512 .f32) (r : Fin 256) (q : Fin 128) :
    (k0_pay30 (k0_pay22 xc) (k0_pay25 xc w g) (k0_pay27 l xc w g) (k0_pay28 e xc w g)) (ix2 r q) = cellU (gateIn xc w g 0 0 (by omega) r q) (e (ix2 0 (⟨0 + q.val, by omega⟩ : Fin 512))) (l (ix2 0 (⟨0 + q.val, by omega⟩ : Fin 512))) (gateIn xc w g 0 256 (by omega) r q) (xc (ix2 r (⟨0 + q.val, by omega⟩ : Fin 512))) := by
  unfold cellU cellA Ideal.logistic gateIn
  simp only [← zero_sub]
  pointwise [k0_pay22, k0_pay23, k0_pay24, k0_pay25, k0_pay26, k0_pay27, k0_pay28, k0_pay29, k0_pay30, k0_pay31, k0_pay32, k0_pay33, k0_pay34, k0_pay35]
  rfl

theorem decay0_1 (e l : FVec Ideal S2x512 .f32) (xc : FVec Ideal S256x512 .f32) (w : Vec Ideal S1x128x512 .bf16) (g : Vec Ideal S1x1x512 .f32) (r : Fin 256) (q : Fin 128) :
    (k0_pay41 (k0_pay39 e xc w g)) (ix2 r q) = cellA (gateIn xc w g 1 0 (by omega) r q) (e (ix2 0 (⟨128 + q.val, by omega⟩ : Fin 512))) := by
  unfold cellA Ideal.logistic gateIn
  simp only [← zero_sub]
  pointwise [k0_pay36, k0_pay37, k0_pay38, k0_pay39, k0_pay40, k0_pay41, k0_pay42, k0_pay43, k0_pay44, k0_pay45, k0_pay46, k0_pay47]
  rfl
theorem input0_1 (e l : FVec Ideal S2x512 .f32) (xc : FVec Ideal S256x512 .f32) (w : Vec Ideal S1x128x512 .bf16) (g : Vec Ideal S1x1x512 .f32) (r : Fin 256) (q : Fin 128) :
    (k0_pay42 (k0_pay40 e l xc w g)) (ix2 r q) = cellU (gateIn xc w g 1 0 (by omega) r q) (e (ix2 0 (⟨128 + q.val, by omega⟩ : Fin 512))) (l (ix2 0 (⟨128 + q.val, by omega⟩ : Fin 512))) (gateIn xc w g 1 256 (by omega) r q) (xc (ix2 r (⟨128 + q.val, by omega⟩ : Fin 512))) := by
  unfold cellU cellA Ideal.logistic gateIn
  simp only [← zero_sub]
  pointwise [k0_pay36, k0_pay37, k0_pay38, k0_pay39, k0_pay40, k0_pay41, k0_pay42, k0_pay43, k0_pay44, k0_pay45, k0_pay46, k0_pay47]
  rfl

theorem decay0_2 (e l : FVec Ideal S2x512 .f32) (xc : FVec Ideal S256x512 .f32) (w : Vec Ideal S1x128x512 .bf16) (g : Vec Ideal S1x1x512 .f32) (r : Fin 256) (q : Fin 128) :
    (k0_pay53 (k0_pay51 e xc w g)) (ix2 r q) = cellA (gateIn xc w g 2 0 (by omega) r q) (e (ix2 0 (⟨256 + q.val, by omega⟩ : Fin 512))) := by
  unfold cellA Ideal.logistic gateIn
  simp only [← zero_sub]
  pointwise [k0_pay48, k0_pay49, k0_pay50, k0_pay51, k0_pay52, k0_pay53, k0_pay54, k0_pay55, k0_pay56, k0_pay57, k0_pay58]
  rfl
theorem input0_2 (e l : FVec Ideal S2x512 .f32) (xc : FVec Ideal S256x512 .f32) (w : Vec Ideal S1x128x512 .bf16) (g : Vec Ideal S1x1x512 .f32) (r : Fin 256) (q : Fin 128) :
    (k0_pay54 (k0_pay52 e l xc w g)) (ix2 r q) = cellU (gateIn xc w g 2 0 (by omega) r q) (e (ix2 0 (⟨256 + q.val, by omega⟩ : Fin 512))) (l (ix2 0 (⟨256 + q.val, by omega⟩ : Fin 512))) (gateIn xc w g 2 256 (by omega) r q) (xc (ix2 r (⟨256 + q.val, by omega⟩ : Fin 512))) := by
  unfold cellU cellA Ideal.logistic gateIn
  simp only [← zero_sub]
  pointwise [k0_pay48, k0_pay49, k0_pay50, k0_pay51, k0_pay52, k0_pay53, k0_pay54, k0_pay55, k0_pay56, k0_pay57, k0_pay58]
  rfl

theorem decay0_3 (e l : FVec Ideal S2x512 .f32) (xc : FVec Ideal S256x512 .f32) (w : Vec Ideal S1x128x512 .bf16) (g : Vec Ideal S1x1x512 .f32) (r : Fin 256) (q : Fin 128) :
    (k0_pay65 e (k0_pay60 xc) w g) (ix2 r q) = cellA (gateIn xc w g 3 0 (by omega) r q) (e (ix2 0 (⟨384 + q.val, by omega⟩ : Fin 512))) := by
  unfold cellA Ideal.logistic gateIn
  simp only [← zero_sub]
  pointwise [k0_pay59, k0_pay60, k0_pay61, k0_pay62, k0_pay63, k0_pay64, k0_pay65, k0_pay66, k0_pay67, k0_pay68, k0_pay69, k0_pay70]
  rfl
theorem input0_3 (e l : FVec Ideal S2x512 .f32) (xc : FVec Ideal S256x512 .f32) (w : Vec Ideal S1x128x512 .bf16) (g : Vec Ideal S1x1x512 .f32) (r : Fin 256) (q : Fin 128) :
    (k0_pay66 (k0_pay64 e l (k0_pay59 xc) (k0_pay60 xc) w g)) (ix2 r q) = cellU (gateIn xc w g 3 0 (by omega) r q) (e (ix2 0 (⟨384 + q.val, by omega⟩ : Fin 512))) (l (ix2 0 (⟨384 + q.val, by omega⟩ : Fin 512))) (gateIn xc w g 3 256 (by omega) r q) (xc (ix2 r (⟨384 + q.val, by omega⟩ : Fin 512))) := by
  unfold cellU cellA Ideal.logistic gateIn
  simp only [← zero_sub]
  pointwise [k0_pay59, k0_pay60, k0_pay61, k0_pay62, k0_pay63, k0_pay64, k0_pay65, k0_pay66, k0_pay67, k0_pay68, k0_pay69, k0_pay70]
  rfl

theorem decay1_0 (e l : FVec Ideal S2x512 .f32) (xc : FVec Ideal S256x512 .f32) (w : Vec Ideal S1x128x512 .bf16) (g : Vec Ideal S1x1x512 .f32) (r : Fin 256) (q : Fin 128) :
    (k0_pay34 e (k0_pay23 xc w g)) (ix2 r q) = cellA (gateIn xc w g 0 128 (by omega) r q) (e (ix2 1 (⟨0 + q.val, by omega⟩ : Fin 512))) := by
  unfold cellA Ideal.logistic gateIn
  simp only [← zero_sub]
  pointwise [k0_pay22, k0_pay23, k0_pay24, k0_pay25, k0_pay26, k0_pay27, k0_pay28, k0_pay29, k0_pay30, k0_pay31, k0_pay32, k0_pay33, k0_pay34, k0_pay35]
  rfl
theorem input1_0 (e l : FVec Ideal S2x512 .f32) (xc : FVec Ideal S256x512 .f32) (w : Vec Ideal S1x128x512 .bf16) (g : Vec Ideal S1x1x512 .f32) (r : Fin 256) (q : Fin 128) :
    (k0_pay35 (k0_pay33 e l (k0_pay22 xc) (k0_pay23 xc w g))) (ix2 r q) = cellU (gateIn xc w g 0 128 (by omega) r q) (e (ix2 1 (⟨0 + q.val, by omega⟩ : Fin 512))) (l (ix2 1 (⟨0 + q.val, by omega⟩ : Fin 512))) (gateIn xc w g 0 384 (by omega) r q) (xc (ix2 r (⟨0 + q.val, by omega⟩ : Fin 512))) := by
  unfold cellU cellA Ideal.logistic gateIn
  simp only [← zero_sub]
  pointwise [k0_pay22, k0_pay23, k0_pay24, k0_pay25, k0_pay26, k0_pay27, k0_pay28, k0_pay29, k0_pay30, k0_pay31, k0_pay32, k0_pay33, k0_pay34, k0_pay35]
  rfl

theorem decay1_1 (e l : FVec Ideal S2x512 .f32) (xc : FVec Ideal S256x512 .f32) (w : Vec Ideal S1x128x512 .bf16) (g : Vec Ideal S1x1x512 .f32) (r : Fin 256) (q : Fin 128) :
    (k0_pay46 e (k0_pay37 xc w g)) (ix2 r q) = cellA (gateIn xc w g 1 128 (by omega) r q) (e (ix2 1 (⟨128 + q.val, by omega⟩ : Fin 512))) := by
  unfold cellA Ideal.logistic gateIn
  simp only [← zero_sub]
  pointwise [k0_pay36, k0_pay37, k0_pay38, k0_pay39, k0_pay40, k0_pay41, k0_pay42, k0_pay43, k0_pay44, k0_pay45, k0_pay46, k0_pay47]
  rfl
theorem input1_1 (e l : FVec Ideal S2x512 .f32) (xc : FVec Ideal S256x512 .f32) (w : Vec Ideal S1x128x512 .bf16) (g : Vec Ideal S1x1x512 .f32) (r : Fin 256) (q : Fin 128) :
    (k0_pay47 (k0_pay45 e l (k0_pay36 xc) (k0_pay37 xc w g))) (ix2 r q) = cellU (gateIn xc w g 1 128 (by omega) r q) (e (ix2 1 (⟨128 + q.val, by omega⟩ : Fin 512))) (l (ix2 1 (⟨128 + q.val, by omega⟩ : Fin 512))) (gateIn xc w g 1 384 (by omega) r q) (xc (ix2 r (⟨128 + q.val, by omega⟩ : Fin 512))) := by
  unfold cellU cellA Ideal.logistic gateIn
  simp only [← zero_sub]
  pointwise [k0_pay36, k0_pay37, k0_pay38, k0_pay39, k0_pay40, k0_pay41, k0_pay42, k0_pay43, k0_pay44, k0_pay45, k0_pay46, k0_pay47]
  rfl

theorem decay1_2 (e l : FVec Ideal S2x512 .f32) (xc : FVec Ideal S256x512 .f32) (w : Vec Ideal S1x128x512 .bf16) (g : Vec Ideal S1x1x512 .f32) (r : Fin 256) (q : Fin 128) :
    (k0_pay57 e (k0_pay49 xc w g)) (ix2 r q) = cellA (gateIn xc w g 2 128 (by omega) r q) (e (ix2 1 (⟨256 + q.val, by omega⟩ : Fin 512))) := by
  unfold cellA Ideal.logistic gateIn
  simp only [← zero_sub]
  pointwise [k0_pay48, k0_pay49, k0_pay50, k0_pay51, k0_pay52, k0_pay53, k0_pay54, k0_pay55, k0_pay56, k0_pay57, k0_pay58]
  rfl
theorem input1_2 (e l : FVec Ideal S2x512 .f32) (xc : FVec Ideal S256x512 .f32) (w : Vec Ideal S1x128x512 .bf16) (g : Vec Ideal S1x1x512 .f32) (r : Fin 256) (q : Fin 128) :
    (k0_pay58 e l (k0_pay48 xc) (k0_pay49 xc w g)) (ix2 r q) = cellU (gateIn xc w g 2 128 (by omega) r q) (e (ix2 1 (⟨256 + q.val, by omega⟩ : Fin 512))) (l (ix2 1 (⟨256 + q.val, by omega⟩ : Fin 512))) (gateIn xc w g 2 384 (by omega) r q) (xc (ix2 r (⟨256 + q.val, by omega⟩ : Fin 512))) := by
  unfold cellU cellA Ideal.logistic gateIn
  simp only [← zero_sub]
  pointwise [k0_pay48, k0_pay49, k0_pay50, k0_pay51, k0_pay52, k0_pay53, k0_pay54, k0_pay55, k0_pay56, k0_pay57, k0_pay58]
  rfl

theorem decay1_3 (e l : FVec Ideal S2x512 .f32) (xc : FVec Ideal S256x512 .f32) (w : Vec Ideal S1x128x512 .bf16) (g : Vec Ideal S1x1x512 .f32) (r : Fin 256) (q : Fin 128) :
    (k0_pay69 e (k0_pay61 (k0_pay60 xc) w g)) (ix2 r q) = cellA (gateIn xc w g 3 128 (by omega) r q) (e (ix2 1 (⟨384 + q.val, by omega⟩ : Fin 512))) := by
  unfold cellA Ideal.logistic gateIn
  simp only [← zero_sub]
  pointwise [k0_pay59, k0_pay60, k0_pay61, k0_pay62, k0_pay63, k0_pay64, k0_pay65, k0_pay66, k0_pay67, k0_pay68, k0_pay69, k0_pay70]
  rfl
theorem input1_3 (e l : FVec Ideal S2x512 .f32) (xc : FVec Ideal S256x512 .f32) (w : Vec Ideal S1x128x512 .bf16) (g : Vec Ideal S1x1x512 .f32) (r : Fin 256) (q : Fin 128) :
    (k0_pay70 e l (k0_pay59 xc) (k0_pay61 (k0_pay60 xc) w g)) (ix2 r q) = cellU (gateIn xc w g 3 128 (by omega) r q) (e (ix2 1 (⟨384 + q.val, by omega⟩ : Fin 512))) (l (ix2 1 (⟨384 + q.val, by omega⟩ : Fin 512))) (gateIn xc w g 3 384 (by omega) r q) (xc (ix2 r (⟨384 + q.val, by omega⟩ : Fin 512))) := by
  unfold cellU cellA Ideal.logistic gateIn
  simp only [← zero_sub]
  pointwise [k0_pay59, k0_pay60, k0_pay61, k0_pay62, k0_pay63, k0_pay64, k0_pay65, k0_pay66, k0_pay67, k0_pay68, k0_pay69, k0_pay70]
  rfl

end Cert.KernelRglruIdeal.St

end
-- ==== Proof.RgLoop.lean ====
module

public import proofs.«01_k».proof.Proof.Gen.KernelRglruIdeal.Loops
public import proofs.«01_k».proof.Proof.RgScan
public import Idealize.ShloMosaic.Lib.Pipeline.ValueKit
public import Idealize.ShloMosaic.Lib.WritesUnit

@[expose] public section

set_option maxRecDepth 16384

noncomputable section

/-! What the two counted loops carry: the recurrence, forwards over the rows and backwards over them. -/

namespace Cert.KernelRglruIdeal.St

open Cert.KernelRglruIdeal Cert.KernelRglruIdeal.Gen Idealize.ShloMosaic Idealize.ShloMosaic.TcCoe Idealize.SL.Sem Cert.Rglru

/-- Column `c` of a scratch array, row by row. -/
def col (v : S256x512.Idx → EReal) (c : Fin 512) (n : ℕ) : EReal := if h : n < 256 then v (ix2 ⟨n, h⟩ c) else 0

/-- The same, from the last row to the first. -/
def loc (v : S256x512.Idx → EReal) (c : Fin 512) (n : ℕ) : EReal := if h : n < 256 then v (ix2 ⟨255 - n, by omega⟩ c) else 0

theorem col_decay (v : S256x512.Idx → EReal) (hv : ∀ r c, Decay (v (ix2 r c))) (c : Fin 512) (n : ℕ) : Decay (col v c n) := by
  unfold col
  by_cases h : n < 256
  · rw [dif_pos h]; exact hv _ _
  · rw [dif_neg h]; exact ⟨le_refl _, EReal.zero_ne_top⟩

theorem loc_decay (v : S256x512.Idx → EReal) (hv : ∀ r c, Decay (v (ix2 r c))) (c : Fin 512) (n : ℕ) : Decay (loc v c n) := by
  unfold loc
  by_cases h : n < 256
  · rw [dif_pos h]; exact hv _ _
  · rw [dif_neg h]; exact ⟨le_refl _, EReal.zero_ne_top⟩

/-- Eight rows read at row `o`. -/
theorem read_rows (w : View sig .tc .vmem S256x512 .f32) (f : w.ty.Contents (Elt Ideal)) (off : Fin 2 → ℕ) (inb) (o : ℕ) (ho : off = ![o, 0]) (j : Fin 8) (c : Fin 512) (h : o + j.val < 256) :
    w.readAt (Elt Ideal) (Rect.unit (s := S256x512) off ![8, 512] inb).toLoadRect f (ix2 j c) = w.read (Elt Ideal) f (ix2 ⟨o + j.val, h⟩ c) := by
  subst ho
  rw [View.readAt_eq_ld]
  refine congrArg (w.read (Elt Ideal) f) (funext fun x => Fin.ext ?_)
  rw [LoadRect.idx_apply]
  fin_cases x <;> simp

section
variable (𝒱 : Variants) (c : Dev nD) (bd : Option 𝒱.V) (i : grid0.Coords) (arg2 : Memref sig .tc .vmem S1x256x512 .bf16) (harg2 : arg2.IsWhole) (arg3 : Memref sig .tc .vmem S1x256x512 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x512 .bf16) (harg6 : arg6.IsWhole) (arg7 : Memref sig .tc .vmem S4x1x512 .f32) (harg7 : arg7.IsWhole) (arg8 : Memref sig .tc .vmem S2x512 .f32) (harg8 : arg8.IsWhole) (arg9 : Memref sig .tc .vmem S1x256x512 .bf16) (harg9 : arg9.IsWhole) (arg10 : Memref sig .tc .vmem S1x2x512 .f32) (harg10 : arg10.IsWhole) (arg11 : Memref sig .tc .vmem S272x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole)

theorem carried1 (X : BufTy.Contents (Elt Ideal) arg12.view.ty) (k : Fin k0_t1_loop.trips) (acc : FVec Ideal S1x512 .f32) (f : BufTy.Contents (Elt Ideal) arg13.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X k acc f
      = k0_pay3 acc (View.readAt (Elt Ideal) arg12.view (Rect.unit (s := S256x512) (k0_off9 k) ![8, 512] (k0_off9_inb k)).toLoadRect X)
          (View.readAt (Elt Ideal) arg13.view (Rect.unit (s := S256x512) (k0_off9 k) ![8, 512] (k0_off9_inb k)).toLoadRect f) := by
  unfold tripR_k0_t1 trip_k0_t1
  rfl

theorem written1 (X : BufTy.Contents (Elt Ideal) arg12.view.ty) (k : Fin k0_t1_loop.trips) (acc : FVec Ideal S1x512 .f32) (f : BufTy.Contents (Elt Ideal) arg13.view.ty) :
    ∃ w, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X k acc f = [⟨Rect.unit (s := S256x512) (k0_off9 k) ![8, 512] (k0_off9_inb k), w⟩] := by
  unfold tripL_k0_t1 trip_k0_t1
  exact ⟨_, rfl⟩

theorem carried2 (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (k : Fin k0_t2_loop.trips) (acc : FVec Ideal S1x512 .f32) :
    tripR_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X14 X15 X16 k acc
      = k0_pay5 (k0_pay9 (k0_pay8 acc (View.readAt (Elt Ideal) arg14.view (Rect.unit (s := S256x512) (k0_off10 k) ![8, 512] (k0_off10_inb k)).toLoadRect X14)
          (View.readAt (Elt Ideal) arg15.view (Rect.unit (s := S256x512) (k0_off10 k) ![8, 512] (k0_off10_inb k)).toLoadRect X15))
          (View.readAt (Elt Ideal) arg14.view (Rect.unit (s := S256x512) (k0_off11 k) ![8, 512] (k0_off11_inb k)).toLoadRect X14)
          (View.readAt (Elt Ideal) arg15.view (Rect.unit (s := S256x512) (k0_off11 k) ![8, 512] (k0_off11_inb k)).toLoadRect X15)) := by
  unfold tripR_k0_t2 trip_k0_t2
  rfl

theorem loop1 (X : BufTy.Contents (Elt Ideal) arg12.view.ty) (G : BufTy.Contents (Elt Ideal) arg13.view.ty) (init : FVec Ideal S1x512 .f32)
    (hX : ∀ r q, Decay (arg12.view.read (Elt Ideal) X (ix2 r q))) (k : ℕ) (hk : k ≤ 32) :
    (∀ q : Fin 512, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X G init k).1 (ix2 0 q)
        = lin (col (arg12.view.read (Elt Ideal) X) q) (col (arg13.view.read (Elt Ideal) G) q) (init (ix2 0 q)) (8 * k))
      ∧ ∀ (r : Fin 256) (q : Fin 512), 8 * k ≤ r.val → arg13.view.read (Elt Ideal) (arg13.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X G init k).2) (ix2 r q)
        = arg13.view.read (Elt Ideal) G (ix2 r q) := by
  induction k with
  | zero => exact ⟨fun q => rfl, fun r q _ => rfl⟩
  | succ k ih =>
    obtain ⟨ih1, ih2⟩ := ih (by omega)
    have ht : k0_t1_loop.trips = 32 := by decide +kernel
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X G init ⟨k, by rw [ht]; omega⟩
    dsimp only at hs
    rw [hs]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X G init k = S at ih1 ih2
    constructor
    · intro q
      dsimp only
      rw [carried1]
      refine forward_apply _ _ _ q _ _ (8 * k) (col_decay _ hX q) (fun j => ?_) (fun j => ?_) _ (ih1 q)
      · have hj : 8 * k + j.val < 256 := by omega
        rw [read_rows _ _ _ _ (8 * k) (k0_off9_eq _) j q hj, col, dif_pos hj]
      · have hj : 8 * k + j.val < 256 := by omega
        rw [read_rows _ _ _ _ (8 * k) (k0_off9_eq _) j q hj, col, dif_pos hj, ih2 _ _ (by show 8 * k ≤ 8 * k + j.val; omega)]
    · intro r q hr
      dsimp only
      obtain ⟨w, hw⟩ := written1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X ⟨k, by rw [ht]; omega⟩ S.1 (arg13.view.writes (Elt Ideal) G S.2)
      rw [hw, List.singleton_append, View.read_writes_cons_rows_of_not_mem (o := 8 * k) (W := 8) _ _ _ _ _ _ (k0_off9_eq _) rfl (Or.inr (by show 8 * k + 8 ≤ r.val; omega)), ih2 r q (by omega)]

theorem loop2 (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (init : FVec Ideal S1x512 .f32)
    (hX : ∀ r q, Decay (arg14.view.read (Elt Ideal) X14 (ix2 r q))) (k : ℕ) (hk : k ≤ 16) (q : Fin 512) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X14 X15 X16 init k).1 (ix2 0 q)
        = lin (loc (arg14.view.read (Elt Ideal) X14) q) (loc (arg15.view.read (Elt Ideal) X15) q) (init (ix2 0 q)) (16 * k) := by
  induction k with
  | zero => rfl
  | succ k ih =>
    have ih1 := ih (by omega)
    have ht : k0_t2_loop.trips = 16 := by decide +kernel
    have hs := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X14 X15 X16 init ⟨k, by rw [ht]; omega⟩
    dsimp only at hs
    rw [hs]
    generalize st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X14 X15 X16 init k = S at ih1
    dsimp only
    rw [carried2]
    have rd : ∀ (w : View sig .tc .vmem S256x512 .f32) (f : w.ty.Contents (Elt Ideal)) (off : Fin 2 → ℕ) (inb) (o n : ℕ) (ho : off = ![o, 0]) (hn : o + n = 248) (j : Fin 8),
        w.readAt (Elt Ideal) (Rect.unit (s := S256x512) off ![8, 512] inb).toLoadRect f (ix2 j q) = loc (w.read (Elt Ideal) f) q (n + (7 - j.val)) := by
      intro w f off inb o n ho hn j
      have hj : o + j.val < 256 := by omega
      rw [read_rows _ _ _ _ o ho j q hj, loc, dif_pos (by omega)]
      refine congrArg (fun z => w.read (Elt Ideal) f (ix2 z q)) (Fin.ext ?_)
      show o + j.val = 255 - (n + (7 - j.val))
      omega
    refine backward_next _ _ _ q _ _ (16 * k + 8) (loc_decay _ hX q) (fun j => ?_) (fun j => ?_) _
      (backward_apply _ _ _ q _ _ (16 * k) (loc_decay _ hX q) (fun j => ?_) (fun j => ?_) _ ih1)
    · exact rd _ _ _ _ (240 - 16 * k) (16 * k + 8) (k0_off11_eq _) (by omega) j
    · exact rd _ _ _ _ (240 - 16 * k) (16 * k + 8) (k0_off11_eq _) (by omega) j
    · exact rd _ _ _ _ (248 - 16 * k) (16 * k) (k0_off10_eq _) (by omega) j
    · exact rd _ _ _ _ (248 - 16 * k) (16 * k) (k0_off10_eq _) (by omega) j

end

end Cert.KernelRglruIdeal.St

end
-- ==== Proof.RgTile.lean ====
module

public import proofs.«01_k».proof.Proof.RgGate
public import proofs.«01_k».proof.Proof.RgLoop

@[expose] public section

set_option maxRecDepth 16384

noncomputable section

/-! A tile's two arrays of decays and inputs, column by column, and the state the recurrence over them reaches. -/

namespace Cert.KernelRglruIdeal.St

open Cert.KernelRglruIdeal Cert.KernelRglruIdeal.Gen Idealize.ShloMosaic Idealize.ShloMosaic.TcCoe Idealize.SL.Sem Cert.Rglru Cert.Gla

/-- One gate's argument at a column: the column's slice of the row times that slice's matrix. -/
def gateAt (xc : FVec Ideal S256x512 .f32) (w : Vec Ideal S4x128x512 .bf16) (g : Vec Ideal S4x1x512 .f32) (o : ℕ) (ho : o ≤ 384) (r : Fin 256) (q : Fin 512) : EReal :=
  (∑ x : Fin 128, xc (ix2 r ⟨128 * (q.val / 128) + x.val, by omega⟩) * w (ix3 ⟨q.val / 128, by omega⟩ x ⟨o + q.val % 128, by omega⟩))
    + g (ix3 ⟨q.val / 128, by omega⟩ 0 ⟨o + q.val % 128, by omega⟩)

def cellDecay (xc : FVec Ideal S256x512 .f32) (w : Vec Ideal S4x128x512 .bf16) (g : Vec Ideal S4x1x512 .f32) (lam : Vec Ideal S2x512 .f32) (d : Fin 2) (r : Fin 256) (q : Fin 512) : EReal :=
  decayOf (gateAt xc w g (128 * d.val) (by omega) r q) (logSigmoid (lam (ix2 d q)))
def cellInput (xc : FVec Ideal S256x512 .f32) (w : Vec Ideal S4x128x512 .bf16) (g : Vec Ideal S4x1x512 .f32) (lam : Vec Ideal S2x512 .f32) (d : Fin 2) (r : Fin 256) (q : Fin 512) : EReal :=
  inputOf (gateAt xc w g (128 * d.val) (by omega) r q) (logSigmoid (lam (ix2 d q))) (gateAt xc w g (256 + 128 * d.val) (by omega) r q) (xc (ix2 r q))

/-- The row a direction visits at a step. -/
def visit (d : Fin 2) (n : Fin 256) : Fin 256 := if d = 0 then n else ⟨255 - n.val, by omega⟩

/-- Both directions' last state at a column. -/
def tileState (xc : FVec Ideal S256x512 .f32) (w : Vec Ideal S4x128x512 .bf16) (g : Vec Ideal S4x1x512 .f32) (lam : Vec Ideal S2x512 .f32) (d : Fin 2) (q : Fin 512) : EReal :=
  lin (fun n => if h : n < 256 then cellDecay xc w g lam d (visit d ⟨n, h⟩) q else 0) (fun n => if h : n < 256 then cellInput xc w g lam d (visit d ⟨n, h⟩) q else 0) 0 256

theorem scale8 : Named.named (F := Ideal) κ "log2e_times_8" (φ := .f32) 0x4138AA3B#32 = ((8 * (Real.log 2)⁻¹ : ℝ) : EReal) := rfl

theorem minus8 : Ideal.ofBits .f32 0xC1000000#32 = ((-8 : ℝ) : EReal) := by
  simp [Ideal.ofBits, Ideal.ieee, -EReal.coe_mul]; norm_num

theorem rate_at (b : Vec Ideal S2x512 .f32) (d : Fin 2) (q : Fin 512) : k0_pay15 b (ix2 d q) = ((8 * (Real.log 2)⁻¹ : ℝ) : EReal) * logSigmoid (b (ix2 d q)) := by
  unfold logSigmoid
  rw [← scale8]
  pointwise [k0_pay15, k0_pay14]
  rfl

theorem weight_at (b : Vec Ideal S2x512 .f32) (d : Fin 2) (q : Fin 512) : k0_pay16 b (ix2 d q) = ((-8 : ℝ) : EReal) * logSigmoid (b (ix2 d q)) := by
  unfold logSigmoid
  rw [← minus8]
  pointwise [k0_pay16, k0_pay14]
  rfl

theorem cellA_eq (b : Vec Ideal S2x512 .f32) (d : Fin 2) (q : Fin 512) (p : EReal) : cellA p (k0_pay15 b (ix2 d q)) = decayOf p (logSigmoid (b (ix2 d q))) := by
  rw [rate_at]
  exact decay_form _ _

theorem cellU_eq (b : Vec Ideal S2x512 .f32) (d : Fin 2) (q : Fin 512) (p s x : EReal) :
    cellU p (k0_pay15 b (ix2 d q)) (k0_pay16 b (ix2 d q)) s x = inputOf p (logSigmoid (b (ix2 d q))) s x := by
  unfold cellU
  rw [cellA_eq, weight_at]
  exact input_form _ _ _ _ (logSigmoid_ne_top _)

theorem slice_w (w : Vec Ideal S4x128x512 .bf16) (j : Fin 4) (inb) (x : Fin 128) (y : Fin 512) :
    View.ld w (Rect.unit (s := S4x128x512) ![j.val, 0, 0] ![1, 128, 512] inb) (ix3 0 x y) = w (ix3 j x y) := by
  refine congrArg w (funext fun a => Fin.ext ?_)
  fin_cases a <;> simp [LoadRect.idx_apply]

theorem slice_g (g : Vec Ideal S4x1x512 .f32) (j : Fin 4) (inb) (y : Fin 512) :
    View.ld g (Rect.unit (s := S4x1x512) ![j.val, 0, 0] ![1, 1, 512] inb) (ix3 0 0 y) = g (ix3 j 0 y) := by
  refine congrArg g (funext fun a => Fin.ext ?_)
  fin_cases a <;> simp [LoadRect.idx_apply]

theorem gateIn_eq (xc : FVec Ideal S256x512 .f32) (w : Vec Ideal S4x128x512 .bf16) (g : Vec Ideal S4x1x512 .f32) (w' : Vec Ideal S1x128x512 .bf16) (g' : Vec Ideal S1x1x512 .f32) (j : Fin 4)
    (hw : ∀ x y, w' (ix3 0 x y) = w (ix3 j x y)) (hg : ∀ y, g' (ix3 0 0 y) = g (ix3 j 0 y)) (o : ℕ) (ho : o ≤ 384) (r : Fin 256) (q : Fin 128) :
    gateIn xc w' g' j o ho r q = gateAt xc w g o ho r ⟨128 * j.val + q.val, by omega⟩ := by
  unfold gateIn gateAt
  have hj : (128 * j.val + q.val) / 128 = j.val := by omega
  have hq : (128 * j.val + q.val) % 128 = q.val := by omega
  simp only [hw, hg, hj, hq]

/-- Four slices written side by side, read at a column. -/
theorem read_slices (v : View sig .tc .vmem S256x512 .f32) (f : v.ty.Contents (Elt Ideal)) (p0 p1 p2 p3 : FVec Ideal S256x128 .f32) (F : Fin 256 → Fin 512 → EReal)
    (h0 : ∀ r (q : Fin 128), p0 (ix2 r q) = F r ⟨0 + q.val, by omega⟩) (h1 : ∀ r (q : Fin 128), p1 (ix2 r q) = F r ⟨128 + q.val, by omega⟩)
    (h2 : ∀ r (q : Fin 128), p2 (ix2 r q) = F r ⟨256 + q.val, by omega⟩) (h3 : ∀ r (q : Fin 128), p3 (ix2 r q) = F r ⟨384 + q.val, by omega⟩) (r : Fin 256) (q : Fin 512) :
    v.read (Elt Ideal) (v.writes (Elt Ideal) f [⟨Rect.unit (s := S256x512) k0_off8 ![256, 128] k0_off8_inb, p3⟩, ⟨Rect.unit (s := S256x512) k0_off7 ![256, 128] k0_off7_inb, p2⟩,
      ⟨Rect.unit (s := S256x512) k0_off6 ![256, 128] k0_off6_inb, p1⟩, ⟨Rect.unit (s := S256x512) k0_off5 ![256, 128] k0_off5_inb, p0⟩]) (ix2 r q) = F r q := by
  rcases lt_or_ge q.val 384 with h | h
  · rw [View.read_writes_cons_unit_of_not_mem (off' := ![0, 384]) _ _ _ _ _ _ k0_off8_eq 1 (Or.inl h)]
    rcases lt_or_ge q.val 256 with h' | h'
    · rw [View.read_writes_cons_unit_of_not_mem (off' := ![0, 256]) _ _ _ _ _ _ k0_off7_eq 1 (Or.inl h')]
      rcases lt_or_ge q.val 128 with h'' | h''
      · rw [View.read_writes_cons_unit_of_not_mem (off' := ![0, 128]) _ _ _ _ _ _ k0_off6_eq 1 (Or.inl h'')]
        rw [View.read_writes_cons_unit_of_mem (off' := ![0, 0]) _ _ _ _ _ _ (ix2 r ⟨q.val, h''⟩) k0_off5_eq (by intro a; fin_cases a <;> simp), h0]
        exact congrArg (F r) (Fin.ext (by show 0 + q.val = q.val; omega))
      · rw [View.read_writes_cons_unit_of_mem (off' := ![0, 128]) _ _ _ _ _ _ (ix2 r ⟨q.val - 128, by omega⟩) k0_off6_eq (by intro a; fin_cases a <;> simp; omega), h1]
        exact congrArg (F r) (Fin.ext (by show 128 + (q.val - 128) = q.val; omega))
    · rw [View.read_writes_cons_unit_of_mem (off' := ![0, 256]) _ _ _ _ _ _ (ix2 r ⟨q.val - 256, by omega⟩) k0_off7_eq (by intro a; fin_cases a <;> simp; omega), h2]
      exact congrArg (F r) (Fin.ext (by show 256 + (q.val - 256) = q.val; omega))
  · rw [View.read_writes_cons_unit_of_mem (off' := ![0, 384]) _ _ _ _ _ _ (ix2 r ⟨q.val - 384, by omega⟩) k0_off8_eq (by intro a; fin_cases a <;> simp; omega), h3]
    exact congrArg (F r) (Fin.ext (by show 384 + (q.val - 384) = q.val; omega))

section
variable (v : View sig .tc .vmem S256x512 .f32) (f : v.ty.Contents (Elt Ideal)) (xc : FVec Ideal S256x512 .f32) (w : Vec Ideal S4x128x512 .bf16) (g : Vec Ideal S4x1x512 .f32) (lam : Vec Ideal S2x512 .f32)
  (w0 w1 w2 w3 : Vec Ideal S1x128x512 .bf16) (g0 g1 g2 g3 : Vec Ideal S1x1x512 .f32)
  (hw0 : ∀ x y, w0 (ix3 0 x y) = w (ix3 0 x y)) (hw1 : ∀ x y, w1 (ix3 0 x y) = w (ix3 1 x y)) (hw2 : ∀ x y, w2 (ix3 0 x y) = w (ix3 2 x y)) (hw3 : ∀ x y, w3 (ix3 0 x y) = w (ix3 3 x y))
  (hg0 : ∀ y, g0 (ix3 0 0 y) = g (ix3 0 0 y)) (hg1 : ∀ y, g1 (ix3 0 0 y) = g (ix3 1 0 y)) (hg2 : ∀ y, g2 (ix3 0 0 y) = g (ix3 2 0 y)) (hg3 : ∀ y, g3 (ix3 0 0 y) = g (ix3 3 0 y))
  (r : Fin 256) (q : Fin 512)
include hw0 hw1 hw2 hw3 hg0 hg1 hg2 hg3

theorem decays0 : v.read (Elt Ideal) (v.writes (Elt Ideal) f [⟨Rect.unit (s := S256x512) k0_off8 ![256, 128] k0_off8_inb, k0_pay65 (k0_pay15 lam) (k0_pay60 xc) w3 g3⟩, ⟨Rect.unit (s := S256x512) k0_off7 ![256, 128] k0_off7_inb, k0_pay53 (k0_pay51 (k0_pay15 lam) xc w2 g2)⟩,
      ⟨Rect.unit (s := S256x512) k0_off6 ![256, 128] k0_off6_inb, k0_pay41 (k0_pay39 (k0_pay15 lam) xc w1 g1)⟩, ⟨Rect.unit (s := S256x512) k0_off5 ![256, 128] k0_off5_inb, k0_pay29 (k0_pay26 (k0_pay15 lam) xc w0 g0)⟩]) (ix2 r q) = cellDecay xc w g lam 0 r q := by
  refine read_slices v f _ _ _ _ (fun r q => cellDecay xc w g lam 0 r q) (fun r q => ?_) (fun r q => ?_) (fun r q => ?_) (fun r q => ?_) r q
  · rw [decay0_0 _ (k0_pay16 lam), cellA_eq, gateIn_eq xc w g w0 g0 0 hw0 hg0]; rfl
  · rw [decay0_1 _ (k0_pay16 lam), cellA_eq, gateIn_eq xc w g w1 g1 1 hw1 hg1]; rfl
  · rw [decay0_2 _ (k0_pay16 lam), cellA_eq, gateIn_eq xc w g w2 g2 2 hw2 hg2]; rfl
  · rw [decay0_3 _ (k0_pay16 lam), cellA_eq, gateIn_eq xc w g w3 g3 3 hw3 hg3]; rfl

theorem inputs0 : v.read (Elt Ideal) (v.writes (Elt Ideal) f [⟨Rect.unit (s := S256x512) k0_off8 ![256, 128] k0_off8_inb, k0_pay66 (k0_pay64 (k0_pay15 lam) (k0_pay16 lam) (k0_pay59 xc) (k0_pay60 xc) w3 g3)⟩, ⟨Rect.unit (s := S256x512) k0_off7 ![256, 128] k0_off7_inb, k0_pay54 (k0_pay52 (k0_pay15 lam) (k0_pay16 lam) xc w2 g2)⟩,
      ⟨Rect.unit (s := S256x512) k0_off6 ![256, 128] k0_off6_inb, k0_pay42 (k0_pay40 (k0_pay15 lam) (k0_pay16 lam) xc w1 g1)⟩, ⟨Rect.unit (s := S256x512) k0_off5 ![256, 128] k0_off5_inb, k0_pay30 (k0_pay22 xc) (k0_pay25 xc w0 g0) (k0_pay27 (k0_pay16 lam) xc w0 g0) (k0_pay28 (k0_pay15 lam) xc w0 g0)⟩]) (ix2 r q) = cellInput xc w g lam 0 r q := by
  refine read_slices v f _ _ _ _ (fun r q => cellInput xc w g lam 0 r q) (fun r q => ?_) (fun r q => ?_) (fun r q => ?_) (fun r q => ?_) r q
  · rw [input0_0, cellU_eq, gateIn_eq xc w g w0 g0 0 hw0 hg0, gateIn_eq xc w g w0 g0 0 hw0 hg0]; rfl
  · rw [input0_1, cellU_eq, gateIn_eq xc w g w1 g1 1 hw1 hg1, gateIn_eq xc w g w1 g1 1 hw1 hg1]; rfl
  · rw [input0_2, cellU_eq, gateIn_eq xc w g w2 g2 2 hw2 hg2, gateIn_eq xc w g w2 g2 2 hw2 hg2]; rfl
  · rw [input0_3, cellU_eq, gateIn_eq xc w g w3 g3 3 hw3 hg3, gateIn_eq xc w g w3 g3 3 hw3 hg3]; rfl

theorem decays1 : v.read (Elt Ideal) (v.writes (Elt Ideal) f [⟨Rect.unit (s := S256x512) k0_off8 ![256, 128] k0_off8_inb, k0_pay69 (k0_pay15 lam) (k0_pay61 (k0_pay60 xc) w3 g3)⟩, ⟨Rect.unit (s := S256x512) k0_off7 ![256, 128] k0_off7_inb, k0_pay57 (k0_pay15 lam) (k0_pay49 xc w2 g2)⟩,
      ⟨Rect.unit (s := S256x512) k0_off6 ![256, 128] k0_off6_inb, k0_pay46 (k0_pay15 lam) (k0_pay37 xc w1 g1)⟩, ⟨Rect.unit (s := S256x512) k0_off5 ![256, 128] k0_off5_inb, k0_pay34 (k0_pay15 lam) (k0_pay23 xc w0 g0)⟩]) (ix2 r q) = cellDecay xc w g lam 1 r q := by
  refine read_slices v f _ _ _ _ (fun r q => cellDecay xc w g lam 1 r q) (fun r q => ?_) (fun r q => ?_) (fun r q => ?_) (fun r q => ?_) r q
  · rw [decay1_0 _ (k0_pay16 lam), cellA_eq, gateIn_eq xc w g w0 g0 0 hw0 hg0]; rfl
  · rw [decay1_1 _ (k0_pay16 lam), cellA_eq, gateIn_eq xc w g w1 g1 1 hw1 hg1]; rfl
  · rw [decay1_2 _ (k0_pay16 lam), cellA_eq, gateIn_eq xc w g w2 g2 2 hw2 hg2]; rfl
  · rw [decay1_3 _ (k0_pay16 lam), cellA_eq, gateIn_eq xc w g w3 g3 3 hw3 hg3]; rfl

theorem inputs1 : v.read (Elt Ideal) (v.writes (Elt Ideal) f [⟨Rect.unit (s := S256x512) k0_off8 ![256, 128] k0_off8_inb, k0_pay70 (k0_pay15 lam) (k0_pay16 lam) (k0_pay59 xc) (k0_pay61 (k0_pay60 xc) w3 g3)⟩, ⟨Rect.unit (s := S256x512) k0_off7 ![256, 128] k0_off7_inb, k0_pay58 (k0_pay15 lam) (k0_pay16 lam) (k0_pay48 xc) (k0_pay49 xc w2 g2)⟩,
      ⟨Rect.unit (s := S256x512) k0_off6 ![256, 128] k0_off6_inb, k0_pay47 (k0_pay45 (k0_pay15 lam) (k0_pay16 lam) (k0_pay36 xc) (k0_pay37 xc w1 g1))⟩, ⟨Rect.unit (s := S256x512) k0_off5 ![256, 128] k0_off5_inb, k0_pay35 (k0_pay33 (k0_pay15 lam) (k0_pay16 lam) (k0_pay22 xc) (k0_pay23 xc w0 g0))⟩]) (ix2 r q) = cellInput xc w g lam 1 r q := by
  refine read_slices v f _ _ _ _ (fun r q => cellInput xc w g lam 1 r q) (fun r q => ?_) (fun r q => ?_) (fun r q => ?_) (fun r q => ?_) r q
  · rw [input1_0, cellU_eq, gateIn_eq xc w g w0 g0 0 hw0 hg0, gateIn_eq xc w g w0 g0 0 hw0 hg0]; rfl
  · rw [input1_1, cellU_eq, gateIn_eq xc w g w1 g1 1 hw1 hg1, gateIn_eq xc w g w1 g1 1 hw1 hg1]; rfl
  · rw [input1_2, cellU_eq, gateIn_eq xc w g w2 g2 2 hw2 hg2, gateIn_eq xc w g w2 g2 2 hw2 hg2]; rfl
  · rw [input1_3, cellU_eq, gateIn_eq xc w g w3 g3 3 hw3 hg3, gateIn_eq xc w g w3 g3 3 hw3 hg3]; rfl

end

end Cert.KernelRglruIdeal.St

end
-- ==== Proof.RgPoint.lean ====
module

public import proofs.«01_k».proof.Proof.Gen.KernelRglruIdeal.Frame
public import proofs.«01_k».proof.Proof.RgTile
public import Idealize.ShloMosaic.Lib.Pipeline.ValueKit
public import Idealize.ShloMosaic.Lib.Pipeline.ReadBack
public import Idealize.ShloMosaic.Lib.Pointwise

@[expose] public section

set_option maxRecDepth 16384

noncomputable section

/-! What a grid point leaves in the state array: both directions' last state over the point's blocks. -/

namespace Cert.KernelRglruIdeal.St

open Cert.KernelRglruIdeal Cert.KernelRglruIdeal.Gen Idealize.ShloMosaic Idealize.ShloMosaic.TcCoe Idealize.SL.Sem Cert.Rglru Cert.Gla
open Idealize.ShloMosaic.Pipeline (Dat Window)

/-- The four taps over a block's rows. -/
def tapsOf (b0 : Vec Ideal S1x256x512 .bf16) (b2 : Vec Ideal S4x512 .f32) (b3 : Vec Ideal S1x512 .f32) : FVec Ideal S256x512 .f32 := fun i =>
  tapped (fun n => b0 (ix3 0 n (i 1))) (fun k => b2 (ix2 k (i 1))) (b3 (ix2 0 (i 1))) (i 0)

theorem not_rows {o h : ℕ} (inb) (p : Fin 272) (q : Fin 512) (hp : p.val < o ∨ o + h ≤ p.val) :
    (ix2 p q : S272x512.Idx) ∉ (Rect.unit (s := S272x512) ![o, 0] ![h, 512] inb).set := by
  rw [Rect.mem_set_unit]
  intro hall
  have : o ≤ p.val ∧ p.val < o + h := hall 0
  omega

theorem in_rows {o h : ℕ} (inb) (p : Fin 272) (q : Fin 512) (r : Fin h) (hp : p.val = o + r.val) :
    (Rect.unit (s := S272x512) ![o, 0] ![h, 512] inb).emb (ix2 r q) = (ix2 p q : S272x512.Idx) := by
  funext a
  apply Fin.ext
  fin_cases a
  · show o + 1 * r.val = p.val
    omega
  · show 0 + 1 * q.val = q.val
    omega

theorem canon_at {s : Shape} {e : EltTy} (r : Rect s) (w : r.shape.Idx → Elt Ideal e) (L : List (View.Piece (Elt Ideal) s e)) (j : r.shape.Idx) (y : s.Idx) (h : r.emb j = y) :
    View.canon (⟨r, w⟩ :: L) y = w j := by
  subst h
  exact View.canon_cons_emb r w L j

theorem canon_off {s : Shape} {e : EltTy} (r : Rect s) (w : r.shape.Idx → Elt Ideal e) (L : List (View.Piece (Elt Ideal) s e)) (y : s.Idx) (h : y ∉ r.set) :
    View.canon (⟨r, w⟩ :: L) y = View.canon L y := View.canon_cons_of_not_mem ⟨r, w⟩ L h

theorem pad_read (v : View sig .tc .vmem S272x512 .f32) (x : FVec Ideal S256x512 .f32) (z z' : FVec Ideal S8x512 .f32) (hz : ∀ i, z i = 0) (hz' : ∀ i, z' i = 0) (i2 i3 i1 i0) (p : Fin 272) (q : Fin 512) :
    v.readCov (Val := Elt Ideal) [⟨Rect.unit (s := S272x512) k0_off2 ![256, 512] i2, x⟩, ⟨Rect.unit (s := S272x512) ![264, 0] ![8, 512] i1, z⟩, ⟨Rect.unit (s := S272x512) ![0, 0] ![8, 512] i0, z'⟩]
        (Rect.unit (s := S272x512) k0_off3 ![272, 512] i3).toLoadRect (ix2 p q)
      = if h : 8 ≤ p.val ∧ p.val < 264 then x (ix2 ⟨p.val - 8, by omega⟩ q) else 0 := by
  have e2 := k0_off2_eq
  have e3 := k0_off3_eq
  generalize k0_off2 = o2 at e2 i2
  generalize k0_off3 = o3 at e3 i3
  subst e2 e3
  rw [View.readCov_eq_canon']
  have hB : (Rect.unit (s := S272x512) ![0, 0] ![272, 512] i3).toLoadRect.idx (ix2 p q) = (ix2 p q : S272x512.Idx) := by
    funext a
    apply Fin.ext
    rw [LoadRect.idx_apply]
    fin_cases a <;> simp
  show View.canon _ ((Rect.unit (s := S272x512) ![0, 0] ![272, 512] i3).toLoadRect.idx (ix2 p q)) = _
  rw [hB]
  by_cases h : 8 ≤ p.val ∧ p.val < 264
  · rw [dif_pos h]
    exact canon_at (e := .f32) (Rect.unit (s := S272x512) ![8, 0] ![256, 512] i2) x _ (ix2 (⟨p.val - 8, by omega⟩ : Fin 256) q) (ix2 p q) (in_rows i2 p q ⟨p.val - 8, by omega⟩ (by show p.val = 8 + (p.val - 8); omega))
  · rw [dif_neg h]
    refine (canon_off (e := .f32) (Rect.unit (s := S272x512) ![8, 0] ![256, 512] i2) x _ (ix2 p q) (not_rows i2 p q (by omega))).trans ?_
    by_cases h' : p.val < 8
    · refine (canon_off (e := .f32) (Rect.unit (s := S272x512) ![264, 0] ![8, 512] i1) z _ (ix2 p q) (not_rows i1 p q (by omega))).trans ?_
      exact (canon_at (e := .f32) (Rect.unit (s := S272x512) ![0, 0] ![8, 512] i0) z' _ (ix2 (⟨p.val, h'⟩ : Fin 8) q) (ix2 p q) (in_rows i0 p q ⟨p.val, h'⟩ (by show p.val = 0 + p.val; omega))).trans (hz' _)
    · exact (canon_at (e := .f32) (Rect.unit (s := S272x512) ![264, 0] ![8, 512] i1) z _ (ix2 (⟨p.val - 264, by omega⟩ : Fin 8) q) (ix2 p q) (in_rows i1 p q ⟨p.val - 264, by omega⟩ (by show p.val = 264 + (p.val - 264); omega))).trans (hz _)

theorem row_read (b : Vec Ideal S4x512 .f32) (k : Fin 4) (inb) (q : Fin 512) :
    View.ld b (Rect.unit (s := S4x512) ![k.val, 0] ![1, 512] inb) (ix2 0 q) = b (ix2 k q) := by
  refine congrArg b (funext fun a => Fin.ext ?_)
  fin_cases a <;> simp [LoadRect.idx_apply]

theorem nothing12 (i : S8x512.Idx) : k0_pay12 (F := Ideal) i = 0 := by
  idx_vars i
  pointwise [k0_pay12]
theorem nothing11 (i : S8x512.Idx) : k0_pay11 (F := Ideal) i = 0 := by
  idx_vars i
  pointwise [k0_pay11]

theorem taps_at (x : Vec Ideal S272x512 .f32) (k0 k1 k2 k3 b : Vec Ideal S1x512 .f32) (r : Fin 256) (q : Fin 512) :
    k0_pay17 x k0 k1 k2 k3 b (ix2 r q)
      = x (ix2 ⟨6 + r.val, by omega⟩ q) * k0 (ix2 0 q) + x (ix2 ⟨7 + r.val, by omega⟩ q) * k1 (ix2 0 q) + x (ix2 ⟨8 + r.val, by omega⟩ q) * k2 (ix2 0 q) + x (ix2 ⟨9 + r.val, by omega⟩ q) * k3 (ix2 0 q)
        + b (ix2 0 q) := by
  pointwise [k0_pay17]
  have h0 : (8 + r.val + 272 - 2) % 272 = 6 + r.val := by omega
  have h1 : (8 + r.val + 272 - 1) % 272 = 7 + r.val := by omega
  have h3 : (8 + r.val + 272 - 271) % 272 = 9 + r.val := by omega
  simp only [h0, h1, h3, mul_comm (k0 _), mul_comm (k1 _), mul_comm (k2 _), mul_comm (k3 _)]

theorem taps_eq (v : View sig .tc .vmem S272x512 .f32) (b0 : Vec Ideal S1x256x512 .bf16) (b2 : Vec Ideal S4x512 .f32) (b3 : Vec Ideal S1x512 .f32) :
    k0_pay17 (v.readCov (Val := Elt Ideal) [⟨Rect.unit (s := S272x512) k0_off2 ![256, 512] k0_off2_inb, k0_pay13 b0⟩, ⟨Rect.unit (s := S272x512) ![264, 0] ![8, 512] inb_S272x512_S8x512_264_0, k0_pay12 (F := Ideal)⟩,
          ⟨Rect.unit (s := S272x512) ![0, 0] ![8, 512] inb_S272x512_S8x512_0_0, k0_pay11 (F := Ideal)⟩] (Rect.unit (s := S272x512) k0_off3 ![272, 512] k0_off3_inb).toLoadRect)
      (View.ld b2 (Rect.unit (s := S4x512) ![0, 0] ![1, 512] inb_S4x512_S1x512_0_0)) (View.ld b2 (Rect.unit (s := S4x512) ![1, 0] ![1, 512] inb_S4x512_S1x512_1_0))
      (View.ld b2 (Rect.unit (s := S4x512) ![2, 0] ![1, 512] inb_S4x512_S1x512_2_0)) (View.ld b2 (Rect.unit (s := S4x512) ![3, 0] ![1, 512] inb_S4x512_S1x512_3_0)) b3
      = tapsOf b0 b2 b3 := by
  funext i
  obtain ⟨r, q, rfl⟩ : ∃ (r : Fin 256) (q : Fin 512), i = ix2 r q := ⟨i 0, i 1, eq_ix2 i⟩
  have row : ∀ (n : ℕ) (hn : n < 4) (h : 6 + n + r.val < 272),
      v.readCov (Val := Elt Ideal) [⟨Rect.unit (s := S272x512) k0_off2 ![256, 512] k0_off2_inb, k0_pay13 b0⟩, ⟨Rect.unit (s := S272x512) ![264, 0] ![8, 512] inb_S272x512_S8x512_264_0, k0_pay12 (F := Ideal)⟩,
          ⟨Rect.unit (s := S272x512) ![0, 0] ![8, 512] inb_S272x512_S8x512_0_0, k0_pay11 (F := Ideal)⟩] (Rect.unit (s := S272x512) k0_off3 ![272, 512] k0_off3_inb).toLoadRect (ix2 ⟨6 + n + r.val, h⟩ q)
        = padRow (fun n => b0 (ix3 0 n q)) (r.val + n) := by
    intro n hn h
    rw [pad_read v _ _ _ nothing12 nothing11, padRow]
    by_cases h' : 2 ≤ r.val + n ∧ r.val + n < 258
    · rw [dif_pos h', dif_pos (by show 8 ≤ 6 + n + r.val ∧ 6 + n + r.val < 264; omega)]
      have e : ∀ s : Fin 256, k0_pay13 b0 (ix2 s q) = b0 (ix3 0 s q) := fun s => by pointwise [k0_pay13]
      rw [e]
      exact congrArg (fun s => b0 (ix3 0 s q)) (Fin.ext (by show 6 + n + r.val - 8 = r.val + n - 2; omega))
    · rw [dif_neg h', dif_neg (by show ¬ (8 ≤ 6 + n + r.val ∧ 6 + n + r.val < 264); omega)]
  have r0 := row 0 (by omega) (by omega)
  have r1 := row 1 (by omega) (by omega)
  have r2 := row 2 (by omega) (by omega)
  have r3 := row 3 (by omega) (by omega)
  rw [taps_at]
  simp only [Nat.reduceAdd, Nat.add_zero] at r0 r1 r2 r3
  rw [r0, r1, r2, r3]
  have q0 : View.ld b2 (Rect.unit (s := S4x512) ![0, 0] ![1, 512] inb_S4x512_S1x512_0_0) (ix2 0 q) = b2 (ix2 0 q) := row_read b2 0 _ q
  have q1 : View.ld b2 (Rect.unit (s := S4x512) ![1, 0] ![1, 512] inb_S4x512_S1x512_1_0) (ix2 0 q) = b2 (ix2 1 q) := row_read b2 1 _ q
  have q2 : View.ld b2 (Rect.unit (s := S4x512) ![2, 0] ![1, 512] inb_S4x512_S1x512_2_0) (ix2 0 q) = b2 (ix2 2 q) := row_read b2 2 _ q
  have q3 : View.ld b2 (Rect.unit (s := S4x512) ![3, 0] ![1, 512] inb_S4x512_S1x512_3_0) (ix2 0 q) = b2 (ix2 3 q) := row_read b2 3 _ q
  rw [q0, q1, q2, q3]
  rfl

variable (m : (ℓ : Loc nD τ sig) → Buf (Elt Ideal) ℓ) (c : Dev nD)

theorem zero71 (q : Fin 512) : k0_pay71 (F := Ideal) (ix2 0 q) = 0 := by pointwise [k0_pay71]
theorem zero72 (q : Fin 512) : k0_pay72 (F := Ideal) (ix2 0 q) = 0 := by pointwise [k0_pay72]
theorem out6 (v : FVec Ideal S1x512 .f32) (q : Fin 512) : k0_pay6 v (ix3 0 0 q) = v (ix2 0 q) := by pointwise [k0_pay6]
theorem out7 (v : FVec Ideal S1x512 .f32) (q : Fin 512) : k0_pay7 v (ix3 0 0 q) = v (ix2 0 q) := by pointwise [k0_pay7]

set_option maxHeartbeats 1000000 in
theorem contents (t : Fin cfg0.N) (y0 : Fin 1) (y1 : Fin 2) (y2 : Fin 512) :
    (outsAt0 m c t).2 (ix3 y0 y1 y2) = tileState (tapsOf (iblk m c 0 t) (iblk m c 2 t) (iblk m c 3 t)) (iblk m c 4 t) (iblk m c 5 t) (iblk m c 6 t) y1 y2 := by
  unfold outsAt0
  generalize iblk m c 0 t = b0
  generalize iblk m c 1 t = b1
  generalize iblk m c 2 t = b2
  generalize iblk m c 3 t = b3
  generalize iblk m c 4 t = b4
  generalize iblk m c 5 t = b5
  generalize iblk m c 6 t = b6
  frame_open
  simp (disch := decide) only [↓ View.readCov_skip, ↓ View.readCov_cons_toLoadRect, ↓ View.readCov_fill]
  frame_out
  generalize hx : k0_pay17 (F := Ideal) _ _ _ _ _ _ = xc
  have hxc : tapsOf b0 b2 b3 = xc := (taps_eq _ b0 b2 b3).symm.trans hx
  clear hx
  rw [hxc]
  clear hxc
  generalize hw0 : View.ld b4 (Rect.unit ![0, 0, 0] ![1, 128, 512] inb_S4x128x512_S1x128x512_0_0_0) = w0
  generalize hw1 : View.ld b4 (Rect.unit ![1, 0, 0] ![1, 128, 512] inb_S4x128x512_S1x128x512_1_0_0) = w1
  generalize hw2 : View.ld b4 (Rect.unit ![2, 0, 0] ![1, 128, 512] inb_S4x128x512_S1x128x512_2_0_0) = w2
  generalize hw3 : View.ld b4 (Rect.unit ![3, 0, 0] ![1, 128, 512] inb_S4x128x512_S1x128x512_3_0_0) = w3
  generalize hg0 : View.ld b5 (Rect.unit ![0, 0, 0] ![1, 1, 512] inb_S4x1x512_S1x1x512_0_0_0) = g0
  generalize hg1 : View.ld b5 (Rect.unit ![1, 0, 0] ![1, 1, 512] inb_S4x1x512_S1x1x512_1_0_0) = g1
  generalize hg2 : View.ld b5 (Rect.unit ![2, 0, 0] ![1, 1, 512] inb_S4x1x512_S1x1x512_2_0_0) = g2
  generalize hg3 : View.ld b5 (Rect.unit ![3, 0, 0] ![1, 1, 512] inb_S4x1x512_S1x1x512_3_0_0) = g3
  have w0' : ∀ x y, w0 (ix3 0 x y) = b4 (ix3 0 x y) := fun x y => by rw [← hw0]; exact slice_w b4 0 _ x y
  have w1' : ∀ x y, w1 (ix3 0 x y) = b4 (ix3 1 x y) := fun x y => by rw [← hw1]; exact slice_w b4 1 _ x y
  have w2' : ∀ x y, w2 (ix3 0 x y) = b4 (ix3 2 x y) := fun x y => by rw [← hw2]; exact slice_w b4 2 _ x y
  have w3' : ∀ x y, w3 (ix3 0 x y) = b4 (ix3 3 x y) := fun x y => by rw [← hw3]; exact slice_w b4 3 _ x y
  have g0' : ∀ y, g0 (ix3 0 0 y) = b5 (ix3 0 0 y) := fun y => by rw [← hg0]; exact slice_g b5 0 _ y
  have g1' : ∀ y, g1 (ix3 0 0 y) = b5 (ix3 1 0 y) := fun y => by rw [← hg1]; exact slice_g b5 1 _ y
  have g2' : ∀ y, g2 (ix3 0 0 y) = b5 (ix3 2 0 y) := fun y => by rw [← hg2]; exact slice_g b5 2 _ y
  have g3' : ∀ y, g3 (ix3 0 0 y) = b5 (ix3 3 0 y) := fun y => by rw [← hg3]; exact slice_g b5 3 _ y
  clear hw0 hw1 hw2 hw3 hg0 hg1 hg2 hg3
  have tr1 : Scf.trips (0#32) (Scalar.addi 0#32 32#32) 1#32 = 32 := by decide +kernel
  have tr2 : Scf.trips (0#32) (Scalar.addi 0#32 16#32) 1#32 = 16 := by decide +kernel
  rw [tr1, tr2]
  canon_tiles x h
  · obtain rfl : y1 = 1 := Fin.ext (by have e : y1.val = 1 + (x 1).val := h1; show y1.val = 1; omega)
    obtain rfl : x = ix3 0 0 y2 := funext fun a => by
      fin_cases a
      · exact Subsingleton.elim (α := Fin 1) _ _
      · exact Subsingleton.elim (α := Fin 1) _ _
      · exact Fin.ext h2.symm
    have hA := fun r q => decays1 (View.whole cc0_scratch3) (View.whole cc0_scratch3).junk xc b4 b5 b6 w0 w1 w2 w3 g0 g1 g2 g3 w0' w1' w2' w3' g0' g1' g2' g3' r q
    have hU := fun r q => inputs1 (View.whole cc0_scratch4) (View.whole cc0_scratch4).junk xc b4 b5 b6 w0 w1 w2 w3 g0 g1 g2 g3 w0' w1' w2' w3' g0' g1' g2' g3' r q
    rw [out7]
    refine (loop2 (k := 16) (hk := le_refl 16) (q := y2) (hX := ?_) ..).trans ?_
    · intro r q
      exact (congrArg Decay (hA r q)).mpr (decayOf_decay _ _ (logSigmoid_ne_top _))
    · unfold tileState
      rw [zero72]
      refine lin_congr 0 256 (fun k hk => ?_) (fun k hk => ?_)
      · unfold loc
        rw [dif_pos hk, dif_pos hk]
        exact hA _ _
      · unfold loc
        rw [dif_pos hk, dif_pos hk]
        exact hU _ _
  · obtain rfl : y1 = 0 := Fin.ext (by have e : y1.val = (x 1).val := h1; show y1.val = 0; omega)
    obtain rfl : x = ix3 0 0 y2 := funext fun a => by
      fin_cases a
      · exact Subsingleton.elim (α := Fin 1) _ _
      · exact Subsingleton.elim (α := Fin 1) _ _
      · exact Fin.ext h2.symm
    have hA := fun r q => decays0 (View.whole cc0_scratch1) (View.whole cc0_scratch1).junk xc b4 b5 b6 w0 w1 w2 w3 g0 g1 g2 g3 w0' w1' w2' w3' g0' g1' g2' g3' r q
    have hU := fun r q => inputs0 (View.whole cc0_scratch2) (View.whole cc0_scratch2).junk xc b4 b5 b6 w0 w1 w2 w3 g0 g1 g2 g3 w0' w1' w2' w3' g0' g1' g2' g3' r q
    rw [out6]
    refine ((loop1 (k := 32) (hk := le_refl 32) (hX := ?_) ..).1 y2).trans ?_
    · intro r q
      exact (congrArg Decay (hA r q)).mpr (decayOf_decay _ _ (logSigmoid_ne_top _))
    · unfold tileState
      rw [zero71]
      refine lin_congr 0 256 (fun k hk => ?_) (fun k hk => ?_)
      · unfold col
        rw [dif_pos hk, dif_pos hk]
        exact hA _ _
      · unfold col
        rw [dif_pos hk, dif_pos hk]
        exact hU _ _

end Cert.KernelRglruIdeal.St

end
-- ==== Proof.RgHost.lean ====
module

public import proofs.«01_k».proof.Proof.Gen.KernelRglruIdeal.Frame
public import Idealize.ShloMosaic.Lib.Pipeline.ValueKit
public import Idealize.ShloMosaic.Lib.Pointwise
public import Idealize.ShloMosaic.Lib.StableHlo.ReadAt
public import Idealize.ShloMosaic.Lib.Pipeline.ReadBack

@[expose] public section

set_option maxRecDepth 16384

noncomputable section

/-! The blocks of the tiled form at a grid point, and the gates' weights and biases laid side by side. -/

namespace Cert.KernelRglruIdeal.St

open Cert.KernelRglruIdeal Cert.KernelRglruIdeal.Gen Idealize.ShloMosaic Idealize.ShloMosaic.TcCoe Idealize.SL.Sem
open Idealize.ShloMosaic.Pipeline (Dat Window)

variable (m : (ℓ : Loc nD τ sig) → Buf (Elt Ideal) ℓ) (c : Dev nD)

theorem at_point : ∀ t : Fin cfg0.N,
    win0_0.index t = ![t.val / 4, 0, 12 + t.val % 4] ∧ win0_2.index t = ![0, t.val % 4] ∧ win0_3.index t = ![0, t.val % 4]
      ∧ win0_4.index t = ![t.val % 4, 0, 0] ∧ win0_5.index t = ![t.val % 4, 0, 0] ∧ win0_6.index t = ![0, t.val % 4]
      ∧ win0_8.index t = ![t.val / 4, 0, t.val % 4] := by
  decide +kernel

theorem point_lt (t : Fin cfg0.N) : t.val < 128 := lt_of_lt_of_eq t.isLt N_0

/-- The batch entry and the column block of a grid point. -/
def entry (t : Fin cfg0.N) : Fin 32 := ⟨t.val / 4, by have := point_lt t; omega⟩
def part (t : Fin cfg0.N) : Fin 4 := ⟨t.val % 4, by omega⟩

theorem x_block (t : Fin cfg0.N) (s : Fin 256) (q : Fin 512) :
    iblk m c 0 t (ix3 (0 : Fin 1) s q) = m ((c : Thread nD τ).loc main_arg0) (ix3 (entry t) s (⟨6144 + (512 * (part t).val + q.val), by omega⟩ : Fin 10240)) := by
  blk_ext [iblk, V, at_point t, entry, part]

theorem k_block (t : Fin cfg0.N) (i : Fin 4) (q : Fin 512) :
    iblk m c 2 t (ix2 i q) = m ((c : Thread nD τ).loc main_arg1) (ix2 i (⟨512 * (part t).val + q.val, by omega⟩ : Fin 2048)) := by
  blk_ext [iblk, V, at_point t, part]

theorem b_block (t : Fin cfg0.N) (q : Fin 512) :
    iblk m c 3 t (ix2 (0 : Fin 1) q) = m ((c : Thread nD τ).loc main_arg2) (ix2 (0 : Fin 1) (⟨512 * (part t).val + q.val, by omega⟩ : Fin 2048)) := by
  blk_ext [iblk, V, at_point t, part]

theorem l_block (t : Fin cfg0.N) (d : Fin 2) (q : Fin 512) :
    iblk m c 6 t (ix2 d q) = m ((c : Thread nD τ).loc main_arg7) (ix2 d (⟨512 * (part t).val + q.val, by omega⟩ : Fin 2048)) := by
  blk_ext [iblk, V, at_point t, part]

theorem w_block (t : Fin cfg0.N) (j : Fin 4) (x : Fin 128) (y : Fin 512) :
    iblk m c 4 t (ix3 j x y) = V m c main_v9 (ix3 (⟨4 * (part t).val + j.val, by omega⟩ : Fin 16) x y) := by
  unfold iblk
  generalize V m c = W
  blk_ext [at_point t, part]

theorem g_block (t : Fin cfg0.N) (j : Fin 4) (y : Fin 512) :
    iblk m c 5 t (ix3 j (0 : Fin 1) y) = V m c main_v22 (ix3 (⟨4 * (part t).val + j.val, by omega⟩ : Fin 16) (0 : Fin 1) y) := by
  unfold iblk
  generalize V m c = W
  blk_ext [at_point t, part]

/-- One direction's matrices out of the two. -/
def mats0 (w : Vec Ideal S2x16x128x128 .f32) : S16x128x128.Idx → EReal :=
  shapeCast S16x128x128 (extractStridedSlice S1x16x128x128 ![0, 0, 0, 0] w slices_S2x16x128x128_S1x16x128x128_0_0_0_0) shapeCasts_S1x16x128x128_S16x128x128
def mats1 (w : Vec Ideal S2x16x128x128 .f32) : S16x128x128.Idx → EReal :=
  shapeCast S16x128x128 (extractStridedSlice S1x16x128x128 ![1, 0, 0, 0] w slices_S2x16x128x128_S1x16x128x128_1_0_0_0) shapeCasts_S1x16x128x128_S16x128x128
theorem mats0_at (w : Vec Ideal S2x16x128x128 .f32) (b : Fin 16) (x y : Fin 128) : mats0 w (ix3 b x y) = w (ix4 0 b x y) := by
  unfold mats0
  pointwise
theorem mats1_at (w : Vec Ideal S2x16x128x128 .f32) (b : Fin 16) (x y : Fin 128) : mats1 w (ix3 b x y) = w (ix4 1 b x y) := by
  unfold mats1
  pointwise

/-- One direction's biases out of the two, a block of 128 each. -/
def bias0 (u : Vec Ideal S2x2048 .f32) : S16x1x128.Idx → EReal :=
  shapeCast S16x1x128 (shapeCast S2048 (extractStridedSlice S1x2048 ![0, 0] u slices_S2x2048_S1x2048_0_0) shapeCasts_S1x2048_S2048) shapeCasts_S2048_S16x1x128
def bias1 (u : Vec Ideal S2x2048 .f32) : S16x1x128.Idx → EReal :=
  shapeCast S16x1x128 (shapeCast S2048 (extractStridedSlice S1x2048 ![1, 0] u slices_S2x2048_S1x2048_1_0) shapeCasts_S1x2048_S2048) shapeCasts_S2048_S16x1x128
theorem bias0_at (u : Vec Ideal S2x2048 .f32) (b : Fin 16) (y : Fin 128) : bias0 u (ix3 b (0 : Fin 1) y) = u (ix2 (0 : Fin 2) (⟨128 * b.val + y.val, by omega⟩ : Fin 2048)) := by
  unfold bias0
  pointwise
  try simp only [Nat.mul_comm]
theorem bias1_at (u : Vec Ideal S2x2048 .f32) (b : Fin 16) (y : Fin 128) : bias1 u (ix3 b (0 : Fin 1) y) = u (ix2 (1 : Fin 2) (⟨128 * b.val + y.val, by omega⟩ : Fin 2048)) := by
  unfold bias1
  pointwise
  try simp only [Nat.mul_comm]

def side (a b d e : S16x128x128.Idx → EReal) : S16x128x512.Idx → EReal :=
  concatenate S16x128x512 2 [⟨S16x128x128, a⟩, ⟨S16x128x128, b⟩, ⟨S16x128x128, d⟩, ⟨S16x128x128, e⟩] concatenates_S16x128x128_S16x128x128_S16x128x128_S16x128x128_S16x128x512_d2
def beside (a b d e : S16x1x128.Idx → EReal) : S16x1x512.Idx → EReal :=
  concatenate S16x1x512 2 [⟨S16x1x128, a⟩, ⟨S16x1x128, b⟩, ⟨S16x1x128, d⟩, ⟨S16x1x128, e⟩] concatenates_S16x1x128_S16x1x128_S16x1x128_S16x1x128_S16x1x512_d2

theorem weights_eq : (V m c main_v9 : S16x128x512.Idx → EReal)
      = side (mats0 (m ((c : Thread nD τ).loc main_arg3))) (mats1 (m ((c : Thread nD τ).loc main_arg3))) (mats0 (m ((c : Thread nD τ).loc main_arg4))) (mats1 (m ((c : Thread nD τ).loc main_arg4))) := by
  unfold V
  simp only [hostOps0, List.flatten_cons, List.flatten_nil, List.append_nil, List.cons_append, List.nil_append]
  after_results
  rfl

theorem biases_eq : (V m c main_v22 : S16x1x512.Idx → EReal)
      = beside (bias0 (m ((c : Thread nD τ).loc main_arg5))) (bias1 (m ((c : Thread nD τ).loc main_arg5))) (bias0 (m ((c : Thread nD τ).loc main_arg6))) (bias1 (m ((c : Thread nD τ).loc main_arg6))) := by
  unfold V
  simp only [hostOps0, List.flatten_cons, List.flatten_nil, List.append_nil, List.cons_append, List.nil_append]
  after_results
  rfl

section
variable (a b d e : S16x128x128.Idx → EReal) (p : Fin 16) (x y : Fin 128) (z : Fin 512)
theorem side0 (h : z.val = 0 + y.val) : side a b d e (ix3 p x z) = a (ix3 p x y) := by
  unfold side
  pointwise
  rw [dif_pos (by omega)]
  exact congrArg (fun t => a (ix3 p x t)) (Fin.ext (by show z.val = y.val; omega))
theorem side1 (h : z.val = 128 + y.val) : side a b d e (ix3 p x z) = b (ix3 p x y) := by
  unfold side
  pointwise
  rw [dif_neg (by omega)]
  rw [dif_pos (by omega)]
  exact congrArg (fun t => b (ix3 p x t)) (Fin.ext (by show z.val - 128 = y.val; omega))
theorem side2 (h : z.val = 256 + y.val) : side a b d e (ix3 p x z) = d (ix3 p x y) := by
  unfold side
  pointwise
  rw [dif_neg (by omega)]
  rw [dif_neg (by omega)]
  rw [dif_pos (by omega)]
  exact congrArg (fun t => d (ix3 p x t)) (Fin.ext (by show z.val - 128 - 128 = y.val; omega))
theorem side3 (h : z.val = 384 + y.val) : side a b d e (ix3 p x z) = e (ix3 p x y) := by
  unfold side
  pointwise
  rw [dif_neg (by omega)]
  rw [dif_neg (by omega)]
  rw [dif_neg (by omega)]
  exact congrArg (fun t => e (ix3 p x t)) (Fin.ext (by show z.val - 128 - 128 - 128 = y.val; omega))
end

section
variable (a b d e : S16x1x128.Idx → EReal) (p : Fin 16) (y : Fin 128) (z : Fin 512)
theorem beside0 (h : z.val = 0 + y.val) : beside a b d e (ix3 p (0 : Fin 1) z) = a (ix3 p (0 : Fin 1) y) := by
  unfold beside
  pointwise
  rw [dif_pos (by omega)]
  exact congrArg (fun t => a (ix3 p (0 : Fin 1) t)) (Fin.ext (by show z.val = y.val; omega))
theorem beside1 (h : z.val = 128 + y.val) : beside a b d e (ix3 p (0 : Fin 1) z) = b (ix3 p (0 : Fin 1) y) := by
  unfold beside
  pointwise
  rw [dif_neg (by omega)]
  rw [dif_pos (by omega)]
  exact congrArg (fun t => b (ix3 p (0 : Fin 1) t)) (Fin.ext (by show z.val - 128 = y.val; omega))
theorem beside2 (h : z.val = 256 + y.val) : beside a b d e (ix3 p (0 : Fin 1) z) = d (ix3 p (0 : Fin 1) y) := by
  unfold beside
  pointwise
  rw [dif_neg (by omega)]
  rw [dif_neg (by omega)]
  rw [dif_pos (by omega)]
  exact congrArg (fun t => d (ix3 p (0 : Fin 1) t)) (Fin.ext (by show z.val - 128 - 128 = y.val; omega))
theorem beside3 (h : z.val = 384 + y.val) : beside a b d e (ix3 p (0 : Fin 1) z) = e (ix3 p (0 : Fin 1) y) := by
  unfold beside
  pointwise
  rw [dif_neg (by omega)]
  rw [dif_neg (by omega)]
  rw [dif_neg (by omega)]
  exact congrArg (fun t => e (ix3 p (0 : Fin 1) t)) (Fin.ext (by show z.val - 128 - 128 - 128 = y.val; omega))
end

section
variable (d : Fin 2) (p : Fin 16) (x y : Fin 128) (z : Fin 512)
theorem weights_first (h : z.val = 128 * d.val + y.val) : V m c main_v9 (ix3 p x z) = m ((c : Thread nD τ).loc main_arg3) (ix4 d p x y) := by
  refine (congrFun (weights_eq m c) (ix3 p x z)).trans ?_
  fin_cases d
  · exact (side0 _ _ _ _ p x y z (by simpa using h)).trans (mats0_at _ p x y)
  · exact (side1 _ _ _ _ p x y z (by simpa using h)).trans (mats1_at _ p x y)
theorem weights_second (h : z.val = 256 + 128 * d.val + y.val) : V m c main_v9 (ix3 p x z) = m ((c : Thread nD τ).loc main_arg4) (ix4 d p x y) := by
  refine (congrFun (weights_eq m c) (ix3 p x z)).trans ?_
  fin_cases d
  · exact (side2 _ _ _ _ p x y z (by simpa using h)).trans (mats0_at _ p x y)
  · exact (side3 _ _ _ _ p x y z (by simpa using h)).trans (mats1_at _ p x y)
theorem biases_first (h : z.val = 128 * d.val + y.val) : V m c main_v22 (ix3 p (0 : Fin 1) z) = m ((c : Thread nD τ).loc main_arg5) (ix2 d (⟨128 * p.val + y.val, by omega⟩ : Fin 2048)) := by
  refine (congrFun (biases_eq m c) (ix3 p (0 : Fin 1) z)).trans ?_
  fin_cases d
  · exact (beside0 _ _ _ _ p y z (by simpa using h)).trans (bias0_at _ p y)
  · exact (beside1 _ _ _ _ p y z (by simpa using h)).trans (bias1_at _ p y)
theorem biases_second (h : z.val = 256 + 128 * d.val + y.val) : V m c main_v22 (ix3 p (0 : Fin 1) z) = m ((c : Thread nD τ).loc main_arg6) (ix2 d (⟨128 * p.val + y.val, by omega⟩ : Fin 2048)) := by
  refine (congrFun (biases_eq m c) (ix3 p (0 : Fin 1) z)).trans ?_
  fin_cases d
  · exact (beside2 _ _ _ _ p y z (by simpa using h)).trans (bias0_at _ p y)
  · exact (beside3 _ _ _ _ p y z (by simpa using h)).trans (bias1_at _ p y)
end

end Cert.KernelRglruIdeal.St

end
-- ==== Proof.RgResult.lean ====
module

public import proofs.«01_k».proof.Proof.RgPoint
public import proofs.«01_k».proof.Proof.RgHost
public import proofs.«01_k».proof.Proof.RgSpec
public import Idealize.ShloMosaic.Lib.Claim

@[expose] public section

set_option maxRecDepth 16384

noncomputable section

/-! The tiled form's last state as one array over its arguments, and its run. -/

namespace Cert.KernelRglruIdeal.St

open Cert.KernelRglruIdeal Cert.KernelRglruIdeal.Gen Idealize.ShloMosaic Idealize.ShloMosaic.TcCoe Idealize.SL.Sem
open Cert.Rglru Cert.Gla
open Idealize.ShloMosaic.Pipeline (Dat Window)

variable (m : (ℓ : Loc nD τ sig) → Buf (Elt Ideal) ℓ) (ρ : Dev nD → PrngReg) (c : Dev nD)

/-- The taps over the argument arrays. -/
def convAt (n : Fin 32) (r : Fin 256) (q : Fin 2048) : EReal :=
  convOf (fun n s j => m ((c : Thread nD τ).loc main_arg0) (ix3 n s j)) (fun i q => m ((c : Thread nD τ).loc main_arg1) (ix2 i q)) (fun q => m ((c : Thread nD τ).loc main_arg2) (ix2 (0 : Fin 1) q)) n r q

/-- One entry of the result, over the argument arrays. -/
def entryAt (n : Fin 32) (d : Fin 2) (q : Fin 2048) : EReal :=
  lastState (convAt m c n) (fun d p i j => m ((c : Thread nD τ).loc main_arg3) (ix4 d p i j)) (fun d p i j => m ((c : Thread nD τ).loc main_arg4) (ix4 d p i j))
    (fun d q => m ((c : Thread nD τ).loc main_arg5) (ix2 d q)) (fun d q => m ((c : Thread nD τ).loc main_arg6) (ix2 d q)) (fun d q => m ((c : Thread nD τ).loc main_arg7) (ix2 d q)) d q

/-- The result: both directions' last states. -/
def result : Vec Ideal S32x2x2048 .f32 := fun i => entryAt m c (i 0) (i 1) (i 2)

/-- The column of a grid point's block. -/
def column (t : Fin cfg0.N) (q : Fin 512) : Fin 2048 := ⟨512 * (part t).val + q.val, by omega⟩

theorem taps_block (t : Fin cfg0.N) (r : Fin 256) (q : Fin 512) :
    tapsOf (iblk m c 0 t) (iblk m c 2 t) (iblk m c 3 t) (ix2 r q) = convAt m c (entry t) r (column t q) := by
  unfold tapsOf convAt convOf
  show tapped (fun n => iblk m c 0 t (ix3 0 n q)) (fun k => iblk m c 2 t (ix2 k q)) (iblk m c 3 t (ix2 0 q)) r = _
  have e0 : (fun n => iblk m c 0 t (ix3 0 n q)) = fun s => m ((c : Thread nD τ).loc main_arg0) (ix3 (entry t) s (⟨6144 + (512 * (part t).val + q.val), by omega⟩ : Fin 10240)) := funext fun n => x_block m c t n q
  have e1 : (fun k => iblk m c 2 t (ix2 k q)) = fun i => m ((c : Thread nD τ).loc main_arg1) (ix2 i (column t q)) := funext fun k => k_block m c t k q
  rw [e0, e1, b_block]
  rfl

theorem gate_block (xc : FVec Ideal S256x512 .f32) (w : Vec Ideal S4x128x512 .bf16) (g : Vec Ideal S4x1x512 .f32) (x : Fin 256 → Fin 2048 → EReal) (W : Fin 16 → Fin 128 → Fin 128 → EReal) (B : Fin 2048 → EReal)
    (h : Fin 4) (o : ℕ) (ho : o ≤ 384)
    (hx : ∀ (r : Fin 256) (q : Fin 512), xc (ix2 r q) = x r ⟨512 * h.val + q.val, by omega⟩)
    (hw : ∀ (j : Fin 4) (i y : Fin 128), w (ix3 j i ⟨o + y.val, by omega⟩) = W ⟨4 * h.val + j.val, by omega⟩ i y)
    (hg : ∀ (j : Fin 4) (y : Fin 128), g (ix3 j 0 ⟨o + y.val, by omega⟩) = B ⟨128 * (4 * h.val + j.val) + y.val, by omega⟩) (r : Fin 256) (q : Fin 512) :
    gateAt xc w g o ho r q = blockArg (x r) W B ⟨512 * h.val + q.val, by omega⟩ := by
  unfold gateAt blockArg
  have a1 : (⟨4 * h.val + q.val / 128, by omega⟩ : Fin 16) = ⟨(512 * h.val + q.val) / 128, by omega⟩ := Fin.ext (by show 4 * h.val + q.val / 128 = (512 * h.val + q.val) / 128; omega)
  have a2 : (⟨q.val % 128, by omega⟩ : Fin 128) = ⟨(512 * h.val + q.val) % 128, by omega⟩ := Fin.ext (by show q.val % 128 = (512 * h.val + q.val) % 128; omega)
  refine congrArg₂ (fun a b : EReal => a + b) (Finset.sum_congr rfl fun i _ => congrArg₂ (fun a b : EReal => a * b) ?_ ?_) ?_
  · refine (hx r _).trans (congrArg (x r) (Fin.ext ?_))
    show 512 * h.val + (128 * (q.val / 128) + i.val) = 128 * ((512 * h.val + q.val) / 128) + i.val
    omega
  · refine (hw ⟨q.val / 128, by omega⟩ i ⟨q.val % 128, by omega⟩).trans ?_
    exact congrArg₂ (fun a b => W a i b) a1 a2
  · refine (hg ⟨q.val / 128, by omega⟩ ⟨q.val % 128, by omega⟩).trans (congrArg B (Fin.ext ?_))
    show 128 * (4 * h.val + q.val / 128) + q.val % 128 = 512 * h.val + q.val
    omega

theorem point_eq (t : Fin cfg0.N) (d : Fin 2) (q : Fin 512) :
    tileState (tapsOf (iblk m c 0 t) (iblk m c 2 t) (iblk m c 3 t)) (iblk m c 4 t) (iblk m c 5 t) (iblk m c 6 t) d q = entryAt m c (entry t) d (column t q) := by
  have first (r : Fin 256) := gate_block (tapsOf (iblk m c 0 t) (iblk m c 2 t) (iblk m c 3 t)) (iblk m c 4 t) (iblk m c 5 t) (convAt m c (entry t))
    (fun p i j => m ((c : Thread nD τ).loc main_arg3) (ix4 d p i j)) (fun q => m ((c : Thread nD τ).loc main_arg5) (ix2 d q)) (part t) (128 * d.val) (by omega)
    (taps_block m c t) (fun j i y => (w_block m c t j i _).trans (weights_first m c d _ i y _ rfl)) (fun j y => (g_block m c t j _).trans (biases_first m c d _ y _ rfl)) r q
  have second (r : Fin 256) := gate_block (tapsOf (iblk m c 0 t) (iblk m c 2 t) (iblk m c 3 t)) (iblk m c 4 t) (iblk m c 5 t) (convAt m c (entry t))
    (fun p i j => m ((c : Thread nD τ).loc main_arg4) (ix4 d p i j)) (fun q => m ((c : Thread nD τ).loc main_arg6) (ix2 d q)) (part t) (256 + 128 * d.val) (by omega)
    (taps_block m c t) (fun j i y => (w_block m c t j i _).trans (weights_second m c d _ i y _ rfl)) (fun j y => (g_block m c t j _).trans (biases_second m c d _ y _ rfl)) r q
  unfold tileState entryAt lastState
  refine lin_congr 0 256 (fun k hk => ?_) (fun k hk => ?_)
  · rw [dif_pos hk, dif_pos hk]
    unfold cellDecay decayAt
    rw [first, l_block]
    rfl
  · rw [dif_pos hk, dif_pos hk]
    unfold cellInput inputAt
    rw [first, second, l_block, taps_block]
    rfl

theorem result_at (n : Fin 32) (d : Fin 2) (q : Fin 2048) : result m c (ix3 n d q) = entryAt m c n d q := rfl

theorem left_at (t : Fin cfg0.N) (y0 : Fin 1) (y1 : Fin 2) (y2 : Fin 512) : (outsAt0 m c t).2 (ix3 y0 y1 y2) = result m c (ix3 (entry t) y1 (column t y2)) :=
  (contents m c t y0 y1 y2).trans ((point_eq m c t y1 y2).trans (result_at m c _ _ _).symm)

attribute [local irreducible] result in
theorem arr : (dats m 0 c).arrAt 8 (cfgs 0).N = result m c := by
  refine (dats m 0 c).arrAt_eq_of_covers 8 _ (by decide +kernel) fun t hf y => ?_
  blk_simp
  rw [after0_8]
  idx_vars y
  refine (left_at m c t y0 y1 y2).trans (congrArg (result m c) (?_ : ix3 (entry t) y1 (column t y2) = _))
  blk_ext [at_point t, entry, part, column]

/-- Every run ends with the state array at that result, the arguments unchanged. -/
theorem run_result : θ_run defs (onTc (τ := τ) (main (F := Ideal))) ⟨m, fun _ => 0, ρ⟩ fun r => ∀ c : Dev nD,
      r.2.mem ((c : Thread nD τ).loc main_v23_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 8).trans (arr m c), h.2 c⟩) (θ_run_and (run_main m ρ) (unchanged m ρ))

end Cert.KernelRglruIdeal.St

end
-- ==== Proof.RglruFinal.lean ====
module

public import proofs.«01_k».proof.Proof.RgRef
public import proofs.«01_k».proof.Proof.RgResult
public import proofs.«01_k».proof.Defs

@[expose] public section

set_option maxRecDepth 16384

noncomputable section

/-! The plain form's last state over its arguments, and the claim. -/

namespace Cert.RglruFinal

open Cert.ReferenceRglruIdeal Cert.ReferenceRglruIdeal.Gen Cert.ReferenceRglruIdeal.Value Idealize.ShloMosaic Idealize.ShloMosaic.TcCoe Idealize.SL.Sem Cert.Rglru Cert.Gla Cert.RglruRef
open Idealize.ShloMosaic.StableHlo

section
variable (X : Valuation τ sig (Elt Ideal))
variable (p : FVec Ideal S32x256x10240 .bf16) (k : FVec Ideal S4x2048 .f32) (b : FVec Ideal S1x2048 .f32) (w v : FVec Ideal S2x16x128x128 .f32) (u e l : FVec Ideal S2x2048 .f32)
  (h0 : X (Proc.devRef .tc main_arg0) = p) (h1 : X (Proc.devRef .tc main_arg1) = k) (h2 : X (Proc.devRef .tc main_arg2) = b) (h3 : X (Proc.devRef .tc main_arg3) = w) (h4 : X (Proc.devRef .tc main_arg4) = v)
  (h5 : X (Proc.devRef .tc main_arg5) = u) (h6 : X (Proc.devRef .tc main_arg6) = e) (h7 : X (Proc.devRef .tc main_arg7) = l)

/-- The contents after each stretch. -/
def at2 : Valuation τ sig (Elt Ideal) := after hostOps0_1 (after hostOps0 X)
def at3 : Valuation τ sig (Elt Ideal) := after hostOps0_2 (at2 X)
def at4 : Valuation τ sig (Elt Ideal) := after hostOps0_3 (at3 X)
def at5 : Valuation τ sig (Elt Ideal) := after hostOps0_4 (at4 X)
def at9 : Valuation τ sig (Elt Ideal) := afterL [hostOps0_5, hostOps0_6, hostOps0_7, hostOps0_8] (at5 X)

theorem at2_eq : at2 X = afterL [hostOps0, hostOps0_1] X := by
  simp only [afterL_cons, afterL_nil]
  rfl

/-- The padded rows after the first stretches. -/
def padded : FVec Ideal S32x259x2048 .f32 := at2 X (Proc.devRef .tc main_v2)

theorem at9_eq : afterL preI X = at9 X := rfl

/-- The taps over the arguments. -/
def conv (p : FVec Ideal S32x256x10240 .bf16) (k : FVec Ideal S4x2048 .f32) (b : FVec Ideal S1x2048 .f32) (n : Fin 32) (r : Fin 256) (q : Fin 2048) : EReal :=
  convOf (fun n s j => p (ix3 n s j)) (fun i q => k (ix2 i q)) (fun q => b (ix2 (0 : Fin 1) q)) n r q
def decays (n : Fin 32) (d : Fin 2) (r : Fin 256) (q : Fin 2048) : EReal :=
  decayAt (conv p k b n) (fun d p i j => w (ix4 d p i j)) (fun d q => u (ix2 d q)) (fun d q => l (ix2 d q)) d r q
def inputs (n : Fin 32) (d : Fin 2) (r : Fin 256) (q : Fin 2048) : EReal :=
  inputAt (conv p k b n) (fun d p i j => w (ix4 d p i j)) (fun d p i j => v (ix4 d p i j)) (fun d q => u (ix2 d q)) (fun d q => e (ix2 d q)) (fun d q => l (ix2 d q)) d r q

include h0 in
theorem taps_eq (n : Fin 32) (r : Fin 256) (q : Fin 2048) :
    padded X (ix3 n ⟨r.val, by omega⟩ q) * k (ix2 0 q) + padded X (ix3 n ⟨1 + r.val, by omega⟩ q) * k (ix2 1 q)
      + padded X (ix3 n ⟨2 + r.val, by omega⟩ q) * k (ix2 2 q) + padded X (ix3 n ⟨3 + r.val, by omega⟩ q) * k (ix2 3 q) + b (ix2 0 q) = conv p k b n r q := by
  have e (s : Fin 259) : padded X (ix3 n s q) = padRow (fun t => p (ix3 n t ⟨6144 + q.val, by omega⟩)) s.val :=
    (congrFun (congrFun (at2_eq X) (Proc.devRef .tc main_v2)) (ix3 n s q)).trans (rows X p h0 n s q)
  rw [e, e, e, e]
  unfold conv convOf tapped
  show padRow _ r.val * _ + padRow _ (1 + r.val) * _ + padRow _ (2 + r.val) * _ + padRow _ (3 + r.val) * _ + _ = _
  rw [Nat.add_comm 1, Nat.add_comm 2, Nat.add_comm 3]

section
include h1
theorem k2 : at2 X (Proc.devRef .tc main_arg1) = k := by
  unfold at2
  exact ((keep_main_arg1_hostOps0_1 _).trans (keep_main_arg1_hostOps0 _)).trans h1
end
section
include h2
theorem b2 : at2 X (Proc.devRef .tc main_arg2) = b := by
  unfold at2
  exact ((keep_main_arg2_hostOps0_1 _).trans (keep_main_arg2_hostOps0 _)).trans h2
end
section
include h3
theorem w2 : at2 X (Proc.devRef .tc main_arg3) = w := by
  unfold at2
  exact ((keep_main_arg3_hostOps0_1 _).trans (keep_main_arg3_hostOps0 _)).trans h3
end
section
include h4
theorem v2 : at2 X (Proc.devRef .tc main_arg4) = v := by
  unfold at2
  exact ((keep_main_arg4_hostOps0_1 _).trans (keep_main_arg4_hostOps0 _)).trans h4
end
section
include h5
theorem u2 : at2 X (Proc.devRef .tc main_arg5) = u := by
  unfold at2
  exact ((keep_main_arg5_hostOps0_1 _).trans (keep_main_arg5_hostOps0 _)).trans h5
end
section
include h6
theorem e2 : at2 X (Proc.devRef .tc main_arg6) = e := by
  unfold at2
  exact ((keep_main_arg6_hostOps0_1 _).trans (keep_main_arg6_hostOps0 _)).trans h6
end
section
include h7
theorem l3 : at3 X (Proc.devRef .tc main_arg7) = l := by
  unfold at3 at2
  exact (keep_main_arg7_hostOps0_2 _).trans (((keep_main_arg7_hostOps0_1 _).trans (keep_main_arg7_hostOps0 _)).trans h7)
end

theorem keep32 : at4 X (Proc.devRef .tc main_v32) = at3 X (Proc.devRef .tc main_v32) := after_of_writes_sub hostOps0_3 _ hostOps0_3_writes (by decide +kernel)
theorem keep57 : at4 X (Proc.devRef .tc main_v57) = at3 X (Proc.devRef .tc main_v57) := after_of_writes_sub hostOps0_3 _ hostOps0_3_writes (by decide +kernel)
theorem keep59 : at4 X (Proc.devRef .tc main_v59) = at3 X (Proc.devRef .tc main_v59) := after_of_writes_sub hostOps0_3 _ hostOps0_3_writes (by decide +kernel)

include h0 h1 h2 h3 h5 h7

theorem rate_eq (n : Fin 32) (r : Fin 256) (d : Fin 2) (q : Fin 2048) : (at4 X (Proc.devRef .tc main_v59) : FVec Ideal S32x256x2x2048 .f32) (ix4 n r d q)
    = ((8 : ℝ) : EReal) * Ideal.logistic (blockArg (conv p k b n r) (fun p i j => w (ix4 d p i j)) (fun j => u (ix2 d j)) q) :=
  (congrFun (keep59 X) _).trans (first (at2 X) (padded X) k b rfl (k2 X k h1) (b2 X b h2) (conv p k b) (taps_eq X p k b h0) w u (w2 X w h3) (u2 X u h5) n r d q)

theorem log_eq (d : Fin 2) (q : Fin 2048) : (at4 X (Proc.devRef .tc main_v60) : FVec Ideal S2x2048 .f32) (ix2 d q) = logSigmoid (l (ix2 d q)) :=
  rates (at3 X) l (l3 X l h7) d q

theorem decay_eq (n : Fin 32) (d : Fin 2) (r : Fin 256) (q : Fin 2048) :
    (at9 X (Proc.devRef .tc main_v91_0) : FVec Ideal S2x32x256x2048 .f32) (ix4 d n r q) = decays p k b w u l n d (rowAt d r) q := by
  refine (congrFun (decays_eq (at5 X)) _).trans ?_
  refine both_at _ _ (fun i => decays p k b w u l (i 0) (i 2) (i 1) (i 3)) (fun n r q => ?_) (fun n r q => ?_) d n r q
  · refine (decay0 (at4 X) _ _ rfl rfl n r q).trans ?_
    rw [rate_eq X p k b w u l h0 h1 h2 h3 h5 h7, log_eq X p k b w u l h0 h1 h2 h3 h5 h7]
    rfl
  · refine (decay1 (at4 X) _ _ rfl rfl n r q).trans ?_
    rw [rate_eq X p k b w u l h0 h1 h2 h3 h5 h7, log_eq X p k b w u l h0 h1 h2 h3 h5 h7]
    rfl

include h4 h6

theorem all_inputs (n : Fin 32) (r : Fin 256) (d : Fin 2) (q : Fin 2048) : (at5 X (Proc.devRef .tc main_v73) : FVec Ideal S32x256x2x2048 .f32) (ix4 n r d q) = inputs p k b w v u e l n d r q := by
  refine (input (at4 X) _ _ _ _ rfl rfl rfl rfl n r d q).trans ?_
  rw [rate_eq X p k b w u l h0 h1 h2 h3 h5 h7, log_eq X p k b w u l h0 h1 h2 h3 h5 h7]
  have g : (at4 X (Proc.devRef .tc main_v57) : FVec Ideal S32x256x2x2048 .f32) (ix4 n r d q) = Ideal.logistic (blockArg (conv p k b n r) (fun p i j => v (ix4 d p i j)) (fun j => e (ix2 d j)) q) :=
    (congrFun (keep57 X) _).trans (second (at2 X) (padded X) k b rfl (k2 X k h1) (b2 X b h2) (conv p k b) (taps_eq X p k b h0) v e (v2 X v h4) (e2 X e h6) n r d q)
  have x : (at4 X (Proc.devRef .tc main_v32) : FVec Ideal S32x256x2048 .f32) (ix3 n r q) = conv p k b n r q :=
    (congrFun (keep32 X) _).trans ((taps (at2 X) (padded X) k b rfl (k2 X k h1) (b2 X b h2) n r q).trans (taps_eq X p k b h0 n r q))
  rw [g, x]
  rfl

theorem input_eq (n : Fin 32) (d : Fin 2) (r : Fin 256) (q : Fin 2048) :
    (at9 X (Proc.devRef .tc main_v91_1) : FVec Ideal S2x32x256x2048 .f32) (ix4 d n r q) = inputs p k b w v u e l n d (rowAt d r) q := by
  refine (congrFun (inputs_eq (at5 X)) _).trans ?_
  refine both_at _ _ (fun i => inputs p k b w v u e l (i 0) (i 2) (i 1) (i 3)) (fun n r q => ?_) (fun n r q => ?_) d n r q
  · exact (slice0 _ n r q).trans (all_inputs X p k b w v u e l h0 h1 h2 h3 h4 h5 h6 h7 n r 0 q)
  · exact (slice1 _ n r q).trans (all_inputs X p k b w v u e l h0 h1 h2 h3 h4 h5 h6 h7 n r 1 q)

/-- After `t` trips the carried state is the recurrence's after `t` steps. -/
theorem trips (t : ℕ) (ht : t ≤ 256) :
    STEP^[t] (at9 X) (Proc.devRef .tc main_v91_0) = at9 X (Proc.devRef .tc main_v91_0) ∧ STEP^[t] (at9 X) (Proc.devRef .tc main_v91_1) = at9 X (Proc.devRef .tc main_v91_1)
      ∧ STEP^[t] (at9 X) (Proc.devRef .tc main_v91_3) = (fun _ => Scf.iv 0#32 1#32 t)
      ∧ ∀ (d : Fin 2) (n : Fin 32) (q : Fin 2048), (STEP^[t] (at9 X) (Proc.devRef .tc main_v91_4) : FVec Ideal S2x32x2048 .f32) (ix3 d n q)
        = lin (fun s => if h : s < 256 then decays p k b w u l n d (rowAt d ⟨s, h⟩) q else 0) (fun s => if h : s < 256 then inputs p k b w v u e l n d (rowAt d ⟨s, h⟩) q else 0) 0 t := by
  induction t with
  | zero =>
    refine ⟨rfl, rfl, ?_, fun d n q => ?_⟩
    · exact (counter_eq (at5 X)).trans (funext fun _ => (Scf.iv_zero ..).symm)
    · exact (congrFun (start_eq (at5 X)) _).trans (zeros_at d n q)
  | succ t ih =>
    obtain ⟨i0, i1, i3, i4⟩ := ih (by omega)
    rw [Function.iterate_succ_apply']
    refine ⟨(STEP_main_v91_0 _).trans i0, (STEP_main_v91_1 _).trans i1, ?_, fun d n q => ?_⟩
    · rw [STEP_main_v91_3]
      unfold step_main_v91_3
      rw [i3, Scf.iv_succ]
      rfl
    · rw [STEP_main_v91_4]
      refine (step_at _ _ _ _ i0 i1 rfl n d q t (by omega) i3).trans ?_
      rw [decay_eq X p k b w u l h0 h1 h2 h3 h5 h7, input_eq X p k b w v u e l h0 h1 h2 h3 h4 h5 h6 h7, i4 d n q, lin, dif_pos (show t < 256 by omega), dif_pos (show t < 256 by omega)]

theorem last_at (n : Fin 32) (d : Fin 2) (q : Fin 2048) : (out_main_v92 (STEP^[256] (at9 X)) : FVec Ideal S32x2x2048 .f32) (ix3 n d q)
    = lastState (conv p k b n) (fun d p i j => w (ix4 d p i j)) (fun d p i j => v (ix4 d p i j)) (fun d q => u (ix2 d q)) (fun d q => e (ix2 d q)) (fun d q => l (ix2 d q)) d q := by
  refine Eq.trans ?_ ((trips X p k b w v u e l h0 h1 h2 h3 h4 h5 h6 h7 256 (le_refl _)).2.2.2 d n q)
  unfold out_main_v92
  generalize STEP^[256] (at9 X) = Y
  pointwise

end

attribute [local irreducible] lastState in
theorem rglru_algebraic : Cert.algebraic_KernelRglruIdeal_ReferenceRglruIdeal := by
  pair_intro
  · run_from (Cert.KernelRglruIdeal.St.run_result m g)
  · run_from (Cert.ReferenceRglruIdeal.Value.run m' g')
    · obtain ⟨e0, e1, e2, e3, e4, e5, e6, e7⟩ := hagree c
      funext i
      obtain ⟨n, d, q, rfl⟩ : ∃ (n : Fin 32) (d : Fin 2) (q : Fin 2048), i = ix3 n d q := ⟨i 0, i 1, i 2, eq_ix3 i⟩
      rw [show entryContents preI m' c = at9 (launchContents m' c) from rfl]
      refine (last_at (launchContents m' c) (m' (c.tc.loc main_arg0)) (m' (c.tc.loc main_arg1)) (m' (c.tc.loc main_arg2)) (m' (c.tc.loc main_arg3)) (m' (c.tc.loc main_arg4)) (m' (c.tc.loc main_arg5)) (m' (c.tc.loc main_arg6)) (m' (c.tc.loc main_arg7))
        rfl rfl rfl rfl rfl rfl rfl rfl n d q).trans ?_
      rw [e0, e1, e2, e3, e4, e5, e6, e7]
      rfl

end Cert.RglruFinal

end
-- ==== Proof.EvenWIdeal.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.EvenW

open Cert.KernelIdeal Cert.KernelIdeal.Gen Cert.KernelIdeal.Value Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

/-- The column of the stacked weights that column `j` of the main weights is read from: the first
    6144 columns stay in place, the later ones are found 32 columns further on. -/
abbrev srcCol (j : ℕ) : ℕ := if j < 6144 then j else j + 32

/-- The main in-projection weights as one array: row by row the kept columns of layer 0, each
    element rounded to bf16. -/
def mainWeights (x : Vec F S1x2048x10272 .f32) : Vec F S2048x10240 .bf16 := fun i =>
  FloatOps.truncf .bf16 bitsLt_bf16_f32
    (x (ix3 (0 : Fin 1) ⟨(i 0).val, (i 0).isLt⟩
      ⟨srcCol (i 1).val, by have h : (i 1).val < 10240 := (i 1).isLt; unfold srcCol; split <;> omega⟩))

/-- Where the blocks of the two windows begin at a grid point. -/
theorem offsets : ∀ t : Fin cfg0.N,
    win0_0.index t = ![0, srcCol ((win0_1.index t 1) * 512), 0] ∧ win0_1.index t 0 = 0 := by
  decide +kernel

theorem arr (c : Dev nD) :
    (dats m 0 c).arrAt 1 (cfgs 0).N = mainWeights (m ((c : Thread nD τ).loc main_arg0)) := by
  refine (dats m 0 c).arrAt_eq_of_covers 1 _ (by decide +kernel) fun t hf y => ?_
  blk_simp
  rw [after0_1]
  frame_out
  have hy0 : (y 0).val < 2048 := (y 0).isLt
  have hy1 : (y 1).val < 512 := (y 1).isLt
  obtain ⟨h0, h1⟩ := offsets t
  unfold iblk mainWeights
  pointwise [k0_pay1]
  blk_simp
  entry_read
  pointwise
  have key : ∀ a, ((win0_0.rect t).emb (ix3 (0 : Fin 1) (y 1) (y 0)) a : ℕ)
      = win0_0.index t a + ((ix3 (0 : Fin 1) (y 1) (y 0) : S1x512x2048.Idx) a).val := fun a =>
    win0_0.rect_emb_val_off t _ a
  have key' : ∀ a, ((win0_1.rect t).emb y a : ℕ) = win0_1.index t a * S2048x512.size a + (y a).val := fun a =>
    win0_1.rect_emb_val_off t _ a
  refine congrArg (FloatOps.truncf FTy.bf16 bitsLt_bf16_f32) (congrArg (m _) ?_)
  refine congrArg₂ (ix3 (0 : Fin 1)) (Fin.ext ?_) (Fin.ext ?_)
  · refine (key 2).trans (Eq.trans ?_ (key' 0).symm)
    rw [h0, h1]
    show 0 + (y 0).val = 0 * 2048 + (y 0).val
    omega
  · refine (key 1).trans ?_
    rw [h0]
    show srcCol (win0_1.index t 1 * 512) + (y 1).val = srcCol (win0_1.index t 1 * 512 + (y 1).val)
    unfold srcCol
    split <;> split <;> omega

/-- Every run ends with the result holding the main in-projection weights of the argument, the
    argument unchanged. -/
theorem run : θ_run defs (onTc (τ := τ) (main (F := F))) ⟨m, fun _ => 0, ρ⟩ fun r => ∀ c : Dev nD,
    r.2.mem ((c : Thread nD τ).loc main_v1) = mainWeights (m ((c : Thread nD τ).loc main_arg0))
    ∧ r.2.mem ((c : Thread nD τ).loc main_arg0) = m ((c : Thread nD τ).loc main_arg0) :=
  (θ_run defs _ _).mono (fun r h c => ⟨(h c).1.trans (arr m c), (h c).2⟩) (run_blocks m ρ)

end Cert.KernelIdeal.EvenW

end
-- ==== Proof.EvenWRef.lean ====
module

public import proofs.«01_k».proof.Proof.Gen.Reference.Read
public import proofs.«01_k».proof.Proof.Gen.ReferenceIdeal.Read
public import proofs.«01_k».proof.Proof.EvenWIdeal
public import proofs.«01_k».proof.Proof.EvenW

@[expose] public section

set_option maxRecDepth 16384

noncomputable section

namespace Cert.EvenWRef

open Idealize.ShloMosaic Idealize.ShloMosaic.TcCoe Idealize.SL.Sem

variable {F : FTy → Type} [FloatOps F]

/-- The two slices of layer 0 side by side, rounded, are the main in-projection weights. -/
theorem ideal (x : Vec F Cert.ReferenceIdeal.S1x2048x10272 .f32) :
    Cert.ReferenceIdeal.Read.val_main_v5 (F := F) x = Cert.KernelIdeal.EvenW.mainWeights (F := F) x := by
  funext i
  have h0 : (i 0).val < 2048 := (i 0).isLt
  have h1 : (i 1).val < 10240 := (i 1).isLt
  unfold Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.KernelIdeal.EvenW.mainWeights
  pointwise
  congr 1
  split
  all_goals
    refine congrArg x (congrArg₂ (ix3 (0 : Fin 1)) (Fin.ext ?_) (Fin.ext ?_))
    · simp [Cert.KernelIdeal.EvenW.srcCol, *] <;> omega
    · simp [Cert.KernelIdeal.EvenW.srcCol, *] <;> omega

/-- The two slices of layer 0 side by side, rounded, are the same array at any floats: the main in-projection weights. -/
theorem bits (x : Vec F Cert.Reference.S1x2048x10272 .f32) :
    Cert.Reference.Read.val_main_v5 (F := F) x = Cert.Kernel.EvenW.mainWeights (F := F) x := by
  funext i
  have h0 : (i 0).val < 2048 := (i 0).isLt
  have h1 : (i 1).val < 10240 := (i 1).isLt
  unfold Cert.Reference.Read.val_main_v5 Cert.Reference.Read.val_main_v4 Cert.Reference.Read.val_main_v3
    Cert.Reference.Read.val_main_v2 Cert.Reference.Read.val_main_v1 Cert.Reference.Read.val_main_v0
    Cert.Kernel.EvenW.mainWeights
  pointwise
  congr 1
  split
  all_goals
    refine congrArg x (congrArg₂ (ix3 (0 : Fin 1)) (Fin.ext ?_) (Fin.ext ?_))
    · simp [Cert.Kernel.EvenW.srcCol, *] <;> omega
    · simp [Cert.Kernel.EvenW.srcCol, *] <;> omega

end Cert.EvenWRef

end
-- ==== Proof.lean ====
module

public import proofs.«01_k».proof.Defs
public import proofs.«01_k».proof.Proof.Gen.Kernel.Frame
public import proofs.«01_k».proof.Proof.Gen.Kernel.Value
public import proofs.«01_k».proof.Proof.Gen.KernelIdeal.Frame
public import proofs.«01_k».proof.Proof.Gen.KernelIdeal.Value
public import proofs.«01_k».proof.Proof.Gen.Reference.Run
public import proofs.«01_k».proof.Proof.Gen.Reference.Read
public import proofs.«01_k».proof.Proof.Gen.ReferenceIdeal.Run
public import proofs.«01_k».proof.Proof.Gen.ReferenceIdeal.Read
public import proofs.«01_k».proof.Proof.Gen.KernelFfn
public import proofs.«01_k».proof.Proof.Gen.KernelFfnIdeal
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.FfnFinal
public import proofs.«01_k».proof.Proof.Gen.KernelFfnPrompt
public import proofs.«01_k».proof.Proof.Gen.KernelFfnPromptIdeal
public import proofs.«01_k».proof.Proof.Gen.KernelFfnPrompt.Frame
public import proofs.«01_k».proof.Proof.Gen.KernelFfnPromptIdeal.Frame
public import proofs.«01_k».proof.Proof.Gen.KernelFfnPromptIdeal.Value
public import proofs.«01_k».proof.Proof.Gen.ReferenceFfnPromptIdeal.Run
public import proofs.«01_k».proof.Proof.Gen.ReferenceFfnPromptIdeal.Read
public import proofs.«01_k».proof.Proof.FfnPromptFinal
public import proofs.«01_k».proof.Proof.Gen.KernelOutEven
public import proofs.«01_k».proof.Proof.Gen.KernelOutEvenIdeal
public import proofs.«01_k».proof.Proof.Gen.KernelOutEven.Frame
public import proofs.«01_k».proof.Proof.Gen.KernelOutEvenIdeal.Frame
public import proofs.«01_k».proof.Proof.Gen.KernelOutEvenIdeal.Value
public import proofs.«01_k».proof.Proof.Gen.ReferenceOutEvenIdeal.Run
public import proofs.«01_k».proof.Proof.Gen.ReferenceOutEvenIdeal.Read
public import proofs.«01_k».proof.Proof.OutEvenFinal
public import proofs.«01_k».proof.Proof.Gen.KernelOutOdd
public import proofs.«01_k».proof.Proof.Gen.KernelOutOddIdeal
public import proofs.«01_k».proof.Proof.Gen.KernelOutOdd.Frame
public import proofs.«01_k».proof.Proof.Gen.KernelOutOddIdeal.Frame
public import proofs.«01_k».proof.Proof.Gen.KernelOutOddIdeal.Value
public import proofs.«01_k».proof.Proof.Gen.ReferenceOutOddIdeal.Run
public import proofs.«01_k».proof.Proof.Gen.ReferenceOutOddIdeal.Read
public import proofs.«01_k».proof.Proof.OutOddFinal
public import proofs.«01_k».proof.Proof.Gen.KernelInOdd
public import proofs.«01_k».proof.Proof.Gen.KernelInOddIdeal
public import proofs.«01_k».proof.Proof.Gen.KernelInOdd.Frame
public import proofs.«01_k».proof.Proof.Gen.KernelInOddIdeal.Frame
public import proofs.«01_k».proof.Proof.InOddRun
public import proofs.«01_k».proof.Proof.InOddRunIdeal
public import proofs.«01_k».proof.Proof.Gen.ReferenceInOddIdeal.Run
public import proofs.«01_k».proof.Proof.Gen.ReferenceInOddIdeal.Read
public import proofs.«01_k».proof.Proof.InOddFinal
public import proofs.«01_k».proof.Proof.Gen.KernelInEven
public import proofs.«01_k».proof.Proof.Gen.KernelInEvenIdeal
public import proofs.«01_k».proof.Proof.Gen.KernelInEven.Frame
public import proofs.«01_k».proof.Proof.Gen.KernelInEvenIdeal.Frame
public import proofs.«01_k».proof.Proof.InEvenRun
public import proofs.«01_k».proof.Proof.InEvenRunIdeal
public import proofs.«01_k».proof.Proof.Gen.ReferenceInEvenIdeal.Run
public import proofs.«01_k».proof.Proof.Gen.ReferenceInEvenIdeal.Read
public import proofs.«01_k».proof.Proof.InEvenFinal
public import proofs.«01_k».proof.Proof.Gen.KernelGla
public import proofs.«01_k».proof.Proof.Gen.KernelGlaIdeal
public import proofs.«01_k».proof.Proof.Gen.KernelGla.Frame
public import proofs.«01_k».proof.Proof.Gen.KernelGlaIdeal.Frame
public import proofs.«01_k».proof.Proof.Gen.KernelGlaIdeal.Skeleton
public import proofs.«01_k».proof.Proof.Gen.KernelGlaIdeal.Points
public import proofs.«01_k».proof.Proof.Gen.ReferenceGlaIdeal.Run
public import proofs.«01_k».proof.Proof.Gen.ReferenceGlaIdeal.Read
public import proofs.«01_k».proof.Proof.GlaFinal
public import proofs.«01_k».proof.Proof.Gen.KernelRglru
public import proofs.«01_k».proof.Proof.Gen.KernelRglruIdeal
public import proofs.«01_k».proof.Proof.Gen.KernelRglru.Frame
public import proofs.«01_k».proof.Proof.Gen.KernelRglruIdeal.Frame
public import proofs.«01_k».proof.Proof.Gen.KernelRglruIdeal.Skeleton
public import proofs.«01_k».proof.Proof.Gen.KernelRglruIdeal.Points
public import proofs.«01_k».proof.Proof.Gen.ReferenceRglruIdeal.Run
public import proofs.«01_k».proof.Proof.RglruFinal
public import proofs.«01_k».proof.Proof.EvenWRef
public import Idealize.ShloMosaic.Adequacy
public import Idealize.ShloMosaic.Init

@[expose] public section

noncomputable section

namespace Cert.Proof

open Idealize.ShloMosaic Idealize.SL.Sem Cert.Kernel

/-- The kernel and the plain slices, rounding as the hardware does: the same bits. -/
theorem evenW_bitexact : Cert.bitexact_Kernel_Reference := by
  pair_intro
  · run_from (Cert.Kernel.EvenW.run m g)
  · run_from (Cert.Reference.Value.run m' g')
    exact (Cert.Reference.Read.val_main_v5_eq _).trans ((Cert.EvenWRef.bits _).trans (congrArg _ (hagree c)))

/-- The same equation where a change of format changes nothing. -/
theorem evenW_algebraic : Cert.algebraic_KernelIdeal_ReferenceIdeal := by
  pair_intro
  · run_from (Cert.KernelIdeal.EvenW.run m g)
  · run_from (Cert.ReferenceIdeal.Value.run m' g')
    exact (Cert.ReferenceIdeal.Read.val_main_v5_eq _).trans ((Cert.EvenWRef.ideal _).trans (congrArg _ (hagree c)))

theorem frame_reference : Cert.quiescent_Reference := fun m ρ _ =>
  (θ_run Cert.Reference.defs _ _).mono (fun r h => ⟨fun c => (h c).2, sem_eq_zero_of_no_sems (by decide) r.2⟩)
    (Cert.Reference.Value.run m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_referenceFfnIdeal : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run m ρ)

theorem frame_referenceFfnPromptIdeal : Cert.quiescent_ReferenceFfnPromptIdeal := fun m ρ _ =>
  (θ_run Cert.ReferenceFfnPromptIdeal.defs _ _).mono (fun r h => ⟨fun c => (h c).2, sem_eq_zero_of_no_sems (by decide) r.2⟩)
    (Cert.ReferenceFfnPromptIdeal.Value.run m ρ)

theorem frame_referenceOutEvenIdeal : Cert.quiescent_ReferenceOutEvenIdeal := fun m ρ _ =>
  (θ_run Cert.ReferenceOutEvenIdeal.defs _ _).mono (fun r h => ⟨fun c => (h c).2, sem_eq_zero_of_no_sems (by decide) r.2⟩)
    (Cert.ReferenceOutEvenIdeal.Value.run m ρ)

theorem frame_referenceOutOddIdeal : Cert.quiescent_ReferenceOutOddIdeal := fun m ρ _ =>
  (θ_run Cert.ReferenceOutOddIdeal.defs _ _).mono (fun r h => ⟨fun c => (h c).2, sem_eq_zero_of_no_sems (by decide) r.2⟩)
    (Cert.ReferenceOutOddIdeal.Value.run m ρ)

theorem frame_referenceInOddIdeal : Cert.quiescent_ReferenceInOddIdeal := fun m ρ _ =>
  (θ_run Cert.ReferenceInOddIdeal.defs _ _).mono (fun r h => ⟨fun c => (h c).2.2, sem_eq_zero_of_no_sems (by decide) r.2⟩)
    (Cert.ReferenceInOddIdeal.Value.run m ρ)

theorem frame_referenceInEvenIdeal : Cert.quiescent_ReferenceInEvenIdeal := fun m ρ _ =>
  (θ_run Cert.ReferenceInEvenIdeal.defs _ _).mono (fun r h => ⟨fun c => (h c).2.2, sem_eq_zero_of_no_sems (by decide) r.2⟩)
    (Cert.ReferenceInEvenIdeal.Value.run m ρ)

theorem frame_referenceGlaIdeal : Cert.quiescent_ReferenceGlaIdeal := fun m ρ _ =>
  (θ_run Cert.ReferenceGlaIdeal.defs _ _).mono (fun r h => ⟨fun c => (h c).2, sem_eq_zero_of_no_sems (by decide) r.2⟩)
    (Cert.ReferenceGlaIdeal.Value.run m ρ)

theorem frame_referenceRglruIdeal : Cert.quiescent_ReferenceRglruIdeal := fun m ρ _ =>
  (θ_run Cert.ReferenceRglruIdeal.defs _ _).mono (fun r h => ⟨fun c => (h c).2, sem_eq_zero_of_no_sems (by decide) r.2⟩)
    (Cert.ReferenceRglruIdeal.Value.run m ρ)

theorem claim : Cert.Claim := ⟨Cert.Kernel.Gen.facts,
  Cert.KernelIdeal.Gen.facts,
  Cert.ReferenceIdeal.Gen.facts,
  Cert.Reference.Gen.facts,
  Cert.KernelFfn.Gen.facts,
  Cert.KernelFfnIdeal.Gen.facts,
  Cert.ReferenceFfnIdeal.Gen.facts,
  Cert.KernelFfnPrompt.Gen.facts,
  Cert.KernelFfnPromptIdeal.Gen.facts,
  Cert.ReferenceFfnPromptIdeal.Gen.facts,
  Cert.KernelOutEven.Gen.facts,
  Cert.KernelOutEvenIdeal.Gen.facts,
  Cert.ReferenceOutEvenIdeal.Gen.facts,
  Cert.KernelOutOdd.Gen.facts,
  Cert.KernelOutOddIdeal.Gen.facts,
  Cert.ReferenceOutOddIdeal.Gen.facts,
  Cert.KernelInOdd.Gen.facts,
  Cert.KernelInOddIdeal.Gen.facts,
  Cert.ReferenceInOddIdeal.Gen.facts,
  Cert.KernelInEven.Gen.facts,
  Cert.KernelInEvenIdeal.Gen.facts,
  Cert.ReferenceInEvenIdeal.Gen.facts,
  Cert.KernelGla.Gen.facts,
  Cert.KernelGlaIdeal.Gen.facts,
  Cert.ReferenceGlaIdeal.Gen.facts,
  Cert.KernelRglru.Gen.facts,
  Cert.KernelRglruIdeal.Gen.facts,
  Cert.ReferenceRglruIdeal.Gen.facts,
  Cert.Pre_finite_inputs.Gen.facts,
  Cert.Pre_finite_prompt.Gen.facts,
  fun m ρ _ => Cert.Kernel.Gen.frame m ρ,
  fun m ρ _ => Cert.KernelIdeal.Gen.frame m ρ,
  frame_referenceIdeal,
  frame_reference,
  fun m ρ _ => Cert.KernelFfn.Gen.frame m ρ,
  fun m ρ _ => Cert.KernelFfnIdeal.Gen.frame m ρ,
  fun m ρ _ => Cert.KernelFfnIdeal.Gen.frame m ρ,
  frame_referenceFfnIdeal,
  fun m ρ _ => frame_referenceFfnIdeal m ρ trivial,
  fun m ρ _ => Cert.KernelFfnPrompt.Gen.frame m ρ,
  fun m ρ _ => Cert.KernelFfnPromptIdeal.Gen.frame m ρ,
  fun m ρ _ => Cert.KernelFfnPromptIdeal.Gen.frame m ρ,
  frame_referenceFfnPromptIdeal,
  fun m ρ _ => frame_referenceFfnPromptIdeal m ρ trivial,
  fun m ρ _ => Cert.KernelOutEven.Gen.frame m ρ,
  fun m ρ _ => Cert.KernelOutEvenIdeal.Gen.frame m ρ,
  frame_referenceOutEvenIdeal,
  fun m ρ _ => Cert.KernelOutOdd.Gen.frame m ρ,
  fun m ρ _ => Cert.KernelOutOddIdeal.Gen.frame m ρ,
  frame_referenceOutOddIdeal,
  fun m ρ _ => Cert.KernelInOdd.Hand.frame m ρ,
  fun m ρ _ => Cert.KernelInOddIdeal.Hand.frame m ρ,
  frame_referenceInOddIdeal,
  fun m ρ _ => Cert.KernelInEven.Hand.frame m ρ,
  fun m ρ _ => Cert.KernelInEvenIdeal.Hand.frame m ρ,
  frame_referenceInEvenIdeal,
  fun m ρ _ => Cert.KernelGla.Gen.frame m ρ,
  fun m ρ _ => Cert.KernelGlaIdeal.Gen.frame m ρ,
  frame_referenceGlaIdeal,
  fun m ρ _ => Cert.KernelRglru.Gen.frame m ρ,
  fun m ρ _ => Cert.KernelRglruIdeal.Gen.frame m ρ,
  frame_referenceRglruIdeal,
  trivial,
  evenW_algebraic,
  evenW_bitexact,
  trivial,
  Cert.FfnFinal.ffn_algebraic,
  trivial,
  Cert.FfnPromptFinal.ffn_prompt_algebraic,
  trivial,
  Cert.OutEvenFinal.out_algebraic,
  trivial,
  Cert.OutOddFinal.out_algebraic,
  trivial,
  Cert.InOddFinal.in_algebraic,
  trivial,
  Cert.InEvenFinal.in_algebraic,
  IdealRules.named_const.statement Cert.KernelGlaIdeal.κ "log2e_over_16" .f32 0x3DB8AA3B#32 _ rfl,
  Cert.GlaFinal.gla_algebraic,
  IdealRules.named_const.statement Cert.KernelRglruIdeal.κ "log2e_times_8" .f32 0x4138AA3B#32 _ rfl,
  Cert.RglruFinal.rglru_algebraic⟩

end Cert.Proof

end
